-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S3x32768 : Shape := ⟨2, ![3, 32768]⟩
abbrev S32768x3 : Shape := ⟨2, ![32768, 3]⟩
abbrev S16x256x4096 : Shape := ⟨3, ![16, 256, 4096]⟩
abbrev S16x512x1024 : Shape := ⟨3, ![16, 512, 1024]⟩
abbrev S512x768 : Shape := ⟨2, ![512, 768]⟩
abbrev S512 : Shape := ⟨1, ![512]⟩
abbrev S512x512 : Shape := ⟨2, ![512, 512]⟩
abbrev S_ : Shape := ⟨0, ![]⟩

class Facts : Prop where
  bcast_S_S3x32768 : S_.BroadcastsInDim S3x32768 (![] : Fin 0 → Fin S3x32768.rank)
  reducesTo_S3x32768_S_d0_1 : S3x32768.ReducesTo [0, 1] S_
  h_S_ : 0 < S_.numel
  bcast_S_S512 : S_.BroadcastsInDim S512 (![] : Fin 0 → Fin S512.rank)
  reducesTo_S512_S_d0 : S512.ReducesTo [0] S_

variable [Facts]

def fn_part3 {F : FTy → Type} [FloatOps F] (main_arg16 : FVec F S512 .f32) (main_v47 : IVec S_ 1) (main_v49 : IVec S512 1) : IVec S_ 1 :=
  let main_cst_20 : FVec F S_ .f32 := constant S_ .f32 0x7F800000#32
  let main_v50 : FVec F S512 .f32 := broadcastInDim S512 ![] bcast_S_S512 main_cst_20
  let main_v51 : IVec S512 1 := cmpf .olt main_arg16 main_v50
  let main_v52 : IVec S512 1 := andi main_v49 main_v51
  let main_c_21 : IVec S_ 1 := constantI S_ 1 1#1
  let main_v53 : IVec S_ 1 := (fun x v => Host.reduce IntOp.andi x v reducesTo_S512_S_d0 h_S_) main_v52 main_c_21
  let main_v54 : IVec S_ 1 := andi main_v47 main_v53
  main_v54

def fn_part2 {F : FTy → Type} [FloatOps F] (main_arg12 : FVec F S512 .f32) (main_arg15 : FVec F S512 .f32) (main_arg16 : FVec F S512 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S512 .f32 := broadcastInDim S512 ![] bcast_S_S512 main_cst_13
  let main_v35 : IVec S512 1 := cmpf .ogt main_arg12 main_v34
  let main_cst_14 : FVec F S_ .f32 := constant S_ .f32 0x7F800000#32
  let main_v36 : FVec F S512 .f32 := broadcastInDim S512 ![] bcast_S_S512 main_cst_14
  let main_v37 : IVec S512 1 := cmpf .olt main_arg12 main_v36
  let main_v38 : IVec S512 1 := andi main_v35 main_v37
  let main_c_15 : IVec S_ 1 := constantI S_ 1 1#1
  let main_v39 : IVec S_ 1 := (fun x v => Host.reduce IntOp.andi x v reducesTo_S512_S_d0 h_S_) main_v38 main_c_15
  let main_v40 : IVec S_ 1 := andi main_v33 main_v39
  let main_cst_16 : FVec F S_ .f32 := constant S_ .f32 0xFF800000#32
  let main_v41 : FVec F S512 .f32 := broadcastInDim S512 ![] bcast_S_S512 main_cst_16
  let main_v42 : IVec S512 1 := cmpf .ogt main_arg15 main_v41
  let main_cst_17 : FVec F S_ .f32 := constant S_ .f32 0x7F800000#32
  let main_v43 : FVec F S512 .f32 := broadcastInDim S512 ![] bcast_S_S512 main_cst_17
  let main_v44 : IVec S512 1 := cmpf .olt main_arg15 main_v43
  let main_v45 : IVec S512 1 := andi main_v42 main_v44
  let main_c_18 : IVec S_ 1 := constantI S_ 1 1#1
  let main_v46 : IVec S_ 1 := (fun x v => Host.reduce IntOp.andi x v reducesTo_S512_S_d0 h_S_) main_v45 main_c_18
  let main_v47 : IVec S_ 1 := andi main_v40 main_v46
  let main_cst_19 : FVec F S_ .f32 := constant S_ .f32 0xFF800000#32
  let main_v48 : FVec F S512 .f32 := broadcastInDim S512 ![] bcast_S_S512 main_cst_19
  let main_v49 : IVec S512 1 := cmpf .ogt main_arg16 main_v48
  fn_part3 (F := F) main_arg16 main_v47 main_v49

def fn_part1 {F : FTy → Type} [FloatOps F] (main_arg7 : FVec F S512 .f32) (main_arg8 : FVec F S512 .f32) (main_arg11 : FVec F S512 .f32) (main_arg12 : FVec F S512 .f32) (main_arg15 : FVec F S512 .f32) (main_arg16 : FVec F S512 .f32) (main_v12 : IVec S_ 1) (main_v14 : IVec S512 1) (main_v15 : FVec F S512 .f32) : IVec S_ 1 :=
  let main_v16 : IVec S512 1 := cmpf .olt main_arg7 main_v15
  let main_v17 : IVec S512 1 := andi main_v14 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v12 main_v18
  let main_cst_7 : FVec F S_ .f32 := constant S_ .f32 0xFF800000#32
  let main_v20 : FVec F S512 .f32 := broadcastInDim S512 ![] bcast_S_S512 main_cst_7
  let main_v21 : IVec S512 1 := cmpf .ogt main_arg8 main_v20
  let main_cst_8 : FVec F S_ .f32 := constant S_ .f32 0x7F800000#32
  let main_v22 : FVec F S512 .f32 := broadcastInDim S512 ![] bcast_S_S512 main_cst_8
  let main_v23 : IVec S512 1 := cmpf .olt main_arg8 main_v22
  let main_v24 : IVec S512 1 := andi main_v21 main_v23
  let main_c_9 : IVec S_ 1 := constantI S_ 1 1#1
  let main_v25 : IVec S_ 1 := (fun x v => Host.reduce IntOp.andi x v reducesTo_S512_S_d0 h_S_) main_v24 main_c_9
  let main_v26 : IVec S_ 1 := andi main_v19 main_v25
  let main_cst_10 : FVec F S_ .f32 := constant S_ .f32 0xFF800000#32
  let main_v27 : FVec F S512 .f32 := broadcastInDim S512 ![] bcast_S_S512 main_cst_10
  let main_v28 : IVec S512 1 := cmpf .ogt main_arg11 main_v27
  let main_cst_11 : FVec F S_ .f32 := constant S_ .f32 0x7F800000#32
  let main_v29 : FVec F S512 .f32 := broadcastInDim S512 ![] bcast_S_S512 main_cst_11
  let main_v30 : IVec S512 1 := cmpf .olt main_arg11 main_v29
  let main_v31 : IVec S512 1 := andi main_v28 main_v30
  let main_c_12 : IVec S_ 1 := constantI S_ 1 1#1
  let main_v32 : IVec S_ 1 := (fun x v => Host.reduce IntOp.andi x v reducesTo_S512_S_d0 h_S_) main_v31 main_c_12
  fn_part2 (F := F) main_arg12 main_arg15 main_arg16 main_v26 main_v32

def fn {F : FTy → Type} [FloatOps F] (main_arg0 : IVec S3x32768 32) (main_arg1 : FVec F S32768x3 .f32) (main_arg2 : IVec S3x32768 32) (main_arg3 : FVec F S32768x3 .f32) (main_arg4 : FVec F S16x256x4096 .f32) (main_arg5 : FVec F S16x512x1024 .f32) (main_arg6 : FVec F S512x768 .f32) (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_arg14 : FVec F S512x512 .f32) (main_arg15 : FVec F S512 .f32) (main_arg16 : FVec F S512 .f32) (main_arg17 : FVec F S512 .f32) : IVec S_ 1 :=
  let main_c : IVec S_ 32 := constantI S_ 32 0#32
  let main_v0 : IVec S3x32768 32 := broadcastInDim S3x32768 ![] bcast_S_S3x32768 main_c
  let main_v1 : IVec S3x32768 1 := cmpi .sge main_arg0 main_v0
  let main_c_0 : IVec S_ 32 := constantI S_ 32 16384#32
  let main_v2 : IVec S3x32768 32 := broadcastInDim S3x32768 ![] bcast_S_S3x32768 main_c_0
  let main_v3 : IVec S3x32768 1 := cmpi .slt main_arg0 main_v2
  let main_v4 : IVec S3x32768 1 := andi main_v1 main_v3
  let main_c_1 : IVec S_ 1 := constantI S_ 1 1#1
  let main_v5 : IVec S_ 1 := (fun x v => Host.reduce IntOp.andi x v reducesTo_S3x32768_S_d0_1 h_S_) main_v4 main_c_1
  let main_c_2 : IVec S_ 32 := constantI S_ 32 0#32
  let main_v6 : IVec S3x32768 32 := broadcastInDim S3x32768 ![] bcast_S_S3x32768 main_c_2
  let main_v7 : IVec S3x32768 1 := cmpi .sge main_arg2 main_v6
  let main_c_3 : IVec S_ 32 := constantI S_ 32 16384#32
  let main_v8 : IVec S3x32768 32 := broadcastInDim S3x32768 ![] bcast_S_S3x32768 main_c_3
  let main_v9 : IVec S3x32768 1 := cmpi .slt main_arg2 main_v8
  let main_v10 : IVec S3x32768 1 := andi main_v7 main_v9
  let main_c_4 : IVec S_ 1 := constantI S_ 1 1#1
  let main_v11 : IVec S_ 1 := (fun x v => Host.reduce IntOp.andi x v reducesTo_S3x32768_S_d0_1 h_S_) main_v10 main_c_4
  let main_v12 : IVec S_ 1 := andi main_v5 main_v11
  let main_cst : FVec F S_ .f32 := constant S_ .f32 0xFF800000#32
  let main_v13 : FVec F S512 .f32 := broadcastInDim S512 ![] bcast_S_S512 main_cst
  let main_v14 : IVec S512 1 := cmpf .ogt main_arg7 main_v13
  let main_cst_5 : FVec F S_ .f32 := constant S_ .f32 0x7F800000#32
  let main_v15 : FVec F S512 .f32 := broadcastInDim S512 ![] bcast_S_S512 main_cst_5
  fn_part1 (F := F) main_arg7 main_arg8 main_arg11 main_arg12 main_arg15 main_arg16 main_v12 main_v14 main_v15
-- ==== Pre_in_range.lean ====
abbrev S3x32768 : Shape := ⟨2, ![3, 32768]⟩
abbrev S32768x3 : Shape := ⟨2, ![32768, 3]⟩
abbrev S16x256x4096 : Shape := ⟨3, ![16, 256, 4096]⟩
abbrev S16x512x1024 : Shape := ⟨3, ![16, 512, 1024]⟩
abbrev S512x768 : Shape := ⟨2, ![512, 768]⟩
abbrev S512 : Shape := ⟨1, ![512]⟩
abbrev S512x512 : Shape := ⟨2, ![512, 512]⟩
abbrev S_ : Shape := ⟨0, ![]⟩

class Facts : Prop where
  bcast_S_S3x32768 : S_.BroadcastsInDim S3x32768 (![] : Fin 0 → Fin S3x32768.rank)
  reducesTo_S3x32768_S_d0_1 : S3x32768.ReducesTo [0, 1] S_
  h_S_ : 0 < S_.numel

variable [Facts]

def fn {F : FTy → Type} [FloatOps F] (main_arg0 : IVec S3x32768 32) (main_arg1 : FVec F S32768x3 .f32) (main_arg2 : IVec S3x32768 32) (main_arg3 : FVec F S32768x3 .f32) (main_arg4 : FVec F S16x256x4096 .f32) (main_arg5 : FVec F S16x512x1024 .f32) (main_arg6 : FVec F S512x768 .f32) (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_arg14 : FVec F S512x512 .f32) (main_arg15 : FVec F S512 .f32) (main_arg16 : FVec F S512 .f32) (main_arg17 : FVec F S512 .f32) : IVec S_ 1 :=
  let main_c : IVec S_ 32 := constantI S_ 32 0#32
  let main_v0 : IVec S3x32768 32 := broadcastInDim S3x32768 ![] bcast_S_S3x32768 main_c
  let main_v1 : IVec S3x32768 1 := cmpi .sge main_arg0 main_v0
  let main_c_0 : IVec S_ 32 := constantI S_ 32 16384#32
  let main_v2 : IVec S3x32768 32 := broadcastInDim S3x32768 ![] bcast_S_S3x32768 main_c_0
  let main_v3 : IVec S3x32768 1 := cmpi .slt main_arg0 main_v2
  let main_v4 : IVec S3x32768 1 := andi main_v1 main_v3
  let main_c_1 : IVec S_ 1 := constantI S_ 1 1#1
  let main_v5 : IVec S_ 1 := (fun x v => Host.reduce IntOp.andi x v reducesTo_S3x32768_S_d0_1 h_S_) main_v4 main_c_1
  let main_c_2 : IVec S_ 32 := constantI S_ 32 0#32
  let main_v6 : IVec S3x32768 32 := broadcastInDim S3x32768 ![] bcast_S_S3x32768 main_c_2
  let main_v7 : IVec S3x32768 1 := cmpi .sge main_arg2 main_v6
  let main_c_3 : IVec S_ 32 := constantI S_ 32 16384#32
  let main_v8 : IVec S3x32768 32 := broadcastInDim S3x32768 ![] bcast_S_S3x32768 main_c_3
  let main_v9 : IVec S3x32768 1 := cmpi .slt main_arg2 main_v8
  let main_v10 : IVec S3x32768 1 := andi main_v7 main_v9
  let main_c_4 : IVec S_ 1 := constantI S_ 1 1#1
  let main_v11 : IVec S_ 1 := (fun x v => Host.reduce IntOp.andi x v reducesTo_S3x32768_S_d0_1 h_S_) main_v10 main_c_4
  let main_v12 : IVec S_ 1 := andi main_v5 main_v11
  main_v12
-- ==== Kernel.lean ====
abbrev S3x32768 : Shape := ⟨2, ![3, 32768]⟩
abbrev S32768x3 : Shape := ⟨2, ![32768, 3]⟩
abbrev S16x256x4096 : Shape := ⟨3, ![16, 256, 4096]⟩
abbrev S16x512x1024 : Shape := ⟨3, ![16, 512, 1024]⟩
abbrev S512x768 : Shape := ⟨2, ![512, 768]⟩
abbrev S512 : Shape := ⟨1, ![512]⟩
abbrev S512x512 : Shape := ⟨2, ![512, 512]⟩
abbrev S512x256 : Shape := ⟨2, ![512, 256]⟩
abbrev S16384x512 : Shape := ⟨2, ![16384, 512]⟩
abbrev S1x512x1024 : Shape := ⟨3, ![1, 512, 1024]⟩
abbrev S1024x512 : Shape := ⟨2, ![1024, 512]⟩
abbrev S512x1024 : Shape := ⟨2, ![512, 1024]⟩
abbrev S98304 : Shape := ⟨1, ![98304]⟩
abbrev S32768x2x128 : Shape := ⟨3, ![32768, 2, 128]⟩
abbrev S98304x1 : Shape := ⟨2, ![98304, 1]⟩
abbrev S_ : Shape := ⟨0, ![]⟩
abbrev S2 : Shape := ⟨1, ![2]⟩
abbrev S1x2 : Shape := ⟨2, ![1, 2]⟩
abbrev S98304x2 : Shape := ⟨2, ![98304, 2]⟩
abbrev S196608 : Shape := ⟨1, ![196608]⟩
abbrev S196608x2x128 : Shape := ⟨3, ![196608, 2, 128]⟩
abbrev S6144 : Shape := ⟨1, ![6144]⟩
abbrev S96x2x128 : Shape := ⟨3, ![96, 2, 128]⟩
abbrev S96 : Shape := ⟨1, ![96]⟩
abbrev S98304x512 : Shape := ⟨2, ![98304, 512]⟩
abbrev S65536x3 : Shape := ⟨2, ![65536, 3]⟩
abbrev S65536 : Shape := ⟨1, ![65536]⟩
abbrev S65536x1 : Shape := ⟨2, ![65536, 1]⟩
abbrev S65536x512 : Shape := ⟨2, ![65536, 512]⟩
abbrev S8x512 : Shape := ⟨2, ![8, 512]⟩
abbrev S1024x3 : Shape := ⟨2, ![1024, 3]⟩
abbrev S1x256x1024 : Shape := ⟨3, ![1, 256, 1024]⟩
abbrev S256x1024 : Shape := ⟨2, ![256, 1024]⟩
abbrev S1024x1 : Shape := ⟨2, ![1024, 1]⟩
abbrev S1x512 : Shape := ⟨2, ![1, 512]⟩
abbrev S16x512x4096 : Shape := ⟨3, ![16, 512, 4096]⟩

abbrev nBuf : Table → Nat
  | .hbm => 132
  | .local .tc .vmem => 51
  | .local .scVector .vmem => 6
  | _ => 0

abbrev hbmTy0_0 (i : Nat) : BufTy := match i % 128 with
  | 0 => ⟨S3x32768, .i32⟩
  | 1 => ⟨S32768x3, .f32⟩
  | 2 => ⟨S3x32768, .i32⟩
  | 3 => ⟨S32768x3, .f32⟩
  | 4 => ⟨S16x256x4096, .f32⟩
  | 5 => ⟨S16x512x1024, .f32⟩
  | 6 => ⟨S512x768, .f32⟩
  | 7 => ⟨S512, .f32⟩
  | 8 => ⟨S512, .f32⟩
  | 9 => ⟨S512, .f32⟩
  | 10 => ⟨S512x512, .f32⟩
  | 11 => ⟨S512, .f32⟩
  | 12 => ⟨S512, .f32⟩
  | 13 => ⟨S512, .f32⟩
  | 14 => ⟨S512x512, .f32⟩
  | 15 => ⟨S512, .f32⟩
  | 16 => ⟨S512, .f32⟩
  | 17 => ⟨S512, .f32⟩
  | 18 => ⟨S512x256, .f32⟩
  | 19 => ⟨S512x512, .f32⟩
  | 20 => ⟨S16384x512, .f32⟩
  | 21 => ⟨S98304, .i32⟩
  | 22 => ⟨S32768x2x128, .f32⟩
  | 23 => ⟨S98304x1, .i32⟩
  | 24 => ⟨S_, .i32⟩
  | 25 => ⟨S98304x1, .i32⟩
  | 26 => ⟨S98304x1, .i32⟩
  | 27 => ⟨S2, .i32⟩
  | 28 => ⟨S1x2, .i32⟩
  | 29 => ⟨S98304x2, .i32⟩
  | 30 => ⟨S98304x2, .i32⟩
  | 31 => ⟨S98304x2, .i32⟩
  | 32 => ⟨S196608, .i32⟩
  | 33 => ⟨S196608x2x128, .f32⟩
  | 34 => ⟨S98304x512, .f32⟩
  | 35 => ⟨S98304, .i32⟩
  | 36 => ⟨S32768x2x128, .f32⟩
  | 37 => ⟨S98304x1, .i32⟩
  | 38 => ⟨S_, .i32⟩
  | 39 => ⟨S98304x1, .i32⟩
  | 40 => ⟨S98304x1, .i32⟩
  | 41 => ⟨S2, .i32⟩
  | 42 => ⟨S1x2, .i32⟩
  | 43 => ⟨S98304x2, .i32⟩
  | 44 => ⟨S98304x2, .i32⟩
  | 45 => ⟨S98304x2, .i32⟩
  | 46 => ⟨S196608, .i32⟩
  | 47 => ⟨S196608x2x128, .f32⟩
  | 48 => ⟨S98304x512, .f32⟩
  | 49 => ⟨S65536x3, .f32⟩
  | 50 => ⟨S_, .f32⟩
  | 51 => ⟨S65536x3, .f32⟩
  | 52 => ⟨S65536x3, .f32⟩
  | 53 => ⟨S_, .f32⟩
  | 54 => ⟨S65536x3, .f32⟩
  | 55 => ⟨S65536x3, .f32⟩
  | 56 => ⟨S_, .f32⟩
  | 57 => ⟨S65536, .f32⟩
  | 58 => ⟨S65536x1, .f32⟩
  | 59 => ⟨S65536x3, .f32⟩
  | 60 => ⟨S65536x3, .f32⟩
  | 61 => ⟨S65536x512, .bf16⟩
  | 62 => ⟨S8x512, .f32⟩
  | 63 => ⟨S1x512, .f32⟩
  | 64 => ⟨S512, .f32⟩
  | 65 => ⟨S_, .f32⟩
  | 66 => ⟨S512, .f32⟩
  | 67 => ⟨S512, .f32⟩
  | 68 => ⟨S1x512, .f32⟩
  | 69 => ⟨S512, .f32⟩
  | 70 => ⟨S_, .f32⟩
  | 71 => ⟨S512, .f32⟩
  | 72 => ⟨S512, .f32⟩
  | 73 => ⟨S512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .f32⟩
  | 81 => ⟨S512, .f32⟩
  | 82 => ⟨S1x512, .f32⟩
  | 83 => ⟨S1x512, .f32⟩
  | 84 => ⟨S65536x512, .bf16⟩
  | 85 => ⟨S65536x512, .bf16⟩
  | 86 => ⟨S8x512, .f32⟩
  | 87 => ⟨S1x512, .f32⟩
  | 88 => ⟨S512, .f32⟩
  | 89 => ⟨S_, .f32⟩
  | 90 => ⟨S512, .f32⟩
  | 91 => ⟨S512, .f32⟩
  | 92 => ⟨S1x512, .f32⟩
  | 93 => ⟨S512, .f32⟩
  | 94 => ⟨S_, .f32⟩
  | 95 => ⟨S512, .f32⟩
  | 96 => ⟨S512, .f32⟩
  | 97 => ⟨S512, .f32⟩
  | 98 => ⟨S512, .f32⟩
  | 99 => ⟨S_, .f32⟩
  | 100 => ⟨S512, .f32⟩
  | 101 => ⟨S512, .f32⟩
  | 102 => ⟨S512, .f32⟩
  | 103 => ⟨S512, .f32⟩
  | 104 => ⟨S512, .f32⟩
  | 105 => ⟨S512, .f32⟩
  | 106 => ⟨S1x512, .f32⟩
  | 107 => ⟨S1x512, .f32⟩
  | 108 => ⟨S65536x512, .bf16⟩
  | 109 => ⟨S8x512, .f32⟩
  | 110 => ⟨S1x512, .f32⟩
  | 111 => ⟨S512, .f32⟩
  | 112 => ⟨S_, .f32⟩
  | 113 => ⟨S512, .f32⟩
  | 114 => ⟨S512, .f32⟩
  | 115 => ⟨S1x512, .f32⟩
  | 116 => ⟨S512, .f32⟩
  | 117 => ⟨S_, .f32⟩
  | 118 => ⟨S512, .f32⟩
  | 119 => ⟨S512, .f32⟩
  | 120 => ⟨S512, .f32⟩
  | 121 => ⟨S512, .f32⟩
  | 122 => ⟨S_, .f32⟩
  | 123 => ⟨S512, .f32⟩
  | 124 => ⟨S512, .f32⟩
  | 125 => ⟨S512, .f32⟩
  | 126 => ⟨S512, .f32⟩
  | 127 => ⟨S512, .f32⟩
  | _ => ⟨S3x32768, .i32⟩

abbrev hbmTy0_1 (i : Nat) : BufTy := match i % 128 with
  | 0 => ⟨S512, .f32⟩
  | 1 => ⟨S1x512, .f32⟩
  | 2 => ⟨S1x512, .f32⟩
  | 3 => ⟨S16x512x4096, .f32⟩
  | _ => ⟨S3x32768, .i32⟩

abbrev hbmTy (i : Nat) : BufTy := match i / 128 with
  | 0 => hbmTy0_0 i
  | 1 => hbmTy0_1 i
  | _ => ⟨S3x32768, .i32⟩

abbrev bufTy : (tb : Table) → Fin (nBuf tb) → BufTy
  | .hbm, ⟨i, _⟩ => hbmTy i
  | .local .tc .vmem, ⟨0, _⟩ => ⟨S1x512x1024, .f32⟩
  | .local .tc .vmem, ⟨1, _⟩ => ⟨S1x512x1024, .f32⟩
  | .local .tc .vmem, ⟨2, _⟩ => ⟨S1024x512, .f32⟩
  | .local .tc .vmem, ⟨3, _⟩ => ⟨S1024x512, .f32⟩
  | .local .tc .vmem, ⟨4, _⟩ => ⟨S1024x512, .f32⟩
  | .local .tc .vmem, ⟨5, _⟩ => ⟨S1024x512, .f32⟩
  | .local .tc .vmem, ⟨6, _⟩ => ⟨S1024x512, .f32⟩
  | .local .tc .vmem, ⟨7, _⟩ => ⟨S1024x512, .f32⟩
  | .local .tc .vmem, ⟨8, _⟩ => ⟨S1024x512, .f32⟩
  | .local .tc .vmem, ⟨9, _⟩ => ⟨S1024x512, .f32⟩
  | .local .tc .vmem, ⟨10, _⟩ => ⟨S1024x512, .f32⟩
  | .local .tc .vmem, ⟨11, _⟩ => ⟨S1024x512, .f32⟩
  | .local .tc .vmem, ⟨12, _⟩ => ⟨S1024x512, .f32⟩
  | .local .tc .vmem, ⟨13, _⟩ => ⟨S1024x512, .f32⟩
  | .local .tc .vmem, ⟨14, _⟩ => ⟨S1024x512, .f32⟩
  | .local .tc .vmem, ⟨15, _⟩ => ⟨S1024x512, .f32⟩
  | .local .tc .vmem, ⟨16, _⟩ => ⟨S1024x3, .f32⟩
  | .local .tc .vmem, ⟨17, _⟩ => ⟨S1024x3, .f32⟩
  | .local .tc .vmem, ⟨18, _⟩ => ⟨S1x256x1024, .f32⟩
  | .local .tc .vmem, ⟨19, _⟩ => ⟨S1x256x1024, .f32⟩
  | .local .tc .vmem, ⟨20, _⟩ => ⟨S512x256, .f32⟩
  | .local .tc .vmem, ⟨21, _⟩ => ⟨S512x512, .f32⟩
  | .local .tc .vmem, ⟨22, _⟩ => ⟨S1024x512, .bf16⟩
  | .local .tc .vmem, ⟨23, _⟩ => ⟨S1024x512, .bf16⟩
  | .local .tc .vmem, ⟨24, _⟩ => ⟨S8x512, .f32⟩
  | .local .tc .vmem, ⟨25, _⟩ => ⟨S1024x512, .bf16⟩
  | .local .tc .vmem, ⟨26, _⟩ => ⟨S1024x512, .bf16⟩
  | .local .tc .vmem, ⟨27, _⟩ => ⟨S1x512, .f32⟩
  | .local .tc .vmem, ⟨28, _⟩ => ⟨S1x512, .f32⟩
  | .local .tc .vmem, ⟨29, _⟩ => ⟨S512x512, .f32⟩
  | .local .tc .vmem, ⟨30, _⟩ => ⟨S1024x512, .bf16⟩
  | .local .tc .vmem, ⟨31, _⟩ => ⟨S1024x512, .bf16⟩
  | .local .tc .vmem, ⟨32, _⟩ => ⟨S1024x512, .bf16⟩
  | .local .tc .vmem, ⟨33, _⟩ => ⟨S1024x512, .bf16⟩
  | .local .tc .vmem, ⟨34, _⟩ => ⟨S8x512, .f32⟩
  | .local .tc .vmem, ⟨35, _⟩ => ⟨S1024x512, .bf16⟩
  | .local .tc .vmem, ⟨36, _⟩ => ⟨S1024x512, .bf16⟩
  | .local .tc .vmem, ⟨37, _⟩ => ⟨S1x512, .f32⟩
  | .local .tc .vmem, ⟨38, _⟩ => ⟨S1x512, .f32⟩
  | .local .tc .vmem, ⟨39, _⟩ => ⟨S512x512, .f32⟩
  | .local .tc .vmem, ⟨40, _⟩ => ⟨S1024x512, .bf16⟩
  | .local .tc .vmem, ⟨41, _⟩ => ⟨S1024x512, .bf16⟩
  | .local .tc .vmem, ⟨42, _⟩ => ⟨S8x512, .f32⟩
  | .local .tc .vmem, ⟨43, _⟩ => ⟨S1024x512, .bf16⟩
  | .local .tc .vmem, ⟨44, _⟩ => ⟨S1024x512, .bf16⟩
  | .local .tc .vmem, ⟨45, _⟩ => ⟨S1024x512, .bf16⟩
  | .local .tc .vmem, ⟨46, _⟩ => ⟨S1024x512, .bf16⟩
  | .local .tc .vmem, ⟨47, _⟩ => ⟨S1x512, .f32⟩
  | .local .tc .vmem, ⟨48, _⟩ => ⟨S1x512, .f32⟩
  | .local .tc .vmem, ⟨49, _⟩ => ⟨S1x512x1024, .f32⟩
  | .local .tc .vmem, ⟨50, _⟩ => ⟨S1x512x1024, .f32⟩
  | .local .scVector .vmem, ⟨0, _⟩ => ⟨S6144, .i32⟩
  | .local .scVector .vmem, ⟨1, _⟩ => ⟨S96x2x128, .f32⟩
  | .local .scVector .vmem, ⟨2, _⟩ => ⟨S96x2x128, .f32⟩
  | .local .scVector .vmem, ⟨3, _⟩ => ⟨S6144, .i32⟩
  | .local .scVector .vmem, ⟨4, _⟩ => ⟨S96x2x128, .f32⟩
  | .local .scVector .vmem, ⟨5, _⟩ => ⟨S96x2x128, .f32⟩
  | _, _ => ⟨S3x32768, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 61 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTables nBuf rfl bufTy 4 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57_0 : Ref sig .tc := ⟨.hbm, 84, rfl⟩
abbrev main_v57_1 : Ref sig .tc := ⟨.hbm, 85, rfl⟩
abbrev main_v57_2 : Ref sig .tc := ⟨.hbm, 86, rfl⟩
abbrev main_v58 : Ref sig .tc := ⟨.hbm, 87, rfl⟩
abbrev main_v59 : Ref sig .tc := ⟨.hbm, 88, rfl⟩
abbrev main_cst_6 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_7 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_8 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76_0 : Ref sig .tc := ⟨.hbm, 108, rfl⟩
abbrev main_v76_1 : Ref sig .tc := ⟨.hbm, 109, rfl⟩
abbrev main_v77 : Ref sig .tc := ⟨.hbm, 110, rfl⟩
abbrev main_v78 : Ref sig .tc := ⟨.hbm, 111, rfl⟩
abbrev main_cst_9 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_10 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_11 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v4_scv : Ref sig .scVector := ⟨.hbm, 22, rfl⟩
abbrev main_v13_scv : Ref sig .scVector := ⟨.hbm, 32, rfl⟩
abbrev main_v14_scv : Ref sig .scVector := ⟨.hbm, 33, rfl⟩
abbrev main_v17_scv : Ref sig .scVector := ⟨.hbm, 36, rfl⟩
abbrev main_v26_scv : Ref sig .scVector := ⟨.hbm, 46, rfl⟩
abbrev main_v27_scv : Ref sig .scVector := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc3_stg0_0 : Ref sig .tc := ⟨.vmem, 4, rfl⟩
abbrev cc3_stg0_1 : Ref sig .tc := ⟨.vmem, 5, rfl⟩
abbrev cc3_stg1_0 : Ref sig .tc := ⟨.vmem, 6, rfl⟩
abbrev cc3_stg1_1 : Ref sig .tc := ⟨.vmem, 7, rfl⟩
abbrev cc3_stg2_0 : Ref sig .tc := ⟨.vmem, 8, rfl⟩
abbrev cc3_stg2_1 : Ref sig .tc := ⟨.vmem, 9, rfl⟩
abbrev cc3_stg3_0 : Ref sig .tc := ⟨.vmem, 10, rfl⟩
abbrev cc3_stg3_1 : Ref sig .tc := ⟨.vmem, 11, rfl⟩
abbrev cc3_stg4_0 : Ref sig .tc := ⟨.vmem, 12, rfl⟩
abbrev cc3_stg4_1 : Ref sig .tc := ⟨.vmem, 13, rfl⟩
abbrev cc3_stg5_0 : Ref sig .tc := ⟨.vmem, 14, rfl⟩
abbrev cc3_stg5_1 : Ref sig .tc := ⟨.vmem, 15, rfl⟩
abbrev cc3_stg6_0 : Ref sig .tc := ⟨.vmem, 16, rfl⟩
abbrev cc3_stg6_1 : Ref sig .tc := ⟨.vmem, 17, rfl⟩
abbrev cc3_stg7_0 : Ref sig .tc := ⟨.vmem, 18, rfl⟩
abbrev cc3_stg7_1 : Ref sig .tc := ⟨.vmem, 19, rfl⟩
abbrev cc3_stg8_0 : Ref sig .tc := ⟨.vmem, 20, rfl⟩
abbrev cc3_stg9_0 : Ref sig .tc := ⟨.vmem, 21, rfl⟩
abbrev cc3_stg10_0 : Ref sig .tc := ⟨.vmem, 22, rfl⟩
abbrev cc3_stg10_1 : Ref sig .tc := ⟨.vmem, 23, rfl⟩
abbrev cc3_stg11_0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc4_stg6_0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc5_stg5_0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25
abbrev cc3_sem6_0 : DmaSem sig := 26
abbrev cc3_sem6_1 : DmaSem sig := 27
abbrev cc3_sem7_0 : DmaSem sig := 28
abbrev cc3_sem7_1 : DmaSem sig := 29
abbrev cc3_sem8_0 : DmaSem sig := 30
abbrev cc3_sem9_0 : DmaSem sig := 31
abbrev cc3_sem10_0 : DmaSem sig := 32
abbrev cc3_sem10_1 : DmaSem sig := 33
abbrev cc3_sem11_0 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem4_1 : DmaSem sig := 41
abbrev cc4_sem5_0 : DmaSem sig := 42
abbrev cc4_sem5_1 : DmaSem sig := 43
abbrev cc4_sem6_0 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem3_0 : DmaSem sig := 49
abbrev cc5_sem4_0 : DmaSem sig := 50
abbrev cc5_sem4_1 : DmaSem sig := 51
abbrev cc5_sem5_0 : DmaSem sig := 52
abbrev cc6_sem0_0 : DmaSem sig := 53
abbrev cc6_sem0_1 : DmaSem sig := 54
abbrev cc6_sem1_0 : DmaSem sig := 55
abbrev cc6_sem1_1 : DmaSem sig := 56
abbrev cc6_sem2_0 : DmaSem sig := 57
abbrev cc6_sem3_0 : DmaSem sig := 58
abbrev cc6_sem4_0 : DmaSem sig := 59
abbrev cc6_sem4_1 : DmaSem sig := 60
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  ![v2.toNat]
@[reducible] def k1_t1_loop : Scf.Loop 32 :=
  let c0_i32_3 : BitVec 32 := 0#32
  let c32_i32 : BitVec 32 := 32#32
  let v5 : BitVec 32 := Scalar.addi c0_i32_3 c32_i32
  let c1_i32 : BitVec 32 := 1#32
  ⟨c0_i32_3, v5, c1_i32⟩
def k1_off2 (k1_t1 : Fin k1_t1_loop.trips) : Fin 1 → Nat :=
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k1_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c96_i32 : BitVec 32 := 96#32
  let v9 : BitVec 32 := Scalar.muli v8 c96_i32
  ![v9.toNat]
def k1_off3 (k1_t1 : Fin k1_t1_loop.trips) : Fin 1 → Nat :=
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k1_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c1_i32_11 : BitVec 32 := 1#32
  let v12 : BitVec 32 := Scalar.addi v8 c1_i32_11
  let c96_i32_12 : BitVec 32 := 96#32
  let v13 : BitVec 32 := Scalar.muli v12 c96_i32_12
  ![v13.toNat]
def k1_off4 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k1_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c96_i32_16 : BitVec 32 := 96#32
  let v16 : BitVec 32 := Scalar.muli v8 c96_i32_16
  let v17 : BitVec 32 := Scalar.addi v2 v16
  let c0_i32_17 : BitVec 32 := 0#32
  let c0_i32_18 : BitVec 32 := 0#32
  ![v17.toNat, 0, 0]
def k1_cond1 (k1_t1 : Fin k1_t1_loop.trips) : BitVec 1 :=
  let c0_i32_6 : BitVec 32 := 0#32
  let c0_i32_3 : BitVec 32 := 0#32
  let c1_i32 : BitVec 32 := 1#32
  let arg12 : BitVec 32 := Scf.iv c0_i32_3 c1_i32 k1_t1
  let c1_i32_5 : BitVec 32 := 1#32
  let v6 : BitVec 32 := Scalar.muli arg12 c1_i32_5
  let v7 : BitVec 32 := Scalar.addi c0_i32_6 v6
  let c1_i32_31 : BitVec 32 := 1#32
  let v28 : BitVec 32 := Scalar.addi v7 c1_i32_31
  let c32_i32_32 : BitVec 32 := 32#32
  let v29 : BitVec 1 := Scalar.cmpi .slt v28 c32_i32_32
  let v30 : BitVec 32 := Scalar.extui v29
  let c0_i32_33 : BitVec 32 := 0#32
  let v31 : BitVec 1 := Scalar.cmpi .ne v30 c0_i32_33
  v31

def k1_off5 (k1_t1 : Fin k1_t1_loop.trips) : Fin 1 → Nat :=
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k1_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c2_i32_46 : BitVec 32 := 2#32
  let v42 : BitVec 32 := Scalar.addi v8 c2_i32_46
  let c96_i32_47 : BitVec 32 := 96#32
  let v43 : BitVec 32 := Scalar.muli v42 c96_i32_47
  ![v43.toNat]
def k1_off6 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k1_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c1_i32_34 : BitVec 32 := 1#32
  let v32 : BitVec 32 := Scalar.addi v8 c1_i32_34
  let c96_i32_35 : BitVec 32 := 96#32
  let v33 : BitVec 32 := Scalar.muli v32 c96_i32_35
  let v34 : BitVec 32 := Scalar.addi v2 v33
  let c0_i32_36 : BitVec 32 := 0#32
  let c0_i32_37 : BitVec 32 := 0#32
  ![v34.toNat, 0, 0]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  ![v2.toNat]
@[reducible] def k2_t1_loop : Scf.Loop 32 :=
  let c0_i32_3 : BitVec 32 := 0#32
  let c32_i32 : BitVec 32 := 32#32
  let v5 : BitVec 32 := Scalar.addi c0_i32_3 c32_i32
  let c1_i32 : BitVec 32 := 1#32
  ⟨c0_i32_3, v5, c1_i32⟩
def k2_off2 (k2_t1 : Fin k2_t1_loop.trips) : Fin 1 → Nat :=
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k2_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c96_i32 : BitVec 32 := 96#32
  let v9 : BitVec 32 := Scalar.muli v8 c96_i32
  ![v9.toNat]
def k2_off3 (k2_t1 : Fin k2_t1_loop.trips) : Fin 1 → Nat :=
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k2_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c1_i32_11 : BitVec 32 := 1#32
  let v12 : BitVec 32 := Scalar.addi v8 c1_i32_11
  let c96_i32_12 : BitVec 32 := 96#32
  let v13 : BitVec 32 := Scalar.muli v12 c96_i32_12
  ![v13.toNat]
def k2_off4 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k2_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c96_i32_16 : BitVec 32 := 96#32
  let v16 : BitVec 32 := Scalar.muli v8 c96_i32_16
  let v17 : BitVec 32 := Scalar.addi v2 v16
  let c0_i32_17 : BitVec 32 := 0#32
  let c0_i32_18 : BitVec 32 := 0#32
  ![v17.toNat, 0, 0]
def k2_cond1 (k2_t1 : Fin k2_t1_loop.trips) : BitVec 1 :=
  let c0_i32_6 : BitVec 32 := 0#32
  let c0_i32_3 : BitVec 32 := 0#32
  let c1_i32 : BitVec 32 := 1#32
  let arg12 : BitVec 32 := Scf.iv c0_i32_3 c1_i32 k2_t1
  let c1_i32_5 : BitVec 32 := 1#32
  let v6 : BitVec 32 := Scalar.muli arg12 c1_i32_5
  let v7 : BitVec 32 := Scalar.addi c0_i32_6 v6
  let c1_i32_31 : BitVec 32 := 1#32
  let v28 : BitVec 32 := Scalar.addi v7 c1_i32_31
  let c32_i32_32 : BitVec 32 := 32#32
  let v29 : BitVec 1 := Scalar.cmpi .slt v28 c32_i32_32
  let v30 : BitVec 32 := Scalar.extui v29
  let c0_i32_33 : BitVec 32 := 0#32
  let v31 : BitVec 1 := Scalar.cmpi .ne v30 c0_i32_33
  v31

def k2_off5 (k2_t1 : Fin k2_t1_loop.trips) : Fin 1 → Nat :=
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k2_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c2_i32_46 : BitVec 32 := 2#32
  let v42 : BitVec 32 := Scalar.addi v8 c2_i32_46
  let c96_i32_47 : BitVec 32 := 96#32
  let v43 : BitVec 32 := Scalar.muli v42 c96_i32_47
  ![v43.toNat]
def k2_off6 (i : grid2.Coords) (k2_t1 : Fin k2_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let c2_i32_7 : BitVec 32 := 2#32
  let c0_i32_6 : BitVec 32 := 0#32
  let c0_i32_3 : BitVec 32 := 0#32
  let c1_i32 : BitVec 32 := 1#32
  let arg12 : BitVec 32 := Scf.iv c0_i32_3 c1_i32 k2_t1
  let c1_i32_5 : BitVec 32 := 1#32
  let v6 : BitVec 32 := Scalar.muli arg12 c1_i32_5
  let v7 : BitVec 32 := Scalar.addi c0_i32_6 v6
  let v8 : BitVec 32 := Scalar.muli c2_i32_7 v7
  let c1_i32_34 : BitVec 32 := 1#32
  let v32 : BitVec 32 := Scalar.addi v8 c1_i32_34
  let c96_i32_35 : BitVec 32 := 96#32
  let v33 : BitVec 32 := Scalar.muli v32 c96_i32_35
  let v34 : BitVec 32 := Scalar.addi v2 v33
  let c0_i32_36 : BitVec 32 := 0#32
  let c0_i32_37 : BitVec 32 := 0#32
  ![v34.toNat, 0, 0]
abbrev grid3 : Pipeline.Grid := ⟨2, ![16, 4], ![false, false]⟩

def k3_cond1 (i : grid3.Coords) : BitVec 1 :=
  let arg0 : BitVec 32 := BitVec.ofNat 32 (i 0).val
  let c8_i32 : BitVec 32 := 8#32
  let v9 : BitVec 1 := Scalar.cmpi .slt arg0 c8_i32
  let v10 : BitVec 32 := Scalar.extui v9
  let c0_i32 : BitVec 32 := 0#32
  let v11 : BitVec 1 := Scalar.cmpi .ne v10 c0_i32
  v11

def k3_cond2 (i : grid3.Coords) : BitVec 1 :=
  let arg0 : BitVec 32 := BitVec.ofNat 32 (i 0).val
  let c8_i32_6 : BitVec 32 := 8#32
  let v12 : BitVec 1 := Scalar.cmpi .sge arg0 c8_i32_6
  let v13 : BitVec 32 := Scalar.extui v12
  let c0_i32_7 : BitVec 32 := 0#32
  let v14 : BitVec 1 := Scalar.cmpi .ne v13 c0_i32_7
  v14

def cc3_transform_0 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c0_i32 : BitVec 32 := 0#32
  let v3 : BitVec 32 := Scalar.addi c0_i32 v2
  let c0_i32_0 : BitVec 32 := 0#32
  let c0_i32_1 : BitVec 32 := 0#32
  ![v3.toNat, c0_i32_0.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c32_i32 : BitVec 32 := 32#32
  let v3 : BitVec 32 := Scalar.addi c32_i32 v2
  let c0_i32 : BitVec 32 := 0#32
  let c0_i32_0 : BitVec 32 := 0#32
  ![v3.toNat, c0_i32.toNat]

def cc3_transform_2 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c31_i32 : BitVec 32 := 31#32
  let v2 : BitVec 32 := Scalar.minsi v1 c31_i32
  let c64_i32 : BitVec 32 := 64#32
  let v3 : BitVec 32 := Scalar.addi c64_i32 v2
  let c0_i32 : BitVec 32 := 0#32
  let c0_i32_0 : BitVec 32 := 0#32
  ![v3.toNat, c0_i32.toNat]

def cc3_transform_3 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.subi v1 c32_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let v5 : BitVec 32 := Scalar.addi c0_i32_0 v4
  let c0_i32_1 : BitVec 32 := 0#32
  let c0_i32_2 : BitVec 32 := 0#32
  ![v5.toNat, c0_i32_1.toNat]

def cc3_transform_4 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.subi v1 c32_i32
  let c0_i32 : BitVec 32 := 0#32
  let c31_i32 : BitVec 32 := 31#32
  let v3 : BitVec 32 := Scalar.maxsi c0_i32 v2
  let v4 : BitVec 32 := Scalar.minsi c31_i32 v3
  let c32_i32_0 : BitVec 32 := 32#32
  let v5 : BitVec 32 := Scalar.addi c32_i32_0 v4
  let c0_i32_1 : BitVec 32 := 0#32
  let c0_i32_2 : BitVec 32 := 0#32
  ![v5.toNat, c0_i32_1.toNat]

def cc3_transform_5 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.subi v1 c32_i32
  let c0_i32 : BitVec 32 := 0#32
  let c31_i32 : BitVec 32 := 31#32
  let v3 : BitVec 32 := Scalar.maxsi c0_i32 v2
  let v4 : BitVec 32 := Scalar.minsi c31_i32 v3
  let c64_i32 : BitVec 32 := 64#32
  let v5 : BitVec 32 := Scalar.addi c64_i32 v4
  let c0_i32_0 : BitVec 32 := 0#32
  let c0_i32_1 : BitVec 32 := 0#32
  ![v5.toNat, c0_i32_0.toNat]

def cc3_transform_6 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1024x3 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 1 → Memref sig .tc .vmem S512x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S512x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 2 → Memref sig .tc .vmem S1024x512 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 1 → Memref sig .tc .vmem S8x512 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1024x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1024x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S8x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1024x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S512x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1024x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S8x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨2, ![16, 4], ![false, false]⟩

def cc6_transform_0 (i : grid6.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc6_transform_1 (i : grid6.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage6_0 : Fin 2 → Memref sig .tc .vmem S1024x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1024x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S1x512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S3x32768 : Shape := ⟨2, ![3, 32768]⟩
abbrev S32768x3 : Shape := ⟨2, ![32768, 3]⟩
abbrev S16x256x4096 : Shape := ⟨3, ![16, 256, 4096]⟩
abbrev S16x512x1024 : Shape := ⟨3, ![16, 512, 1024]⟩
abbrev S512x768 : Shape := ⟨2, ![512, 768]⟩
abbrev S512 : Shape := ⟨1, ![512]⟩
abbrev S512x512 : Shape := ⟨2, ![512, 512]⟩
abbrev S16x1024x512 : Shape := ⟨3, ![16, 1024, 512]⟩
abbrev S16384x512 : Shape := ⟨2, ![16384, 512]⟩
abbrev S3x65536 : Shape := ⟨2, ![3, 65536]⟩
abbrev S65536x3 : Shape := ⟨2, ![65536, 3]⟩
abbrev S_ : Shape := ⟨0, ![]⟩
abbrev S65536 : Shape := ⟨1, ![65536]⟩
abbrev S65536x1 : Shape := ⟨2, ![65536, 1]⟩
abbrev S65536x3x1 : Shape := ⟨3, ![65536, 3, 1]⟩
abbrev S65536x3x512 : Shape := ⟨3, ![65536, 3, 512]⟩
abbrev S65536x512 : Shape := ⟨2, ![65536, 512]⟩
abbrev S16x4096x512 : Shape := ⟨3, ![16, 4096, 512]⟩
abbrev S16x4096x256 : Shape := ⟨3, ![16, 4096, 256]⟩
abbrev S16x4096x768 : Shape := ⟨3, ![16, 4096, 768]⟩
abbrev S16x768x4096 : Shape := ⟨3, ![16, 768, 4096]⟩
abbrev S512x16x4096 : Shape := ⟨3, ![512, 16, 4096]⟩
abbrev S16x512x4096 : Shape := ⟨3, ![16, 512, 4096]⟩
abbrev S1x512x1 : Shape := ⟨3, ![1, 512, 1]⟩

abbrev nBuf : Space → Nat
  | .hbm => 209
  | .vmem => 0
  | .smem => 0
  | _ => 0

abbrev hbmTy0_0 (i : Nat) : BufTy := match i % 128 with
  | 0 => ⟨S3x32768, .i32⟩
  | 1 => ⟨S32768x3, .f32⟩
  | 2 => ⟨S3x32768, .i32⟩
  | 3 => ⟨S32768x3, .f32⟩
  | 4 => ⟨S16x256x4096, .f32⟩
  | 5 => ⟨S16x512x1024, .f32⟩
  | 6 => ⟨S512x768, .f32⟩
  | 7 => ⟨S512, .f32⟩
  | 8 => ⟨S512, .f32⟩
  | 9 => ⟨S512, .f32⟩
  | 10 => ⟨S512x512, .f32⟩
  | 11 => ⟨S512, .f32⟩
  | 12 => ⟨S512, .f32⟩
  | 13 => ⟨S512, .f32⟩
  | 14 => ⟨S512x512, .f32⟩
  | 15 => ⟨S512, .f32⟩
  | 16 => ⟨S512, .f32⟩
  | 17 => ⟨S512, .f32⟩
  | 18 => ⟨S16x1024x512, .f32⟩
  | 19 => ⟨S16384x512, .f32⟩
  | 20 => ⟨S3x65536, .i32⟩
  | 21 => ⟨S65536x3, .i32⟩
  | 22 => ⟨S65536x3, .f32⟩
  | 23 => ⟨S_, .f32⟩
  | 24 => ⟨S65536x3, .f32⟩
  | 25 => ⟨S65536x3, .f32⟩
  | 26 => ⟨S_, .f32⟩
  | 27 => ⟨S65536x3, .f32⟩
  | 28 => ⟨S65536x3, .f32⟩
  | 29 => ⟨S_, .f32⟩
  | 30 => ⟨S65536, .f32⟩
  | 31 => ⟨S65536x1, .f32⟩
  | 32 => ⟨S65536x3, .f32⟩
  | 33 => ⟨S65536x3, .f32⟩
  | 34 => ⟨S_, .i32⟩
  | 35 => ⟨S65536x3, .i32⟩
  | 36 => ⟨S65536x3, .i1⟩
  | 37 => ⟨S_, .i32⟩
  | 38 => ⟨S65536x3, .i32⟩
  | 39 => ⟨S65536x3, .i32⟩
  | 40 => ⟨S65536x3, .i32⟩
  | 41 => ⟨S65536x3x1, .i32⟩
  | 42 => ⟨S65536x3x512, .f32⟩
  | 43 => ⟨S65536x3x1, .f32⟩
  | 44 => ⟨S65536x3x512, .f32⟩
  | 45 => ⟨S65536x3x512, .f32⟩
  | 46 => ⟨S_, .f32⟩
  | 47 => ⟨S65536x512, .f32⟩
  | 48 => ⟨S16x4096x512, .f32⟩
  | 49 => ⟨S16x4096x256, .f32⟩
  | 50 => ⟨S16x4096x768, .f32⟩
  | 51 => ⟨S16x768x4096, .f32⟩
  | 52 => ⟨S512x16x4096, .f32⟩
  | 53 => ⟨S16x512x4096, .f32⟩
  | 54 => ⟨S1x512x1, .f32⟩
  | 55 => ⟨S16x512x4096, .f32⟩
  | 56 => ⟨S16x512x4096, .f32⟩
  | 57 => ⟨S_, .f32⟩
  | 58 => ⟨S512, .f32⟩
  | 59 => ⟨S1x512x1, .f32⟩
  | 60 => ⟨S_, .f32⟩
  | 61 => ⟨S1x512x1, .f32⟩
  | 62 => ⟨S1x512x1, .f32⟩
  | 63 => ⟨S_, .i32⟩
  | 64 => ⟨S_, .f32⟩
  | 65 => ⟨S512, .f32⟩
  | 66 => ⟨S1x512x1, .f32⟩
  | 67 => ⟨S_, .f32⟩
  | 68 => ⟨S1x512x1, .f32⟩
  | 69 => ⟨S1x512x1, .f32⟩
  | 70 => ⟨S16x512x4096, .f32⟩
  | 71 => ⟨S16x512x4096, .f32⟩
  | 72 => ⟨S16x512x4096, .f32⟩
  | 73 => ⟨S_, .f32⟩
  | 74 => ⟨S_, .f32⟩
  | 75 => ⟨S_, .f32⟩
  | 76 => ⟨S_, .f32⟩
  | 77 => ⟨S512, .f32⟩
  | 78 => ⟨S1x512x1, .f32⟩
  | 79 => ⟨S1x512x1, .f32⟩
  | 80 => ⟨S1x512x1, .f32⟩
  | 81 => ⟨S_, .f32⟩
  | 82 => ⟨S_, .i1⟩
  | 83 => ⟨S_, .f32⟩
  | 84 => ⟨S_, .f32⟩
  | 85 => ⟨S1x512x1, .f32⟩
  | 86 => ⟨S1x512x1, .f32⟩
  | 87 => ⟨S16x512x4096, .f32⟩
  | 88 => ⟨S16x512x4096, .f32⟩
  | 89 => ⟨S_, .f32⟩
  | 90 => ⟨S1x512x1, .f32⟩
  | 91 => ⟨S1x512x1, .f32⟩
  | 92 => ⟨S1x512x1, .f32⟩
  | 93 => ⟨S16x512x4096, .f32⟩
  | 94 => ⟨S16x512x4096, .f32⟩
  | 95 => ⟨S1x512x1, .f32⟩
  | 96 => ⟨S16x512x4096, .f32⟩
  | 97 => ⟨S16x512x4096, .f32⟩
  | 98 => ⟨S1x512x1, .f32⟩
  | 99 => ⟨S16x512x4096, .f32⟩
  | 100 => ⟨S16x512x4096, .f32⟩
  | 101 => ⟨S_, .f32⟩
  | 102 => ⟨S16x512x4096, .f32⟩
  | 103 => ⟨S16x512x4096, .f32⟩
  | 104 => ⟨S512x16x4096, .f32⟩
  | 105 => ⟨S16x512x4096, .f32⟩
  | 106 => ⟨S1x512x1, .f32⟩
  | 107 => ⟨S16x512x4096, .f32⟩
  | 108 => ⟨S16x512x4096, .f32⟩
  | 109 => ⟨S_, .f32⟩
  | 110 => ⟨S512, .f32⟩
  | 111 => ⟨S1x512x1, .f32⟩
  | 112 => ⟨S_, .f32⟩
  | 113 => ⟨S1x512x1, .f32⟩
  | 114 => ⟨S1x512x1, .f32⟩
  | 115 => ⟨S_, .i32⟩
  | 116 => ⟨S_, .f32⟩
  | 117 => ⟨S512, .f32⟩
  | 118 => ⟨S1x512x1, .f32⟩
  | 119 => ⟨S_, .f32⟩
  | 120 => ⟨S1x512x1, .f32⟩
  | 121 => ⟨S1x512x1, .f32⟩
  | 122 => ⟨S16x512x4096, .f32⟩
  | 123 => ⟨S16x512x4096, .f32⟩
  | 124 => ⟨S16x512x4096, .f32⟩
  | 125 => ⟨S_, .f32⟩
  | 126 => ⟨S_, .f32⟩
  | 127 => ⟨S_, .f32⟩
  | _ => ⟨S3x32768, .i32⟩

abbrev hbmTy0_1 (i : Nat) : BufTy := match i % 128 with
  | 0 => ⟨S_, .f32⟩
  | 1 => ⟨S512, .f32⟩
  | 2 => ⟨S1x512x1, .f32⟩
  | 3 => ⟨S1x512x1, .f32⟩
  | 4 => ⟨S1x512x1, .f32⟩
  | 5 => ⟨S_, .f32⟩
  | 6 => ⟨S_, .i1⟩
  | 7 => ⟨S_, .f32⟩
  | 8 => ⟨S_, .f32⟩
  | 9 => ⟨S1x512x1, .f32⟩
  | 10 => ⟨S1x512x1, .f32⟩
  | 11 => ⟨S16x512x4096, .f32⟩
  | 12 => ⟨S16x512x4096, .f32⟩
  | 13 => ⟨S_, .f32⟩
  | 14 => ⟨S1x512x1, .f32⟩
  | 15 => ⟨S1x512x1, .f32⟩
  | 16 => ⟨S1x512x1, .f32⟩
  | 17 => ⟨S16x512x4096, .f32⟩
  | 18 => ⟨S16x512x4096, .f32⟩
  | 19 => ⟨S1x512x1, .f32⟩
  | 20 => ⟨S16x512x4096, .f32⟩
  | 21 => ⟨S16x512x4096, .f32⟩
  | 22 => ⟨S1x512x1, .f32⟩
  | 23 => ⟨S16x512x4096, .f32⟩
  | 24 => ⟨S16x512x4096, .f32⟩
  | 25 => ⟨S_, .f32⟩
  | 26 => ⟨S16x512x4096, .f32⟩
  | 27 => ⟨S16x512x4096, .f32⟩
  | 28 => ⟨S512x16x4096, .f32⟩
  | 29 => ⟨S16x512x4096, .f32⟩
  | 30 => ⟨S1x512x1, .f32⟩
  | 31 => ⟨S16x512x4096, .f32⟩
  | 32 => ⟨S16x512x4096, .f32⟩
  | 33 => ⟨S_, .f32⟩
  | 34 => ⟨S512, .f32⟩
  | 35 => ⟨S1x512x1, .f32⟩
  | 36 => ⟨S_, .f32⟩
  | 37 => ⟨S1x512x1, .f32⟩
  | 38 => ⟨S1x512x1, .f32⟩
  | 39 => ⟨S_, .i32⟩
  | 40 => ⟨S_, .f32⟩
  | 41 => ⟨S512, .f32⟩
  | 42 => ⟨S1x512x1, .f32⟩
  | 43 => ⟨S_, .f32⟩
  | 44 => ⟨S1x512x1, .f32⟩
  | 45 => ⟨S1x512x1, .f32⟩
  | 46 => ⟨S16x512x4096, .f32⟩
  | 47 => ⟨S16x512x4096, .f32⟩
  | 48 => ⟨S16x512x4096, .f32⟩
  | 49 => ⟨S_, .f32⟩
  | 50 => ⟨S_, .f32⟩
  | 51 => ⟨S_, .f32⟩
  | 52 => ⟨S_, .f32⟩
  | 53 => ⟨S512, .f32⟩
  | 54 => ⟨S1x512x1, .f32⟩
  | 55 => ⟨S1x512x1, .f32⟩
  | 56 => ⟨S1x512x1, .f32⟩
  | 57 => ⟨S_, .f32⟩
  | 58 => ⟨S_, .i1⟩
  | 59 => ⟨S_, .f32⟩
  | 60 => ⟨S_, .f32⟩
  | 61 => ⟨S1x512x1, .f32⟩
  | 62 => ⟨S1x512x1, .f32⟩
  | 63 => ⟨S16x512x4096, .f32⟩
  | 64 => ⟨S16x512x4096, .f32⟩
  | 65 => ⟨S_, .f32⟩
  | 66 => ⟨S1x512x1, .f32⟩
  | 67 => ⟨S1x512x1, .f32⟩
  | 68 => ⟨S1x512x1, .f32⟩
  | 69 => ⟨S16x512x4096, .f32⟩
  | 70 => ⟨S16x512x4096, .f32⟩
  | 71 => ⟨S1x512x1, .f32⟩
  | 72 => ⟨S16x512x4096, .f32⟩
  | 73 => ⟨S16x512x4096, .f32⟩
  | 74 => ⟨S1x512x1, .f32⟩
  | 75 => ⟨S16x512x4096, .f32⟩
  | 76 => ⟨S16x512x4096, .f32⟩
  | 77 => ⟨S16x512x4096, .f32⟩
  | 78 => ⟨S_, .f32⟩
  | 79 => ⟨S16x512x4096, .f32⟩
  | 80 => ⟨S16x512x4096, .f32⟩
  | _ => ⟨S3x32768, .i32⟩

abbrev hbmTy (i : Nat) : BufTy := match i / 128 with
  | 0 => hbmTy0_0 i
  | 1 => hbmTy0_1 i
  | _ => ⟨S3x32768, .i32⟩

abbrev bufTy : (tb : Table) → Fin (tcTables nBuf tb) → BufTy
  | .hbm, ⟨i, _⟩ => hbmTy i
  | _, _ => ⟨S3x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_c_6 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_v12 : Ref sig .tc := ⟨.hbm, 80, rfl⟩
abbrev main_call0_cst_3 : Ref sig .tc := ⟨.hbm, 81, rfl⟩
abbrev main_call0_v13 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst_7 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_call1_cst : Ref sig .tc := ⟨.hbm, 101, rfl⟩
abbrev main_call1_v0 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_8 : Ref sig .tc := ⟨.hbm, 109, rfl⟩
abbrev main_v57 : Ref sig .tc := ⟨.hbm, 110, rfl⟩
abbrev main_v58 : Ref sig .tc := ⟨.hbm, 111, rfl⟩
abbrev main_cst_9 : Ref sig .tc := ⟨.hbm, 112, rfl⟩
abbrev main_v59 : Ref sig .tc := ⟨.hbm, 113, rfl⟩
abbrev main_v60 : Ref sig .tc := ⟨.hbm, 114, rfl⟩
abbrev main_c_10 : Ref sig .tc := ⟨.hbm, 115, rfl⟩
abbrev main_call2_cst : Ref sig .tc := ⟨.hbm, 116, rfl⟩
abbrev main_call2_v0 : Ref sig .tc := ⟨.hbm, 117, rfl⟩
abbrev main_call2_v1 : Ref sig .tc := ⟨.hbm, 118, rfl⟩
abbrev main_call2_cst_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_cst_1 : Ref sig .tc := ⟨.hbm, 126, rfl⟩
abbrev main_call2_v8 : Ref sig .tc := ⟨.hbm, 127, rfl⟩
abbrev main_call2_cst_2 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_v12 : Ref sig .tc := ⟨.hbm, 132, rfl⟩
abbrev main_call2_cst_3 : Ref sig .tc := ⟨.hbm, 133, rfl⟩
abbrev main_call2_v13 : Ref sig .tc := ⟨.hbm, 134, rfl⟩
abbrev main_call2_cst_4 : Ref sig .tc := ⟨.hbm, 135, rfl⟩
abbrev main_call2_call0_v0 : Ref sig .tc := ⟨.hbm, 136, rfl⟩
abbrev main_call2_call0_v1 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_cst_11 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_call3_cst : Ref sig .tc := ⟨.hbm, 153, rfl⟩
abbrev main_call3_v0 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_cst_12 : Ref sig .tc := ⟨.hbm, 161, rfl⟩
abbrev main_v81 : Ref sig .tc := ⟨.hbm, 162, rfl⟩
abbrev main_v82 : Ref sig .tc := ⟨.hbm, 163, rfl⟩
abbrev main_cst_13 : Ref sig .tc := ⟨.hbm, 164, rfl⟩
abbrev main_v83 : Ref sig .tc := ⟨.hbm, 165, rfl⟩
abbrev main_v84 : Ref sig .tc := ⟨.hbm, 166, rfl⟩
abbrev main_c_14 : Ref sig .tc := ⟨.hbm, 167, rfl⟩
abbrev main_call4_cst : Ref sig .tc := ⟨.hbm, 168, rfl⟩
abbrev main_call4_v0 : Ref sig .tc := ⟨.hbm, 169, rfl⟩
abbrev main_call4_v1 : Ref sig .tc := ⟨.hbm, 170, rfl⟩
abbrev main_call4_cst_0 : Ref sig .tc := ⟨.hbm, 171, rfl⟩
abbrev main_call4_v2 : Ref sig .tc := ⟨.hbm, 172, rfl⟩
abbrev main_call4_v3 : Ref sig .tc := ⟨.hbm, 173, rfl⟩
abbrev main_call4_v4 : Ref sig .tc := ⟨.hbm, 174, rfl⟩
abbrev main_call4_v5 : Ref sig .tc := ⟨.hbm, 175, rfl⟩
abbrev main_call4_v6 : Ref sig .tc := ⟨.hbm, 176, rfl⟩
abbrev main_call4_v7 : Ref sig .tc := ⟨.hbm, 177, rfl⟩
abbrev main_call4_cst_1 : Ref sig .tc := ⟨.hbm, 178, rfl⟩
abbrev main_call4_v8 : Ref sig .tc := ⟨.hbm, 179, rfl⟩
abbrev main_call4_cst_2 : Ref sig .tc := ⟨.hbm, 180, rfl⟩
abbrev main_call4_v9 : Ref sig .tc := ⟨.hbm, 181, rfl⟩
abbrev main_call4_v10 : Ref sig .tc := ⟨.hbm, 182, rfl⟩
abbrev main_call4_v11 : Ref sig .tc := ⟨.hbm, 183, rfl⟩
abbrev main_call4_v12 : Ref sig .tc := ⟨.hbm, 184, rfl⟩
abbrev main_call4_cst_3 : Ref sig .tc := ⟨.hbm, 185, rfl⟩
abbrev main_call4_v13 : Ref sig .tc := ⟨.hbm, 186, rfl⟩
abbrev main_call4_cst_4 : Ref sig .tc := ⟨.hbm, 187, rfl⟩
abbrev main_call4_call0_v0 : Ref sig .tc := ⟨.hbm, 188, rfl⟩
abbrev main_call4_call0_v1 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_cst_15 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_call5_cst : Ref sig .tc := ⟨.hbm, 206, rfl⟩
abbrev main_call5_v0 : Ref sig .tc := ⟨.hbm, 207, rfl⟩
abbrev main_v100 : Ref sig .tc := ⟨.hbm, 208, rfl⟩

abbrev nD : Nat := 1
abbrev τ : Topo := Topo.v7x

variable {F : FTy → Type} [FloatOps F]
-- ==== Proof.Common.lean ====
/-
  What the modules of this proof share: the program as the launch theorem sees it, and the ghost state of a run.
-/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.WordCmp
public import Idealize.ShloMosaic.Lib.SparseCore.Stream
public import Idealize.ShloMosaic.Lib.SparseCore.Ops
public import Idealize.ShloMosaic.Lib.SparseCore.Quiescent
public import Idealize.ShloMosaic.Lib.SparseCore.FromWhole
public import Idealize.ShloMosaic.Lib.StableHlo.Run
public import Idealize.ShloMosaic.Lib.Pipeline.Kit
public import Idealize.ShloMosaic.Lib.Tactic

@[expose] public section

noncomputable section

namespace Cert.Proof.Common

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 5) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds, the pipelines' rounds, the transfers' counters. -/
abbrev UH : Type := URounds (GSem nD τ sig) ℕ
abbrev UP : Type := UR sig nD τ
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP (F := F)).LandsIn (upEmb : UEmb _ 𝕄) := by unfold EP embR; infer_instance

/-- What a pipeline's body leaves untouched: the scoped buffers that are none of its windows', and the generator register. -/
def Inv {gr : Nat} {W : Nat} (win : Fin W → Pipeline.WinSpec sig gr) (c : Dev nD) : sProp 𝕄 :=
  iprop(Pipeline.scopedRest (Ix := HIx 2) (Name := ℕ) (U := UU) (Lvl := ℕ) (Val := Elt F) win c ∗ ∃ r, prngReg c r)

/-- The waits a core has recorded before the first SparseCore call: those at level zero. -/
def below (c : Dev nD) : Set (SemLoc sig × HIx 2) := {p | (K (F := F)).lev ((c.tc : Thread nD τ), p.1) p.2 ≤ 0}

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.Common

end
-- ==== Proof.Hosts.lean ====
/-
  The host's lines between the calls: what each stretch of them is, and which arrays it writes.
-/
module

public import proofs.«01_k».proof.Proof.Common

@[expose] public section

set_option maxRecDepth 16384

noncomputable section

namespace Cert.Proof.Run

open Cert.KernelIdeal Cert.KernelIdeal.Gen Cert.Proof.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 2) (Elt F) ℕ UU ℕ

/-- The contents of an array. -/
abbrev Ct (F : FTy → Type) (s : Shape) (e : EltTy) : Type := (⟨s, e⟩ : BufTy).Contents (Elt F)
/-- A map of one array, and of two like arrays. -/
abbrev Ct1 (F : FTy → Type) (s t : Shape) (e : EltTy) : Type := Ct F s e → Ct F t e
abbrev Ct2 (F : FTy → Type) (s : Shape) (e : EltTy) : Type := Ct F s e → Ct F s e → Ct F s e

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- The lines of stretch 0. -/
abbrev hops0 : List (HloOp τ sig (Elt F)) :=
  [ StableHlo.unary main_arg6 main_v0 ((extractStridedSlice S512x256 ![0, 0] · slices_S512x768_S512x256_0_0) : Ct1 F S512x768 S512x256 .f32),
    StableHlo.unary main_arg6 main_v1 ((extractStridedSlice S512x512 ![0, 256] · slices_S512x768_S512x512_0_256) : Ct1 F S512x768 S512x512 .f32) ]
theorem hops0_sub : (hops0 : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]
/-- None of them allocates a buffer. -/
theorem hops0_fresh : (hops0 : List (HloOp τ sig (Elt F))).Forall fun op => op.fresh = ∅ := by
  simp only [List.Forall]; repeat' constructor
/-- The arrays they write, in order. -/
abbrev hops0_W : List (Ref sig .tc) := [main_v0, main_v1]
theorem hops0_writes : (hops0 : List (HloOp τ sig (Elt F))).Forall fun op => op.writes ⊆ (hops0_W.map (Proc.devRef (τ := τ) .tc)).toFinset :=
  StableHlo.forall_writes_sub_of_map rfl
theorem hops0_args : ∀ a ∈ argRefs, a ∉ hops0_W := ListAll.forall_mem_of_all_decide (by decide +kernel)

/-- The lines of stretch 1. -/
abbrev hops1 : List (HloOp τ sig (Elt F)) :=
  [ StableHlo.reshape main_arg0 main_v3 (rfl : (.i32 : EltTy) = .i32) shapeCasts_S3x32768_S98304,
    StableHlo.reshape main_v2 main_v4 (rfl : (.f32 : EltTy) = .f32) shapeCasts_S16384x512_S32768x2x128,
    StableHlo.unary main_v3 main_v5 (broadcastInDim S98304x1 ![0] bcast_S98304_S98304x1_0 : Ct1 F S98304 S98304x1 .i32),
    StableHlo.nullary main_c (constantI S_ 32 2#32),
    StableHlo.unary main_c main_v6 (broadcastInDim S98304x1 ![] bcast_S_S98304x1 : Ct1 F S_ S98304x1 .i32),
    StableHlo.binary main_v5 main_v6 main_v7 (muli : Ct2 F S98304x1 .i32),
    StableHlo.nullary main_v8 (iotaInDim S2 32 0),
    StableHlo.unary main_v8 main_v9 (broadcastInDim S1x2 ![1] bcast_S2_S1x2_1 : Ct1 F S2 S1x2 .i32),
    StableHlo.unary main_v7 main_v10 (broadcastInDim S98304x2 ![0, 1] bcast_S98304x1_S98304x2_0_1 : Ct1 F S98304x1 S98304x2 .i32),
    StableHlo.unary main_v9 main_v11 (broadcastInDim S98304x2 ![0, 1] bcast_S1x2_S98304x2_0_1 : Ct1 F S1x2 S98304x2 .i32),
    StableHlo.binary main_v10 main_v11 main_v12 (addi : Ct2 F S98304x2 .i32),
    StableHlo.reshape main_v12 main_v13 (rfl : (.i32 : EltTy) = .i32) shapeCasts_S98304x2_S196608 ]
theorem hops1_sub : (hops1 : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]
/-- None of them allocates a buffer. -/
theorem hops1_fresh : (hops1 : List (HloOp τ sig (Elt F))).Forall fun op => op.fresh = ∅ := by
  simp only [List.Forall]; repeat' constructor
/-- The arrays they write, in order. -/
abbrev hops1_W : List (Ref sig .tc) := [main_v3, main_v4, main_v5, main_c, main_v6, main_v7, main_v8, main_v9, main_v10, main_v11, main_v12, main_v13]
theorem hops1_writes : (hops1 : List (HloOp τ sig (Elt F))).Forall fun op => op.writes ⊆ (hops1_W.map (Proc.devRef (τ := τ) .tc)).toFinset :=
  StableHlo.forall_writes_sub_of_map rfl
theorem hops1_args : ∀ a ∈ argRefs, a ∉ hops1_W := ListAll.forall_mem_of_all_decide (by decide +kernel)

/-- The lines of stretch 2. -/
abbrev hops2 : List (HloOp τ sig (Elt F)) :=
  [ StableHlo.reshape main_v14 main_v15 (rfl : (.f32 : EltTy) = .f32) shapeCasts_S196608x2x128_S98304x512,
    StableHlo.reshape main_arg2 main_v16 (rfl : (.i32 : EltTy) = .i32) shapeCasts_S3x32768_S98304,
    StableHlo.reshape main_v2 main_v17 (rfl : (.f32 : EltTy) = .f32) shapeCasts_S16384x512_S32768x2x128,
    StableHlo.unary main_v16 main_v18 (broadcastInDim S98304x1 ![0] bcast_S98304_S98304x1_0 : Ct1 F S98304 S98304x1 .i32),
    StableHlo.nullary main_c_0 (constantI S_ 32 2#32),
    StableHlo.unary main_c_0 main_v19 (broadcastInDim S98304x1 ![] bcast_S_S98304x1 : Ct1 F S_ S98304x1 .i32),
    StableHlo.binary main_v18 main_v19 main_v20 (muli : Ct2 F S98304x1 .i32),
    StableHlo.nullary main_v21 (iotaInDim S2 32 0),
    StableHlo.unary main_v21 main_v22 (broadcastInDim S1x2 ![1] bcast_S2_S1x2_1 : Ct1 F S2 S1x2 .i32),
    StableHlo.unary main_v20 main_v23 (broadcastInDim S98304x2 ![0, 1] bcast_S98304x1_S98304x2_0_1 : Ct1 F S98304x1 S98304x2 .i32),
    StableHlo.unary main_v22 main_v24 (broadcastInDim S98304x2 ![0, 1] bcast_S1x2_S98304x2_0_1 : Ct1 F S1x2 S98304x2 .i32),
    StableHlo.binary main_v23 main_v24 main_v25 (addi : Ct2 F S98304x2 .i32),
    StableHlo.reshape main_v25 main_v26 (rfl : (.i32 : EltTy) = .i32) shapeCasts_S98304x2_S196608 ]
theorem hops2_sub : (hops2 : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]
/-- None of them allocates a buffer. -/
theorem hops2_fresh : (hops2 : List (HloOp τ sig (Elt F))).Forall fun op => op.fresh = ∅ := by
  simp only [List.Forall]; repeat' constructor
/-- The arrays they write, in order. -/
abbrev hops2_W : List (Ref sig .tc) := [main_v15, main_v16, main_v17, main_v18, main_c_0, main_v19, main_v20, main_v21, main_v22, main_v23, main_v24, main_v25, main_v26]
theorem hops2_writes : (hops2 : List (HloOp τ sig (Elt F))).Forall fun op => op.writes ⊆ (hops2_W.map (Proc.devRef (τ := τ) .tc)).toFinset :=
  StableHlo.forall_writes_sub_of_map rfl
theorem hops2_args : ∀ a ∈ argRefs, a ∉ hops2_W := ListAll.forall_mem_of_all_decide (by decide +kernel)

/-- The lines of stretch 3. -/
abbrev hops3 : List (HloOp τ sig (Elt F)) :=
  [ StableHlo.reshape main_v27 main_v28 (rfl : (.f32 : EltTy) = .f32) shapeCasts_S196608x2x128_S98304x512,
    StableHlo.binary main_arg1 main_arg3 main_v29 ((fun a b => concatenate S65536x3 0 [⟨S32768x3, a⟩, ⟨S32768x3, b⟩] concatenates_S32768x3_S32768x3_S65536x3_d0) : Ct F S32768x3 .f32 → Ct1 F S32768x3 S65536x3 .f32),
    StableHlo.nullary main_cst (constant S_ .f32 0x322BCC77#32),
    StableHlo.unary main_cst main_v30 (broadcastInDim S65536x3 ![] bcast_S_S65536x3 : Ct1 F S_ S65536x3 .f32),
    StableHlo.binary main_v29 main_v30 main_v31 (addf : Ct2 F S65536x3 .f32),
    StableHlo.nullary main_cst_1 (constant S_ .f32 0x3F800000#32),
    StableHlo.unary main_cst_1 main_v32 (broadcastInDim S65536x3 ![] bcast_S_S65536x3 : Ct1 F S_ S65536x3 .f32),
    StableHlo.binary main_v32 main_v31 main_v33 (Host.divf : Ct2 F S65536x3 .f32),
    StableHlo.nullary main_cst_2 (constant S_ .f32 0x00000000#32),
    StableHlo.binary main_v33 main_cst_2 main_v34 ((fun x v => Host.reduceAdd x v reducesTo_S65536x3_S65536_d1 h_S_) : Ct F S65536x3 .f32 → Ct1 F S_ S65536 .f32),
    StableHlo.unary main_v34 main_v35 (broadcastInDim S65536x1 ![0] bcast_S65536_S65536x1_0 : Ct1 F S65536 S65536x1 .f32),
    StableHlo.unary main_v35 main_v36 (broadcastInDim S65536x3 ![0, 1] bcast_S65536x1_S65536x3_0_1 : Ct1 F S65536x1 S65536x3 .f32),
    StableHlo.binary main_v33 main_v36 main_v37 (Host.divf : Ct2 F S65536x3 .f32) ]
theorem hops3_sub : (hops3 : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]
/-- None of them allocates a buffer. -/
theorem hops3_fresh : (hops3 : List (HloOp τ sig (Elt F))).Forall fun op => op.fresh = ∅ := by
  simp only [List.Forall]; repeat' constructor
/-- The arrays they write, in order. -/
abbrev hops3_W : List (Ref sig .tc) := [main_v28, main_v29, main_cst, main_v30, main_v31, main_cst_1, main_v32, main_v33, main_cst_2, main_v34, main_v35, main_v36, main_v37]
theorem hops3_writes : (hops3 : List (HloOp τ sig (Elt F))).Forall fun op => op.writes ⊆ (hops3_W.map (Proc.devRef (τ := τ) .tc)).toFinset :=
  StableHlo.forall_writes_sub_of_map rfl
theorem hops3_args : ∀ a ∈ argRefs, a ∉ hops3_W := ListAll.forall_mem_of_all_decide (by decide +kernel)

/-- The lines of stretch 4a. -/
abbrev hops4a : List (HloOp τ sig (Elt F)) :=
  [ StableHlo.unary main_v38_1 main_v39 ((extractStridedSlice S1x512 ![0, 0] · slices_S8x512_S1x512_0_0) : Ct1 F S8x512 S1x512 .f32),
    StableHlo.reshape main_v39 main_v40 (rfl : (.f32 : EltTy) = .f32) shapeCasts_S1x512_S512,
    StableHlo.nullary main_cst_3 (constant S_ .f32 0x47800000#32),
    StableHlo.unary main_cst_3 main_v41 (broadcastInDim S512 ![] bcast_S_S512 : Ct1 F S_ S512 .f32),
    StableHlo.binary main_v40 main_v41 main_v42 (Host.divf : Ct2 F S512 .f32),
    StableHlo.unary main_v38_1 main_v43 ((extractStridedSlice S1x512 ![1, 0] · slices_S8x512_S1x512_1_0) : Ct1 F S8x512 S1x512 .f32),
    StableHlo.reshape main_v43 main_v44 (rfl : (.f32 : EltTy) = .f32) shapeCasts_S1x512_S512,
    StableHlo.nullary main_cst_4 (constant S_ .f32 0x47800000#32),
    StableHlo.unary main_cst_4 main_v45 (broadcastInDim S512 ![] bcast_S_S512 : Ct1 F S_ S512 .f32),
    StableHlo.binary main_v44 main_v45 main_v46 (Host.divf : Ct2 F S512 .f32),
    StableHlo.binary main_v42 main_v42 main_v47 (mulf : Ct2 F S512 .f32),
    StableHlo.binary main_v46 main_v47 main_v48 (subf : Ct2 F S512 .f32),
    StableHlo.nullary main_cst_5 (constant S_ .f32 0x3727C5AC#32),
    StableHlo.unary main_cst_5 main_v49 (broadcastInDim S512 ![] bcast_S_S512 : Ct1 F S_ S512 .f32),
    StableHlo.binary main_v48 main_v49 main_v50 (addf : Ct2 F S512 .f32),
    StableHlo.unary main_v50 main_v51 (Host.sqrt : Ct1 F S512 S512 .f32) ]
theorem hops4a_sub : (hops4a : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]
/-- None of them allocates a buffer. -/
theorem hops4a_fresh : (hops4a : List (HloOp τ sig (Elt F))).Forall fun op => op.fresh = ∅ := by
  simp only [List.Forall]; repeat' constructor
/-- The arrays they write, in order. -/
abbrev hops4a_W : List (Ref sig .tc) := [main_v39, main_v40, main_cst_3, main_v41, main_v42, main_v43, main_v44, main_cst_4, main_v45, main_v46, main_v47, main_v48, main_cst_5, main_v49, main_v50, main_v51]
theorem hops4a_writes : (hops4a : List (HloOp τ sig (Elt F))).Forall fun op => op.writes ⊆ (hops4a_W.map (Proc.devRef (τ := τ) .tc)).toFinset :=
  StableHlo.forall_writes_sub_of_map rfl
theorem hops4a_args : ∀ a ∈ argRefs, a ∉ hops4a_W := ListAll.forall_mem_of_all_decide (by decide +kernel)

/-- The lines of stretch 4b. -/
abbrev hops4b : List (HloOp τ sig (Elt F)) :=
  [ StableHlo.binary main_arg8 main_v51 main_v52 (Host.divf : Ct2 F S512 .f32),
    StableHlo.binary main_v42 main_v52 main_v53 (mulf : Ct2 F S512 .f32),
    StableHlo.binary main_arg9 main_v53 main_v54 (subf : Ct2 F S512 .f32),
    StableHlo.unary main_v52 main_v55 (broadcastInDim S1x512 ![1] bcast_S512_S1x512_1 : Ct1 F S512 S1x512 .f32),
    StableHlo.unary main_v54 main_v56 (broadcastInDim S1x512 ![1] bcast_S512_S1x512_1 : Ct1 F S512 S1x512 .f32) ]
theorem hops4b_sub : (hops4b : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]
/-- None of them allocates a buffer. -/
theorem hops4b_fresh : (hops4b : List (HloOp τ sig (Elt F))).Forall fun op => op.fresh = ∅ := by
  simp only [List.Forall]; repeat' constructor
/-- The arrays they write, in order. -/
abbrev hops4b_W : List (Ref sig .tc) := [main_v52, main_v53, main_v54, main_v55, main_v56]
theorem hops4b_writes : (hops4b : List (HloOp τ sig (Elt F))).Forall fun op => op.writes ⊆ (hops4b_W.map (Proc.devRef (τ := τ) .tc)).toFinset :=
  StableHlo.forall_writes_sub_of_map rfl
theorem hops4b_args : ∀ a ∈ argRefs, a ∉ hops4b_W := ListAll.forall_mem_of_all_decide (by decide +kernel)

/-- The lines of stretch 5. -/
abbrev hops5 : List (HloOp τ sig (Elt F)) :=
  [ StableHlo.unary main_v57_2 main_v58 ((extractStridedSlice S1x512 ![0, 0] · slices_S8x512_S1x512_0_0) : Ct1 F S8x512 S1x512 .f32),
    StableHlo.reshape main_v58 main_v59 (rfl : (.f32 : EltTy) = .f32) shapeCasts_S1x512_S512,
    StableHlo.nullary main_cst_6 (constant S_ .f32 0x47800000#32),
    StableHlo.unary main_cst_6 main_v60 (broadcastInDim S512 ![] bcast_S_S512 : Ct1 F S_ S512 .f32),
    StableHlo.binary main_v59 main_v60 main_v61 (Host.divf : Ct2 F S512 .f32),
    StableHlo.unary main_v57_2 main_v62 ((extractStridedSlice S1x512 ![1, 0] · slices_S8x512_S1x512_1_0) : Ct1 F S8x512 S1x512 .f32),
    StableHlo.reshape main_v62 main_v63 (rfl : (.f32 : EltTy) = .f32) shapeCasts_S1x512_S512,
    StableHlo.nullary main_cst_7 (constant S_ .f32 0x47800000#32),
    StableHlo.unary main_cst_7 main_v64 (broadcastInDim S512 ![] bcast_S_S512 : Ct1 F S_ S512 .f32),
    StableHlo.binary main_v63 main_v64 main_v65 (Host.divf : Ct2 F S512 .f32),
    StableHlo.binary main_v61 main_v61 main_v66 (mulf : Ct2 F S512 .f32),
    StableHlo.binary main_v65 main_v66 main_v67 (subf : Ct2 F S512 .f32),
    StableHlo.nullary main_cst_8 (constant S_ .f32 0x3727C5AC#32),
    StableHlo.unary main_cst_8 main_v68 (broadcastInDim S512 ![] bcast_S_S512 : Ct1 F S_ S512 .f32),
    StableHlo.binary main_v67 main_v68 main_v69 (addf : Ct2 F S512 .f32),
    StableHlo.unary main_v69 main_v70 (Host.sqrt : Ct1 F S512 S512 .f32),
    StableHlo.binary main_arg12 main_v70 main_v71 (Host.divf : Ct2 F S512 .f32),
    StableHlo.binary main_v61 main_v71 main_v72 (mulf : Ct2 F S512 .f32),
    StableHlo.binary main_arg13 main_v72 main_v73 (subf : Ct2 F S512 .f32),
    StableHlo.unary main_v71 main_v74 (broadcastInDim S1x512 ![1] bcast_S512_S1x512_1 : Ct1 F S512 S1x512 .f32),
    StableHlo.unary main_v73 main_v75 (broadcastInDim S1x512 ![1] bcast_S512_S1x512_1 : Ct1 F S512 S1x512 .f32) ]
theorem hops5_sub : (hops5 : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]
/-- None of them allocates a buffer. -/
theorem hops5_fresh : (hops5 : List (HloOp τ sig (Elt F))).Forall fun op => op.fresh = ∅ := by
  simp only [List.Forall]; repeat' constructor
/-- The arrays they write, in order. -/
abbrev hops5_W : List (Ref sig .tc) := [main_v58, main_v59, main_cst_6, main_v60, main_v61, main_v62, main_v63, main_cst_7, main_v64, main_v65, main_v66, main_v67, main_cst_8, main_v68, main_v69, main_v70, main_v71, main_v72, main_v73, main_v74, main_v75]
theorem hops5_writes : (hops5 : List (HloOp τ sig (Elt F))).Forall fun op => op.writes ⊆ (hops5_W.map (Proc.devRef (τ := τ) .tc)).toFinset :=
  StableHlo.forall_writes_sub_of_map rfl
theorem hops5_args : ∀ a ∈ argRefs, a ∉ hops5_W := ListAll.forall_mem_of_all_decide (by decide +kernel)

/-- The lines of stretch 6. -/
abbrev hops6 : List (HloOp τ sig (Elt F)) :=
  [ StableHlo.unary main_v76_1 main_v77 ((extractStridedSlice S1x512 ![0, 0] · slices_S8x512_S1x512_0_0) : Ct1 F S8x512 S1x512 .f32),
    StableHlo.reshape main_v77 main_v78 (rfl : (.f32 : EltTy) = .f32) shapeCasts_S1x512_S512,
    StableHlo.nullary main_cst_9 (constant S_ .f32 0x47800000#32),
    StableHlo.unary main_cst_9 main_v79 (broadcastInDim S512 ![] bcast_S_S512 : Ct1 F S_ S512 .f32),
    StableHlo.binary main_v78 main_v79 main_v80 (Host.divf : Ct2 F S512 .f32),
    StableHlo.unary main_v76_1 main_v81 ((extractStridedSlice S1x512 ![1, 0] · slices_S8x512_S1x512_1_0) : Ct1 F S8x512 S1x512 .f32),
    StableHlo.reshape main_v81 main_v82 (rfl : (.f32 : EltTy) = .f32) shapeCasts_S1x512_S512,
    StableHlo.nullary main_cst_10 (constant S_ .f32 0x47800000#32),
    StableHlo.unary main_cst_10 main_v83 (broadcastInDim S512 ![] bcast_S_S512 : Ct1 F S_ S512 .f32),
    StableHlo.binary main_v82 main_v83 main_v84 (Host.divf : Ct2 F S512 .f32),
    StableHlo.binary main_v80 main_v80 main_v85 (mulf : Ct2 F S512 .f32),
    StableHlo.binary main_v84 main_v85 main_v86 (subf : Ct2 F S512 .f32),
    StableHlo.nullary main_cst_11 (constant S_ .f32 0x3727C5AC#32),
    StableHlo.unary main_cst_11 main_v87 (broadcastInDim S512 ![] bcast_S_S512 : Ct1 F S_ S512 .f32),
    StableHlo.binary main_v86 main_v87 main_v88 (addf : Ct2 F S512 .f32),
    StableHlo.unary main_v88 main_v89 (Host.sqrt : Ct1 F S512 S512 .f32),
    StableHlo.binary main_arg16 main_v89 main_v90 (Host.divf : Ct2 F S512 .f32),
    StableHlo.binary main_v80 main_v90 main_v91 (mulf : Ct2 F S512 .f32),
    StableHlo.binary main_arg17 main_v91 main_v92 (subf : Ct2 F S512 .f32),
    StableHlo.unary main_v90 main_v93 (broadcastInDim S1x512 ![1] bcast_S512_S1x512_1 : Ct1 F S512 S1x512 .f32),
    StableHlo.unary main_v92 main_v94 (broadcastInDim S1x512 ![1] bcast_S512_S1x512_1 : Ct1 F S512 S1x512 .f32) ]
theorem hops6_sub : (hops6 : List (HloOp τ sig (Elt F))).Forall fun op => op.bufs ⊆ StableHlo.tcRefs τ sig := by
  simp only [List.Forall, StableHlo.unary_bufs_sub, StableHlo.binary_bufs_sub, StableHlo.nullary_bufs_sub, StableHlo.reshape_bufs_sub, and_self]
/-- None of them allocates a buffer. -/
theorem hops6_fresh : (hops6 : List (HloOp τ sig (Elt F))).Forall fun op => op.fresh = ∅ := by
  simp only [List.Forall]; repeat' constructor
/-- The arrays they write, in order. -/
abbrev hops6_W : List (Ref sig .tc) := [main_v77, main_v78, main_cst_9, main_v79, main_v80, main_v81, main_v82, main_cst_10, main_v83, main_v84, main_v85, main_v86, main_cst_11, main_v87, main_v88, main_v89, main_v90, main_v91, main_v92, main_v93, main_v94]
theorem hops6_writes : (hops6 : List (HloOp τ sig (Elt F))).Forall fun op => op.writes ⊆ (hops6_W.map (Proc.devRef (τ := τ) .tc)).toFinset :=
  StableHlo.forall_writes_sub_of_map rfl
theorem hops6_args : ∀ a ∈ argRefs, a ∉ hops6_W := ListAll.forall_mem_of_all_decide (by decide +kernel)

/-! ## The program as its stretches and calls -/

set_option maxHeartbeats 4000000 in
theorem main_part0_eq (d : Dev nD) :
    main_part0 (F := F) d = StableHlo.seq hops0 >>= fun _ =>
      Prog.lift (.customCall (SparseCore.inner (Pipeline.entry 0)) ()) >>= fun _ =>
      StableHlo.seq hops1 >>= fun _ =>
      (sc (F := F)).run d 0 >>= fun _ =>
      StableHlo.seq hops2 >>= fun _ =>
      (sc (F := F)).run d 1 >>= fun _ =>
      StableHlo.seq hops3 >>= fun _ =>
      Prog.lift (.customCall (SparseCore.inner (Pipeline.entry 1)) ()) >>= fun _ =>
      StableHlo.seq hops4a >>= fun _ =>
      pure ⟨⟩ := rfl

set_option maxHeartbeats 4000000 in
theorem main_part1_eq (d : Dev nD) :
    main_part1 (F := F) d = StableHlo.seq hops4b >>= fun _ =>
      Prog.lift (.customCall (SparseCore.inner (Pipeline.entry 2)) ()) >>= fun _ =>
      StableHlo.seq hops5 >>= fun _ =>
      Prog.lift (.customCall (SparseCore.inner (Pipeline.entry 3)) ()) >>= fun _ =>
      StableHlo.seq hops6 >>= fun _ =>
      Prog.lift (.customCall (SparseCore.inner (Pipeline.entry 4)) ()) >>= fun _ =>
      pure ⟨⟩ := rfl

theorem main_eq (d : Dev nD) : main (F := F) d = main_part0 d >>= fun _ => main_part1 d := rfl

end Cert.Proof.Run

end
-- ==== Proof.Rows.lean ====
/-
  The values of the row gather, apart from any run: what the gathered array holds, what one chunk of 96 rows
  holds, and how the chunks, written one after the other, fill a task's block of the result.
-/
module

public import proofs.«01_k».proof.Proof.Common
public import Idealize.ShloMosaic.Lib.Pointwise.Index

@[expose] public section

noncomputable section

namespace Cert.Proof.Rows

open Cert.KernelIdeal Cert.KernelIdeal.Gen
open Idealize.ShloMosaic

variable {F : FTy → Type}

/-- The table as half rows: 32768 of them, each two lines of 128 floats. -/
abbrev Tab (F : FTy → Type) : Type := S32768x2x128.Idx → Elt F .f32
/-- The list of half rows to fetch. -/
abbrev Lst (F : FTy → Type) : Type := S196608.Idx → Elt F .i32
/-- The fetched half rows. -/
abbrev Out (F : FTy → Type) : Type := S196608x2x128.Idx → Elt F .f32
/-- One chunk of fetched half rows. -/
abbrev Chk (F : FTy → Type) : Type := S96x2x128.Idx → Elt F .f32

/-- The half row that word `n` of the list names. A word out of range is wrapped around, so that this is total. -/
def nth (I : Lst F) (n : ℕ) : ℕ := BitVec.toNat (I (ix1 ⟨n % 196608, Nat.mod_lt _ (by decide)⟩) : BitVec 32) % 32768

theorem nth_lt (I : Lst F) (n : ℕ) : nth I n < 32768 := Nat.mod_lt _ (by decide)

/-- Line `y`, lane `z` of the half row that word `n` of the list names. -/
def fetch (A : Tab F) (I : Lst F) (n : ℕ) (y : Fin 2) (z : Fin 128) : Elt F .f32 := A (ix3 ⟨nth I n, nth_lt I n⟩ y z)

/-- The whole gathered array. -/
def gathered (A : Tab F) (I : Lst F) : Out F := fun j => fetch A I (j 0).val (j 1) (j 2)

/-- The chunk whose first word is word `b` of the list. -/
def chunk (A : Tab F) (I : Lst F) (b : ℕ) : Chk F := fun x => fetch A I (b + (x 0).val) (x 1) (x 2)

/-- The result array once its rows below `n` have been gathered. -/
def upTo (A : Tab F) (I : Lst F) (f : Out F) (n : ℕ) : Out F := fun j => if (j 0).val < n then gathered A I j else f j

/-- Every word of the list names a half row of the table. -/
def InTable (I : Lst F) : Prop := ∀ j, BitVec.toNat (I j : BitVec 32) < 32768

/-- The part of the list that starts at word `b`, 6144 words of it. -/
def part (I : Lst F) (b : ℕ) : S6144.Idx → Elt F .i32 := fun x => I (ix1 ⟨(b + (x 0).val) % 196608, Nat.mod_lt _ (by decide)⟩)

theorem part_lt {I : Lst F} (h : InTable I) (b : ℕ) (x) : BitVec.toNat (part I b x : BitVec 32) < 32768 := h _

/-- Entry `k` of a list of 96 words, in row-major order, is at index `k`. -/
theorem symm_S96 (k : Fin S96.numel) : S96.rowMajor.symm k = ix1 (k.cast (by decide)) := by
  rw [Equiv.symm_apply_eq]
  exact Fin.ext ((Shape.rowMajor_val_one (d := ![96]) (ix1 (k.cast (by decide)))).symm)

/-- The gather's source index in coordinates. -/
theorem gidx (r : Fin 96 → Fin 32768) (x : S96x2x128.Idx) :
    gathers_S32768x2x128_S96x2x128.idx r x = ix3 (r (x 0)) (x 1) (x 2) := by
  refine (eq_ix3 (n0 := 32768) (n1 := 2) (n2 := 128) _).trans ?_
  refine (ix3_inj (n0 := 32768) (n1 := 2) (n2 := 128) _ _ _ _ _ _).mpr ⟨?_, ?_, ?_⟩
  · exact Shape.Gathers.idx_axis gathers_S32768x2x128_S96x2x128 r x
  · exact Fin.ext (Shape.Gathers.idx_of_ne gathers_S32768x2x128_S96x2x128 r x 1 (by decide))
  · exact Fin.ext (Shape.Gathers.idx_of_ne gathers_S32768x2x128_S96x2x128 r x 2 (by decide))

/-- What a gather of 96 half rows delivers, its list being words `o`, `o + 1`, … of the part at `b`: the chunk at `b + o`. -/
theorem gatherPayload_chunk (A : Tab F) (I : Lst F) (hI : InTable I) (b o : ℕ)
    (g : Tab F) (hg : g = A) (w : S96.Idx → Elt F .i32)
    (hw : ∀ k : Fin 96, w (ix1 k) = I (ix1 ⟨(b + (o + k.val)) % 196608, Nat.mod_lt _ (by decide)⟩))
    (hn : S96.numel = S96x2x128.size gathers_S32768x2x128_S96x2x128.axis')
    (hin : ∀ x, BitVec.toNat (w x : BitVec 32) < S32768x2x128.size gathers_S32768x2x128_S96x2x128.axis) :
    SparseCore.gatherPayload gathers_S32768x2x128_S96x2x128 g (SparseCore.rows (F := F) w hn hin) = chunk A I (b + o) := by
  subst hg
  funext x
  unfold SparseCore.gatherPayload chunk fetch
  refine congrArg g ((gidx _ x).trans ?_)
  refine (ix3_inj (n0 := 32768) (n1 := 2) (n2 := 128) _ _ _ _ _ _).mpr ⟨?_, rfl, rfl⟩
  refine Fin.ext ?_
  show BitVec.toNat (w (S96.rowMajor.symm _) : BitVec 32) = nth I _
  rw [symm_S96, hw]
  unfold nth
  rw [Nat.mod_eq_of_lt (hI _)]
  show BitVec.toNat (I (ix1 ⟨(b + (o + (x 0).val)) % 196608, _⟩) : BitVec 32) = _
  simp only [Nat.add_assoc]

end Cert.Proof.Rows

end
-- ==== Proof.Reg0.lean ====
/-
  The table call: what its body does on its staging buffers, and its part of the run, at any contents of the arrays it
  is entered at.
-/
module

public import proofs.«01_k».proof.Proof.Common

@[expose] public section

-- membership in a rectangle of production extents (`View.cover_of_tiled`): the structural look
-- recurses once per coordinate of the long axes
set_option maxRecDepth 16384

noncomputable section

namespace Cert.Proof.Reg

open Cert.KernelIdeal Cert.KernelIdeal.Gen Cert.Proof.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 2) (Elt F) ℕ (UU) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__table_kernel` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) (HIx 2) ℕ (UU) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x1024 := Rect.unit (s := S1x512x1024) ![0, 0, 0] S1x512x1024.size inb_S1x512x1024_S1x512x1024_0_0_0
abbrev r0_1 : Rect S1024x512 := Rect.unit (s := S1024x512) ![0, 0] S1024x512.size inb_S1024x512_S1024x512_0_0

/-! ## What the body leaves in each output window's buffer -/

/-- Window 1's staging buffer after the body, from the input windows' blocks: its 1 store as pieces, LAST
    FIRST (Lib/Pipeline/FrameBody.lean `View.canon`; the payloads are the skeleton's). -/
def out0_1 (x0 : Vec F S1x512x1024 .f32) : Vec F S1024x512 .f32 :=
  View.canon [⟨r0_1, k0_pay1 (View.ld x0 r0_0)⟩]

/-- Its stores tile the buffer (checked by evaluation), so they cover it. -/
theorem cover0_1 (p0 : Vec F S1024x512 .f32) (y : S1024x512.Idx) :
    ∃ pc ∈ ([⟨r0_1, p0⟩] : List (View.Piece (Elt F) S1024x512 .f32)), y ∈ pc.1.set :=
  View.cover_of_tiled [⟨r0_1, p0⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x512x1024 .f32) (harg1 : arg1.IsWhole) (arg2 : Memref sig .tc .vmem S1024x512 .f32) (harg2 : arg2.IsWhole)
    (x0 : Vec F S1x512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__table_kernel i arg1 harg1 arg2 harg2) K := by
  simp only [cc0__table_kernel_eq_skeleton]; unfold cc0__table_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core `c`: the arrays as the region finds them (`V`); after the body at
    point `t` each input's buffer at its block and each output's at `out0_W` of the input blocks; the invariant the
    class's (Lib/Pipeline/Frame.lean `Inv`: the scoped rest and the generator register, untouched); what the core still owes is what the two later calls ask of it;
    full shares. -/
def dat0 (c : Dev nD) : Dat τ (Elt F) (HIx 2) ℕ (UU) ℕ cfg0 c where
  A w := V c (Pipeline.arrRef spec0 w)
  after w t := match w with
    | ⟨0, _⟩ => iblk0 V c 0 t
    | ⟨1, _⟩ => out0_1 (iblk0 V c 0 t)
  Φ _ := Inv spec0 c
  q _ := fullShare
  owed _ := (K (F := F)).Otc c 0
  recorded _ := below (F := F) c

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt none t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt none t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt none t.succ = (dat0 V c).owesAt none t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rfl

/-- The library's body obligation, at every point: the body's triple restated (Lib/Pipeline/FrameBody.lean `triple_restated`). -/
theorem body_obligation0 (c : Dev nD) : BodyObligation (dat0 (F := F) V c) (defs₀ (F := F)) Variants.none none Set.univ := fun t => by
  rw [bigSep_W0, bigSep_W0, defs₀_row0]
  exact triple_restated (sound_body0 V c t) rfl .rfl fun _ => .rfl

end Regions

end Cert.Proof.Reg

end
-- ==== Proof.Reg3.lean ====
/-
  The fusing call: what its body does on its staging buffers, and its part of the run, at any contents of the arrays it
  is entered at.
-/
module

public import proofs.«01_k».proof.Proof.Common

@[expose] public section

-- membership in a rectangle of production extents (`View.cover_of_tiled`): the structural look
-- recurses once per coordinate of the long axes
set_option maxRecDepth 16384

noncomputable section

namespace Cert.Proof.Reg

open Cert.KernelIdeal Cert.KernelIdeal.Gen Cert.Proof.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 2) (Elt F) ℕ (UU) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc3__fuse_kernel` (pipeline 1), at the entry contents `V` — class R -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) (HIx 2) ℕ (UU) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) (HIx 2) ℕ (UU) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) (HIx 2) ℕ (UU) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) (HIx 2) ℕ (UU) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) (HIx 2) ℕ (UU) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) (HIx 2) ℕ (UU) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) (HIx 2) ℕ (UU) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) (HIx 2) ℕ (UU) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_8_of {c : Dev nD} (dat : Dat τ (Elt F) (HIx 2) ℕ (UU) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_9_of {c : Dev nD} (dat : Dat τ (Elt F) (HIx 2) ℕ (UU) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's `scf.if` 0 (`k3_h1`), from the grid coordinates (the skeleton's scalar
    chain substituted). -/
abbrev cond3_0 (i : grid3.Coords) : Prop := k3_cond1 i = 1#1
/-- It holds at the points before point 32 — decided over the grid. -/
theorem hcond3_0 : ∀ t : Fin cfg3.N, cond3_0 (grid3.coords t) ↔ t.val < 32 :=
  (by decide +kernel : ∀ t : Fin grid3.N, cond3_0 (grid3.coords t) ↔ t.val < 32)

/-- The condition of the body's `scf.if` 1 (`k3_h2`), from the grid coordinates (the skeleton's scalar
    chain substituted). -/
abbrev cond3_1 (i : grid3.Coords) : Prop := k3_cond2 i = 1#1
/-- It holds at the points from point 32 on — decided over the grid. -/
theorem hcond3_1 : ∀ t : Fin cfg3.N, cond3_1 (grid3.coords t) ↔ 32 ≤ t.val :=
  (by decide +kernel : ∀ t : Fin grid3.N, cond3_1 (grid3.coords t) ↔ 32 ≤ t.val)

/-- The condition of the body's `scf.if` 2 (`k3_h3`), from the grid coordinates (the skeleton's scalar
    chain substituted). -/
abbrev cond3_2 (i : grid3.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond3_2 : ∀ t : Fin cfg3.N, cond3_2 (grid3.coords t) ↔ t.val % 64 = 0 :=
  (fun t => by
    have ht : t.val < 64 := Nat.lt_of_lt_of_eq t.isLt N_3
    have e0 : (grid3.coords t 0).val = t.val / 4 % 16 := Pipeline.Grid.coords_val t 0 (by decide) rfl
    have e1 : (grid3.coords t 1).val = t.val / 1 % 4 := Pipeline.Grid.coords_val t 1 (by decide) rfl
    simp only [cond3_2, e0, e1]
    word_cmp
   : ∀ t : Fin grid3.N, cond3_2 (grid3.coords t) ↔ t.val % 64 = 0)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an input). -/
theorem liveAt3_4 : ∀ t : Fin cfg3.N, cfg3.idle 4 (grid3.coords t) = false := fun _ => rfl
/-- Window 5 is never idle (an input). -/
theorem liveAt3_5 : ∀ t : Fin cfg3.N, cfg3.idle 5 (grid3.coords t) = false := fun _ => rfl
/-- Window 6 is never idle (an input). -/
theorem liveAt3_6 : ∀ t : Fin cfg3.N, cfg3.idle 6 (grid3.coords t) = false := fun _ => rfl
/-- Window 7 is never idle (an input). -/
theorem liveAt3_7 : ∀ t : Fin cfg3.N, cfg3.idle 7 (grid3.coords t) = false := fun _ => rfl
/-- Window 8 is never idle (an input). -/
theorem liveAt3_8 : ∀ t : Fin cfg3.N, cfg3.idle 8 (grid3.coords t) = false := fun _ => rfl
/-- Window 9 is never idle (an input). -/
theorem liveAt3_9 : ∀ t : Fin cfg3.N, cfg3.idle 9 (grid3.coords t) = false := fun _ => rfl
/-- Window 11 is never idle (an output stored at every point, under no condition). -/
theorem liveAt3_11 : ∀ t : Fin cfg3.N, cfg3.idle 11 (grid3.coords t) = false := fun _ => rfl
/-- At the points of case A the printed configuration (`Cfg.idle`) calls output 10 live: the case stores into it. -/
theorem liveAt3_10_A : ∀ t : Fin cfg3.N, cond3_0 (grid3.coords t) → ¬cond3_1 (grid3.coords t) → cond3_2 (grid3.coords t) → cfg3.idle 10 (grid3.coords t) = false := by decide +kernel
/-- At the points of case B the printed configuration (`Cfg.idle`) calls output 10 live: the case stores into it. -/
theorem liveAt3_10_B : ∀ t : Fin cfg3.N, cond3_0 (grid3.coords t) → ¬cond3_1 (grid3.coords t) → ¬cond3_2 (grid3.coords t) → cfg3.idle 10 (grid3.coords t) = false := by decide +kernel
/-- At the points of case C the printed configuration (`Cfg.idle`) calls output 10 live: the case stores into it. -/
theorem liveAt3_10_C : ∀ t : Fin cfg3.N, ¬cond3_0 (grid3.coords t) → cond3_1 (grid3.coords t) → ¬cond3_2 (grid3.coords t) → cfg3.idle 10 (grid3.coords t) = false := by decide +kernel

/-! ## The kernel body on any staging memrefs: a subtype the run finds -/

/-- One staging buffer of output window 10, through which its contents are stated (`View.read_writes_of_cover`: the
    choice does not matter). -/
abbrev VO3_10 : View sig .tc .vmem S1024x512 .bf16 := (Memref.whole cc3_stg10_0 : Memref sig .tc .vmem S1024x512 .bf16).view
/-- One staging buffer of output window 11, through which its contents are stated (`View.read_writes_of_cover`: the
    choice does not matter). -/
abbrev VO3_11 : View sig .tc .vmem S8x512 .f32 := (Memref.whole cc3_stg11_0 : Memref sig .tc .vmem S8x512 .f32).view
/-- Each window's current staging memref at point `t`, spelled as the pipeline passes it (`bodyAt3`), and its wholeness. -/
abbrev ms3_0 (t : Fin cfg3.N) : Memref sig .tc .vmem S1024x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x512 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x3 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x256x1024 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S512x256 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S512x512 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S1024x512 .bf16 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .vmem S8x512 .f32 := win3_11.stage (cfg3.slots t 11)
abbrev hs3_11 (t : Fin cfg3.N) : (ms3_11 t).IsWhole := hstage3_11 ((cfg3.slots t 11).cast nbuf3_11)

-- (a large proof term)
set_option maxHeartbeats 1000000 in
/-- What the body's stores leave in each output's staging memref, as pieces (last first) IN CASE A (`scf.if` 0 taken, `scf.if` 1 not taken, `scf.if` 2 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) :
    Σ' (L10 : List (View.Piece (Elt F) S1024x512 .bf16)), { L11 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc3__fuse_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc3__fuse_kernel_eq_skeleton]; unfold cc3__fuse_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact H11

/-- Case A's pieces for output 10 tile its block (1 store of `S1024x512`, checked by the kernel's evaluation: Lib/Ring.lean `Piece.tiledL`, linear in the pieces, through a loop's `@[irreducible]` trip theorem too), so they cover it. -/
theorem cover3_A_10 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (y : S1024x512.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1 S1024x512.size (by sl_kernel_rfl) y

/-- What case A leaves in output 10's staging buffer: its pieces read back over junk. -/
def out3_A_10 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) : Vec F S1024x512 .bf16 :=
  VO3_10.read (Elt F) (VO3_10.writes (Elt F) VO3_10.junk (kernelRun3_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1)

/-- Case A's pieces for output 11 are of SEVERAL sizes (3 stores of `S1x512`, `S8x512`): cut into blocks of `![1, 512]` they tile its block (checked by the kernel's evaluation: Lib/Ring.lean `Piece.tiledBy`), so they cover it. -/
theorem cover3_A_11 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (y : S8x512.Idx) :
    ∃ pc ∈ (kernelRun3_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.1, y ∈ pc.1.set :=
  View.cover_of_tiledBy (kernelRun3_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.1 ![1, 512] (by sl_kernel_rfl) y

/-- What case A leaves in output 11's staging buffer: its pieces read back over junk. -/
def out3_A_11 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) : Vec F S8x512 .f32 :=
  VO3_11.read (Elt F) (VO3_11.writes (Elt F) VO3_11.junk (kernelRun3_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.1)

-- (a large proof term)
set_option maxHeartbeats 1000000 in
/-- What the body's stores leave in each output's staging memref, as pieces (last first) IN CASE B (`scf.if` 0 taken, `scf.if` 1 not taken, `scf.if` 2 not taken: points 1, 2, … 31: 31 of 64), WITH the
    proof that on whole staging memrefs — the inputs' at their contents, the outputs it reads before covering (11) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : ¬cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (xo11 : Vec F S8x512 .f32) :
    Σ' (L10 : List (View.Piece (Elt F) S1024x512 .bf16)), { L11 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xo11) L11)) -∗ K ⟨⟩))
          ⊢ wp frame (wpE (defs₀ (F := F)) Variants.none c none) E (cc3__fuse_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc3__fuse_kernel_eq_skeleton]; unfold cc3__fuse_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexact H11

/-- Case B's pieces for output 10 tile its block (1 store of `S1024x512`, checked by the kernel's evaluation: Lib/Ring.lean `Piece.tiledL`, linear in the pieces, through a loop's `@[irreducible]` trip theorem too), so they cover it. -/
theorem cover3_B_10 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : ¬cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (xo11 : Vec F S8x512 .f32) (y : S1024x512.Idx) :
    ∃ pc ∈ (kernelRun3_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11).1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11).1 S1024x512.size (by sl_kernel_rfl) y

/-- What case B leaves in output 10's staging buffer: its pieces read back over junk. -/
def out3_B_10 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : ¬cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (xo11 : Vec F S8x512 .f32) : Vec F S1024x512 .bf16 :=
  VO3_10.read (Elt F) (VO3_10.writes (Elt F) VO3_10.junk (kernelRun3_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11).1)

/-- What case B leaves in output 11's staging buffer: its stores read back over what the point before left there (they do not cover the block). -/
def out3_B_11 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : cond3_0 i) (hc1 : ¬cond3_1 i) (hc2 : ¬cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (xo11 : Vec F S8x512 .f32) : Vec F S8x512 .f32 :=
  arg13.view.read (Elt F) (arg13.view.writes (Elt F) (harg13.unread xo11) (kernelRun3_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11).2.1)

-- (a large proof term)
set_option maxHeartbeats 1000000 in
/-- What the body's stores leave in each output's staging memref, as pieces (last first) IN CASE C (`scf.if` 0 not taken, `scf.if` 1 taken, `scf.if` 2 not taken: points 32, 33, … 63: 32 of 64), WITH the
    proof that on whole staging memrefs — the inputs' at their contents, the outputs it reads before covering (11) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : ¬cond3_0 i) (hc1 : cond3_1 i) (hc2 : ¬cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (xo11 : Vec F S8x512 .f32) :
    Σ' (L10 : List (View.Piece (Elt F) S1024x512 .bf16)), { L11 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (arg13.view.loc (c : Thread nD τ) ↦[arg13.view.set]{fullShare} arg13.view.writes (Elt F) (harg13.unread xo11) L11)) -∗ K ⟨⟩))
          ⊢ wp frame (wpE (defs₀ (F := F)) Variants.none c none) E (cc3__fuse_kernel i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc3__fuse_kernel_eq_skeleton]; unfold cc3__fuse_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexact H11

/-- Case C's pieces for output 10 tile its block (1 store of `S1024x512`, checked by the kernel's evaluation: Lib/Ring.lean `Piece.tiledL`, linear in the pieces, through a loop's `@[irreducible]` trip theorem too), so they cover it. -/
theorem cover3_C_10 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : ¬cond3_0 i) (hc1 : cond3_1 i) (hc2 : ¬cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (xo11 : Vec F S8x512 .f32) (y : S1024x512.Idx) :
    ∃ pc ∈ (kernelRun3_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11).1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11).1 S1024x512.size (by sl_kernel_rfl) y

/-- What case C leaves in output 10's staging buffer: its pieces read back over junk. -/
def out3_C_10 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : ¬cond3_0 i) (hc1 : cond3_1 i) (hc2 : ¬cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (xo11 : Vec F S8x512 .f32) : Vec F S1024x512 .bf16 :=
  VO3_10.read (Elt F) (VO3_10.writes (Elt F) VO3_10.junk (kernelRun3_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11).1)

/-- What case C leaves in output 11's staging buffer: its stores read back over what the point before left there (they do not cover the block). -/
def out3_C_11 (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole) (hc0 : ¬cond3_0 i) (hc1 : cond3_1 i) (hc2 : ¬cond3_2 i)
    (x0 x1 : Vec F S1024x512 .f32) (x2 x3 : Vec F S1024x512 .f32) (x4 x5 : Vec F S1024x512 .f32) (x6 : Vec F S1024x3 .f32) (x7 : Vec F S1x256x1024 .f32) (x8 : Vec F S512x256 .f32) (x9 : Vec F S512x512 .f32) (xo11 : Vec F S8x512 .f32) : Vec F S8x512 .f32 :=
  arg13.view.read (Elt F) (arg13.view.writes (Elt F) (harg13.unread xo11) (kernelRun3_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S1024x512 .bf16 × Vec F S8x512 .f32
  | 0, hn => (out3_A_10 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) ((hcond3_0 ⟨0, hn⟩).mpr (by (try dsimp only); omega)) (fun h => (fun h => by (try dsimp only at h); omega) ((hcond3_1 ⟨0, hn⟩).mp h)) ((hcond3_2 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩), out3_A_11 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) ((hcond3_0 ⟨0, hn⟩).mpr (by (try dsimp only); omega)) (fun h => (fun h => by (try dsimp only at h); omega) ((hcond3_1 ⟨0, hn⟩).mp h)) ((hcond3_2 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩))
  | n + 1, hn =>
    if h0 : (n + 1) < 32 then
      if h1 : 32 ≤ (n + 1) then
        False.elim (by have hN : n + 1 < 64 := lt_of_lt_of_eq hn (show cfg3.N = 64 from N_3); omega)
      else
        if h2 : (n + 1) % 64 = 0 then
          (out3_A_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) ((hcond3_0 ⟨n + 1, hn⟩).mpr h0) (fun h => h1 ((hcond3_1 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩), out3_A_11 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) ((hcond3_0 ⟨n + 1, hn⟩).mpr h0) (fun h => h1 ((hcond3_1 ⟨n + 1, hn⟩).mp h)) ((hcond3_2 ⟨n + 1, hn⟩).mpr h2) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩))
        else
          (out3_B_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) ((hcond3_0 ⟨n + 1, hn⟩).mpr h0) (fun h => h1 ((hcond3_1 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2, out3_B_11 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) ((hcond3_0 ⟨n + 1, hn⟩).mpr h0) (fun h => h1 ((hcond3_1 ⟨n + 1, hn⟩).mp h)) (fun h => h2 ((hcond3_2 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)
    else
      if h1 : 32 ≤ (n + 1) then
        if h2 : (n + 1) % 64 = 0 then
          False.elim (by have hN : n + 1 < 64 := lt_of_lt_of_eq hn (show cfg3.N = 64 from N_3); omega)
        else
          (out3_C_10 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (fun h => h0 ((hcond3_0 ⟨n + 1, hn⟩).mp h)) ((hcond3_1 ⟨n + 1, hn⟩).mpr h1) (fun h => h2 ((hcond3_2 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2, out3_C_11 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (fun h => h0 ((hcond3_0 ⟨n + 1, hn⟩).mp h)) ((hcond3_1 ⟨n + 1, hn⟩).mpr h1) (fun h => h2 ((hcond3_2 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (outsAt3 c n (Nat.lt_of_succ_lt hn)).2)
      else
        False.elim (by have hN : n + 1 < 64 := lt_of_lt_of_eq hn (show cfg3.N = 64 from N_3); omega)

/-- `outsAt3` at a point of case A: that case's contents. -/
theorem outsAt3_A (c : Dev nD) (t : Fin cfg3.N) (h0 : t.val < 32) (h1 : ¬32 ≤ t.val) (h2 : t.val % 64 = 0) :
    outsAt3 V c t.val t.isLt = (out3_A_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) ((hcond3_0 t).mpr h0) (fun h => h1 ((hcond3_1 t).mp h)) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t), out3_A_11 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) ((hcond3_0 t).mpr h0) (fun h => h1 ((hcond3_1 t).mp h)) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)) := by
  obtain ⟨n, hn⟩ := t
  cases n with
  | zero => exact rfl
  | succ n => exact (dif_pos h0).trans ((dif_neg h1).trans ((dif_pos h2).trans rfl))

/-- `outsAt3` at a point of case B: that case's contents, over what the point before left. -/
theorem outsAt3_B (c : Dev nD) (t : Fin cfg3.N) (h0 : t.val < 32) (h1 : ¬32 ≤ t.val) (h2 : ¬t.val % 64 = 0) :
    outsAt3 V c t.val t.isLt = (out3_B_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) ((hcond3_0 t).mpr h0) (fun h => h1 ((hcond3_1 t).mp h)) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2, out3_B_11 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) ((hcond3_0 t).mpr h0) (fun h => h1 ((hcond3_1 t).mp h)) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact (by exfalso; (try dsimp only at h2); exact absurd (Nat.zero_mod _) h2)
  | succ n => exact (dif_pos h0).trans ((dif_neg h1).trans ((dif_neg h2).trans rfl))

/-- `outsAt3` at a point of case C: that case's contents, over what the point before left. -/
theorem outsAt3_C (c : Dev nD) (t : Fin cfg3.N) (h0 : ¬t.val < 32) (h1 : 32 ≤ t.val) (h2 : ¬t.val % 64 = 0) :
    outsAt3 V c t.val t.isLt = (out3_C_10 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (fun h => h0 ((hcond3_0 t).mp h)) ((hcond3_1 t).mpr h1) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2, out3_C_11 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (fun h => h0 ((hcond3_0 t).mp h)) ((hcond3_1 t).mpr h1) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (outsAt3 V c (t.val - 1) (Nat.lt_of_le_of_lt (Nat.sub_le _ _) t.isLt)).2) := by
  obtain ⟨n, hn⟩ := t
  cases n with
  | zero => exact (by exfalso; (try dsimp only at h0); exact by omega)
  | succ n => exact (dif_neg h0).trans ((dif_pos h1).trans ((dif_neg h2).trans rfl))

/-! ## The pipeline's proof data -/

/-- The proof data of pipeline 1 on core `c`: the arrays as the region finds them (`V`); after the body at
    point `t` each input's buffer at its block and the outputs' at `outsAt3`; the invariant the class's
    (Lib/Pipeline/Frame.lean `Inv`: the scoped rest and the generator register); nothing owed; each input's share of its array
    (`Pipeline.shareOf`: the full share of an array several windows stage, dealt among them). -/
def dat3 (c : Dev nD) : Dat τ (Elt F) (HIx 2) ℕ (UU) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => (outsAt3 V c t.val t.isLt).1
    | ⟨11, _⟩ => (outsAt3 V c t.val t.isLt).2
  Φ _ := Inv spec3 c
  q w := Pipeline.shareOf spec3 w
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = (outsAt3 V c t.val t.isLt).1 := by dsimp only [dat3]
theorem after3_11 (c : Dev nD) (t : Fin cfg3.N) : (dat3 V c).after 11 t = (outsAt3 V c t.val t.isLt).2 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
/-- At a point of case B output 11's current staging buffer holds what the body left at the point before: the point is
    not the first, the buffer was not written back between (`flush3_11`), the window is live and uncut (Lib/Pipeline/Frame.lean
    `Dat.before_out_kept`). -/
theorem before3_11_B (c : Dev nD) (t : Fin cfg3.N) (h0 : t.val < 32) (h1 : ¬32 ≤ t.val) (h2 : ¬t.val % 64 = 0) (d) :
    (dat3 V c).before 11 t d = (outsAt3 V c (t.val - 1) (Nat.lt_of_le_of_lt (Nat.sub_le _ _) t.isLt)).2 := by
  have hN : t.val < 64 := lt_of_lt_of_eq t.isLt (show cfg3.N = 64 from N_3)
  rw [Dat.before_out_kept _ 11 rfl t (by omega) (Bool.eq_false_iff.mpr fun h => by have := (flush3_11 _).mp h; dsimp only at this; omega)
    (fun _ => rfl) (fun _ _ => rfl)]
  dsimp only [dat3]
/-- At a point of case C output 11's current staging buffer holds what the body left at the point before: the point is
    not the first, the buffer was not written back between (`flush3_11`), the window is live and uncut (Lib/Pipeline/Frame.lean
    `Dat.before_out_kept`). -/
theorem before3_11_C (c : Dev nD) (t : Fin cfg3.N) (h0 : ¬t.val < 32) (h1 : 32 ≤ t.val) (h2 : ¬t.val % 64 = 0) (d) :
    (dat3 V c).before 11 t d = (outsAt3 V c (t.val - 1) (Nat.lt_of_le_of_lt (Nat.sub_le _ _) t.isLt)).2 := by
  have hN : t.val < 64 := lt_of_lt_of_eq t.isLt (show cfg3.N = 64 from N_3)
  rw [Dat.before_out_kept _ 11 rfl t (by omega) (Bool.eq_false_iff.mpr fun h => by have := (flush3_11 _).mp h; dsimp only at this; omega)
    (fun _ => rfl) (fun _ _ => rfl)]
  dsimp only [dat3]

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt none t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d))
    ∗ (∃ d, owns (c : Thread nD τ) (ms3_11 t) fullShare ((dat3 V c).before 11 t d)))

/-- and what it returns. -/
def bodyPost3 (c : Dev nD) (t : Fin cfg3.N) : sProp 𝕄 :=
  iprop((dat3 V c).Φ t.succ ∗ (dat3 V c).owesAt none t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t
    ∗ (dat3 V c).leavesExact 11 t)

set_option maxHeartbeats 3600000 in
/-- The body at any point: the inputs' memrefs hold their blocks (`before3_W`); the closed forms say which case the point is in (`by_cases`), an output the case reads before covering holds what the point before left (`before3_W_κ`); so the
    run applies; the invariant passes through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt none t.succ = (dat3 V c).owesAt none t.castSucc from rfl]
  have hN : t.val < 64 := lt_of_lt_of_eq t.isLt (show cfg3.N = 64 from N_3)
  by_cases h0 : t.val < 32
  · by_cases h1 : 32 ≤ t.val
    · exfalso; omega
    · by_cases h2 : t.val % 64 = 0
      · rw [show (dat3 V c).leavesExact 0 t = owns (c : Thread nD τ) (ms3_0 t) fullShare ((dat3 V c).after 0 t) from by
      unfold Dat.leavesExact; rw [liveAt3_0 t], after3_0]
        rw [show (dat3 V c).leavesExact 1 t = owns (c : Thread nD τ) (ms3_1 t) fullShare ((dat3 V c).after 1 t) from by
      unfold Dat.leavesExact; rw [liveAt3_1 t], after3_1]
        rw [show (dat3 V c).leavesExact 2 t = owns (c : Thread nD τ) (ms3_2 t) fullShare ((dat3 V c).after 2 t) from by
      unfold Dat.leavesExact; rw [liveAt3_2 t], after3_2]
        rw [show (dat3 V c).leavesExact 3 t = owns (c : Thread nD τ) (ms3_3 t) fullShare ((dat3 V c).after 3 t) from by
      unfold Dat.leavesExact; rw [liveAt3_3 t], after3_3]
        rw [show (dat3 V c).leavesExact 4 t = owns (c : Thread nD τ) (ms3_4 t) fullShare ((dat3 V c).after 4 t) from by
      unfold Dat.leavesExact; rw [liveAt3_4 t], after3_4]
        rw [show (dat3 V c).leavesExact 5 t = owns (c : Thread nD τ) (ms3_5 t) fullShare ((dat3 V c).after 5 t) from by
      unfold Dat.leavesExact; rw [liveAt3_5 t], after3_5]
        rw [show (dat3 V c).leavesExact 6 t = owns (c : Thread nD τ) (ms3_6 t) fullShare ((dat3 V c).after 6 t) from by
      unfold Dat.leavesExact; rw [liveAt3_6 t], after3_6]
        rw [show (dat3 V c).leavesExact 7 t = owns (c : Thread nD τ) (ms3_7 t) fullShare ((dat3 V c).after 7 t) from by
      unfold Dat.leavesExact; rw [liveAt3_7 t], after3_7]
        rw [show (dat3 V c).leavesExact 8 t = owns (c : Thread nD τ) (ms3_8 t) fullShare ((dat3 V c).after 8 t) from by
      unfold Dat.leavesExact; rw [liveAt3_8 t], after3_8]
        rw [show (dat3 V c).leavesExact 9 t = owns (c : Thread nD τ) (ms3_9 t) fullShare ((dat3 V c).after 9 t) from by
      unfold Dat.leavesExact; rw [liveAt3_9 t], after3_9]
        rw [show (dat3 V c).leavesExact 10 t = owns (c : Thread nD τ) (ms3_10 t) fullShare ((dat3 V c).after 10 t) from by
      unfold Dat.leavesExact; rw [liveAt3_10_A t ((hcond3_0 t).mpr h0) (fun h => h1 ((hcond3_1 t).mp h)) ((hcond3_2 t).mpr h2)], after3_10]
        rw [show (dat3 V c).leavesExact 11 t = owns (c : Thread nD τ) (ms3_11 t) fullShare ((dat3 V c).after 11 t) from by
      unfold Dat.leavesExact; rw [liveAt3_11 t], after3_11]
        rw [outsAt3_A V c t h0 h1 h2]
        unfold out3_A_10 out3_A_11; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun3_A c (grid3.coords t) _ _ _ _ _ _ _ _ _ _ _ _ _ _ _ _ _ _ _ _ _ _ _ _ ((hcond3_0 t).mpr h0) (fun h => h1 ((hcond3_1 t).mp h)) ((hcond3_2 t).mpr h2) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        iintro ⟨H0, H1, H2, H3, H4, H5, H6, H7, H8, H9, ⟨%e10, H10⟩, ⟨%e11, H11⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover3_A_10 c _ _ _ _ _ _ _ _ _ _ _ _ _ _ _ _ _ _ _ _ _ _ _ _ _ _ _ _ _ _ _ _ _ _ _ _ _ _)
        unfold owns; iexists _; isplitr
        swap; · iexact H11
        ipureintro; exact View.read_writes_of_cover _ _ _ _ _ (cover3_A_11 c _ _ _ _ _ _ _ _ _ _ _ _ _ _ _ _ _ _ _ _ _ _ _ _ _ _ _ _ _ _ _ _ _ _ _ _ _ _)
      · rw [show (dat3 V c).leavesExact 0 t = owns (c : Thread nD τ) (ms3_0 t) fullShare ((dat3 V c).after 0 t) from by
      unfold Dat.leavesExact; rw [liveAt3_0 t], after3_0]
        rw [show (dat3 V c).leavesExact 1 t = owns (c : Thread nD τ) (ms3_1 t) fullShare ((dat3 V c).after 1 t) from by
      unfold Dat.leavesExact; rw [liveAt3_1 t], after3_1]
        rw [show (dat3 V c).leavesExact 2 t = owns (c : Thread nD τ) (ms3_2 t) fullShare ((dat3 V c).after 2 t) from by
      unfold Dat.leavesExact; rw [liveAt3_2 t], after3_2]
        rw [show (dat3 V c).leavesExact 3 t = owns (c : Thread nD τ) (ms3_3 t) fullShare ((dat3 V c).after 3 t) from by
      unfold Dat.leavesExact; rw [liveAt3_3 t], after3_3]
        rw [show (dat3 V c).leavesExact 4 t = owns (c : Thread nD τ) (ms3_4 t) fullShare ((dat3 V c).after 4 t) from by
      unfold Dat.leavesExact; rw [liveAt3_4 t], after3_4]
        rw [show (dat3 V c).leavesExact 5 t = owns (c : Thread nD τ) (ms3_5 t) fullShare ((dat3 V c).after 5 t) from by
      unfold Dat.leavesExact; rw [liveAt3_5 t], after3_5]
        rw [show (dat3 V c).leavesExact 6 t = owns (c : Thread nD τ) (ms3_6 t) fullShare ((dat3 V c).after 6 t) from by
      unfold Dat.leavesExact; rw [liveAt3_6 t], after3_6]
        rw [show (dat3 V c).leavesExact 7 t = owns (c : Thread nD τ) (ms3_7 t) fullShare ((dat3 V c).after 7 t) from by
      unfold Dat.leavesExact; rw [liveAt3_7 t], after3_7]
        rw [show (dat3 V c).leavesExact 8 t = owns (c : Thread nD τ) (ms3_8 t) fullShare ((dat3 V c).after 8 t) from by
      unfold Dat.leavesExact; rw [liveAt3_8 t], after3_8]
        rw [show (dat3 V c).leavesExact 9 t = owns (c : Thread nD τ) (ms3_9 t) fullShare ((dat3 V c).after 9 t) from by
      unfold Dat.leavesExact; rw [liveAt3_9 t], after3_9]
        rw [show (dat3 V c).leavesExact 10 t = owns (c : Thread nD τ) (ms3_10 t) fullShare ((dat3 V c).after 10 t) from by
      unfold Dat.leavesExact; rw [liveAt3_10_B t ((hcond3_0 t).mpr h0) (fun h => h1 ((hcond3_1 t).mp h)) (fun h => h2 ((hcond3_2 t).mp h))], after3_10]
        rw [show (dat3 V c).leavesExact 11 t = owns (c : Thread nD τ) (ms3_11 t) fullShare ((dat3 V c).after 11 t) from by
      unfold Dat.leavesExact; rw [liveAt3_11 t], after3_11]
        rw [outsAt3_B V c t h0 h1 h2]
        simp only [before3_11_B V c t h0 h1 h2]
        unfold out3_B_10 out3_B_11; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun3_B c (grid3.coords t) _ _ _ _ _ _ _ _ _ _ _ _ _ _ _ _ _ _ _ _ _ _ _ _ ((hcond3_0 t).mpr h0) (fun h => h1 ((hcond3_1 t).mp h)) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        iintro ⟨H0, H1, H2, H3, H4, H5, H6, H7, H8, H9, ⟨%e10, H10⟩, H11⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover3_B_10 c _ _ _ _ _ _ _ _ _ _ _ _ _ _ _ _ _ _ _ _ _ _ _ _ _ _ _ _ _ _ _ _ _ _ _ _ _ _ _)
        unfold owns; iexists _; isplitr
        swap; · iexact H11
        ipureintro; rfl
  · by_cases h1 : 32 ≤ t.val
    · by_cases h2 : t.val % 64 = 0
      · exfalso; omega
      · rw [show (dat3 V c).leavesExact 0 t = owns (c : Thread nD τ) (ms3_0 t) fullShare ((dat3 V c).after 0 t) from by
      unfold Dat.leavesExact; rw [liveAt3_0 t], after3_0]
        rw [show (dat3 V c).leavesExact 1 t = owns (c : Thread nD τ) (ms3_1 t) fullShare ((dat3 V c).after 1 t) from by
      unfold Dat.leavesExact; rw [liveAt3_1 t], after3_1]
        rw [show (dat3 V c).leavesExact 2 t = owns (c : Thread nD τ) (ms3_2 t) fullShare ((dat3 V c).after 2 t) from by
      unfold Dat.leavesExact; rw [liveAt3_2 t], after3_2]
        rw [show (dat3 V c).leavesExact 3 t = owns (c : Thread nD τ) (ms3_3 t) fullShare ((dat3 V c).after 3 t) from by
      unfold Dat.leavesExact; rw [liveAt3_3 t], after3_3]
        rw [show (dat3 V c).leavesExact 4 t = owns (c : Thread nD τ) (ms3_4 t) fullShare ((dat3 V c).after 4 t) from by
      unfold Dat.leavesExact; rw [liveAt3_4 t], after3_4]
        rw [show (dat3 V c).leavesExact 5 t = owns (c : Thread nD τ) (ms3_5 t) fullShare ((dat3 V c).after 5 t) from by
      unfold Dat.leavesExact; rw [liveAt3_5 t], after3_5]
        rw [show (dat3 V c).leavesExact 6 t = owns (c : Thread nD τ) (ms3_6 t) fullShare ((dat3 V c).after 6 t) from by
      unfold Dat.leavesExact; rw [liveAt3_6 t], after3_6]
        rw [show (dat3 V c).leavesExact 7 t = owns (c : Thread nD τ) (ms3_7 t) fullShare ((dat3 V c).after 7 t) from by
      unfold Dat.leavesExact; rw [liveAt3_7 t], after3_7]
        rw [show (dat3 V c).leavesExact 8 t = owns (c : Thread nD τ) (ms3_8 t) fullShare ((dat3 V c).after 8 t) from by
      unfold Dat.leavesExact; rw [liveAt3_8 t], after3_8]
        rw [show (dat3 V c).leavesExact 9 t = owns (c : Thread nD τ) (ms3_9 t) fullShare ((dat3 V c).after 9 t) from by
      unfold Dat.leavesExact; rw [liveAt3_9 t], after3_9]
        rw [show (dat3 V c).leavesExact 10 t = owns (c : Thread nD τ) (ms3_10 t) fullShare ((dat3 V c).after 10 t) from by
      unfold Dat.leavesExact; rw [liveAt3_10_C t (fun h => h0 ((hcond3_0 t).mp h)) ((hcond3_1 t).mpr h1) (fun h => h2 ((hcond3_2 t).mp h))], after3_10]
        rw [show (dat3 V c).leavesExact 11 t = owns (c : Thread nD τ) (ms3_11 t) fullShare ((dat3 V c).after 11 t) from by
      unfold Dat.leavesExact; rw [liveAt3_11 t], after3_11]
        rw [outsAt3_C V c t h0 h1 h2]
        simp only [before3_11_C V c t h0 h1 h2]
        unfold out3_C_10 out3_C_11; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply ((kernelRun3_C c (grid3.coords t) _ _ _ _ _ _ _ _ _ _ _ _ _ _ _ _ _ _ _ _ _ _ _ _ (fun h => h0 ((hcond3_0 t).mp h)) ((hcond3_1 t).mpr h1) (fun h => h2 ((hcond3_2 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        iintro ⟨H0, H1, H2, H3, H4, H5, H6, H7, H8, H9, ⟨%e10, H10⟩, H11⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover3_C_10 c _ _ _ _ _ _ _ _ _ _ _ _ _ _ _ _ _ _ _ _ _ _ _ _ _ _ _ _ _ _ _ _ _ _ _ _ _ _ _)
        unfold owns; iexists _; isplitr
        swap; · iexact H11
        ipureintro; rfl
    · exfalso; omega

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rfl

/-- The library's body obligation, at every point: the body's triple restated (Lib/Pipeline/FrameBody.lean `triple_restated`). -/
theorem body_obligation3 (c : Dev nD) : BodyObligation (dat3 (F := F) V c) (defs₀ (F := F)) Variants.none none Set.univ := fun t => by
  rw [bigSep_W3, bigSep_W3, defs₀_row3]
  exact triple_restated (sound_body3 V c t) rfl .rfl fun _ => .rfl

end Regions

end Cert.Proof.Reg

end
-- ==== Proof.Reg4.lean ====
/-
  The first middle call: what its body does on its staging buffers, and its part of the run, at any contents of the arrays it
  is entered at.
-/
module

public import proofs.«01_k».proof.Proof.Common

@[expose] public section

-- membership in a rectangle of production extents (`View.cover_of_tiled`): the structural look
-- recurses once per coordinate of the long axes
set_option maxRecDepth 16384

noncomputable section

namespace Cert.Proof.Reg

open Cert.KernelIdeal Cert.KernelIdeal.Gen Cert.Proof.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 2) (Elt F) ℕ (UU) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc4__mid_kernel` (pipeline 2), at the entry contents `V` — class R -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) (HIx 2) ℕ (UU) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) (HIx 2) ℕ (UU) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) (HIx 2) ℕ (UU) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) (HIx 2) ℕ (UU) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's `scf.if` 0 (`k4_h1`), from the grid coordinates (the skeleton's scalar
    chain substituted). -/
abbrev cond4_0 (i : grid4.Coords) : Prop := (Scalar.cmpi .ne (Scalar.extui (Scalar.cmpi .eq (BitVec.ofNat 32 (i 0).val) 0#32)) 0#32) = 1#1
/-- It holds at the first point only — by arithmetic of the point. -/
theorem hcond4_0 : ∀ t : Fin cfg4.N, cond4_0 (grid4.coords t) ↔ t.val % 64 = 0 :=
  (fun t => by
    have ht : t.val < 64 := Nat.lt_of_lt_of_eq t.isLt N_4
    have e0 : (grid4.coords t 0).val = t.val / 1 % 64 := Pipeline.Grid.coords_val t 0 (by decide) rfl
    simp only [cond4_0, e0]
    word_cmp
   : ∀ t : Fin grid4.N, cond4_0 (grid4.coords t) ↔ t.val % 64 = 0)

/-! ## The kernel body on any staging memrefs: a subtype the run finds -/

/-- One staging buffer of output window 4, through which its contents are stated (`View.read_writes_of_cover`: the
    choice does not matter). -/
abbrev VO4_4 : View sig .tc .vmem S1024x512 .bf16 := (Memref.whole cc4_stg4_0 : Memref sig .tc .vmem S1024x512 .bf16).view
/-- One staging buffer of output window 5, through which its contents are stated (`View.read_writes_of_cover`: the
    choice does not matter). -/
abbrev VO4_5 : View sig .tc .vmem S1024x512 .bf16 := (Memref.whole cc4_stg5_0 : Memref sig .tc .vmem S1024x512 .bf16).view
/-- One staging buffer of output window 6, through which its contents are stated (`View.read_writes_of_cover`: the
    choice does not matter). -/
abbrev VO4_6 : View sig .tc .vmem S8x512 .f32 := (Memref.whole cc4_stg6_0 : Memref sig .tc .vmem S8x512 .f32).view
/-- Each window's current staging memref at point `t`, spelled as the pipeline passes it (`bodyAt4`), and its wholeness. -/
abbrev ms4_0 (t : Fin cfg4.N) : Memref sig .tc .vmem S1024x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x512 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x512 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x512 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x512 .bf16 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x512 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S8x512 .f32 := win4_6.stage (cfg4.slots t 6)
abbrev hs4_6 (t : Fin cfg4.N) : (ms4_6 t).IsWhole := hstage4_6 ((cfg4.slots t 6).cast nbuf4_6)

-- (a large proof term)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_A (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : cond4_0 i)
    (x0 : Vec F S1024x512 .bf16) (x1 x2 : Vec F S1x512 .f32) (x3 : Vec F S512x512 .f32) :
    Σ' (L4 : List (View.Piece (Elt F) S1024x512 .bf16)), Σ' (L5 : List (View.Piece (Elt F) S1024x512 .bf16)), { L6 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc4__mid_kernel i arg1 harg1 arg2 harg2 arg3 harg3 arg4 harg4 arg5 harg5 arg6 harg6 arg7 harg7) K } := by
  refine ⟨?_, ?_, ?_, fun E K => ?run⟩
  case run =>
    simp only [cc4__mid_kernel_eq_skeleton]; unfold cc4__mid_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-- Case A's pieces for output 4 tile its block (1 store of `S1024x512`, checked by the kernel's evaluation: Lib/Ring.lean `Piece.tiledL`, linear in the pieces, through a loop's `@[irreducible]` trip theorem too), so they cover it. -/
theorem cover4_A_4 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : cond4_0 i)
    (x0 : Vec F S1024x512 .bf16) (x1 x2 : Vec F S1x512 .f32) (x3 : Vec F S512x512 .f32) (y : S1024x512.Idx) :
    ∃ pc ∈ (kernelRun4_A c i arg1 harg1 arg2 harg2 arg3 harg3 arg4 harg4 arg5 harg5 arg6 harg6 arg7 harg7 hc0 x0 x1 x2 x3).1, y ∈ pc.1.set :=
  View.cover_of_tiledL (kernelRun4_A c i arg1 harg1 arg2 harg2 arg3 harg3 arg4 harg4 arg5 harg5 arg6 harg6 arg7 harg7 hc0 x0 x1 x2 x3).1 S1024x512.size (by sl_kernel_rfl) y

/-- What case A leaves in output 4's staging buffer: its pieces read back over junk. -/
def out4_A_4 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : cond4_0 i)
    (x0 : Vec F S1024x512 .bf16) (x1 x2 : Vec F S1x512 .f32) (x3 : Vec F S512x512 .f32) : Vec F S1024x512 .bf16 :=
  VO4_4.read (Elt F) (VO4_4.writes (Elt F) VO4_4.junk (kernelRun4_A c i arg1 harg1 arg2 harg2 arg3 harg3 arg4 harg4 arg5 harg5 arg6 harg6 arg7 harg7 hc0 x0 x1 x2 x3).1)

/-- Case A's pieces for output 5 tile its block (1 store of `S1024x512`, checked by the kernel's evaluation: Lib/Ring.lean `Piece.tiledL`, linear in the pieces, through a loop's `@[irreducible]` trip theorem too), so they cover it. -/
theorem cover4_A_5 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : cond4_0 i)
    (x0 : Vec F S1024x512 .bf16) (x1 x2 : Vec F S1x512 .f32) (x3 : Vec F S512x512 .f32) (y : S1024x512.Idx) :
    ∃ pc ∈ (kernelRun4_A c i arg1 harg1 arg2 harg2 arg3 harg3 arg4 harg4 arg5 harg5 arg6 harg6 arg7 harg7 hc0 x0 x1 x2 x3).2.1, y ∈ pc.1.set :=
  View.cover_of_tiledL (kernelRun4_A c i arg1 harg1 arg2 harg2 arg3 harg3 arg4 harg4 arg5 harg5 arg6 harg6 arg7 harg7 hc0 x0 x1 x2 x3).2.1 S1024x512.size (by sl_kernel_rfl) y

/-- What case A leaves in output 5's staging buffer: its pieces read back over junk. -/
def out4_A_5 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : cond4_0 i)
    (x0 : Vec F S1024x512 .bf16) (x1 x2 : Vec F S1x512 .f32) (x3 : Vec F S512x512 .f32) : Vec F S1024x512 .bf16 :=
  VO4_5.read (Elt F) (VO4_5.writes (Elt F) VO4_5.junk (kernelRun4_A c i arg1 harg1 arg2 harg2 arg3 harg3 arg4 harg4 arg5 harg5 arg6 harg6 arg7 harg7 hc0 x0 x1 x2 x3).2.1)

/-- Case A's pieces for output 6 are of SEVERAL sizes (3 stores of `S1x512`, `S8x512`): cut into blocks of `![1, 512]` they tile its block (checked by the kernel's evaluation: Lib/Ring.lean `Piece.tiledBy`), so they cover it. -/
theorem cover4_A_6 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : cond4_0 i)
    (x0 : Vec F S1024x512 .bf16) (x1 x2 : Vec F S1x512 .f32) (x3 : Vec F S512x512 .f32) (y : S8x512.Idx) :
    ∃ pc ∈ (kernelRun4_A c i arg1 harg1 arg2 harg2 arg3 harg3 arg4 harg4 arg5 harg5 arg6 harg6 arg7 harg7 hc0 x0 x1 x2 x3).2.2.1, y ∈ pc.1.set :=
  View.cover_of_tiledBy (kernelRun4_A c i arg1 harg1 arg2 harg2 arg3 harg3 arg4 harg4 arg5 harg5 arg6 harg6 arg7 harg7 hc0 x0 x1 x2 x3).2.2.1 ![1, 512] (by sl_kernel_rfl) y

/-- What case A leaves in output 6's staging buffer: its pieces read back over junk. -/
def out4_A_6 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : cond4_0 i)
    (x0 : Vec F S1024x512 .bf16) (x1 x2 : Vec F S1x512 .f32) (x3 : Vec F S512x512 .f32) : Vec F S8x512 .f32 :=
  VO4_6.read (Elt F) (VO4_6.writes (Elt F) VO4_6.junk (kernelRun4_A c i arg1 harg1 arg2 harg2 arg3 harg3 arg4 harg4 arg5 harg5 arg6 harg6 arg7 harg7 hc0 x0 x1 x2 x3).2.2.1)

-- (a large proof term)
set_option maxHeartbeats 1000000 in
/-- What the body's stores leave in each output's staging memref, as pieces (last first) IN CASE B (`scf.if` 0 not taken: points 1, 2, … 63: 63 of 64), WITH the
    proof that on whole staging memrefs — the inputs' at their contents, the outputs it reads before covering (6) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun4_B (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : ¬cond4_0 i)
    (x0 : Vec F S1024x512 .bf16) (x1 x2 : Vec F S1x512 .f32) (x3 : Vec F S512x512 .f32) (xo6 : Vec F S8x512 .f32) :
    Σ' (L4 : List (View.Piece (Elt F) S1024x512 .bf16)), Σ' (L5 : List (View.Piece (Elt F) S1024x512 .bf16)), { L6 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread xo6) L6)) -∗ K ⟨⟩))
          ⊢ wp frame (wpE (defs₀ (F := F)) Variants.none c none) E (cc4__mid_kernel i arg1 harg1 arg2 harg2 arg3 harg3 arg4 harg4 arg5 harg5 arg6 harg6 arg7 harg7) K } := by
  refine ⟨?_, ?_, ?_, fun E K => ?run⟩
  case run =>
    simp only [cc4__mid_kernel_eq_skeleton]; unfold cc4__mid_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexact H6

/-- Case B's pieces for output 4 tile its block (1 store of `S1024x512`, checked by the kernel's evaluation: Lib/Ring.lean `Piece.tiledL`, linear in the pieces, through a loop's `@[irreducible]` trip theorem too), so they cover it. -/
theorem cover4_B_4 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : ¬cond4_0 i)
    (x0 : Vec F S1024x512 .bf16) (x1 x2 : Vec F S1x512 .f32) (x3 : Vec F S512x512 .f32) (xo6 : Vec F S8x512 .f32) (y : S1024x512.Idx) :
    ∃ pc ∈ (kernelRun4_B c i arg1 harg1 arg2 harg2 arg3 harg3 arg4 harg4 arg5 harg5 arg6 harg6 arg7 harg7 hc0 x0 x1 x2 x3 xo6).1, y ∈ pc.1.set :=
  View.cover_of_tiledL (kernelRun4_B c i arg1 harg1 arg2 harg2 arg3 harg3 arg4 harg4 arg5 harg5 arg6 harg6 arg7 harg7 hc0 x0 x1 x2 x3 xo6).1 S1024x512.size (by sl_kernel_rfl) y

/-- What case B leaves in output 4's staging buffer: its pieces read back over junk. -/
def out4_B_4 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : ¬cond4_0 i)
    (x0 : Vec F S1024x512 .bf16) (x1 x2 : Vec F S1x512 .f32) (x3 : Vec F S512x512 .f32) (xo6 : Vec F S8x512 .f32) : Vec F S1024x512 .bf16 :=
  VO4_4.read (Elt F) (VO4_4.writes (Elt F) VO4_4.junk (kernelRun4_B c i arg1 harg1 arg2 harg2 arg3 harg3 arg4 harg4 arg5 harg5 arg6 harg6 arg7 harg7 hc0 x0 x1 x2 x3 xo6).1)

/-- Case B's pieces for output 5 tile its block (1 store of `S1024x512`, checked by the kernel's evaluation: Lib/Ring.lean `Piece.tiledL`, linear in the pieces, through a loop's `@[irreducible]` trip theorem too), so they cover it. -/
theorem cover4_B_5 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : ¬cond4_0 i)
    (x0 : Vec F S1024x512 .bf16) (x1 x2 : Vec F S1x512 .f32) (x3 : Vec F S512x512 .f32) (xo6 : Vec F S8x512 .f32) (y : S1024x512.Idx) :
    ∃ pc ∈ (kernelRun4_B c i arg1 harg1 arg2 harg2 arg3 harg3 arg4 harg4 arg5 harg5 arg6 harg6 arg7 harg7 hc0 x0 x1 x2 x3 xo6).2.1, y ∈ pc.1.set :=
  View.cover_of_tiledL (kernelRun4_B c i arg1 harg1 arg2 harg2 arg3 harg3 arg4 harg4 arg5 harg5 arg6 harg6 arg7 harg7 hc0 x0 x1 x2 x3 xo6).2.1 S1024x512.size (by sl_kernel_rfl) y

/-- What case B leaves in output 5's staging buffer: its pieces read back over junk. -/
def out4_B_5 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : ¬cond4_0 i)
    (x0 : Vec F S1024x512 .bf16) (x1 x2 : Vec F S1x512 .f32) (x3 : Vec F S512x512 .f32) (xo6 : Vec F S8x512 .f32) : Vec F S1024x512 .bf16 :=
  VO4_5.read (Elt F) (VO4_5.writes (Elt F) VO4_5.junk (kernelRun4_B c i arg1 harg1 arg2 harg2 arg3 harg3 arg4 harg4 arg5 harg5 arg6 harg6 arg7 harg7 hc0 x0 x1 x2 x3 xo6).2.1)

/-- What case B leaves in output 6's staging buffer: its stores read back over what the point before left there (they do not cover the block). -/
def out4_B_6 (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole) (hc0 : ¬cond4_0 i)
    (x0 : Vec F S1024x512 .bf16) (x1 x2 : Vec F S1x512 .f32) (x3 : Vec F S512x512 .f32) (xo6 : Vec F S8x512 .f32) : Vec F S8x512 .f32 :=
  arg7.view.read (Elt F) (arg7.view.writes (Elt F) (harg7.unread xo6) (kernelRun4_B c i arg1 harg1 arg2 harg2 arg3 harg3 arg4 harg4 arg5 harg5 arg6 harg6 arg7 harg7 hc0 x0 x1 x2 x3 xo6).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before4_W_κ`). An assignment of the conditions no point meets is no case (`False.elim`). -/
def outsAt4 (c : Dev nD) : (n : ℕ) → n < cfg4.N → Vec F S1024x512 .bf16 × Vec F S1024x512 .bf16 × Vec F S8x512 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩), out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩))
  | n + 1, hn =>
    if h0 : (n + 1) % 64 = 0 then
      (out4_A_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩), out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩), out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩))
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2)

/-- `outsAt4` at a point of case A: that case's contents. -/
theorem outsAt4_A (c : Dev nD) (t : Fin cfg4.N) (h0 : t.val % 64 = 0) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t), out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t)) := by
  obtain ⟨n, hn⟩ := t
  cases n with
  | zero => exact rfl
  | succ n => exact (dif_pos h0).trans rfl

/-- `outsAt4` at a point of case B: that case's contents, over what the point before left. -/
theorem outsAt4_B (c : Dev nD) (t : Fin cfg4.N) (h0 : ¬t.val % 64 = 0) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.2, out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at
    point `t` each input's buffer at its block and the outputs' at `outsAt4`; the invariant the class's
    (Lib/Pipeline/Frame.lean `Inv`: the scoped rest and the generator register); nothing owed; full shares. -/
def dat4 (c : Dev nD) : Dat τ (Elt F) (HIx 2) ℕ (UU) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2
  Φ _ := Inv spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2 := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
/-- At a point of case B output 6's current staging buffer holds what the body left at the point before: the point is
    not the first, the buffer was not written back between (`flush4_6`), the window is live and uncut (Lib/Pipeline/Frame.lean
    `Dat.before_out_kept`). -/
theorem before4_6_B (c : Dev nD) (t : Fin cfg4.N) (h0 : ¬t.val % 64 = 0) (d) :
    (dat4 V c).before 6 t d = (outsAt4 V c (t.val - 1) (Nat.lt_of_le_of_lt (Nat.sub_le _ _) t.isLt)).2.2 := by
  have hN : t.val < 64 := lt_of_lt_of_eq t.isLt (show cfg4.N = 64 from N_4)
  rw [Dat.before_out_kept _ 6 rfl t (by omega) (Bool.eq_false_iff.mpr fun h => by have := (flush4_6 _).mp h; dsimp only at this; omega)
    (fun _ => rfl) (fun _ _ => rfl)]
  dsimp only [dat4]

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt none t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt none t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t))

set_option maxHeartbeats 800000 in
/-- The body at any point: the inputs' memrefs hold their blocks (`before4_W`); the closed forms say which case the point is in (`by_cases`), an output the case reads before covering holds what the point before left (`before4_W_κ`); so the
    run applies; the invariant passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt none t.succ = (dat4 V c).owesAt none t.castSucc from rfl,
    after4_0, after4_1, after4_2, after4_3, after4_4, after4_5, after4_6]
  have hN : t.val < 64 := lt_of_lt_of_eq t.isLt (show cfg4.N = 64 from N_4)
  by_cases h0 : t.val % 64 = 0
  · rw [outsAt4_A V c t h0]
    unfold out4_A_4 out4_A_5 out4_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ ((hcond4_0 t).mpr h0) (iblk4 V c 0 t) (iblk4 V c 1 t) (iblk4 V c 2 t) (iblk4 V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _)
    isplitl [H5]
    · unfold owns; iexists _; isplitr
      swap; · iexact H5
      ipureintro; exact View.read_writes_of_cover _ _ _ _ _ (cover4_A_5 c _ _ _ _ _ _ _ _ _ _ _ _ _ _ _ _ _ _ _ _)
    unfold owns; iexists _; isplitr
    swap; · iexact H6
    ipureintro; exact View.read_writes_of_cover _ _ _ _ _ (cover4_A_6 c _ _ _ _ _ _ _ _ _ _ _ _ _ _ _ _ _ _ _ _)
  · rw [outsAt4_B V c t h0]
    simp only [before4_6_B V c t h0]
    unfold out4_B_4 out4_B_5 out4_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ (fun h => h0 ((hcond4_0 t).mp h)) (iblk4 V c 0 t) (iblk4 V c 1 t) (iblk4 V c 2 t) (iblk4 V c 3 t) _).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    iintro ⟨H0, H1, H2, H3, ⟨%e4, H4⟩, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_B_4 c _ _ _ _ _ _ _ _ _ _ _ _ _ _ _ _ _ _ _ _ _)
    isplitl [H5]
    · unfold owns; iexists _; isplitr
      swap; · iexact H5
      ipureintro; exact View.read_writes_of_cover _ _ _ _ _ (cover4_B_5 c _ _ _ _ _ _ _ _ _ _ _ _ _ _ _ _ _ _ _ _ _)
    unfold owns; iexists _; isplitr
    swap; · iexact H6
    ipureintro; rfl

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rfl

/-- The library's body obligation, at every point: the body's triple restated (Lib/Pipeline/FrameBody.lean `triple_restated`). -/
theorem body_obligation4 (c : Dev nD) : BodyObligation (dat4 (F := F) V c) (defs₀ (F := F)) Variants.none none Set.univ := fun t => by
  rw [bigSep_W4, bigSep_W4, defs₀_row4]
  exact triple_restated (sound_body4 V c t) rfl .rfl fun _ => .rfl

end Regions

end Cert.Proof.Reg

end
-- ==== Proof.Reg5.lean ====
/-
  The second middle call: what its body does on its staging buffers, and its part of the run, at any contents of the arrays it
  is entered at.
-/
module

public import proofs.«01_k».proof.Proof.Common

@[expose] public section

-- membership in a rectangle of production extents (`View.cover_of_tiled`): the structural look
-- recurses once per coordinate of the long axes
set_option maxRecDepth 16384

noncomputable section

namespace Cert.Proof.Reg

open Cert.KernelIdeal Cert.KernelIdeal.Gen Cert.Proof.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 2) (Elt F) ℕ (UU) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc5__mid_kernel` (pipeline 3), at the entry contents `V` — class R -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) (HIx 2) ℕ (UU) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) (HIx 2) ℕ (UU) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_2_of {c : Dev nD} (dat : Dat τ (Elt F) (HIx 2) ℕ (UU) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_3_of {c : Dev nD} (dat : Dat τ (Elt F) (HIx 2) ℕ (UU) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates (the skeleton's scalar
    chain substituted). -/
abbrev cond5_0 (i : grid5.Coords) : Prop := (Scalar.cmpi .ne (Scalar.extui (Scalar.cmpi .eq (BitVec.ofNat 32 (i 0).val) 0#32)) 0#32) = 1#1
/-- It holds at the first point only — by arithmetic of the point. -/
theorem hcond5_0 : ∀ t : Fin cfg5.N, cond5_0 (grid5.coords t) ↔ t.val % 64 = 0 :=
  (fun t => by
    have ht : t.val < 64 := Nat.lt_of_lt_of_eq t.isLt N_5
    have e0 : (grid5.coords t 0).val = t.val / 1 % 64 := Pipeline.Grid.coords_val t 0 (by decide) rfl
    simp only [cond5_0, e0]
    word_cmp
   : ∀ t : Fin grid5.N, cond5_0 (grid5.coords t) ↔ t.val % 64 = 0)

/-! ## The kernel body on any staging memrefs: a subtype the run finds -/

/-- One staging buffer of output window 4, through which its contents are stated (`View.read_writes_of_cover`: the
    choice does not matter). -/
abbrev VO5_4 : View sig .tc .vmem S1024x512 .bf16 := (Memref.whole cc5_stg4_0 : Memref sig .tc .vmem S1024x512 .bf16).view
/-- One staging buffer of output window 5, through which its contents are stated (`View.read_writes_of_cover`: the
    choice does not matter). -/
abbrev VO5_5 : View sig .tc .vmem S8x512 .f32 := (Memref.whole cc5_stg5_0 : Memref sig .tc .vmem S8x512 .f32).view
/-- Each window's current staging memref at point `t`, spelled as the pipeline passes it (`bodyAt5`), and its wholeness. -/
abbrev ms5_0 (t : Fin cfg5.N) : Memref sig .tc .vmem S1024x512 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x512 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x512 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x512 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x512 .bf16 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S8x512 .f32 := win5_5.stage (cfg5.slots t 5)
abbrev hs5_5 (t : Fin cfg5.N) : (ms5_5 t).IsWhole := hstage5_5 ((cfg5.slots t 5).cast nbuf5_5)

-- (a large proof term)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun5_A (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : cond5_0 i)
    (x0 : Vec F S1024x512 .bf16) (x1 x2 : Vec F S1x512 .f32) (x3 : Vec F S512x512 .f32) :
    Σ' (L4 : List (View.Piece (Elt F) S1024x512 .bf16)), { L5 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc5__mid_kernel i arg1 harg1 arg2 harg2 arg3 harg3 arg4 harg4 arg5 harg5 arg6 harg6) K } := by
  refine ⟨?_, ?_, fun E K => ?run⟩
  case run =>
    simp only [cc5__mid_kernel_eq_skeleton]; unfold cc5__mid_kernel_skel
    simp only [k5_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

/-- Case A's pieces for output 4 tile its block (1 store of `S1024x512`, checked by the kernel's evaluation: Lib/Ring.lean `Piece.tiledL`, linear in the pieces, through a loop's `@[irreducible]` trip theorem too), so they cover it. -/
theorem cover5_A_4 (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : cond5_0 i)
    (x0 : Vec F S1024x512 .bf16) (x1 x2 : Vec F S1x512 .f32) (x3 : Vec F S512x512 .f32) (y : S1024x512.Idx) :
    ∃ pc ∈ (kernelRun5_A c i arg1 harg1 arg2 harg2 arg3 harg3 arg4 harg4 arg5 harg5 arg6 harg6 hc0 x0 x1 x2 x3).1, y ∈ pc.1.set :=
  View.cover_of_tiledL (kernelRun5_A c i arg1 harg1 arg2 harg2 arg3 harg3 arg4 harg4 arg5 harg5 arg6 harg6 hc0 x0 x1 x2 x3).1 S1024x512.size (by sl_kernel_rfl) y

/-- What case A leaves in output 4's staging buffer: its pieces read back over junk. -/
def out5_A_4 (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : cond5_0 i)
    (x0 : Vec F S1024x512 .bf16) (x1 x2 : Vec F S1x512 .f32) (x3 : Vec F S512x512 .f32) : Vec F S1024x512 .bf16 :=
  VO5_4.read (Elt F) (VO5_4.writes (Elt F) VO5_4.junk (kernelRun5_A c i arg1 harg1 arg2 harg2 arg3 harg3 arg4 harg4 arg5 harg5 arg6 harg6 hc0 x0 x1 x2 x3).1)

/-- Case A's pieces for output 5 are of SEVERAL sizes (3 stores of `S1x512`, `S8x512`): cut into blocks of `![1, 512]` they tile its block (checked by the kernel's evaluation: Lib/Ring.lean `Piece.tiledBy`), so they cover it. -/
theorem cover5_A_5 (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : cond5_0 i)
    (x0 : Vec F S1024x512 .bf16) (x1 x2 : Vec F S1x512 .f32) (x3 : Vec F S512x512 .f32) (y : S8x512.Idx) :
    ∃ pc ∈ (kernelRun5_A c i arg1 harg1 arg2 harg2 arg3 harg3 arg4 harg4 arg5 harg5 arg6 harg6 hc0 x0 x1 x2 x3).2.1, y ∈ pc.1.set :=
  View.cover_of_tiledBy (kernelRun5_A c i arg1 harg1 arg2 harg2 arg3 harg3 arg4 harg4 arg5 harg5 arg6 harg6 hc0 x0 x1 x2 x3).2.1 ![1, 512] (by sl_kernel_rfl) y

/-- What case A leaves in output 5's staging buffer: its pieces read back over junk. -/
def out5_A_5 (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : cond5_0 i)
    (x0 : Vec F S1024x512 .bf16) (x1 x2 : Vec F S1x512 .f32) (x3 : Vec F S512x512 .f32) : Vec F S8x512 .f32 :=
  VO5_5.read (Elt F) (VO5_5.writes (Elt F) VO5_5.junk (kernelRun5_A c i arg1 harg1 arg2 harg2 arg3 harg3 arg4 harg4 arg5 harg5 arg6 harg6 hc0 x0 x1 x2 x3).2.1)

-- (a large proof term)
set_option maxHeartbeats 1000000 in
/-- What the body's stores leave in each output's staging memref, as pieces (last first) IN CASE B (`scf.if` 0 not taken: points 1, 2, … 63: 63 of 64), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun5_B (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : ¬cond5_0 i)
    (x0 : Vec F S1024x512 .bf16) (x1 x2 : Vec F S1x512 .f32) (x3 : Vec F S512x512 .f32) (xo5 : Vec F S8x512 .f32) :
    Σ' (L4 : List (View.Piece (Elt F) S1024x512 .bf16)), { L5 : List (View.Piece (Elt F) S8x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread xo5) L5)) -∗ K ⟨⟩))
          ⊢ wp frame (wpE (defs₀ (F := F)) Variants.none c none) E (cc5__mid_kernel i arg1 harg1 arg2 harg2 arg3 harg3 arg4 harg4 arg5 harg5 arg6 harg6) K } := by
  refine ⟨?_, ?_, fun E K => ?run⟩
  case run =>
    simp only [cc5__mid_kernel_eq_skeleton]; unfold cc5__mid_kernel_skel
    simp only [k5_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexact H5

/-- Case B's pieces for output 4 tile its block (1 store of `S1024x512`, checked by the kernel's evaluation: Lib/Ring.lean `Piece.tiledL`, linear in the pieces, through a loop's `@[irreducible]` trip theorem too), so they cover it. -/
theorem cover5_B_4 (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : ¬cond5_0 i)
    (x0 : Vec F S1024x512 .bf16) (x1 x2 : Vec F S1x512 .f32) (x3 : Vec F S512x512 .f32) (xo5 : Vec F S8x512 .f32) (y : S1024x512.Idx) :
    ∃ pc ∈ (kernelRun5_B c i arg1 harg1 arg2 harg2 arg3 harg3 arg4 harg4 arg5 harg5 arg6 harg6 hc0 x0 x1 x2 x3 xo5).1, y ∈ pc.1.set :=
  View.cover_of_tiledL (kernelRun5_B c i arg1 harg1 arg2 harg2 arg3 harg3 arg4 harg4 arg5 harg5 arg6 harg6 hc0 x0 x1 x2 x3 xo5).1 S1024x512.size (by sl_kernel_rfl) y

/-- What case B leaves in output 4's staging buffer: its pieces read back over junk. -/
def out5_B_4 (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : ¬cond5_0 i)
    (x0 : Vec F S1024x512 .bf16) (x1 x2 : Vec F S1x512 .f32) (x3 : Vec F S512x512 .f32) (xo5 : Vec F S8x512 .f32) : Vec F S1024x512 .bf16 :=
  VO5_4.read (Elt F) (VO5_4.writes (Elt F) VO5_4.junk (kernelRun5_B c i arg1 harg1 arg2 harg2 arg3 harg3 arg4 harg4 arg5 harg5 arg6 harg6 hc0 x0 x1 x2 x3 xo5).1)

/-- What case B leaves in output 5's staging buffer: its stores read back over what the point before left there (they do not cover the block). -/
def out5_B_5 (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole) (hc0 : ¬cond5_0 i)
    (x0 : Vec F S1024x512 .bf16) (x1 x2 : Vec F S1x512 .f32) (x3 : Vec F S512x512 .f32) (xo5 : Vec F S8x512 .f32) : Vec F S8x512 .f32 :=
  arg6.view.read (Elt F) (arg6.view.writes (Elt F) (harg6.unread xo5) (kernelRun5_B c i arg1 harg1 arg2 harg2 arg3 harg3 arg4 harg4 arg5 harg5 arg6 harg6 hc0 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before5_W_κ`). An assignment of the conditions no point meets is no case (`False.elim`). -/
def outsAt5 (c : Dev nD) : (n : ℕ) → n < cfg5.N → Vec F S1024x512 .bf16 × Vec F S8x512 .f32
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩), out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) ((hcond5_0 ⟨0, hn⟩).mpr (Nat.zero_mod _)) (iblk5 V c 0 ⟨0, hn⟩) (iblk5 V c 1 ⟨0, hn⟩) (iblk5 V c 2 ⟨0, hn⟩) (iblk5 V c 3 ⟨0, hn⟩))
  | n + 1, hn =>
    if h0 : (n + 1) % 64 = 0 then
      (out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩), out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) ((hcond5_0 ⟨n + 1, hn⟩).mpr h0) (iblk5 V c 0 ⟨n + 1, hn⟩) (iblk5 V c 1 ⟨n + 1, hn⟩) (iblk5 V c 2 ⟨n + 1, hn⟩) (iblk5 V c 3 ⟨n + 1, hn⟩))
    else
      (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => h0 ((hcond5_0 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)

/-- `outsAt5` at a point of case A: that case's contents. -/
theorem outsAt5_A (c : Dev nD) (t : Fin cfg5.N) (h0 : t.val % 64 = 0) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t) (iblk5 V c 3 t), out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t) (iblk5 V c 3 t)) := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 64 = 0) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2, out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 3 on core `c`: the arrays as the region finds them (`V`); after the body at
    point `t` each input's buffer at its block and the outputs' at `outsAt5`; the invariant the class's
    (Lib/Pipeline/Frame.lean `Inv`: the scoped rest and the generator register); nothing owed; full shares. -/
def dat5 (c : Dev nD) : Dat τ (Elt F) (HIx 2) ℕ (UU) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
    | ⟨5, _⟩ => (outsAt5 V c t.val t.isLt).2
  Φ _ := Inv spec5 c
  q _ := fullShare
  owed _ := 0

/-- The proof data's arrays are the region-entry contents, by projecting the definition (`dsimp`): a region record cites
    this for its arrays rather than have Lean unfold `V`, the fold through @main up to the region's entry. -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]
theorem after5_5 (c : Dev nD) (t : Fin cfg5.N) : (dat5 V c).after 5 t = (outsAt5 V c t.val t.isLt).2 := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
/-- At a point of case B output 5's current staging buffer holds what the body left at the point before: the point is
    not the first, the buffer was not written back between (`flush5_5`), the window is live and uncut (Lib/Pipeline/Frame.lean
    `Dat.before_out_kept`). -/
theorem before5_5_B (c : Dev nD) (t : Fin cfg5.N) (h0 : ¬t.val % 64 = 0) (d) :
    (dat5 V c).before 5 t d = (outsAt5 V c (t.val - 1) (Nat.lt_of_le_of_lt (Nat.sub_le _ _) t.isLt)).2 := by
  have hN : t.val < 64 := lt_of_lt_of_eq t.isLt (show cfg5.N = 64 from N_5)
  rw [Dat.before_out_kept _ 5 rfl t (by omega) (Bool.eq_false_iff.mpr fun h => by have := (flush5_5 _).mp h; dsimp only at this; omega)
    (fun _ => rfl) (fun _ _ => rfl)]
  dsimp only [dat5]

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt none t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt none t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t))

set_option maxHeartbeats 800000 in
/-- The body at any point: the inputs' memrefs hold their blocks (`before5_W`); the closed forms say which case the point is in (`by_cases`), an output the case reads before covering holds what the point before left (`before5_W_κ`); so the
    run applies; the invariant passes through unread; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt none t.succ = (dat5 V c).owesAt none t.castSucc from rfl,
    after5_0, after5_1, after5_2, after5_3, after5_4, after5_5]
  have hN : t.val < 64 := lt_of_lt_of_eq t.isLt (show cfg5.N = 64 from N_5)
  by_cases h0 : t.val % 64 = 0
  · rw [outsAt5_A V c t h0]
    unfold out5_A_4 out5_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun5_A c (grid5.coords t) _ _ _ _ _ _ _ _ _ _ _ _ ((hcond5_0 t).mpr h0) (iblk5 V c 0 t) (iblk5 V c 1 t) (iblk5 V c 2 t) (iblk5 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover5_A_4 c _ _ _ _ _ _ _ _ _ _ _ _ _ _ _ _ _ _)
    unfold owns; iexists _; isplitr
    swap; · iexact H5
    ipureintro; exact View.read_writes_of_cover _ _ _ _ _ (cover5_A_5 c _ _ _ _ _ _ _ _ _ _ _ _ _ _ _ _ _ _)
  · rw [outsAt5_B V c t h0]
    simp only [before5_5_B V c t h0]
    unfold out5_B_4 out5_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun5_B c (grid5.coords t) _ _ _ _ _ _ _ _ _ _ _ _ (fun h => h0 ((hcond5_0 t).mp h)) (iblk5 V c 0 t) (iblk5 V c 1 t) (iblk5 V c 2 t) (iblk5 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover5_B_4 c _ _ _ _ _ _ _ _ _ _ _ _ _ _ _ _ _ _ _)
    unfold owns; iexists _; isplitr
    swap; · iexact H5
    ipureintro; rfl

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rfl

/-- The library's body obligation, at every point: the body's triple restated (Lib/Pipeline/FrameBody.lean `triple_restated`). -/
theorem body_obligation5 (c : Dev nD) : BodyObligation (dat5 (F := F) V c) (defs₀ (F := F)) Variants.none none Set.univ := fun t => by
  rw [bigSep_W5, bigSep_W5, defs₀_row5]
  exact triple_restated (sound_body5 V c t) rfl .rfl fun _ => .rfl

end Regions

end Cert.Proof.Reg

end
-- ==== Proof.Reg6.lean ====
/-
  The last call: what its body does on its staging buffers, and its part of the run, at any contents of the arrays it
  is entered at.
-/
module

public import proofs.«01_k».proof.Proof.Common

@[expose] public section

-- membership in a rectangle of production extents (`View.cover_of_tiled`): the structural look
-- recurses once per coordinate of the long axes
set_option maxRecDepth 16384

noncomputable section

namespace Cert.Proof.Reg

open Cert.KernelIdeal Cert.KernelIdeal.Gen Cert.Proof.Common

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 2) (Elt F) ℕ (UU) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc6__final_kernel` (pipeline 4), at the entry contents `V` -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_0_of {c : Dev nD} (dat : Dat τ (Elt F) (HIx 2) ℕ (UU) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_1_of {c : Dev nD} (dat : Dat τ (Elt F) (HIx 2) ℕ (UU) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_2_of {c : Dev nD} (dat : Dat τ (Elt F) (HIx 2) ℕ (UU) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_3_of {c : Dev nD} (dat : Dat τ (Elt F) (HIx 2) ℕ (UU) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S1024x512 := Rect.unit (s := S1024x512) ![0, 0] S1024x512.size inb_S1024x512_S1024x512_0_0
abbrev r6_1 : Rect S1x512 := Rect.unit (s := S1x512) ![0, 0] S1x512.size inb_S1x512_S1x512_0_0
abbrev r6_2 : Rect S1x512x1024 := Rect.unit (s := S1x512x1024) ![0, 0, 0] S1x512x1024.size inb_S1x512x1024_S1x512x1024_0_0_0

/-! ## What the body leaves in each output window's buffer -/

/-- Window 4's staging buffer after the body, from the input windows' blocks: its 1 store as pieces, LAST
    FIRST (Lib/Pipeline/FrameBody.lean `View.canon`; the payloads are the skeleton's). -/
def out6_4 (x0 x1 : Vec F S1024x512 .bf16) (x2 x3 : Vec F S1x512 .f32) : Vec F S1x512x1024 .f32 :=
  View.canon [⟨r6_2, k6_pay1 (View.ld x0 r6_0) (View.ld x2 r6_1) (View.ld x3 r6_1) (View.ld x1 r6_0)⟩]

/-- Its stores tile the buffer (checked by evaluation), so they cover it. -/
theorem cover6_4 (p0 : Vec F S1x512x1024 .f32) (y : S1x512x1024.Idx) :
    ∃ pc ∈ ([⟨r6_2, p0⟩] : List (View.Piece (Elt F) S1x512x1024 .f32)), y ∈ pc.1.set :=
  View.cover_of_tiled [⟨r6_2, p0⟩] S1x512x1024.size (by rfl) y

/-! ## The body's triple -/

set_option maxHeartbeats 1000000 in
/-- The kernel body on whole staging memrefs, the inputs' at read contents `xW` and the outputs' at anything, runs to
    the continuation holding the inputs' as they were and each output's at `out6_W` of the inputs': the printed functions
    are their skeletons (`Gen.*_eq_skeleton`), which `sl_exec` runs (Lib/Exec.lean), through every part call. -/
theorem sound_kernel6 (c : Dev nD) (E : Set ℕ) (i : grid6.Coords) (arg2 : Memref sig .tc .vmem S1024x512 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512x1024 .f32) (harg6 : arg6.IsWhole)
    (x0 x1 : Vec F S1024x512 .bf16) (x2 x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out6_4 x0 x1 x2 x3)) -∗ K ⟨⟩))
      ⊢ wp frame (wpE (defs₀ (F := F)) Variants.none c none) E (cc6__final_kernel i arg2 harg2 arg3 harg3 arg4 harg4 arg5 harg5 arg6 harg6) K := by
  simp only [cc6__final_kernel_eq_skeleton]; unfold cc6__final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 4 on core `c`: the arrays as the region finds them (`V`); after the body at
    point `t` each input's buffer at its block and each output's at `out6_W` of the input blocks; the invariant the
    class's (Lib/Pipeline/Frame.lean `Inv`: the scoped rest and the generator register, untouched); nothing owed;
    full shares. -/
def dat6 (c : Dev nD) : Dat τ (Elt F) (HIx 2) ℕ (UU) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Inv spec6 c
  q _ := fullShare
  owed _ := 0

/-- The proof data's arrays are the region-entry contents, by projecting the definition (`dsimp`): a region record cites
    this for its arrays rather than have Lean unfold `V`, the fold through @main up to the region's entry. -/
theorem A_eq6 (c : Dev nD) (w : Fin cfg6.W) : (dat6 V c).A w = V c (Pipeline.arrRef spec6 w) := by
  dsimp only [dat6]

/-- What the body leaves, window by window (the proof data's `match` reduced by `dsimp`, never `rfl`: Lib/Pipeline.lean `Dat`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

/-- Each input's current staging buffer holds its block at every point, fetched there or not (`beforeK_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t` (Lib/Pipeline.lean `BodyObligation`'s precondition, the windows one by one), -/
def bodyPre6 (c : Dev nD) (t : Fin cfg6.N) : sProp 𝕄 :=
  iprop((dat6 V c).Φ t.castSucc ∗ (dat6 V c).owesAt none t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt none t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks (`before6_W`), so `sound_kernel6` applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt none t.succ = (dat6 V c).owesAt none t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rfl

/-- The library's body obligation, at every point: the body's triple restated (Lib/Pipeline/FrameBody.lean `triple_restated`). -/
theorem body_obligation6 (c : Dev nD) : BodyObligation (dat6 (F := F) V c) (defs₀ (F := F)) Variants.none none Set.univ := fun t => by
  rw [bigSep_W6, bigSep_W6, defs₀_row6]
  exact triple_restated (sound_body6 V c t) rfl .rfl fun _ => .rfl

end Regions

end Cert.Proof.Reg

end
-- ==== Proof.Fold.lean ====
/-
  What every array holds after each stretch of the host's lines and after each call.
-/
module

public import proofs.«01_k».proof.Proof.Hosts
public import proofs.«01_k».proof.Proof.Rows
public import proofs.«01_k».proof.Proof.Reg0
public import proofs.«01_k».proof.Proof.Reg3
public import proofs.«01_k».proof.Proof.Reg4
public import proofs.«01_k».proof.Proof.Reg5
public import proofs.«01_k».proof.Proof.Reg6

@[expose] public section

set_option maxRecDepth 16384

noncomputable section

namespace Cert.Proof.Run

open Cert.KernelIdeal Cert.KernelIdeal.Gen Cert.Proof.Common Cert.Proof.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ)

/-- At the launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl

/-- After stretch 0. -/
abbrev W1 : Dev nD → Valuation τ sig (Elt F) := fun c => StableHlo.after hops0 (W0 m c)
theorem W1_of (c : Dev nD) (r : Ref sig .tc) (h : r ∉ hops0_W) : W1 m c (Proc.devRef .tc r) = W0 m c (Proc.devRef .tc r) :=
  StableHlo.after_of_writes_sub hops0 _ hops0_writes h
theorem W1_args (c : Dev nD) : ∀ a ∈ argRefs, W1 m c (Proc.devRef .tc a) = m ((c : Thread nD τ).loc a) :=
  fun a ha => (W1_of m c a (hops0_args a ha)).trans (W0_args m c a ha)
/-- The same at the core's references. -/
abbrev V1 : (c : Dev nD) → (b : Ref sig .tc) → Buf (Elt F) ((c : Thread nD τ).loc b) := fun c b => W1 m c b

/-- After call 0: its arrays at what its pipeline leaves, the others as they were. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An array that is none of the call's outputs is as it was. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After stretch 1. -/
abbrev W3 : Dev nD → Valuation τ sig (Elt F) := fun c => StableHlo.after hops1 (W2 m c)
theorem W3_of (c : Dev nD) (r : Ref sig .tc) (h : r ∉ hops1_W) : W3 m c (Proc.devRef .tc r) = W2 m c (Proc.devRef .tc r) :=
  StableHlo.after_of_writes_sub hops1 _ hops1_writes h
theorem W3_args (c : Dev nD) : ∀ a ∈ argRefs, W3 m c (Proc.devRef .tc a) = m ((c : Thread nD τ).loc a) :=
  fun a ha => (W3_of m c a (hops1_args a ha)).trans (W2_args m c a ha)
/-- The same at the core's references. -/
abbrev V3 : (c : Dev nD) → (b : Ref sig .tc) → Buf (Elt F) ((c : Thread nD τ).loc b) := fun c b => W3 m c b

/-- The table of half rows and the list, as gather 0 finds them. -/
def tab0 (c : Dev nD) : Rows.Tab F := W3 m c (Proc.devRef .tc (main_v4 : Ref sig .tc))
def lst0 (c : Dev nD) : Rows.Lst F := W3 m c (Proc.devRef .tc (main_v13 : Ref sig .tc))
/-- After gather 0: its output at the rows named, the others as they were. -/
def W4 (c : Dev nD) : Valuation τ sig (Elt F) :=
  Function.update (W3 m c) (Proc.devRef .tc (main_v14 : Ref sig .tc)) (Rows.gathered (tab0 m c) (lst0 m c))
theorem W4_o (c : Dev nD) : W4 m c (Proc.devRef .tc (main_v14 : Ref sig .tc)) = Rows.gathered (tab0 m c) (lst0 m c) :=
  Function.update_self _ _ _
theorem W4_ne (c : Dev nD) {b : DevRef τ sig} (h : b ≠ Proc.devRef .tc (main_v14 : Ref sig .tc)) : W4 m c b = W3 m c b :=
  Function.update_of_ne h _ _
theorem W4_of (c : Dev nD) (r : Ref sig .tc) (h : r ≠ main_v14) : W4 m c (Proc.devRef .tc r) = W3 m c (Proc.devRef .tc r) :=
  W4_ne m c fun e => h (Proc.devRef_injective _ e)
theorem W4_args (c : Dev nD) : ∀ a ∈ argRefs, W4 m c (Proc.devRef .tc a) = m ((c : Thread nD τ).loc a) :=
  fun a ha => (W4_of m c a ((ListAll.forall_mem_of_all_decide (p := fun a => a ≠ main_v14) (by decide +kernel) : ∀ a ∈ argRefs, a ≠ main_v14) a ha)).trans (W3_args m c a ha)

/-- After stretch 2. -/
abbrev W5 : Dev nD → Valuation τ sig (Elt F) := fun c => StableHlo.after hops2 (W4 m c)
theorem W5_of (c : Dev nD) (r : Ref sig .tc) (h : r ∉ hops2_W) : W5 m c (Proc.devRef .tc r) = W4 m c (Proc.devRef .tc r) :=
  StableHlo.after_of_writes_sub hops2 _ hops2_writes h
theorem W5_args (c : Dev nD) : ∀ a ∈ argRefs, W5 m c (Proc.devRef .tc a) = m ((c : Thread nD τ).loc a) :=
  fun a ha => (W5_of m c a (hops2_args a ha)).trans (W4_args m c a ha)
/-- The same at the core's references. -/
abbrev V5 : (c : Dev nD) → (b : Ref sig .tc) → Buf (Elt F) ((c : Thread nD τ).loc b) := fun c b => W5 m c b

/-- The table of half rows and the list, as gather 1 finds them. -/
def tab1 (c : Dev nD) : Rows.Tab F := W5 m c (Proc.devRef .tc (main_v17 : Ref sig .tc))
def lst1 (c : Dev nD) : Rows.Lst F := W5 m c (Proc.devRef .tc (main_v26 : Ref sig .tc))
/-- After gather 1: its output at the rows named, the others as they were. -/
def W6 (c : Dev nD) : Valuation τ sig (Elt F) :=
  Function.update (W5 m c) (Proc.devRef .tc (main_v27 : Ref sig .tc)) (Rows.gathered (tab1 m c) (lst1 m c))
theorem W6_o (c : Dev nD) : W6 m c (Proc.devRef .tc (main_v27 : Ref sig .tc)) = Rows.gathered (tab1 m c) (lst1 m c) :=
  Function.update_self _ _ _
theorem W6_ne (c : Dev nD) {b : DevRef τ sig} (h : b ≠ Proc.devRef .tc (main_v27 : Ref sig .tc)) : W6 m c b = W5 m c b :=
  Function.update_of_ne h _ _
theorem W6_of (c : Dev nD) (r : Ref sig .tc) (h : r ≠ main_v27) : W6 m c (Proc.devRef .tc r) = W5 m c (Proc.devRef .tc r) :=
  W6_ne m c fun e => h (Proc.devRef_injective _ e)
theorem W6_args (c : Dev nD) : ∀ a ∈ argRefs, W6 m c (Proc.devRef .tc a) = m ((c : Thread nD τ).loc a) :=
  fun a ha => (W6_of m c a ((ListAll.forall_mem_of_all_decide (p := fun a => a ≠ main_v27) (by decide +kernel) : ∀ a ∈ argRefs, a ≠ main_v27) a ha)).trans (W5_args m c a ha)

/-- After stretch 3. -/
abbrev W7 : Dev nD → Valuation τ sig (Elt F) := fun c => StableHlo.after hops3 (W6 m c)
theorem W7_of (c : Dev nD) (r : Ref sig .tc) (h : r ∉ hops3_W) : W7 m c (Proc.devRef .tc r) = W6 m c (Proc.devRef .tc r) :=
  StableHlo.after_of_writes_sub hops3 _ hops3_writes h
theorem W7_args (c : Dev nD) : ∀ a ∈ argRefs, W7 m c (Proc.devRef .tc a) = m ((c : Thread nD τ).loc a) :=
  fun a ha => (W7_of m c a (hops3_args a ha)).trans (W6_args m c a ha)
/-- The same at the core's references. -/
abbrev V7 : (c : Dev nD) → (b : Ref sig .tc) → Buf (Elt F) ((c : Thread nD τ).loc b) := fun c b => W7 m c b

/-- After call 3: its arrays at what its pipeline leaves, the others as they were. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact (dat3 (V7 m) c).withArrays_arrAt launch₀3.sharedIn _ (A_eq3 (V7 m) c) w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- An array that is none of the call's outputs is as it was. -/
theorem W8_of (c : Dev nD) (r : Ref sig .tc) (h : ∀ w : Fin cfg3.W, Pipeline.arrRef spec3 w = r → (cfg3.win w).isOut = false) :
    W8 m c (Proc.devRef .tc r) = W7 m c (Proc.devRef .tc r) := by
  by_cases hw : ∃ w : Fin cfg3.W, Pipeline.arrRef spec3 w = r
  · obtain ⟨w, rfl⟩ := hw
    exact (W8_arr m c w).trans (((dat3 (V7 m) c).arrAt_in w (h w rfl) _).trans (A_eq3 (V7 m) c w))
  · exact W8_of_ne m c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m c (Proc.devRef .tc a) = m ((c : Thread nD τ).loc a) :=
  fun a ha => (W8_of m c a (argsIn3 a ha)).trans (W7_args m c a ha)
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After stretch 4a. -/
abbrev W8a : Dev nD → Valuation τ sig (Elt F) := fun c => StableHlo.after hops4a (W8 m c)
theorem W8a_of (c : Dev nD) (r : Ref sig .tc) (h : r ∉ hops4a_W) : W8a m c (Proc.devRef .tc r) = W8 m c (Proc.devRef .tc r) :=
  StableHlo.after_of_writes_sub hops4a _ hops4a_writes h
theorem W8a_args (c : Dev nD) : ∀ a ∈ argRefs, W8a m c (Proc.devRef .tc a) = m ((c : Thread nD τ).loc a) :=
  fun a ha => (W8a_of m c a (hops4a_args a ha)).trans (W8_args m c a ha)
/-- The same at the core's references. -/
abbrev V8a : (c : Dev nD) → (b : Ref sig .tc) → Buf (Elt F) ((c : Thread nD τ).loc b) := fun c b => W8a m c b

/-- After stretch 4b. -/
abbrev W9 : Dev nD → Valuation τ sig (Elt F) := fun c => StableHlo.after hops4b (W8a m c)
theorem W9_of (c : Dev nD) (r : Ref sig .tc) (h : r ∉ hops4b_W) : W9 m c (Proc.devRef .tc r) = W8a m c (Proc.devRef .tc r) :=
  StableHlo.after_of_writes_sub hops4b _ hops4b_writes h
theorem W9_args (c : Dev nD) : ∀ a ∈ argRefs, W9 m c (Proc.devRef .tc a) = m ((c : Thread nD τ).loc a) :=
  fun a ha => (W9_of m c a (hops4b_args a ha)).trans (W8a_args m c a ha)
/-- The same at the core's references. -/
abbrev V9 : (c : Dev nD) → (b : Ref sig .tc) → Buf (Elt F) ((c : Thread nD τ).loc b) := fun c b => W9 m c b

/-- After call 4: its arrays at what its pipeline leaves, the others as they were. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- An array that is none of the call's outputs is as it was. -/
theorem W10_of (c : Dev nD) (r : Ref sig .tc) (h : ∀ w : Fin cfg4.W, Pipeline.arrRef spec4 w = r → (cfg4.win w).isOut = false) :
    W10 m c (Proc.devRef .tc r) = W9 m c (Proc.devRef .tc r) := by
  by_cases hw : ∃ w : Fin cfg4.W, Pipeline.arrRef spec4 w = r
  · obtain ⟨w, rfl⟩ := hw
    exact (W10_arr m c w).trans (((dat4 (V9 m) c).arrAt_in w (h w rfl) _).trans (A_eq4 (V9 m) c w))
  · exact W10_of_ne m c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m c (Proc.devRef .tc a) = m ((c : Thread nD τ).loc a) :=
  fun a ha => (W10_of m c a (argsIn4 a ha)).trans (W9_args m c a ha)
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

/-- After stretch 5. -/
abbrev W11 : Dev nD → Valuation τ sig (Elt F) := fun c => StableHlo.after hops5 (W10 m c)
theorem W11_of (c : Dev nD) (r : Ref sig .tc) (h : r ∉ hops5_W) : W11 m c (Proc.devRef .tc r) = W10 m c (Proc.devRef .tc r) :=
  StableHlo.after_of_writes_sub hops5 _ hops5_writes h
theorem W11_args (c : Dev nD) : ∀ a ∈ argRefs, W11 m c (Proc.devRef .tc a) = m ((c : Thread nD τ).loc a) :=
  fun a ha => (W11_of m c a (hops5_args a ha)).trans (W10_args m c a ha)
/-- The same at the core's references. -/
abbrev V11 : (c : Dev nD) → (b : Ref sig .tc) → Buf (Elt F) ((c : Thread nD τ).loc b) := fun c b => W11 m c b

/-- After call 5: its arrays at what its pipeline leaves, the others as they were. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- An array that is none of the call's outputs is as it was. -/
theorem W12_of (c : Dev nD) (r : Ref sig .tc) (h : ∀ w : Fin cfg5.W, Pipeline.arrRef spec5 w = r → (cfg5.win w).isOut = false) :
    W12 m c (Proc.devRef .tc r) = W11 m c (Proc.devRef .tc r) := by
  by_cases hw : ∃ w : Fin cfg5.W, Pipeline.arrRef spec5 w = r
  · obtain ⟨w, rfl⟩ := hw
    exact (W12_arr m c w).trans (((dat5 (V11 m) c).arrAt_in w (h w rfl) _).trans (A_eq5 (V11 m) c w))
  · exact W12_of_ne m c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m c (Proc.devRef .tc a) = m ((c : Thread nD τ).loc a) :=
  fun a ha => (W12_of m c a (argsIn5 a ha)).trans (W11_args m c a ha)
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)

/-- After stretch 6. -/
abbrev W13 : Dev nD → Valuation τ sig (Elt F) := fun c => StableHlo.after hops6 (W12 m c)
theorem W13_of (c : Dev nD) (r : Ref sig .tc) (h : r ∉ hops6_W) : W13 m c (Proc.devRef .tc r) = W12 m c (Proc.devRef .tc r) :=
  StableHlo.after_of_writes_sub hops6 _ hops6_writes h
theorem W13_args (c : Dev nD) : ∀ a ∈ argRefs, W13 m c (Proc.devRef .tc a) = m ((c : Thread nD τ).loc a) :=
  fun a ha => (W13_of m c a (hops6_args a ha)).trans (W12_args m c a ha)
/-- The same at the core's references. -/
abbrev V13 : (c : Dev nD) → (b : Ref sig .tc) → Buf (Elt F) ((c : Thread nD τ).loc b) := fun c b => W13 m c b

/-- After call 6: its arrays at what its pipeline leaves, the others as they were. -/
def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- An array that is none of the call's outputs is as it was. -/
theorem W14_of (c : Dev nD) (r : Ref sig .tc) (h : ∀ w : Fin cfg6.W, Pipeline.arrRef spec6 w = r → (cfg6.win w).isOut = false) :
    W14 m c (Proc.devRef .tc r) = W13 m c (Proc.devRef .tc r) := by
  by_cases hw : ∃ w : Fin cfg6.W, Pipeline.arrRef spec6 w = r
  · obtain ⟨w, rfl⟩ := hw
    exact (W14_arr m c w).trans (((dat6 (V13 m) c).arrAt_in w (h w rfl) _).trans (A_eq6 (V13 m) c w))
  · exact W14_of_ne m c r fun w e => hw ⟨w, e⟩
theorem argsIn6 : ∀ a ∈ argRefs, ∀ w : Fin cfg6.W, Pipeline.arrRef spec6 w = a → (cfg6.win w).isOut = false :=
  ListAll.forall_mem_of_all_decide (by decide +kernel)
theorem W14_args (c : Dev nD) : ∀ a ∈ argRefs, W14 m c (Proc.devRef .tc a) = m ((c : Thread nD τ).loc a) :=
  fun a ha => (W14_of m c a (argsIn6 a ha)).trans (W13_args m c a ha)
abbrev V14 : (c : Dev nD) → (b : Ref sig .tc) → Buf (Elt F) ((c : Thread nD τ).loc b) := fun c b => W14 m c b
theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b hb => W14_of_ne m c b fun w e => hb (Finset.mem_image.mpr ⟨w, Finset.mem_univ _, e⟩)

end Cert.Proof.Run

end
-- ==== Proof.Records.lean ====
/-
  Each TensorCore call as a part of the run: from every array at what it holds before the call to every array at what
  it holds after.
-/
module

public import proofs.«01_k».proof.Proof.Fold
public import Idealize.ShloMosaic.Lib.Pipeline.Frame

@[expose] public section

set_option maxRecDepth 16384

noncomputable section

namespace Cert.Proof.Run

open Cert.KernelIdeal Cert.KernelIdeal.Gen Cert.Proof.Common Cert.Proof.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 2) (Elt F) ℕ UU ℕ

variable (m : (ℓ : Loc nD τ sig) → Buf (Elt F) ℓ)

abbrev adm : (p : Fin 5) → ((pcfgs (F := F)) p).Adm := fun p => (cfgs p).toPCfg_adm
/-- Each pipeline's proof data, at what its call finds. -/
def pdats : (p : Fin 5) → (c : Dev nD) → Dat τ (Elt F) (HIx 2) ℕ UU ℕ (Pipeline.pin (pcfgs (F := F)) adm p) c
  | ⟨0, _⟩ => fun c => dat0 (V1 m) c
  | ⟨1, _⟩ => fun c => dat3 (V7 m) c
  | ⟨2, _⟩ => fun c => dat4 (V9 m) c
  | ⟨3, _⟩ => fun c => dat5 (V11 m) c
  | ⟨4, _⟩ => fun c => dat6 (V13 m) c

/-- What a core holds beside its arrays before the SparseCore calls: its generator register, and what it owes them. -/
abbrev Rest0 (c : Dev nD) : sProp 𝕄 :=
  iprop((∃ r, prngReg c r) ∗ ∃ W, ⌜(K (F := F)).WBelow (SparseCore.T c) W 0⌝ ∗ owes (SparseCore.T c) ((K (F := F)).Otc c 0) W)
/-- And after them. -/
abbrev Rest (c : Dev nD) : sProp 𝕄 :=
  iprop((∃ r, prngReg c r) ∗ ∃ W, owes (SparseCore.T c) (0 : CellTallies nD τ sig (HIx 2)) W)

set_option backward.isDefEq.respectTransparency.types false in
/-- Call 0, from `W1` to `W2`: its arrays are taken out of the arrays and put back at what the pipeline leaves. -/
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) c).loose
  hwaits := fun c => Pipeline.cellsWaits_of_cut _ (pdats m) none 0 c 0 ((K (F := F)).Otc c 0) (fun _ => rfl) (fun _ _ => Finset.mem_univ _) (fun _ _ => le_rfl)
    fun g i h => ⟨Finset.mem_univ _, Nat.lt_of_lt_of_le (by omega) (SparseCore.Cfg.lev_of_Otc_pos h)⟩
  pre c := iprop(StableHlo.held (c : Thread nD τ) (Pipeline.ucRefs τ sig) (W1 m c) ∗ Rest0 (F := F) c)
  post c := iprop(StableHlo.held (c : Thread nD τ) (Pipeline.ucRefs τ sig) (W2 m c) ∗ Rest0 (F := F) c)
  X c := iprop(∃ r, prngReg c r)
  Y c := iprop(∃ r, prngReg c r)
  Z c := Pipeline.unscopedRest (Ix := HIx 2) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = Common.Inv spec0 c from rfl]; unfold Common.Inv
    iintro ⟨Hp, -, Hr⟩
    isplitl [Hr]; · iexact Hr
    iexact Hp
  hout c := by
    rw [Pipeline.ownSems0_none, show (pdats m 0 c).Φ (Fin.last _) = Common.Inv spec0 c from rfl]; unfold Common.Inv
    iintro ⟨Hr, Hp⟩
    isplitl [Hp]; · iexact Hp
    isplitr; · iempintro
    iexact Hr
  hexit c := by
    have hjoin := Pipeline.unscopedBufs_of_arrays (p := 0) (pcfgs (F := F)) adm (Ix := HIx 2) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, h⟩
      · exact h
      · rw [h]; exact le_rfl
    iexact HO

set_option backward.isDefEq.respectTransparency.types false in
/-- Call 3, from `W7` to `W8`: its arrays are taken out of the arrays and put back at what the pipeline leaves. -/
def reg3 : Pipeline.RegionSeg (pcfgs (F := F)) adm (pdats m) none defs₀ 𝒱₀ (K (F := F)).L (K (F := F)).lev 1 where
  win := launch₀3.win
  block_pos := launch₀3.block_pos
  stage_whole := launch₀3.stage_whole
  K := PEmpty
  osem k := k.elim
  ho := Pipeline.OwnSemFacts.none _
  hbody c := (body_obligation3 (V7 m) c).loose
  hwaits := Pipeline.hwaits_of_owed_zero _ _ _ _ (K (F := F)).L (K (F := F)).lev 1 fun _ _ => rfl
  pre c := iprop(StableHlo.held (c : Thread nD τ) (Pipeline.ucRefs τ sig) (W7 m c) ∗ Rest (F := F) c)
  post c := iprop(StableHlo.held (c : Thread nD τ) (Pipeline.ucRefs τ sig) (W8 m c) ∗ Rest (F := F) c)
  X c := iprop(∃ r, prngReg c r)
  Y c := iprop(∃ r, prngReg c r)
  Z c := Pipeline.unscopedRest (Ix := HIx 2) (Name := ℕ) (U := UU) (Lvl := ℕ) spec3 c (V7 m c)
  hentry c := by
    rw [Pipeline.ownSems0_none]
    have hsplit := Pipeline.arrays_of_unscopedBufs_shared (p := 1) (pcfgs (F := F)) adm (pdats m) launch₀3.win launch₀3.sharedIn launch₀3.arr_whole c
      (fun _ _ => rfl) (V7 m c) (A_eq3 (V7 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Common.Inv spec3 c from rfl]; unfold Common.Inv
    iintro ⟨Hp, -, Hr⟩
    isplitl [Hr]; · iexact Hr
    iexact Hp
  hout c := by
    rw [Pipeline.ownSems0_none, show (pdats m 1 c).Φ (Fin.last _) = Common.Inv spec3 c from rfl]; unfold Common.Inv
    iintro ⟨Hr, Hp⟩
    isplitl [Hp]; · iexact Hp
    isplitr; · iempintro
    iexact Hr
  hexit c := by
    have hjoin := Pipeline.unscopedBufs_of_arrays_shared (p := 1) (pcfgs (F := F)) adm (Ix := HIx 2) (Name := ℕ) (U := UU) (Lvl := ℕ)
      launch₀3.win launch₀3.sharedIn launch₀3.arr_whole c (pdats m) (fun _ _ => rfl)
      (V7 m c) (V8 m c) ((pdats m 1 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4, from `W9` to `W10`: its arrays are taken out of the arrays and put back at what the pipeline leaves. -/
def reg4 : Pipeline.RegionSeg (pcfgs (F := F)) adm (pdats m) none defs₀ 𝒱₀ (K (F := F)).L (K (F := F)).lev 2 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ (K (F := F)).L (K (F := F)).lev 2 fun _ _ => rfl
  pre c := iprop(StableHlo.held (c : Thread nD τ) (Pipeline.ucRefs τ sig) (W9 m c) ∗ Rest (F := F) c)
  post c := iprop(StableHlo.held (c : Thread nD τ) (Pipeline.ucRefs τ sig) (W10 m c) ∗ Rest (F := F) c)
  X c := iprop(∃ r, prngReg c r)
  Y c := iprop(∃ r, prngReg c r)
  Z c := Pipeline.unscopedRest (Ix := HIx 2) (Name := ℕ) (U := UU) (Lvl := ℕ) spec4 c (V9 m c)
  hentry c := by
    rw [Pipeline.ownSems0_none]
    have hsplit := Pipeline.arrays_of_unscopedBufs (p := 2) (pcfgs (F := F)) adm (pdats m) launch4.win launch4.arr_whole c
      ((pdats m 2 c).share_full fun _ => rfl) (V9 m c) (A_eq4 (V9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Common.Inv spec4 c from rfl]; unfold Common.Inv
    iintro ⟨Hp, -, Hr⟩
    isplitl [Hr]; · iexact Hr
    iexact Hp
  hout c := by
    rw [Pipeline.ownSems0_none, show (pdats m 2 c).Φ (Fin.last _) = Common.Inv spec4 c from rfl]; unfold Common.Inv
    iintro ⟨Hr, Hp⟩
    isplitl [Hp]; · iexact Hp
    isplitr; · iempintro
    iexact Hr
  hexit c := by
    have hjoin := Pipeline.unscopedBufs_of_arrays (p := 2) (pcfgs (F := F)) adm (Ix := HIx 2) (Name := ℕ) (U := UU) (Lvl := ℕ)
      launch4.win launch4.arr_whole c (pdats m) ((pdats m 2 c).share_full fun _ => rfl)
      (V9 m c) (V10 m c) ((pdats m 2 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5, from `W11` to `W12`: its arrays are taken out of the arrays and put back at what the pipeline leaves. -/
def reg5 : Pipeline.RegionSeg (pcfgs (F := F)) adm (pdats m) none defs₀ 𝒱₀ (K (F := F)).L (K (F := F)).lev 3 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ (K (F := F)).L (K (F := F)).lev 3 fun _ _ => rfl
  pre c := iprop(StableHlo.held (c : Thread nD τ) (Pipeline.ucRefs τ sig) (W11 m c) ∗ Rest (F := F) c)
  post c := iprop(StableHlo.held (c : Thread nD τ) (Pipeline.ucRefs τ sig) (W12 m c) ∗ Rest (F := F) c)
  X c := iprop(∃ r, prngReg c r)
  Y c := iprop(∃ r, prngReg c r)
  Z c := Pipeline.unscopedRest (Ix := HIx 2) (Name := ℕ) (U := UU) (Lvl := ℕ) spec5 c (V11 m c)
  hentry c := by
    rw [Pipeline.ownSems0_none]
    have hsplit := Pipeline.arrays_of_unscopedBufs (p := 3) (pcfgs (F := F)) adm (pdats m) launch5.win launch5.arr_whole c
      ((pdats m 3 c).share_full fun _ => rfl) (V11 m c) (A_eq5 (V11 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Common.Inv spec5 c from rfl]; unfold Common.Inv
    iintro ⟨Hp, -, Hr⟩
    isplitl [Hr]; · iexact Hr
    iexact Hp
  hout c := by
    rw [Pipeline.ownSems0_none, show (pdats m 3 c).Φ (Fin.last _) = Common.Inv spec5 c from rfl]; unfold Common.Inv
    iintro ⟨Hr, Hp⟩
    isplitl [Hp]; · iexact Hp
    isplitr; · iempintro
    iexact Hr
  hexit c := by
    have hjoin := Pipeline.unscopedBufs_of_arrays (p := 3) (pcfgs (F := F)) adm (Ix := HIx 2) (Name := ℕ) (U := UU) (Lvl := ℕ)
      launch5.win launch5.arr_whole c (pdats m) ((pdats m 3 c).share_full fun _ => rfl)
      (V11 m c) (V12 m c) ((pdats m 3 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 6, from `W13` to `W14`: its arrays are taken out of the arrays and put back at what the pipeline leaves. -/
def reg6 : Pipeline.RegionSeg (pcfgs (F := F)) adm (pdats m) none defs₀ 𝒱₀ (K (F := F)).L (K (F := F)).lev 4 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ (K (F := F)).L (K (F := F)).lev 4 fun _ _ => rfl
  pre c := iprop(StableHlo.held (c : Thread nD τ) (Pipeline.ucRefs τ sig) (W13 m c) ∗ Rest (F := F) c)
  post c := iprop(StableHlo.held (c : Thread nD τ) (Pipeline.ucRefs τ sig) (W14 m c) ∗ Rest (F := F) c)
  X c := iprop(∃ r, prngReg c r)
  Y c := iprop(∃ r, prngReg c r)
  Z c := Pipeline.unscopedRest (Ix := HIx 2) (Name := ℕ) (U := UU) (Lvl := ℕ) spec6 c (V13 m c)
  hentry c := by
    rw [Pipeline.ownSems0_none]
    have hsplit := Pipeline.arrays_of_unscopedBufs (p := 4) (pcfgs (F := F)) adm (pdats m) launch6.win launch6.arr_whole c
      ((pdats m 4 c).share_full fun _ => rfl) (V13 m c) (A_eq6 (V13 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Common.Inv spec6 c from rfl]; unfold Common.Inv
    iintro ⟨Hp, -, Hr⟩
    isplitl [Hr]; · iexact Hr
    iexact Hp
  hout c := by
    rw [Pipeline.ownSems0_none, show (pdats m 4 c).Φ (Fin.last _) = Common.Inv spec6 c from rfl]; unfold Common.Inv
    iintro ⟨Hr, Hp⟩
    isplitl [Hp]; · iexact Hp
    isplitr; · iempintro
    iexact Hr
  hexit c := by
    have hjoin := Pipeline.unscopedBufs_of_arrays (p := 4) (pcfgs (F := F)) adm (Ix := HIx 2) (Name := ℕ) (U := UU) (Lvl := ℕ)
      launch6.win launch6.arr_whole c (pdats m) ((pdats m 4 c).share_full fun _ => rfl)
      (V13 m c) (V14 m c) ((pdats m 4 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Proof.Run

end
-- ==== Proof.Tile1.lean ====
/-
  One vector subcore's task of the first row gather: it fetches its 6144 words of the list, then gathers the half rows
  they name, 96 at a time, through two row buffers in turn, and stores each chunk at its place of the result.
-/
module

public import proofs.«01_k».proof.Proof.Rows

@[expose] public section

noncomputable section

namespace Cert.Proof.Tile1

open Cert.KernelIdeal Cert.KernelIdeal.Gen Cert.Proof.Common Cert.Proof.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Buffers, semaphores and the task's place -/

abbrev tLoc (d : Dev nD) : Loc nD τ sig := (SparseCore.T d).loc main_v4
abbrev iLoc (d : Dev nD) : Loc nD τ sig := (SparseCore.T d).loc main_v13
abbrev oLoc (d : Dev nD) : Loc nD τ sig := (SparseCore.T d).loc main_v14

abbrev tM : Memref sig .scVector .hbm S32768x2x128 .f32 := Memref.whole main_v4_scv
abbrev iM : Memref sig .scVector .hbm S196608 .i32 := Memref.whole main_v13_scv
abbrev oM : Memref sig .scVector .hbm S196608x2x128 .f32 := Memref.whole main_v14_scv
abbrev lM : Memref sig .scVector .vmem S6144 .i32 := Memref.whole cc1_scratch0
abbrev aM : Memref sig .scVector .vmem S96x2x128 .f32 := Memref.whole cc1_scratch1
abbrev bM : Memref sig .scVector .vmem S96x2x128 .f32 := Memref.whole cc1_scratch2

abbrev cV (L : grid1.Coords) : Fin τ.nSC := (L 0).castLE hcore1
abbrev jV (L : grid1.Coords) : Fin τ.nSub := (L 1).castLE hsub1
/-- The thread of the task at `L`. -/
abbrev thr (d : Dev nD) (L : grid1.Coords) : Thread nD τ := V d (cV L) (jV L)

/-- The task's number. -/
def num (L : grid1.Coords) : ℕ := 2 * (L 1).val + (L 0).val
/-- The first row of the task's block of the result. -/
def base (L : grid1.Coords) : ℕ := 6144 * num L
theorem base_eq (L : grid1.Coords) : 12288 * (L 1).val + 6144 * (L 0).val = base L := by unfold base num; omega
theorem num_lt (L : grid1.Coords) : num L < 32 := by
  have h0 : (L 0).val < 2 := (L 0).isLt
  have h1 : (L 1).val < 16 := (L 1).isLt
  unfold num; omega
/-- The rows of block `n` of the result. -/
def rowsOf (n : ℕ) : Finset S196608x2x128.Idx := Finset.univ.filter fun j => (j 0).val / 6144 = n

/-- The five transfer semaphores of a task. -/
abbrev cell (d : Dev nD) (L : grid1.Coords) (s : DmaSem sig) : GSem nD τ sig := (thr d L, .dma s)

theorem ownSems0_V (d : Dev nD) (L : grid1.Coords) :
    (ownSems0 (thr d L) : sProp 𝕄)
      = iprop(semVal (cell d L cc1_scoped0.sem) 0 ∗ semVal (cell d L cc1_scratch3.sem) 0 ∗ semVal (cell d L cc1_scratch4.sem) 0
          ∗ semVal (cell d L cc1_scratch5.sem) 0 ∗ semVal (cell d L cc1_scratch6.sem) 0
          ∗ bigSep ((((((ownCells (thr d L)).erase (cell d L cc1_scoped0.sem)).erase (cell d L cc1_scratch3.sem)).erase (cell d L cc1_scratch4.sem)).erase
              (cell d L cc1_scratch5.sem)).erase (cell d L cc1_scratch6.sem)) fun g => semVal g 0) := by
  have ne : ∀ {s s' : DmaSem sig}, s ≠ s' → cell d L s ≠ cell d L s' := fun h e => h (SemLoc.dma.inj (Prod.mk.inj e).2)
  have own : ∀ s : DmaSem sig, (SemLoc.dma s : SemLoc sig).isScoped .scVector = true → cell d L s ∈ ownCells (thr d L) :=
    fun s h => mem_ownCells.mpr ⟨rfl, h⟩
  unfold SparseCore.Cfg.ownSems0
  rw [SparseCore.bigSep_erase' (own cc1_scoped0.sem (by decide)),
    SparseCore.bigSep_erase' (Finset.mem_erase.mpr ⟨ne (s := cc1_scratch3.sem) (by decide), own _ (by decide)⟩),
    SparseCore.bigSep_erase' (Finset.mem_erase.mpr ⟨ne (s := cc1_scratch4.sem) (by decide),
      Finset.mem_erase.mpr ⟨ne (by decide), own _ (by decide)⟩⟩),
    SparseCore.bigSep_erase' (Finset.mem_erase.mpr ⟨ne (s := cc1_scratch5.sem) (by decide),
      Finset.mem_erase.mpr ⟨ne (by decide), Finset.mem_erase.mpr ⟨ne (by decide), own _ (by decide)⟩⟩⟩),
    SparseCore.bigSep_erase' (Finset.mem_erase.mpr ⟨ne (s := cc1_scratch6.sem) (by decide),
      Finset.mem_erase.mpr ⟨ne (by decide), Finset.mem_erase.mpr ⟨ne (by decide), Finset.mem_erase.mpr ⟨ne (by decide), own _ (by decide)⟩⟩⟩⟩)]

theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have ne : ∀ {b b' : Ref sig .scVector}, b ≠ b' → (Proc.scVector (cV L) (jV L)).devRef b ≠ (Proc.scVector (cV L) (jV L)).devRef b' :=
    fun h e => h (Proc.devRef_injective _ e)
  have own : ∀ b : Ref sig .scVector, ((Proc.scVector (cV L) (jV L)).devRef b).owner = Owner.proc (Proc.scVector (cV L) (jV L)) →
      (Proc.scVector (cV L) (jV L)).devRef b ∈ ownRefs (τ := τ) (.scVector (cV L) (jV L)) := fun b h => SparseCore.Cfg.mem_ownRefs_of_owner h
  unfold SparseCore.Cfg.ownBufs
  rw [SparseCore.bigSep_erase' (own cc1_scratch0 rfl),
    SparseCore.bigSep_erase' (Finset.mem_erase.mpr ⟨ne (b := cc1_scratch1) (by decide), own _ rfl⟩),
    SparseCore.bigSep_erase' (Finset.mem_erase.mpr ⟨ne (b := cc1_scratch2) (by decide), Finset.mem_erase.mpr ⟨ne (by decide), own _ rfl⟩⟩)]

/-! ## A stored chunk -/

/-- Writing the chunk at `b` over rows `b` to `b + 95`, the rows below `b` having been gathered, gathers the rows below `b + 96`. -/
theorem write_upTo (A : Tab F) (I : Lst F) (f : Out F) (b : ℕ) (off : Fin 3 → ℕ) (hoff : off = ![b, 0, 0])
    (inb : ∀ a, off a + S96x2x128.size a ≤ S196608x2x128.size a) :
    ((View.whole (main_v14_scv : Ref sig .scVector)).slice (Rect.unit (s := S196608x2x128) off S96x2x128.size inb)).write (Elt F)
        (upTo A I f b) (chunk A I b) Finset.univ = upTo A I f (b + 96) := by
  subst hoff
  funext j
  by_cases hj : j ∈ ((View.whole (main_v14_scv : Ref sig .scVector)).slice (Rect.unit (s := S196608x2x128) ![b, 0, 0] S96x2x128.size inb)).setOn Finset.univ
  · obtain ⟨x, hx, rfl⟩ := Finset.mem_map.mp hj
    rw [View.write_emb_of_mem _ _ hx]
    refine (cast_eq _ _).trans ?_
    have e0 : ((((View.whole (main_v14_scv : Ref sig .scVector)).slice (Rect.unit (s := S196608x2x128) ![b, 0, 0] S96x2x128.size inb)).emb x) 0).val = b + (x 0).val := by
      show b + 1 * (x 0).val = _; omega
    have e1 : ((((View.whole (main_v14_scv : Ref sig .scVector)).slice (Rect.unit (s := S196608x2x128) ![b, 0, 0] S96x2x128.size inb)).emb x) 1) = x 1 := by
      refine Fin.ext ?_; show 0 + 1 * (x 1).val = _; omega
    have e2 : ((((View.whole (main_v14_scv : Ref sig .scVector)).slice (Rect.unit (s := S196608x2x128) ![b, 0, 0] S96x2x128.size inb)).emb x) 2) = x 2 := by
      refine Fin.ext ?_; show 0 + 1 * (x 2).val = _; omega
    unfold upTo gathered chunk
    rw [if_pos (by rw [e0]; have : (x 0).val < 96 := (x 0).isLt; omega), e0, e1, e2]
  · rw [View.write_of_not_mem _ _ _ hj]
    have hj' : ¬ (b ≤ (j 0).val ∧ (j 0).val < b + 96) := by
      rintro ⟨h1, h2⟩
      refine hj ?_
      show j ∈ ((View.whole (main_v14_scv : Ref sig .scVector)).slice (Rect.unit (s := S196608x2x128) ![b, 0, 0] S96x2x128.size inb)).set
      rw [View.set_slice_whole, Rect.mem_set_unit]
      intro a
      match a with
      | 0 => exact ⟨h1, h2⟩
      | 1 => exact ⟨Nat.zero_le _, by have : (j 1).val < 2 := (j 1).isLt; show (j 1).val < 0 + 2; omega⟩
      | 2 => exact ⟨Nat.zero_le _, by have : (j 2).val < 128 := (j 2).isLt; show (j 2).val < 0 + 128; omega⟩
    unfold upTo
    by_cases h : (j 0).val < b
    · rw [if_pos h, if_pos (by omega)]
    · rw [if_neg h, if_neg (by omega)]

/-! ## The steps of a task -/

/-- A transfer of the task in flight on semaphore `s`, of credit `N`, that delivers `X`. -/
abbrev Fly (d : Dev nD) (L : grid1.Coords) (s : DmaSem sig) (N : ℕ) (X : sProp 𝕄) : sProp 𝕄 :=
  Transfers.Flight (countersEmb : UEmb Counters 𝕄) (thr d L) (.dma s) (default : HIx 2) N X

section Steps

variable [FloatOps F] (d : Dev nD) (L : grid1.Coords)

/-- The whole table as the task addresses it. -/
abbrev tAll : Memref sig .scVector .hbm S32768x2x128 .f32 :=
  tM.slice (Rect.unit (s := S32768x2x128) ![0, 0, 0] S32768x2x128.size inb_S32768x2x128_S32768x2x128_0_0_0) (fun _ => rfl)

theorem read_tAll (A : Tab F) : tAll.view.read (Elt F) A = A := by
  funext x
  refine (View.read_apply _ _).trans ((cast_eq _ _).trans (congrArg A ?_))
  funext a
  refine Fin.ext ?_
  match a with
  | 0 => show 0 + 1 * (x 0).val = _; omega
  | 1 => show 0 + 1 * (x 1).val = _; omega
  | 2 => show 0 + 1 * (x 2).val = _; omega

/-- Words `o`, `o + 1`, … of the fetched list. -/
abbrev lSl (off : Fin 1 → ℕ) (inb : ∀ a, off a + S96.size a ≤ S6144.size a) : Memref sig .scVector .vmem S96 .i32 :=
  lM.slice (Rect.unit (s := S6144) off S96.size inb) (fun _ => rfl)

theorem read_lSl (I : Lst F) (b o : ℕ) (off : Fin 1 → ℕ) (hoff : off = ![o]) (inb) (k : Fin 96) :
    (lSl off inb).view.read (Elt F) (part I b) (ix1 k) = I (ix1 ⟨(b + (o + k.val)) % 196608, Nat.mod_lt _ (by decide)⟩) := by
  subst hoff
  refine (View.read_apply _ _).trans ((cast_eq _ _).trans ?_)
  show I (ix1 ⟨(b + (o + 1 * k.val)) % 196608, _⟩) = _
  simp only [Nat.one_mul]

theorem read_lSl_lt (I : Lst F) (hI : InTable I) (b : ℕ) (off : Fin 1 → ℕ) (inb) :
    ∀ x, BitVec.toNat ((lSl off inb).view.read (Elt F) (part I b) x : BitVec 32) < S32768x2x128.size gathers_S32768x2x128_S96x2x128.axis := by
  intro x
  refine lt_of_eq_of_lt (congrArg BitVec.toNat ((View.read_apply _ _).trans (cast_eq _ _))) ?_
  exact part_lt hI b _

/-- The task's stretch of the list, as it addresses it. -/
abbrev iSl : Memref sig .scVector .hbm S6144 .i32 := iM.slice (Rect.unit (s := S196608) (k1_off1 L) S6144.size (k1_off1_inb L)) (fun _ => rfl)

theorem read_iSl (I : Lst F) : (iSl L).view.read (Elt F) I = part I (base L) := by
  funext x
  refine (View.read_apply _ _).trans ((cast_eq _ _).trans (congrArg I ?_))
  funext a
  refine Fin.ext ?_
  match a with
  | 0 =>
    have hx : (x 0).val < 6144 := (x 0).isLt
    have hn := num_lt L
    show k1_off1 L 0 + 1 * (x 0).val = (base L + (x 0).val) % 196608
    rw [k1_off1_eq]
    show 12288 * (L 1).val + 6144 * (L 0).val + 1 * (x 0).val = _
    rw [base_eq, Nat.mod_eq_of_lt (by unfold base; omega)]; omega

/-- A gather of 96 half rows into the first row buffer. -/
theorem step_gatherA {α : Type} {Q : α → sProp 𝕄} {k : PUnit → Prog (TpuEff nD τ sig (Elt F) Λ₀ (thr d L).2) α} (A : Tab F) (I : Lst F) (hI : InTable I) (b o : ℕ)
    (off : Fin 1 → ℕ) (hoff : off = ![o]) (inb : ∀ a, off a + S96.size a ≤ S6144.size a) (q qo : PosShare TreeShare) (fd : Chk F) (s : DmaSem sig) :
    iprop((tLoc d ↦{q} A) ∗ ((thr d L).loc cc1_scratch1 ↦{fullShare} fd) ∗ ((thr d L).loc cc1_scratch0 ↦{qo} part I b) ∗ semVal (cell d L s) 0)
      ⊢ iprop((Fly d L s aM.view.dmaCredit
            iprop(((thr d L).loc cc1_scratch1 ↦{fullShare} chunk A I (b + o)) ∗ (tLoc d ↦{q} A) ∗ ((thr d L).loc cc1_scratch0 ↦{qo} part I b))
          -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAll aM gathers_S32768x2x128_S96x2x128 (lSl off inb) rfl s (View.wordExact_bits rfl) rfl (Or.inl rfl) >>= k) Q) := by
  have hN : ∀ h : S32768x2x128.Gathers 0 S96x2x128, ∑ j, ((aM).slice (S96x2x128.rowRect h.axis' j) (S96x2x128.stride_rowRect h.axis' j)).view.dmaCredit
      = (aM).view.dmaCredit := by decide
  iintro ⟨Ht, Ha, Hl, Hs⟩ Hk
  iapply (SparseCore.wp_gatherFromWhole countersEmb 𝒱₀ (thr d L) none (src := tAll) (dst := aM) (hg := gathers_S32768x2x128_S96x2x128) (offs := lSl off inb)
    (sem := s) (q := q) (qo := qo) (fs := A) (fd := fd) (fo := part I b)
    (default : HIx 2) (aM.view.dmaCredit) (hN _) (by decide) (read_lSl_lt I hI b off inb)) $$ [Ht Ha Hl Hs]
  · isplitl [Ht]; · iexact Ht
    isplitl [Ha]; · iexact Ha
    isplitl [Hl]; · iexact Hl
    iexact Hs
  iintro Hf
  iapply Hk
  rw [show (aM.view.write (Elt F) fd (SparseCore.gatherPayload gathers_S32768x2x128_S96x2x128 (tAll.view.read (Elt F) A)
      (SparseCore.rows ((lSl off inb).view.read (Elt F) (part I b)) rfl (read_lSl_lt I hI b off inb))) Finset.univ) = chunk A I (b + o) from
    (View.write_whole_univ _ _ _).trans (gatherPayload_chunk A I hI b o _ (read_tAll A) _ (read_lSl I b o off hoff inb) _ _)]
  iexact Hf

/-- A gather of 96 half rows into the second row buffer. -/
theorem step_gatherB {α : Type} {Q : α → sProp 𝕄} {k : PUnit → Prog (TpuEff nD τ sig (Elt F) Λ₀ (thr d L).2) α} (A : Tab F) (I : Lst F) (hI : InTable I) (b o : ℕ)
    (off : Fin 1 → ℕ) (hoff : off = ![o]) (inb : ∀ a, off a + S96.size a ≤ S6144.size a) (q qo : PosShare TreeShare) (fd : Chk F) (s : DmaSem sig) :
    iprop((tLoc d ↦{q} A) ∗ ((thr d L).loc cc1_scratch2 ↦{fullShare} fd) ∗ ((thr d L).loc cc1_scratch0 ↦{qo} part I b) ∗ semVal (cell d L s) 0)
      ⊢ iprop((Fly d L s bM.view.dmaCredit
            iprop(((thr d L).loc cc1_scratch2 ↦{fullShare} chunk A I (b + o)) ∗ (tLoc d ↦{q} A) ∗ ((thr d L).loc cc1_scratch0 ↦{qo} part I b))
          -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAll bM gathers_S32768x2x128_S96x2x128 (lSl off inb) rfl s (View.wordExact_bits rfl) rfl (Or.inl rfl) >>= k) Q) := by
  have hN : ∀ h : S32768x2x128.Gathers 0 S96x2x128, ∑ j, ((bM).slice (S96x2x128.rowRect h.axis' j) (S96x2x128.stride_rowRect h.axis' j)).view.dmaCredit
      = (bM).view.dmaCredit := by decide
  iintro ⟨Ht, Ha, Hl, Hs⟩ Hk
  iapply (SparseCore.wp_gatherFromWhole countersEmb 𝒱₀ (thr d L) none (src := tAll) (dst := bM) (hg := gathers_S32768x2x128_S96x2x128) (offs := lSl off inb)
    (sem := s) (q := q) (qo := qo) (fs := A) (fd := fd) (fo := part I b)
    (default : HIx 2) (bM.view.dmaCredit) (hN _) (by decide) (read_lSl_lt I hI b off inb)) $$ [Ht Ha Hl Hs]
  · isplitl [Ht]; · iexact Ht
    isplitl [Ha]; · iexact Ha
    isplitl [Hl]; · iexact Hl
    iexact Hs
  iintro Hf
  iapply Hk
  rw [show (bM.view.write (Elt F) fd (SparseCore.gatherPayload gathers_S32768x2x128_S96x2x128 (tAll.view.read (Elt F) A)
      (SparseCore.rows ((lSl off inb).view.read (Elt F) (part I b)) rfl (read_lSl_lt I hI b off inb))) Finset.univ) = chunk A I (b + o) from
    (View.write_whole_univ _ _ _).trans (gatherPayload_chunk A I hI b o _ (read_tAll A) _ (read_lSl I b o off hoff inb) _ _)]
  iexact Hf

/-- The place of a chunk in the result, as the task addresses it. -/
abbrev oSl (off : Fin 3 → ℕ) (inb : ∀ a, off a + S96x2x128.size a ≤ S196608x2x128.size a) : Memref sig .scVector .hbm S96x2x128 .f32 :=
  oM.slice (Rect.unit (s := S196608x2x128) off S96x2x128.size inb) (fun _ => rfl)

theorem oSl_sub (n c : ℕ) (hc : c < 64) (off : Fin 3 → ℕ) (hoff : off = ![6144 * n + 96 * c, 0, 0]) (inb) :
    (oSl off inb).view.set ⊆ rowsOf n := by
  subst hoff
  intro j hj
  have hj' : j ∈ (Rect.unit (s := S196608x2x128) ![6144 * n + 96 * c, 0, 0] S96x2x128.size inb).set := by
    rw [← View.set_slice_whole (main_v14_scv : Ref sig .scVector)]; exact hj
  have h := (Rect.mem_set_unit.mp hj') 0
  have h1 : 6144 * n + 96 * c ≤ (j 0).val := h.1
  have h2 : (j 0).val < 6144 * n + 96 * c + 96 := h.2
  refine Finset.mem_filter.mpr ⟨Finset.mem_univ _, ?_⟩
  omega

/-- The store of the first row buffer's chunk to its place of the result. -/
theorem step_storeA {α : Type} {Q : α → sProp 𝕄} {k : PUnit → Prog (TpuEff nD τ sig (Elt F) Λ₀ (thr d L).2) α} (A : Tab F) (I : Lst F) (f : Out F) (n c : ℕ) (hc : c < 64)
    (off : Fin 3 → ℕ) (hoff : off = ![6144 * n + 96 * c, 0, 0]) (inb : ∀ a, off a + S96x2x128.size a ≤ S196608x2x128.size a) (s : DmaSem sig)
    {h1 h2 h3} :
    iprop(((thr d L).loc cc1_scratch1 ↦{fullShare} chunk A I (6144 * n + 96 * c)) ∗ (oLoc d ↦[rowsOf n]{fullShare} upTo A I f (6144 * n + 96 * c)) ∗ semVal (cell d L s) 0)
      ⊢ iprop((Fly d L s (oSl off inb).view.dmaCredit
            iprop((oLoc d ↦[rowsOf n]{fullShare} upTo A I f (6144 * n + 96 * (c + 1))) ∗ ((thr d L).loc cc1_scratch1 ↦{fullShare} chunk A I (6144 * n + 96 * c)))
          -∗ wp frame (wpE (defs₀ (F := F)) 𝒱₀ (thr d L) none) Set.univ (k ⟨⟩) Q)
        -∗ wp frame (wpE (defs₀ (F := F)) 𝒱₀ (thr d L) none) Set.univ
          (.op (.enqueueDma aM (.here (oSl off inb)) (.dma s) h1 h2 h3) k) Q) := by
  iintro ⟨Ha, Ho, Hs⟩ Hk
  iapply (Transfers.wp_dmaFromWhole countersEmb 𝒱₀ (thr d L) none (src := aM) (dst := oSl off inb) (sm := .dma s) (q := fullShare)
    (fs := chunk A I (6144 * n + 96 * c)) (Sd := rowsOf n) (fd := upTo A I f (6144 * n + 96 * c))
    (default : HIx 2) (oSl off inb).view.dmaCredit rfl (View.dmaCredit_pos _ (show 0 < S96x2x128.numel by decide))
    (oSl_sub n c hc off hoff inb)) $$ [Ha Ho Hs]
  · isplitl [Ha]; · iexact Ha
    isplitl [Ho]; · iexact Ho
    iexact Hs
  iintro Hf
  iapply Hk
  have e := write_upTo A I f (6144 * n + 96 * c) off hoff inb
  rw [show 6144 * n + 96 * c + 96 = 6144 * n + 96 * (c + 1) by omega] at e
  rw [← e]
  iexact Hf

/-- The store of the second row buffer's chunk to its place of the result. -/
theorem step_storeB {α : Type} {Q : α → sProp 𝕄} {k : PUnit → Prog (TpuEff nD τ sig (Elt F) Λ₀ (thr d L).2) α} (A : Tab F) (I : Lst F) (f : Out F) (n c : ℕ) (hc : c < 64)
    (off : Fin 3 → ℕ) (hoff : off = ![6144 * n + 96 * c, 0, 0]) (inb : ∀ a, off a + S96x2x128.size a ≤ S196608x2x128.size a) (s : DmaSem sig)
    {h1 h2 h3} :
    iprop(((thr d L).loc cc1_scratch2 ↦{fullShare} chunk A I (6144 * n + 96 * c)) ∗ (oLoc d ↦[rowsOf n]{fullShare} upTo A I f (6144 * n + 96 * c)) ∗ semVal (cell d L s) 0)
      ⊢ iprop((Fly d L s (oSl off inb).view.dmaCredit
            iprop((oLoc d ↦[rowsOf n]{fullShare} upTo A I f (6144 * n + 96 * (c + 1))) ∗ ((thr d L).loc cc1_scratch2 ↦{fullShare} chunk A I (6144 * n + 96 * c)))
          -∗ wp frame (wpE (defs₀ (F := F)) 𝒱₀ (thr d L) none) Set.univ (k ⟨⟩) Q)
        -∗ wp frame (wpE (defs₀ (F := F)) 𝒱₀ (thr d L) none) Set.univ
          (.op (.enqueueDma bM (.here (oSl off inb)) (.dma s) h1 h2 h3) k) Q) := by
  iintro ⟨Ha, Ho, Hs⟩ Hk
  iapply (Transfers.wp_dmaFromWhole countersEmb 𝒱₀ (thr d L) none (src := bM) (dst := oSl off inb) (sm := .dma s) (q := fullShare)
    (fs := chunk A I (6144 * n + 96 * c)) (Sd := rowsOf n) (fd := upTo A I f (6144 * n + 96 * c))
    (default : HIx 2) (oSl off inb).view.dmaCredit rfl (View.dmaCredit_pos _ (show 0 < S96x2x128.numel by decide))
    (oSl_sub n c hc off hoff inb)) $$ [Ha Ho Hs]
  · isplitl [Ha]; · iexact Ha
    isplitl [Ho]; · iexact Ho
    iexact Hs
  iintro Hf
  iapply Hk
  have e := write_upTo A I f (6144 * n + 96 * c) off hoff inb
  rw [show 6144 * n + 96 * c + 96 = 6144 * n + 96 * (c + 1) by omega] at e
  rw [← e]
  iexact Hf

/-! ## A trip of the task's loop, and the task -/

/-- The first row buffer before trip `k`: a gather into it is under way, but after the last trip. -/
def Fst (A : Tab F) (I : Lst F) (q : PosShare TreeShare) (k : ℕ) : sProp 𝕄 :=
  if k < 32 then
    Fly d L cc1_scratch3.sem aM.view.dmaCredit
      iprop(((thr d L).loc cc1_scratch1 ↦{fullShare} chunk A I (6144 * num L + 96 * (2 * k))) ∗ (tLoc d ↦{q.left} A)
        ∗ ((thr d L).loc cc1_scratch0 ↦{fullShare.left} part I (base L)))
  else
    iprop((∃ f : Chk F, (thr d L).loc cc1_scratch1 ↦{fullShare} f) ∗ (tLoc d ↦{q.left} A)
      ∗ ((thr d L).loc cc1_scratch0 ↦{fullShare.left} part I (base L)) ∗ semVal (cell d L cc1_scratch3.sem) 0)

/-- What holds before trip `k`: the rows of the block below `192 k` are gathered. -/
def Trips (A : Tab F) (I : Lst F) (f : Out F) (q : PosShare TreeShare) (O : CellTallies nD τ sig (HIx 2)) (W : Waits sig (HIx 2)) (k : ℕ) (_ : Unit) : sProp 𝕄 :=
  iprop(Transfers.MayWaits (thr d L) (default : HIx 2) O
    ∗ Fst d L A I q k
    ∗ (tLoc d ↦{q.right} A) ∗ ((thr d L).loc cc1_scratch0 ↦{fullShare.right} part I (base L))
    ∗ (∃ f : Chk F, (thr d L).loc cc1_scratch2 ↦{fullShare} f)
    ∗ semVal (cell d L cc1_scratch4.sem) 0 ∗ semVal (cell d L cc1_scratch5.sem) 0 ∗ semVal (cell d L cc1_scratch6.sem) 0
    ∗ (oLoc d ↦[rowsOf (num L)]{fullShare} upTo A I f (6144 * num L + 96 * (2 * k)))
    ∗ ∃ W', ⌜∀ p ∈ W', p ∈ W ∨ p.2 = none⌝ ∗ owes (thr d L) O W')

theorem trips_eq : k1_t1_loop.trips = 32 := by decide

theorem cond_iff : ∀ k : Fin k1_t1_loop.trips, (k1_cond1 k = 1#1) ↔ k.val + 1 < 32 := by decide +kernel

set_option maxHeartbeats 4000000 in
theorem trip (A : Tab F) (I : Lst F) (hI : InTable I) (f : Out F) (q : PosShare TreeShare) (O : CellTallies nD τ sig (HIx 2)) (W : Waits sig (HIx 2))
    (v2 : BitVec 32) (k : Fin k1_t1_loop.trips) (acc : Unit) :
    Trips d L A I f q O W k.val acc
      ⊢ wp frame (wpE (defs₀ (F := F)) 𝒱₀ (thr d L) none) Set.univ
          (k1_t1_body L tM (Memref.isWhole_whole _) iM (Memref.isWhole_whole _) oM (Memref.isWhole_whole _)
            lM (Memref.isWhole_whole _) aM (Memref.isWhole_whole _) bM (Memref.isWhole_whole _)
            cc1_scratch3 cc1_scratch4 cc1_scratch5 cc1_scratch6 cc1_scoped0 v2 k acc)
          fun acc' => Trips d L A I f q O W (k.val + 1) acc' := by
  have hk : k.val < 32 := lt_of_lt_of_eq k.isLt trips_eq
  unfold k1_t1_body
  simp only [k1_part1_eq_skeleton]; unfold k1_part1_skel
  simp only [Prog.lift, Prog.bind_op, Prog.bind_ret, Prog.pure_eq_ret, Prog.bind_assoc, SparseCore.waitIndirectGather]
  unfold Trips Fst
  rw [if_pos hk]
  iintro ⟨#Hmw, Hf, Ht, Hl, ⟨%fb, Hb⟩, H1, H2, H3, Ho, %W', %hW', HO⟩
  iapply (Transfers.wp_waitLocalO countersEmb 𝒱₀ (thr d L) none (default : HIx 2) (rfl : (aM).view.dmaCredit = _)) $$ [Hf HO]
  · isplitl [Hf]; · iexact Hf
    isplitl [HO]; · iexact HO
    iapply (Transfers.MayWaits.elim (SemLoc.dma cc1_scratch3.sem)) $$ Hmw
  iintro ⟨⟨Ha, Htl, Hll⟩, H0, HO⟩
  -- the gather into the second buffer
  iapply (step_gatherB d L A I hI (base L) (96 * (2 * k.val + 1)) (k1_off3 k) ((k1_off3_eq k).trans (by congr 1; omega)) (k1_off3_inb k)
    q.right fullShare.right fb cc1_scratch4.sem) $$ [Ht Hb Hl H1]
  · isplitl [Ht]; · iexact Ht
    isplitl [Hb]; · iexact Hb
    isplitl [Hl]; · iexact Hl
    iexact H1
  iintro Hg
  have e4 : k1_off4 L k = ![6144 * num L + 96 * (2 * k.val), 0, 0] := (k1_off4_eq L k).trans (by rw [base_eq]; unfold base; congr 1; omega)
  have e6 : k1_off6 L k = ![6144 * num L + 96 * (2 * k.val + 1), 0, 0] := (k1_off6_eq L k).trans (by rw [base_eq]; unfold base; congr 1; omega)
  -- the store of the first buffer
  iapply (step_storeA d L A I f (num L) (2 * k.val) (by omega) (k1_off4 L k) e4 (k1_off4_inb L k) cc1_scratch5.sem) $$ [Ha Ho H2]
  · isplitl [Ha]; · iexact Ha
    isplitl [Ho]; · iexact Ho
    iexact H2
  iintro Hs
  iapply (Transfers.wp_waitLocalO countersEmb 𝒱₀ (thr d L) none (default : HIx 2) (rfl : (bM).view.dmaCredit = _)) $$ [Hg HO]
  · isplitl [Hg]; · iexact Hg
    isplitl [HO]; · iexact HO
    iapply (Transfers.MayWaits.elim (SemLoc.dma cc1_scratch4.sem)) $$ Hmw
  iintro ⟨⟨Hb, Ht, Hl⟩, H1, HO⟩
  iapply (Transfers.wp_waitLocalO countersEmb 𝒱₀ (thr d L) none (default : HIx 2) (rfl : (oSl (k1_off4 L k) (k1_off4_inb L k)).view.dmaCredit = _)) $$ [Hs HO]
  · isplitl [Hs]; · iexact Hs
    isplitl [HO]; · iexact HO
    iapply (Transfers.MayWaits.elim (SemLoc.dma cc1_scratch5.sem)) $$ Hmw
  iintro ⟨⟨Ho, Ha⟩, H2, HO⟩
  have fin : ∀ {s : SemLoc sig} {X : Waits sig (HIx 2)}, (∀ p ∈ X, p ∈ W ∨ p.2 = none) → ∀ p ∈ insert (s, (default : HIx 2)) X, p ∈ W ∨ p.2 = none := by
    intro s X h p hp
    rcases Finset.mem_insert.mp hp with hp | hp
    · exact .inr (hp ▸ rfl)
    · exact h p hp
  by_cases h1 : k1_cond1 k = 1#1
  · rw [dif_pos h1]
    iapply (step_gatherA d L A I hI (base L) (96 * (2 * (k.val + 1))) (k1_off5 k) ((k1_off5_eq k).trans (by congr 1; omega)) (k1_off5_inb k h1)
      q.left fullShare.left _ cc1_scratch3.sem) $$ [Htl Ha Hll H0]
    · isplitl [Htl]; · iexact Htl
      isplitl [Ha]; · iexact Ha
      isplitl [Hll]; · iexact Hll
      iexact H0
    iintro Hf
    iapply (step_storeB d L A I f (num L) (2 * k.val + 1) (by omega) (k1_off6 L k) e6 (k1_off6_inb L k) cc1_scratch6.sem) $$ [Hb Ho H3]
    · isplitl [Hb]; · iexact Hb
      isplitl [Ho]; · iexact Ho
      iexact H3
    iintro Hs
    iapply (Transfers.wp_waitLocalO countersEmb 𝒱₀ (thr d L) none (default : HIx 2) (rfl : (oSl (k1_off6 L k) (k1_off6_inb L k)).view.dmaCredit = _)) $$ [Hs HO]
    · isplitl [Hs]; · iexact Hs
      isplitl [HO]; · iexact HO
      iapply (Transfers.MayWaits.elim (SemLoc.dma cc1_scratch6.sem)) $$ Hmw
    iintro ⟨⟨Ho, Hb⟩, H3, HO⟩
    sl_step
    rw [if_pos ((cond_iff k).mp h1)]
    isplitr; · iexact Hmw
    isplitl [Hf]; · iexact Hf
    isplitl [Ht]; · iexact Ht
    isplitl [Hl]; · iexact Hl
    isplitl [Hb]; · iexists _; iexact Hb
    isplitl [H1]; · iexact H1
    isplitl [H2]; · iexact H2
    isplitl [H3]; · iexact H3
    isplitl [Ho]; · iexact Ho
    iexists _; isplitr
    swap; · iexact HO
    ipureintro
    exact fin (fin (fin (fin hW')))
  · rw [dif_neg h1]
    iapply (step_storeB d L A I f (num L) (2 * k.val + 1) (by omega) (k1_off6 L k) e6 (k1_off6_inb L k) cc1_scratch6.sem) $$ [Hb Ho H3]
    · isplitl [Hb]; · iexact Hb
      isplitl [Ho]; · iexact Ho
      iexact H3
    iintro Hs
    iapply (Transfers.wp_waitLocalO countersEmb 𝒱₀ (thr d L) none (default : HIx 2) (rfl : (oSl (k1_off6 L k) (k1_off6_inb L k)).view.dmaCredit = _)) $$ [Hs HO]
    · isplitl [Hs]; · iexact Hs
      isplitl [HO]; · iexact HO
      iapply (Transfers.MayWaits.elim (SemLoc.dma cc1_scratch6.sem)) $$ Hmw
    iintro ⟨⟨Ho, Hb⟩, H3, HO⟩
    sl_step
    rw [if_neg (fun h => h1 ((cond_iff k).mpr h))]
    isplitr; · iexact Hmw
    isplitl [Ha Htl Hll H0]
    · isplitl [Ha]; · iexists _; iexact Ha
      isplitl [Htl]; · iexact Htl
      isplitl [Hll]; · iexact Hll
      iexact H0
    isplitl [Ht]; · iexact Ht
    isplitl [Hl]; · iexact Hl
    isplitl [Hb]; · iexists _; iexact Hb
    isplitl [H1]; · iexact H1
    isplitl [H2]; · iexact H2
    isplitl [H3]; · iexact H3
    isplitl [Ho]; · iexact Ho
    iexists _; isplitr
    swap; · iexact HO
    ipureintro
    exact fin (fin (fin (fin hW')))

end Steps

end Cert.Proof.Tile1

end
-- ==== Proof.Task1.lean ====
/-
  The whole task of a vector subcore, as the launch asks for it in the first gather.
-/
module

public import proofs.«01_k».proof.Proof.Tile1

@[expose] public section

noncomputable section

namespace Cert.Proof.Task1

open Cert.KernelIdeal Cert.KernelIdeal.Gen Cert.Proof.Common Cert.Proof.Rows Cert.Proof.Tile1

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)

/-- What a task is handed: its share `q` of the table and of the list, and its block of the result, at `g`. -/
abbrev Held (A : Tab F) (I : Lst F) (q : PosShare TreeShare) (n : ℕ) (g : Out F) : sProp 𝕄 :=
  iprop((tLoc d ↦{q} A) ∗ (iLoc d ↦{q} I) ∗ (oLoc d ↦[rowsOf n]{fullShare} g))

/-- On a block no row is below the block's first. -/
theorem upTo_zero (A : Tab F) (I : Lst F) (f : Out F) (n : ℕ) : ∀ j ∈ rowsOf n, upTo A I f (6144 * n + 96 * (2 * 0)) j = f j := by
  intro j hj
  have h := (Finset.mem_filter.mp hj).2
  unfold upTo
  rw [if_neg (by omega)]

/-- On a block every row is below the block's end. -/
theorem upTo_end (A : Tab F) (I : Lst F) (f : Out F) (n : ℕ) : ∀ j ∈ rowsOf n, upTo A I f (6144 * n + 96 * (2 * 32)) j = gathered A I j := by
  intro j hj
  have h := (Finset.mem_filter.mp hj).2
  unfold upTo
  rw [if_pos (by omega)]

theorem pts_zero (A : Tab F) (I : Lst F) (f : Out F) (n : ℕ) :
    (oLoc d ↦[rowsOf n]{fullShare} upTo A I f (6144 * n + 96 * (2 * 0)) : sProp 𝕄) = oLoc d ↦[rowsOf n]{fullShare} f :=
  pointsTo_congr (upTo_zero A I f n)
theorem pts_end (A : Tab F) (I : Lst F) (f : Out F) (n : ℕ) :
    (oLoc d ↦[rowsOf n]{fullShare} upTo A I f (6144 * n + 96 * (2 * 32)) : sProp 𝕄) = oLoc d ↦[rowsOf n]{fullShare} gathered A I :=
  pointsTo_congr (upTo_end A I f n)

/-- What holds after the last trip. -/
theorem trips_end (A : Tab F) (I : Lst F) (f : Out F) (q : PosShare TreeShare) (O : CellTallies nD τ sig (HIx 2)) (W : Waits sig (HIx 2)) (x : Unit) :
    Trips d L A I f q O W (Scf.trips k1_t1_loop.lb k1_t1_loop.ub k1_t1_loop.st) x
      = iprop(Transfers.MayWaits (thr d L) (default : HIx 2) O
          ∗ ((∃ f : Chk F, (thr d L).loc cc1_scratch1 ↦{fullShare} f) ∗ (tLoc d ↦{q.left} A)
            ∗ ((thr d L).loc cc1_scratch0 ↦{fullShare.left} part I (base L)) ∗ semVal (cell d L cc1_scratch3.sem) 0)
          ∗ (tLoc d ↦{q.right} A) ∗ ((thr d L).loc cc1_scratch0 ↦{fullShare.right} part I (base L))
          ∗ (∃ f : Chk F, (thr d L).loc cc1_scratch2 ↦{fullShare} f)
          ∗ semVal (cell d L cc1_scratch4.sem) 0 ∗ semVal (cell d L cc1_scratch5.sem) 0 ∗ semVal (cell d L cc1_scratch6.sem) 0
          ∗ (oLoc d ↦[rowsOf (num L)]{fullShare} upTo A I f (6144 * num L + 96 * (2 * 32)))
          ∗ ∃ W', ⌜∀ p ∈ W', p ∈ W ∨ p.2 = none⌝ ∗ owes (thr d L) O W') := by
  rw [show Scf.trips k1_t1_loop.lb k1_t1_loop.ub k1_t1_loop.st = 32 from trips_eq]
  unfold Trips Fst
  rw [if_neg (by decide)]

set_option maxHeartbeats 4000000 in
theorem tile_body (hF : (K (F := F)).Facts) (A : Tab F) (I : Lst F) (hI : InTable I) (f : Out F) (q : PosShare TreeShare)
    (O : CellTallies nD τ sig (HIx 2)) (W : Waits sig (HIx 2)) (hO : ∀ g, O g none = 0) :
    iprop(levAts (K (F := F)).L (K (F := F)).lev ∗ emp ∗ Held d A I q (num L) f
        ∗ scopedBufs (thr d L) ∗ scopedSems0 (thr d L) ∗ owes (thr d L) O W)
      ⊢ wp frame (wpE (defs₀ (F := F)) 𝒱₀ (thr d L) none) Set.univ
          (cc1_k L tM (Memref.isWhole_whole _) iM (Memref.isWhole_whole _) oM (Memref.isWhole_whole _)
            lM (Memref.isWhole_whole _) aM (Memref.isWhole_whole _) bM (Memref.isWhole_whole _)
            cc1_scratch3 cc1_scratch4 cc1_scratch5 cc1_scratch6 cc1_scoped0)
          fun _ => iprop(Held d A I q (num L) (gathered A I) ∗ scopedBufs (thr d L) ∗ scopedSems0 (thr d L)
            ∗ ∃ W', ⌜∀ p ∈ W', p ∈ W ∨ p.2 = none⌝ ∗ owes (thr d L) O W') := by
  simp only [cc1_k_eq_skeleton]; unfold cc1_k_skel
  rw [(K (F := F)).scopedBufs_V hF d (cV L) (jV L), SparseCore.Cfg.scopedSems0_V (Val := Elt F) d (cV L) (jV L), ownSems0_V, ownBufs_V]
  simp only [Prog.lift, Prog.bind_op, Prog.bind_ret, Prog.pure_eq_ret, Prog.bind_assoc]
  iintro ⟨#Hlv, -, ⟨Ht, Hi, Ho⟩, ⟨⟨%fl, Hl⟩, ⟨%fa, Ha⟩, ⟨%fb, Hb⟩, Hbufs⟩, ⟨Hs, H0, H1, H2, H3, Hsems⟩, HO⟩
  ihave #Hmw := (show levAts (K (F := F)).L (K (F := F)).lev ⊢ Transfers.MayWaits (thr d L) (default : HIx 2) O from
    (K (F := F)).mayWaits_none (thr := thr d L) hO) $$ Hlv
  ihave Ho := (Entails.of_eq (pts_zero d A I f (num L)).symm) $$ Ho
  -- the list's stretch is fetched
  iapply (Transfers.wp_dmaFromWhole countersEmb 𝒱₀ (thr d L) none (src := iSl L) (dst := lM) (sm := .dma cc1_scoped0.sem) (q := q)
    (fs := I) (Sd := Finset.univ) (fd := fl)
    (default : HIx 2) (lM).view.dmaCredit rfl (View.dmaCredit_pos _ (show 0 < S6144.numel by decide)) (Finset.subset_univ _)) $$ [Hi Hl Hs]
  · isplitl [Hi]; · iexact Hi
    isplitl [Hl]; · iexact Hl
    iexact Hs
  iintro Hf
  iapply (Transfers.wp_waitLocalO countersEmb 𝒱₀ (thr d L) none (default : HIx 2) (rfl : (lM).view.dmaCredit = _)) $$ [Hf HO]
  · isplitl [Hf]; · iexact Hf
    isplitl [HO]; · iexact HO
    iapply (Transfers.MayWaits.elim (SemLoc.dma cc1_scoped0.sem)) $$ Hmw
  iintro ⟨⟨Hl, Hi⟩, Hs, HO⟩
  ihave Hl' := (Entails.of_eq (show (lM.view.loc (thr d L) ↦{fullShare} lM.view.write (Elt F) fl ((iSl L).view.read (Elt F) I) Finset.univ : sProp 𝕄)
      = ((thr d L).loc cc1_scratch0 ↦{fullShare} part I (base L)) by rw [read_iSl]; exact congrArg _ (View.write_whole_univ _ _ _))) $$ Hl
  -- the table's share and the fetched list in two halves
  ihave Hth := (pointsTo_share (PosShare.mem_left_op_right q)).1 $$ Ht
  icases Hth with ⟨Htl, Htr⟩
  ihave Hlh := (pointsTo_share (PosShare.mem_left_op_right fullShare)).1 $$ Hl'
  icases Hlh with ⟨Hll, Hlr⟩
  iapply (step_gatherA d L A I hI (base L) (96 * (2 * 0)) ![0] rfl inb_S6144_S96_0 q.left fullShare.left fa cc1_scratch3.sem) $$ [Htl Ha Hll H0]
  · isplitl [Htl]; · iexact Htl
    isplitl [Ha]; · iexact Ha
    isplitl [Hll]; · iexact Hll
    iexact H0
  iintro Hf
  sl_for (Trips d L A I f q O W) $$ [Hf Htr Hlr Hb H1 H2 H3 Ho HO]
  case region =>
    intro k acc
    exact trip d L A I hI f q O W _ k acc
  · unfold Trips Fst
    rw [if_pos (by decide)]
    isplitr; · iexact Hmw
    isplitl [Hf]; · iexact Hf
    isplitl [Htr]; · iexact Htr
    isplitl [Hlr]; · iexact Hlr
    isplitl [Hb]; · iexists _; iexact Hb
    isplitl [H1]; · iexact H1
    isplitl [H2]; · iexact H2
    isplitl [H3]; · iexact H3
    isplitl [Ho]; · iexact Ho
    iexists _; isplitr
    swap; · iexact HO
    ipureintro; intro p hp
    rcases Finset.mem_insert.mp hp with hp | hp
    · exact .inr (hp ▸ rfl)
    · exact .inl hp
  iintro %_ HI
  ihave HI' := (Entails.of_eq (trips_end d L A I f q O W _)) $$ HI
  icases HI' with ⟨-, ⟨Ha, Htl, Hll, H0⟩, Htr, Hlr, Hb, H1, H2, H3, Ho, %W', %hW', HO⟩
  sl_step
  isplitl [Htl Htr Hi Ho]
  · isplitl [Htl Htr]
    · iapply (pointsTo_share (PosShare.mem_left_op_right q)).2
      isplitl [Htl] <;> iassumption
    isplitl [Hi]; · iexact Hi
    iapply (Entails.of_eq (pts_end d A I f (num L))); iexact Ho
  isplitl [Hll Hlr Ha Hb Hbufs]
  · isplitl [Hll Hlr]
    · iexists _
      iapply (pointsTo_share (PosShare.mem_left_op_right fullShare)).2
      isplitl [Hll] <;> iassumption
    isplitl [Ha]; · iexact Ha
    isplitl [Hb]; · iexact Hb
    iexact Hbufs
  isplitl [Hs H0 H1 H2 H3 Hsems]
  · isplitl [Hs]; · iexact Hs
    isplitl [H0]; · iexact H0
    isplitl [H1]; · iexact H1
    isplitl [H2]; · iexact H2
    isplitl [H3]; · iexact H3
    iexact Hsems
  iexists W'; isplitr
  · ipureintro; exact hW'
  iexact HO

end Cert.Proof.Task1

end
-- ==== Proof.Split1.lean ====
/-
  The arrays of the first row gather, split among the two SparseCores and their sixteen vector subcores each: the table
  and the list by shares, the result by blocks of 6144 half rows, block `2 i + c` to subcore `i` of SparseCore `c`.
-/
module

public import proofs.«01_k».proof.Proof.Task1

@[expose] public section

noncomputable section

namespace Cert.Proof.Split1

open Cert.KernelIdeal Cert.KernelIdeal.Gen Cert.Proof.Common Cert.Proof.Rows Cert.Proof.Tile1 Cert.Proof.Task1

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}

local notation "𝕄" => MT nD τ sig (HIx 2) (Elt F) ℕ UU ℕ

/-- The blocks of SparseCore `c`. -/
def coreRows (c : ℕ) : Finset S196608x2x128.Idx := Finset.univ.filter fun j => (j 0).val / 6144 % 2 = c

theorem row_lt (j : S196608x2x128.Idx) : (j 0).val < 196608 := (j 0).isLt

theorem cores_disjoint : ∀ a ∈ (Finset.univ : Finset (Fin 2)), ∀ b ∈ (Finset.univ : Finset (Fin 2)), a ≠ b → Disjoint (coreRows a.val) (coreRows b.val) := by
  intro a _ b _ hab
  refine Finset.disjoint_left.mpr fun j ha hb => hab (Fin.ext ?_)
  exact (Finset.mem_filter.mp ha).2.symm.trans (Finset.mem_filter.mp hb).2

theorem cores_cover : (Finset.univ : Finset (Fin 2)).biUnion (fun c => coreRows c.val) = Finset.univ := by
  refine Finset.eq_univ_iff_forall.mpr fun j => Finset.mem_biUnion.mpr ⟨⟨(j 0).val / 6144 % 2, Nat.mod_lt _ (by decide)⟩, Finset.mem_univ _, ?_⟩
  exact Finset.mem_filter.mpr ⟨Finset.mem_univ _, rfl⟩

theorem tiles_disjoint (c : ℕ) : ∀ a ∈ (Finset.univ : Finset (Fin 16)), ∀ b ∈ (Finset.univ : Finset (Fin 16)), a ≠ b →
    Disjoint (rowsOf (2 * a.val + c)) (rowsOf (2 * b.val + c)) := by
  intro a _ b _ hab
  refine Finset.disjoint_left.mpr fun j ha hb => hab (Fin.ext ?_)
  have h1 := (Finset.mem_filter.mp ha).2
  have h2 := (Finset.mem_filter.mp hb).2
  omega

theorem tiles_cover (c : ℕ) (hc : c < 2) : (Finset.univ : Finset (Fin 16)).biUnion (fun i => rowsOf (2 * i.val + c)) = coreRows c := by
  ext j
  have hj := row_lt j
  constructor
  · intro h
    obtain ⟨i, -, hi⟩ := Finset.mem_biUnion.mp h
    have h1 := (Finset.mem_filter.mp hi).2
    exact Finset.mem_filter.mpr ⟨Finset.mem_univ _, by omega⟩
  · intro h
    have h1 := (Finset.mem_filter.mp h).2
    refine Finset.mem_biUnion.mpr ⟨⟨(j 0).val / 6144 / 2, by omega⟩, Finset.mem_univ _, ?_⟩
    exact Finset.mem_filter.mpr ⟨Finset.mem_univ _, by dsimp only; omega⟩

variable (d : Dev nD)

/-- The share of SparseCore `c`, and of its subcore `i`. -/
def coreShare (c : Fin 2) : PosShare TreeShare := pieceOf fullShare 2 (by decide) c
def tileShare (c : Fin 2) (i : Fin 16) : PosShare TreeShare := pieceOf (coreShare c) 16 (by decide) i

/-- What a call holds: the table, the list and the result, whole. -/
abbrev Whole (A : Tab F) (I : Lst F) (g : Out F) : sProp 𝕄 :=
  iprop((tLoc d ↦{fullShare} A) ∗ (iLoc d ↦{fullShare} I) ∗ (oLoc d ↦{fullShare} g))

/-- What SparseCore `c` holds of it. -/
abbrev OfCore (A : Tab F) (I : Lst F) (c : Fin 2) (g : Out F) : sProp 𝕄 :=
  iprop((tLoc d ↦{coreShare c} A) ∗ (iLoc d ↦{coreShare c} I) ∗ (oLoc d ↦[coreRows c.val]{fullShare} g))

theorem whole_cores (A : Tab F) (I : Lst F) (g : Out F) :
    Whole d A I g = bigSep Finset.univ fun c : Fin 2 => OfCore d A I c g := by
  rw [bigSep_sep', bigSep_sep', ← pointsTo_biUnion Finset.univ (ℓ := oLoc d) (fun c : Fin 2 => coreRows c.val) cores_disjoint, cores_cover]
  rw [show (bigSep Finset.univ fun c : Fin 2 => (tLoc d ↦{coreShare c} A : sProp 𝕄)) = (tLoc d ↦{fullShare} A) from
      (pointsTo_piecesOf (ℓ := tLoc d) Finset.univ A (by decide) fullShare).symm,
    show (bigSep Finset.univ fun c : Fin 2 => (iLoc d ↦{coreShare c} I : sProp 𝕄)) = (iLoc d ↦{fullShare} I) from
      (pointsTo_piecesOf (ℓ := iLoc d) Finset.univ I (by decide) fullShare).symm]

theorem core_tiles (A : Tab F) (I : Lst F) (c : Fin 2) (g : Out F) :
    OfCore d A I c g = bigSep Finset.univ fun i : Fin 16 => Held d A I (tileShare c i) (2 * i.val + c.val) g := by
  rw [bigSep_sep', bigSep_sep', ← pointsTo_biUnion Finset.univ (ℓ := oLoc d) (fun i : Fin 16 => rowsOf (2 * i.val + c.val)) (tiles_disjoint c.val),
    tiles_cover c.val c.isLt]
  rw [show (bigSep Finset.univ fun i : Fin 16 => (tLoc d ↦{tileShare c i} A : sProp 𝕄)) = (tLoc d ↦{coreShare c} A) from
      (pointsTo_piecesOf (ℓ := tLoc d) Finset.univ A (by decide) (coreShare c)).symm,
    show (bigSep Finset.univ fun i : Fin 16 => (iLoc d ↦{tileShare c i} I : sProp 𝕄)) = (iLoc d ↦{coreShare c} I) from
      (pointsTo_piecesOf (ℓ := iLoc d) Finset.univ I (by decide) (coreShare c)).symm]

end Cert.Proof.Split1

end
-- ==== Proof.Tile2.lean ====
/-
  One vector subcore's task of the second row gather: it fetches its 6144 words of the list, then gathers the half rows
  they name, 96 at a time, through two row buffers in turn, and stores each chunk at its place of the result.
-/
module

public import proofs.«01_k».proof.Proof.Rows

@[expose] public section

noncomputable section

namespace Cert.Proof.Tile2

open Cert.KernelIdeal Cert.KernelIdeal.Gen Cert.Proof.Common Cert.Proof.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Buffers, semaphores and the task's place -/

abbrev tLoc (d : Dev nD) : Loc nD τ sig := (SparseCore.T d).loc main_v17
abbrev iLoc (d : Dev nD) : Loc nD τ sig := (SparseCore.T d).loc main_v26
abbrev oLoc (d : Dev nD) : Loc nD τ sig := (SparseCore.T d).loc main_v27

abbrev tM : Memref sig .scVector .hbm S32768x2x128 .f32 := Memref.whole main_v17_scv
abbrev iM : Memref sig .scVector .hbm S196608 .i32 := Memref.whole main_v26_scv
abbrev oM : Memref sig .scVector .hbm S196608x2x128 .f32 := Memref.whole main_v27_scv
abbrev lM : Memref sig .scVector .vmem S6144 .i32 := Memref.whole cc2_scratch0
abbrev aM : Memref sig .scVector .vmem S96x2x128 .f32 := Memref.whole cc2_scratch1
abbrev bM : Memref sig .scVector .vmem S96x2x128 .f32 := Memref.whole cc2_scratch2

abbrev cV (L : grid2.Coords) : Fin τ.nSC := (L 0).castLE hcore2
abbrev jV (L : grid2.Coords) : Fin τ.nSub := (L 1).castLE hsub2
/-- The thread of the task at `L`. -/
abbrev thr (d : Dev nD) (L : grid2.Coords) : Thread nD τ := V d (cV L) (jV L)

/-- The task's number. -/
def num (L : grid2.Coords) : ℕ := 2 * (L 1).val + (L 0).val
/-- The first row of the task's block of the result. -/
def base (L : grid2.Coords) : ℕ := 6144 * num L
theorem base_eq (L : grid2.Coords) : 12288 * (L 1).val + 6144 * (L 0).val = base L := by unfold base num; omega
theorem num_lt (L : grid2.Coords) : num L < 32 := by
  have h0 : (L 0).val < 2 := (L 0).isLt
  have h1 : (L 1).val < 16 := (L 1).isLt
  unfold num; omega
/-- The rows of block `n` of the result. -/
def rowsOf (n : ℕ) : Finset S196608x2x128.Idx := Finset.univ.filter fun j => (j 0).val / 6144 = n

/-- The five transfer semaphores of a task. -/
abbrev cell (d : Dev nD) (L : grid2.Coords) (s : DmaSem sig) : GSem nD τ sig := (thr d L, .dma s)

theorem ownSems0_V (d : Dev nD) (L : grid2.Coords) :
    (ownSems0 (thr d L) : sProp 𝕄)
      = iprop(semVal (cell d L cc2_scoped0.sem) 0 ∗ semVal (cell d L cc2_scratch3.sem) 0 ∗ semVal (cell d L cc2_scratch4.sem) 0
          ∗ semVal (cell d L cc2_scratch5.sem) 0 ∗ semVal (cell d L cc2_scratch6.sem) 0
          ∗ bigSep ((((((ownCells (thr d L)).erase (cell d L cc2_scoped0.sem)).erase (cell d L cc2_scratch3.sem)).erase (cell d L cc2_scratch4.sem)).erase
              (cell d L cc2_scratch5.sem)).erase (cell d L cc2_scratch6.sem)) fun g => semVal g 0) := by
  have ne : ∀ {s s' : DmaSem sig}, s ≠ s' → cell d L s ≠ cell d L s' := fun h e => h (SemLoc.dma.inj (Prod.mk.inj e).2)
  have own : ∀ s : DmaSem sig, (SemLoc.dma s : SemLoc sig).isScoped .scVector = true → cell d L s ∈ ownCells (thr d L) :=
    fun s h => mem_ownCells.mpr ⟨rfl, h⟩
  unfold SparseCore.Cfg.ownSems0
  rw [SparseCore.bigSep_erase' (own cc2_scoped0.sem (by decide)),
    SparseCore.bigSep_erase' (Finset.mem_erase.mpr ⟨ne (s := cc2_scratch3.sem) (by decide), own _ (by decide)⟩),
    SparseCore.bigSep_erase' (Finset.mem_erase.mpr ⟨ne (s := cc2_scratch4.sem) (by decide),
      Finset.mem_erase.mpr ⟨ne (by decide), own _ (by decide)⟩⟩),
    SparseCore.bigSep_erase' (Finset.mem_erase.mpr ⟨ne (s := cc2_scratch5.sem) (by decide),
      Finset.mem_erase.mpr ⟨ne (by decide), Finset.mem_erase.mpr ⟨ne (by decide), own _ (by decide)⟩⟩⟩),
    SparseCore.bigSep_erase' (Finset.mem_erase.mpr ⟨ne (s := cc2_scratch6.sem) (by decide),
      Finset.mem_erase.mpr ⟨ne (by decide), Finset.mem_erase.mpr ⟨ne (by decide), Finset.mem_erase.mpr ⟨ne (by decide), own _ (by decide)⟩⟩⟩⟩)]

theorem ownBufs_V (d : Dev nD) (L : grid2.Coords) :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  have ne : ∀ {b b' : Ref sig .scVector}, b ≠ b' → (Proc.scVector (cV L) (jV L)).devRef b ≠ (Proc.scVector (cV L) (jV L)).devRef b' :=
    fun h e => h (Proc.devRef_injective _ e)
  have own : ∀ b : Ref sig .scVector, ((Proc.scVector (cV L) (jV L)).devRef b).owner = Owner.proc (Proc.scVector (cV L) (jV L)) →
      (Proc.scVector (cV L) (jV L)).devRef b ∈ ownRefs (τ := τ) (.scVector (cV L) (jV L)) := fun b h => SparseCore.Cfg.mem_ownRefs_of_owner h
  unfold SparseCore.Cfg.ownBufs
  rw [SparseCore.bigSep_erase' (own cc2_scratch0 rfl),
    SparseCore.bigSep_erase' (Finset.mem_erase.mpr ⟨ne (b := cc2_scratch1) (by decide), own _ rfl⟩),
    SparseCore.bigSep_erase' (Finset.mem_erase.mpr ⟨ne (b := cc2_scratch2) (by decide), Finset.mem_erase.mpr ⟨ne (by decide), own _ rfl⟩⟩)]

/-! ## A stored chunk -/

/-- Writing the chunk at `b` over rows `b` to `b + 95`, the rows below `b` having been gathered, gathers the rows below `b + 96`. -/
theorem write_upTo (A : Tab F) (I : Lst F) (f : Out F) (b : ℕ) (off : Fin 3 → ℕ) (hoff : off = ![b, 0, 0])
    (inb : ∀ a, off a + S96x2x128.size a ≤ S196608x2x128.size a) :
    ((View.whole (main_v27_scv : Ref sig .scVector)).slice (Rect.unit (s := S196608x2x128) off S96x2x128.size inb)).write (Elt F)
        (upTo A I f b) (chunk A I b) Finset.univ = upTo A I f (b + 96) := by
  subst hoff
  funext j
  by_cases hj : j ∈ ((View.whole (main_v27_scv : Ref sig .scVector)).slice (Rect.unit (s := S196608x2x128) ![b, 0, 0] S96x2x128.size inb)).setOn Finset.univ
  · obtain ⟨x, hx, rfl⟩ := Finset.mem_map.mp hj
    rw [View.write_emb_of_mem _ _ hx]
    refine (cast_eq _ _).trans ?_
    have e0 : ((((View.whole (main_v27_scv : Ref sig .scVector)).slice (Rect.unit (s := S196608x2x128) ![b, 0, 0] S96x2x128.size inb)).emb x) 0).val = b + (x 0).val := by
      show b + 1 * (x 0).val = _; omega
    have e1 : ((((View.whole (main_v27_scv : Ref sig .scVector)).slice (Rect.unit (s := S196608x2x128) ![b, 0, 0] S96x2x128.size inb)).emb x) 1) = x 1 := by
      refine Fin.ext ?_; show 0 + 1 * (x 1).val = _; omega
    have e2 : ((((View.whole (main_v27_scv : Ref sig .scVector)).slice (Rect.unit (s := S196608x2x128) ![b, 0, 0] S96x2x128.size inb)).emb x) 2) = x 2 := by
      refine Fin.ext ?_; show 0 + 1 * (x 2).val = _; omega
    unfold upTo gathered chunk
    rw [if_pos (by rw [e0]; have : (x 0).val < 96 := (x 0).isLt; omega), e0, e1, e2]
  · rw [View.write_of_not_mem _ _ _ hj]
    have hj' : ¬ (b ≤ (j 0).val ∧ (j 0).val < b + 96) := by
      rintro ⟨h1, h2⟩
      refine hj ?_
      show j ∈ ((View.whole (main_v27_scv : Ref sig .scVector)).slice (Rect.unit (s := S196608x2x128) ![b, 0, 0] S96x2x128.size inb)).set
      rw [View.set_slice_whole, Rect.mem_set_unit]
      intro a
      match a with
      | 0 => exact ⟨h1, h2⟩
      | 1 => exact ⟨Nat.zero_le _, by have : (j 1).val < 2 := (j 1).isLt; show (j 1).val < 0 + 2; omega⟩
      | 2 => exact ⟨Nat.zero_le _, by have : (j 2).val < 128 := (j 2).isLt; show (j 2).val < 0 + 128; omega⟩
    unfold upTo
    by_cases h : (j 0).val < b
    · rw [if_pos h, if_pos (by omega)]
    · rw [if_neg h, if_neg (by omega)]

/-! ## The steps of a task -/

/-- A transfer of the task in flight on semaphore `s`, of credit `N`, that delivers `X`. -/
abbrev Fly (d : Dev nD) (L : grid2.Coords) (s : DmaSem sig) (N : ℕ) (X : sProp 𝕄) : sProp 𝕄 :=
  Transfers.Flight (countersEmb : UEmb Counters 𝕄) (thr d L) (.dma s) (default : HIx 2) N X

section Steps

variable [FloatOps F] (d : Dev nD) (L : grid2.Coords)

/-- The whole table as the task addresses it. -/
abbrev tAll : Memref sig .scVector .hbm S32768x2x128 .f32 :=
  tM.slice (Rect.unit (s := S32768x2x128) ![0, 0, 0] S32768x2x128.size inb_S32768x2x128_S32768x2x128_0_0_0) (fun _ => rfl)

theorem read_tAll (A : Tab F) : tAll.view.read (Elt F) A = A := by
  funext x
  refine (View.read_apply _ _).trans ((cast_eq _ _).trans (congrArg A ?_))
  funext a
  refine Fin.ext ?_
  match a with
  | 0 => show 0 + 1 * (x 0).val = _; omega
  | 1 => show 0 + 1 * (x 1).val = _; omega
  | 2 => show 0 + 1 * (x 2).val = _; omega

/-- Words `o`, `o + 1`, … of the fetched list. -/
abbrev lSl (off : Fin 1 → ℕ) (inb : ∀ a, off a + S96.size a ≤ S6144.size a) : Memref sig .scVector .vmem S96 .i32 :=
  lM.slice (Rect.unit (s := S6144) off S96.size inb) (fun _ => rfl)

theorem read_lSl (I : Lst F) (b o : ℕ) (off : Fin 1 → ℕ) (hoff : off = ![o]) (inb) (k : Fin 96) :
    (lSl off inb).view.read (Elt F) (part I b) (ix1 k) = I (ix1 ⟨(b + (o + k.val)) % 196608, Nat.mod_lt _ (by decide)⟩) := by
  subst hoff
  refine (View.read_apply _ _).trans ((cast_eq _ _).trans ?_)
  show I (ix1 ⟨(b + (o + 1 * k.val)) % 196608, _⟩) = _
  simp only [Nat.one_mul]

theorem read_lSl_lt (I : Lst F) (hI : InTable I) (b : ℕ) (off : Fin 1 → ℕ) (inb) :
    ∀ x, BitVec.toNat ((lSl off inb).view.read (Elt F) (part I b) x : BitVec 32) < S32768x2x128.size gathers_S32768x2x128_S96x2x128.axis := by
  intro x
  refine lt_of_eq_of_lt (congrArg BitVec.toNat ((View.read_apply _ _).trans (cast_eq _ _))) ?_
  exact part_lt hI b _

/-- The task's stretch of the list, as it addresses it. -/
abbrev iSl : Memref sig .scVector .hbm S6144 .i32 := iM.slice (Rect.unit (s := S196608) (k2_off1 L) S6144.size (k2_off1_inb L)) (fun _ => rfl)

theorem read_iSl (I : Lst F) : (iSl L).view.read (Elt F) I = part I (base L) := by
  funext x
  refine (View.read_apply _ _).trans ((cast_eq _ _).trans (congrArg I ?_))
  funext a
  refine Fin.ext ?_
  match a with
  | 0 =>
    have hx : (x 0).val < 6144 := (x 0).isLt
    have hn := num_lt L
    show k2_off1 L 0 + 1 * (x 0).val = (base L + (x 0).val) % 196608
    rw [k2_off1_eq]
    show 12288 * (L 1).val + 6144 * (L 0).val + 1 * (x 0).val = _
    rw [base_eq, Nat.mod_eq_of_lt (by unfold base; omega)]; omega

/-- A gather of 96 half rows into the first row buffer. -/
theorem step_gatherA {α : Type} {Q : α → sProp 𝕄} {k : PUnit → Prog (TpuEff nD τ sig (Elt F) Λ₀ (thr d L).2) α} (A : Tab F) (I : Lst F) (hI : InTable I) (b o : ℕ)
    (off : Fin 1 → ℕ) (hoff : off = ![o]) (inb : ∀ a, off a + S96.size a ≤ S6144.size a) (q qo : PosShare TreeShare) (fd : Chk F) (s : DmaSem sig) :
    iprop((tLoc d ↦{q} A) ∗ ((thr d L).loc cc2_scratch1 ↦{fullShare} fd) ∗ ((thr d L).loc cc2_scratch0 ↦{qo} part I b) ∗ semVal (cell d L s) 0)
      ⊢ iprop((Fly d L s aM.view.dmaCredit
            iprop(((thr d L).loc cc2_scratch1 ↦{fullShare} chunk A I (b + o)) ∗ (tLoc d ↦{q} A) ∗ ((thr d L).loc cc2_scratch0 ↦{qo} part I b))
          -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAll aM gathers_S32768x2x128_S96x2x128 (lSl off inb) rfl s (View.wordExact_bits rfl) rfl (Or.inl rfl) >>= k) Q) := by
  have hN : ∀ h : S32768x2x128.Gathers 0 S96x2x128, ∑ j, ((aM).slice (S96x2x128.rowRect h.axis' j) (S96x2x128.stride_rowRect h.axis' j)).view.dmaCredit
      = (aM).view.dmaCredit := by decide
  iintro ⟨Ht, Ha, Hl, Hs⟩ Hk
  iapply (SparseCore.wp_gatherFromWhole countersEmb 𝒱₀ (thr d L) none (src := tAll) (dst := aM) (hg := gathers_S32768x2x128_S96x2x128) (offs := lSl off inb)
    (sem := s) (q := q) (qo := qo) (fs := A) (fd := fd) (fo := part I b)
    (default : HIx 2) (aM.view.dmaCredit) (hN _) (by decide) (read_lSl_lt I hI b off inb)) $$ [Ht Ha Hl Hs]
  · isplitl [Ht]; · iexact Ht
    isplitl [Ha]; · iexact Ha
    isplitl [Hl]; · iexact Hl
    iexact Hs
  iintro Hf
  iapply Hk
  rw [show (aM.view.write (Elt F) fd (SparseCore.gatherPayload gathers_S32768x2x128_S96x2x128 (tAll.view.read (Elt F) A)
      (SparseCore.rows ((lSl off inb).view.read (Elt F) (part I b)) rfl (read_lSl_lt I hI b off inb))) Finset.univ) = chunk A I (b + o) from
    (View.write_whole_univ _ _ _).trans (gatherPayload_chunk A I hI b o _ (read_tAll A) _ (read_lSl I b o off hoff inb) _ _)]
  iexact Hf

/-- A gather of 96 half rows into the second row buffer. -/
theorem step_gatherB {α : Type} {Q : α → sProp 𝕄} {k : PUnit → Prog (TpuEff nD τ sig (Elt F) Λ₀ (thr d L).2) α} (A : Tab F) (I : Lst F) (hI : InTable I) (b o : ℕ)
    (off : Fin 1 → ℕ) (hoff : off = ![o]) (inb : ∀ a, off a + S96.size a ≤ S6144.size a) (q qo : PosShare TreeShare) (fd : Chk F) (s : DmaSem sig) :
    iprop((tLoc d ↦{q} A) ∗ ((thr d L).loc cc2_scratch2 ↦{fullShare} fd) ∗ ((thr d L).loc cc2_scratch0 ↦{qo} part I b) ∗ semVal (cell d L s) 0)
      ⊢ iprop((Fly d L s bM.view.dmaCredit
            iprop(((thr d L).loc cc2_scratch2 ↦{fullShare} chunk A I (b + o)) ∗ (tLoc d ↦{q} A) ∗ ((thr d L).loc cc2_scratch0 ↦{qo} part I b))
          -∗ wp frame (wpE (defs₀ (F := F)) 𝒱₀ (thr d L) none) Set.univ (k ⟨⟩) Q)
        -∗ wp frame (wpE (defs₀ (F := F)) 𝒱₀ (thr d L) none) Set.univ
          (SparseCore.enqueueIndirectGather rfl tAll bM gathers_S32768x2x128_S96x2x128 (lSl off inb) rfl s (View.wordExact_bits rfl) rfl (Or.inl rfl) >>= k) Q) := by
  have hN : ∀ h : S32768x2x128.Gathers 0 S96x2x128, ∑ j, ((bM).slice (S96x2x128.rowRect h.axis' j) (S96x2x128.stride_rowRect h.axis' j)).view.dmaCredit
      = (bM).view.dmaCredit := by decide
  iintro ⟨Ht, Ha, Hl, Hs⟩ Hk
  iapply (SparseCore.wp_gatherFromWhole countersEmb 𝒱₀ (thr d L) none (src := tAll) (dst := bM) (hg := gathers_S32768x2x128_S96x2x128) (offs := lSl off inb)
    (sem := s) (q := q) (qo := qo) (fs := A) (fd := fd) (fo := part I b)
    (default : HIx 2) (bM.view.dmaCredit) (hN _) (by decide) (read_lSl_lt I hI b off inb)) $$ [Ht Ha Hl Hs]
  · isplitl [Ht]; · iexact Ht
    isplitl [Ha]; · iexact Ha
    isplitl [Hl]; · iexact Hl
    iexact Hs
  iintro Hf
  iapply Hk
  rw [show (bM.view.write (Elt F) fd (SparseCore.gatherPayload gathers_S32768x2x128_S96x2x128 (tAll.view.read (Elt F) A)
      (SparseCore.rows ((lSl off inb).view.read (Elt F) (part I b)) rfl (read_lSl_lt I hI b off inb))) Finset.univ) = chunk A I (b + o) from
    (View.write_whole_univ _ _ _).trans (gatherPayload_chunk A I hI b o _ (read_tAll A) _ (read_lSl I b o off hoff inb) _ _)]
  iexact Hf

/-- The place of a chunk in the result, as the task addresses it. -/
abbrev oSl (off : Fin 3 → ℕ) (inb : ∀ a, off a + S96x2x128.size a ≤ S196608x2x128.size a) : Memref sig .scVector .hbm S96x2x128 .f32 :=
  oM.slice (Rect.unit (s := S196608x2x128) off S96x2x128.size inb) (fun _ => rfl)

theorem oSl_sub (n c : ℕ) (hc : c < 64) (off : Fin 3 → ℕ) (hoff : off = ![6144 * n + 96 * c, 0, 0]) (inb) :
    (oSl off inb).view.set ⊆ rowsOf n := by
  subst hoff
  intro j hj
  have hj' : j ∈ (Rect.unit (s := S196608x2x128) ![6144 * n + 96 * c, 0, 0] S96x2x128.size inb).set := by
    rw [← View.set_slice_whole (main_v27_scv : Ref sig .scVector)]; exact hj
  have h := (Rect.mem_set_unit.mp hj') 0
  have h1 : 6144 * n + 96 * c ≤ (j 0).val := h.1
  have h2 : (j 0).val < 6144 * n + 96 * c + 96 := h.2
  refine Finset.mem_filter.mpr ⟨Finset.mem_univ _, ?_⟩
  omega

/-- The store of the first row buffer's chunk to its place of the result. -/
theorem step_storeA {α : Type} {Q : α → sProp 𝕄} {k : PUnit → Prog (TpuEff nD τ sig (Elt F) Λ₀ (thr d L).2) α} (A : Tab F) (I : Lst F) (f : Out F) (n c : ℕ) (hc : c < 64)
    (off : Fin 3 → ℕ) (hoff : off = ![6144 * n + 96 * c, 0, 0]) (inb : ∀ a, off a + S96x2x128.size a ≤ S196608x2x128.size a) (s : DmaSem sig)
    {h1 h2 h3} :
    iprop(((thr d L).loc cc2_scratch1 ↦{fullShare} chunk A I (6144 * n + 96 * c)) ∗ (oLoc d ↦[rowsOf n]{fullShare} upTo A I f (6144 * n + 96 * c)) ∗ semVal (cell d L s) 0)
      ⊢ iprop((Fly d L s (oSl off inb).view.dmaCredit
            iprop((oLoc d ↦[rowsOf n]{fullShare} upTo A I f (6144 * n + 96 * (c + 1))) ∗ ((thr d L).loc cc2_scratch1 ↦{fullShare} chunk A I (6144 * n + 96 * c)))
          -∗ wp frame (wpE (defs₀ (F := F)) 𝒱₀ (thr d L) none) Set.univ (k ⟨⟩) Q)
        -∗ wp frame (wpE (defs₀ (F := F)) 𝒱₀ (thr d L) none) Set.univ
          (.op (.enqueueDma aM (.here (oSl off inb)) (.dma s) h1 h2 h3) k) Q) := by
  iintro ⟨Ha, Ho, Hs⟩ Hk
  iapply (Transfers.wp_dmaFromWhole countersEmb 𝒱₀ (thr d L) none (src := aM) (dst := oSl off inb) (sm := .dma s) (q := fullShare)
    (fs := chunk A I (6144 * n + 96 * c)) (Sd := rowsOf n) (fd := upTo A I f (6144 * n + 96 * c))
    (default : HIx 2) (oSl off inb).view.dmaCredit rfl (View.dmaCredit_pos _ (show 0 < S96x2x128.numel by decide))
    (oSl_sub n c hc off hoff inb)) $$ [Ha Ho Hs]
  · isplitl [Ha]; · iexact Ha
    isplitl [Ho]; · iexact Ho
    iexact Hs
  iintro Hf
  iapply Hk
  have e := write_upTo A I f (6144 * n + 96 * c) off hoff inb
  rw [show 6144 * n + 96 * c + 96 = 6144 * n + 96 * (c + 1) by omega] at e
  rw [← e]
  iexact Hf

/-- The store of the second row buffer's chunk to its place of the result. -/
theorem step_storeB {α : Type} {Q : α → sProp 𝕄} {k : PUnit → Prog (TpuEff nD τ sig (Elt F) Λ₀ (thr d L).2) α} (A : Tab F) (I : Lst F) (f : Out F) (n c : ℕ) (hc : c < 64)
    (off : Fin 3 → ℕ) (hoff : off = ![6144 * n + 96 * c, 0, 0]) (inb : ∀ a, off a + S96x2x128.size a ≤ S196608x2x128.size a) (s : DmaSem sig)
    {h1 h2 h3} :
    iprop(((thr d L).loc cc2_scratch2 ↦{fullShare} chunk A I (6144 * n + 96 * c)) ∗ (oLoc d ↦[rowsOf n]{fullShare} upTo A I f (6144 * n + 96 * c)) ∗ semVal (cell d L s) 0)
      ⊢ iprop((Fly d L s (oSl off inb).view.dmaCredit
            iprop((oLoc d ↦[rowsOf n]{fullShare} upTo A I f (6144 * n + 96 * (c + 1))) ∗ ((thr d L).loc cc2_scratch2 ↦{fullShare} chunk A I (6144 * n + 96 * c)))
          -∗ wp frame (wpE (defs₀ (F := F)) 𝒱₀ (thr d L) none) Set.univ (k ⟨⟩) Q)
        -∗ wp frame (wpE (defs₀ (F := F)) 𝒱₀ (thr d L) none) Set.univ
          (.op (.enqueueDma bM (.here (oSl off inb)) (.dma s) h1 h2 h3) k) Q) := by
  iintro ⟨Ha, Ho, Hs⟩ Hk
  iapply (Transfers.wp_dmaFromWhole countersEmb 𝒱₀ (thr d L) none (src := bM) (dst := oSl off inb) (sm := .dma s) (q := fullShare)
    (fs := chunk A I (6144 * n + 96 * c)) (Sd := rowsOf n) (fd := upTo A I f (6144 * n + 96 * c))
    (default : HIx 2) (oSl off inb).view.dmaCredit rfl (View.dmaCredit_pos _ (show 0 < S96x2x128.numel by decide))
    (oSl_sub n c hc off hoff inb)) $$ [Ha Ho Hs]
  · isplitl [Ha]; · iexact Ha
    isplitl [Ho]; · iexact Ho
    iexact Hs
  iintro Hf
  iapply Hk
  have e := write_upTo A I f (6144 * n + 96 * c) off hoff inb
  rw [show 6144 * n + 96 * c + 96 = 6144 * n + 96 * (c + 1) by omega] at e
  rw [← e]
  iexact Hf

/-! ## A trip of the task's loop, and the task -/

/-- The first row buffer before trip `k`: a gather into it is under way, but after the last trip. -/
def Fst (A : Tab F) (I : Lst F) (q : PosShare TreeShare) (k : ℕ) : sProp 𝕄 :=
  if k < 32 then
    Fly d L cc2_scratch3.sem aM.view.dmaCredit
      iprop(((thr d L).loc cc2_scratch1 ↦{fullShare} chunk A I (6144 * num L + 96 * (2 * k))) ∗ (tLoc d ↦{q.left} A)
        ∗ ((thr d L).loc cc2_scratch0 ↦{fullShare.left} part I (base L)))
  else
    iprop((∃ f : Chk F, (thr d L).loc cc2_scratch1 ↦{fullShare} f) ∗ (tLoc d ↦{q.left} A)
      ∗ ((thr d L).loc cc2_scratch0 ↦{fullShare.left} part I (base L)) ∗ semVal (cell d L cc2_scratch3.sem) 0)

/-- What holds before trip `k`: the rows of the block below `192 k` are gathered. -/
def Trips (A : Tab F) (I : Lst F) (f : Out F) (q : PosShare TreeShare) (O : CellTallies nD τ sig (HIx 2)) (W : Waits sig (HIx 2)) (k : ℕ) (_ : Unit) : sProp 𝕄 :=
  iprop(Transfers.MayWaits (thr d L) (default : HIx 2) O
    ∗ Fst d L A I q k
    ∗ (tLoc d ↦{q.right} A) ∗ ((thr d L).loc cc2_scratch0 ↦{fullShare.right} part I (base L))
    ∗ (∃ f : Chk F, (thr d L).loc cc2_scratch2 ↦{fullShare} f)
    ∗ semVal (cell d L cc2_scratch4.sem) 0 ∗ semVal (cell d L cc2_scratch5.sem) 0 ∗ semVal (cell d L cc2_scratch6.sem) 0
    ∗ (oLoc d ↦[rowsOf (num L)]{fullShare} upTo A I f (6144 * num L + 96 * (2 * k)))
    ∗ ∃ W', ⌜∀ p ∈ W', p ∈ W ∨ p.2 = none⌝ ∗ owes (thr d L) O W')

theorem trips_eq : k2_t1_loop.trips = 32 := by decide

theorem cond_iff : ∀ k : Fin k2_t1_loop.trips, (k2_cond1 k = 1#1) ↔ k.val + 1 < 32 := by decide +kernel

set_option maxHeartbeats 4000000 in
theorem trip (A : Tab F) (I : Lst F) (hI : InTable I) (f : Out F) (q : PosShare TreeShare) (O : CellTallies nD τ sig (HIx 2)) (W : Waits sig (HIx 2))
    (v2 : BitVec 32) (k : Fin k2_t1_loop.trips) (acc : Unit) :
    Trips d L A I f q O W k.val acc
      ⊢ wp frame (wpE (defs₀ (F := F)) 𝒱₀ (thr d L) none) Set.univ
          (k2_t1_body L tM (Memref.isWhole_whole _) iM (Memref.isWhole_whole _) oM (Memref.isWhole_whole _)
            lM (Memref.isWhole_whole _) aM (Memref.isWhole_whole _) bM (Memref.isWhole_whole _)
            cc2_scratch3 cc2_scratch4 cc2_scratch5 cc2_scratch6 cc2_scoped0 v2 k acc)
          fun acc' => Trips d L A I f q O W (k.val + 1) acc' := by
  have hk : k.val < 32 := lt_of_lt_of_eq k.isLt trips_eq
  unfold k2_t1_body
  simp only [k2_part1_eq_skeleton]; unfold k2_part1_skel
  simp only [Prog.lift, Prog.bind_op, Prog.bind_ret, Prog.pure_eq_ret, Prog.bind_assoc, SparseCore.waitIndirectGather]
  unfold Trips Fst
  rw [if_pos hk]
  iintro ⟨#Hmw, Hf, Ht, Hl, ⟨%fb, Hb⟩, H1, H2, H3, Ho, %W', %hW', HO⟩
  iapply (Transfers.wp_waitLocalO countersEmb 𝒱₀ (thr d L) none (default : HIx 2) (rfl : (aM).view.dmaCredit = _)) $$ [Hf HO]
  · isplitl [Hf]; · iexact Hf
    isplitl [HO]; · iexact HO
    iapply (Transfers.MayWaits.elim (SemLoc.dma cc2_scratch3.sem)) $$ Hmw
  iintro ⟨⟨Ha, Htl, Hll⟩, H0, HO⟩
  -- the gather into the second buffer
  iapply (step_gatherB d L A I hI (base L) (96 * (2 * k.val + 1)) (k2_off3 k) ((k2_off3_eq k).trans (by congr 1; omega)) (k2_off3_inb k)
    q.right fullShare.right fb cc2_scratch4.sem) $$ [Ht Hb Hl H1]
  · isplitl [Ht]; · iexact Ht
    isplitl [Hb]; · iexact Hb
    isplitl [Hl]; · iexact Hl
    iexact H1
  iintro Hg
  have e4 : k2_off4 L k = ![6144 * num L + 96 * (2 * k.val), 0, 0] := (k2_off4_eq L k).trans (by rw [base_eq]; unfold base; congr 1; omega)
  have e6 : k2_off6 L k = ![6144 * num L + 96 * (2 * k.val + 1), 0, 0] := (k2_off6_eq L k).trans (by rw [base_eq]; unfold base; congr 1; omega)
  -- the store of the first buffer
  iapply (step_storeA d L A I f (num L) (2 * k.val) (by omega) (k2_off4 L k) e4 (k2_off4_inb L k) cc2_scratch5.sem) $$ [Ha Ho H2]
  · isplitl [Ha]; · iexact Ha
    isplitl [Ho]; · iexact Ho
    iexact H2
  iintro Hs
  iapply (Transfers.wp_waitLocalO countersEmb 𝒱₀ (thr d L) none (default : HIx 2) (rfl : (bM).view.dmaCredit = _)) $$ [Hg HO]
  · isplitl [Hg]; · iexact Hg
    isplitl [HO]; · iexact HO
    iapply (Transfers.MayWaits.elim (SemLoc.dma cc2_scratch4.sem)) $$ Hmw
  iintro ⟨⟨Hb, Ht, Hl⟩, H1, HO⟩
  iapply (Transfers.wp_waitLocalO countersEmb 𝒱₀ (thr d L) none (default : HIx 2) (rfl : (oSl (k2_off4 L k) (k2_off4_inb L k)).view.dmaCredit = _)) $$ [Hs HO]
  · isplitl [Hs]; · iexact Hs
    isplitl [HO]; · iexact HO
    iapply (Transfers.MayWaits.elim (SemLoc.dma cc2_scratch5.sem)) $$ Hmw
  iintro ⟨⟨Ho, Ha⟩, H2, HO⟩
  have fin : ∀ {s : SemLoc sig} {X : Waits sig (HIx 2)}, (∀ p ∈ X, p ∈ W ∨ p.2 = none) → ∀ p ∈ insert (s, (default : HIx 2)) X, p ∈ W ∨ p.2 = none := by
    intro s X h p hp
    rcases Finset.mem_insert.mp hp with hp | hp
    · exact .inr (hp ▸ rfl)
    · exact h p hp
  by_cases h1 : k2_cond1 k = 1#1
  · rw [dif_pos h1]
    iapply (step_gatherA d L A I hI (base L) (96 * (2 * (k.val + 1))) (k2_off5 k) ((k2_off5_eq k).trans (by congr 1; omega)) (k2_off5_inb k h1)
      q.left fullShare.left _ cc2_scratch3.sem) $$ [Htl Ha Hll H0]
    · isplitl [Htl]; · iexact Htl
      isplitl [Ha]; · iexact Ha
      isplitl [Hll]; · iexact Hll
      iexact H0
    iintro Hf
    iapply (step_storeB d L A I f (num L) (2 * k.val + 1) (by omega) (k2_off6 L k) e6 (k2_off6_inb L k) cc2_scratch6.sem) $$ [Hb Ho H3]
    · isplitl [Hb]; · iexact Hb
      isplitl [Ho]; · iexact Ho
      iexact H3
    iintro Hs
    iapply (Transfers.wp_waitLocalO countersEmb 𝒱₀ (thr d L) none (default : HIx 2) (rfl : (oSl (k2_off6 L k) (k2_off6_inb L k)).view.dmaCredit = _)) $$ [Hs HO]
    · isplitl [Hs]; · iexact Hs
      isplitl [HO]; · iexact HO
      iapply (Transfers.MayWaits.elim (SemLoc.dma cc2_scratch6.sem)) $$ Hmw
    iintro ⟨⟨Ho, Hb⟩, H3, HO⟩
    sl_step
    rw [if_pos ((cond_iff k).mp h1)]
    isplitr; · iexact Hmw
    isplitl [Hf]; · iexact Hf
    isplitl [Ht]; · iexact Ht
    isplitl [Hl]; · iexact Hl
    isplitl [Hb]; · iexists _; iexact Hb
    isplitl [H1]; · iexact H1
    isplitl [H2]; · iexact H2
    isplitl [H3]; · iexact H3
    isplitl [Ho]; · iexact Ho
    iexists _; isplitr
    swap; · iexact HO
    ipureintro
    exact fin (fin (fin (fin hW')))
  · rw [dif_neg h1]
    iapply (step_storeB d L A I f (num L) (2 * k.val + 1) (by omega) (k2_off6 L k) e6 (k2_off6_inb L k) cc2_scratch6.sem) $$ [Hb Ho H3]
    · isplitl [Hb]; · iexact Hb
      isplitl [Ho]; · iexact Ho
      iexact H3
    iintro Hs
    iapply (Transfers.wp_waitLocalO countersEmb 𝒱₀ (thr d L) none (default : HIx 2) (rfl : (oSl (k2_off6 L k) (k2_off6_inb L k)).view.dmaCredit = _)) $$ [Hs HO]
    · isplitl [Hs]; · iexact Hs
      isplitl [HO]; · iexact HO
      iapply (Transfers.MayWaits.elim (SemLoc.dma cc2_scratch6.sem)) $$ Hmw
    iintro ⟨⟨Ho, Hb⟩, H3, HO⟩
    sl_step
    rw [if_neg (fun h => h1 ((cond_iff k).mpr h))]
    isplitr; · iexact Hmw
    isplitl [Ha Htl Hll H0]
    · isplitl [Ha]; · iexists _; iexact Ha
      isplitl [Htl]; · iexact Htl
      isplitl [Hll]; · iexact Hll
      iexact H0
    isplitl [Ht]; · iexact Ht
    isplitl [Hl]; · iexact Hl
    isplitl [Hb]; · iexists _; iexact Hb
    isplitl [H1]; · iexact H1
    isplitl [H2]; · iexact H2
    isplitl [H3]; · iexact H3
    isplitl [Ho]; · iexact Ho
    iexists _; isplitr
    swap; · iexact HO
    ipureintro
    exact fin (fin (fin (fin hW')))

end Steps

end Cert.Proof.Tile2

end
-- ==== Proof.Task2.lean ====
/-
  The whole task of a vector subcore, as the launch asks for it in the second gather.
-/
module

public import proofs.«01_k».proof.Proof.Tile2

@[expose] public section

noncomputable section

namespace Cert.Proof.Task2

open Cert.KernelIdeal Cert.KernelIdeal.Gen Cert.Proof.Common Cert.Proof.Rows Cert.Proof.Tile2

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid2.Coords)

/-- What a task is handed: its share `q` of the table and of the list, and its block of the result, at `g`. -/
abbrev Held (A : Tab F) (I : Lst F) (q : PosShare TreeShare) (n : ℕ) (g : Out F) : sProp 𝕄 :=
  iprop((tLoc d ↦{q} A) ∗ (iLoc d ↦{q} I) ∗ (oLoc d ↦[rowsOf n]{fullShare} g))

/-- On a block no row is below the block's first. -/
theorem upTo_zero (A : Tab F) (I : Lst F) (f : Out F) (n : ℕ) : ∀ j ∈ rowsOf n, upTo A I f (6144 * n + 96 * (2 * 0)) j = f j := by
  intro j hj
  have h := (Finset.mem_filter.mp hj).2
  unfold upTo
  rw [if_neg (by omega)]

/-- On a block every row is below the block's end. -/
theorem upTo_end (A : Tab F) (I : Lst F) (f : Out F) (n : ℕ) : ∀ j ∈ rowsOf n, upTo A I f (6144 * n + 96 * (2 * 32)) j = gathered A I j := by
  intro j hj
  have h := (Finset.mem_filter.mp hj).2
  unfold upTo
  rw [if_pos (by omega)]

theorem pts_zero (A : Tab F) (I : Lst F) (f : Out F) (n : ℕ) :
    (oLoc d ↦[rowsOf n]{fullShare} upTo A I f (6144 * n + 96 * (2 * 0)) : sProp 𝕄) = oLoc d ↦[rowsOf n]{fullShare} f :=
  pointsTo_congr (upTo_zero A I f n)
theorem pts_end (A : Tab F) (I : Lst F) (f : Out F) (n : ℕ) :
    (oLoc d ↦[rowsOf n]{fullShare} upTo A I f (6144 * n + 96 * (2 * 32)) : sProp 𝕄) = oLoc d ↦[rowsOf n]{fullShare} gathered A I :=
  pointsTo_congr (upTo_end A I f n)

/-- What holds after the last trip. -/
theorem trips_end (A : Tab F) (I : Lst F) (f : Out F) (q : PosShare TreeShare) (O : CellTallies nD τ sig (HIx 2)) (W : Waits sig (HIx 2)) (x : Unit) :
    Trips d L A I f q O W (Scf.trips k2_t1_loop.lb k2_t1_loop.ub k2_t1_loop.st) x
      = iprop(Transfers.MayWaits (thr d L) (default : HIx 2) O
          ∗ ((∃ f : Chk F, (thr d L).loc cc2_scratch1 ↦{fullShare} f) ∗ (tLoc d ↦{q.left} A)
            ∗ ((thr d L).loc cc2_scratch0 ↦{fullShare.left} part I (base L)) ∗ semVal (cell d L cc2_scratch3.sem) 0)
          ∗ (tLoc d ↦{q.right} A) ∗ ((thr d L).loc cc2_scratch0 ↦{fullShare.right} part I (base L))
          ∗ (∃ f : Chk F, (thr d L).loc cc2_scratch2 ↦{fullShare} f)
          ∗ semVal (cell d L cc2_scratch4.sem) 0 ∗ semVal (cell d L cc2_scratch5.sem) 0 ∗ semVal (cell d L cc2_scratch6.sem) 0
          ∗ (oLoc d ↦[rowsOf (num L)]{fullShare} upTo A I f (6144 * num L + 96 * (2 * 32)))
          ∗ ∃ W', ⌜∀ p ∈ W', p ∈ W ∨ p.2 = none⌝ ∗ owes (thr d L) O W') := by
  rw [show Scf.trips k2_t1_loop.lb k2_t1_loop.ub k2_t1_loop.st = 32 from trips_eq]
  unfold Trips Fst
  rw [if_neg (by decide)]

set_option maxHeartbeats 4000000 in
theorem tile_body (hF : (K (F := F)).Facts) (A : Tab F) (I : Lst F) (hI : InTable I) (f : Out F) (q : PosShare TreeShare)
    (O : CellTallies nD τ sig (HIx 2)) (W : Waits sig (HIx 2)) (hO : ∀ g, O g none = 0) :
    iprop(levAts (K (F := F)).L (K (F := F)).lev ∗ emp ∗ Held d A I q (num L) f
        ∗ scopedBufs (thr d L) ∗ scopedSems0 (thr d L) ∗ owes (thr d L) O W)
      ⊢ wp frame (wpE (defs₀ (F := F)) 𝒱₀ (thr d L) none) Set.univ
          (cc2_k L tM (Memref.isWhole_whole _) iM (Memref.isWhole_whole _) oM (Memref.isWhole_whole _)
            lM (Memref.isWhole_whole _) aM (Memref.isWhole_whole _) bM (Memref.isWhole_whole _)
            cc2_scratch3 cc2_scratch4 cc2_scratch5 cc2_scratch6 cc2_scoped0)
          fun _ => iprop(Held d A I q (num L) (gathered A I) ∗ scopedBufs (thr d L) ∗ scopedSems0 (thr d L)
            ∗ ∃ W', ⌜∀ p ∈ W', p ∈ W ∨ p.2 = none⌝ ∗ owes (thr d L) O W') := by
  simp only [cc2_k_eq_skeleton]; unfold cc2_k_skel
  rw [(K (F := F)).scopedBufs_V hF d (cV L) (jV L), SparseCore.Cfg.scopedSems0_V (Val := Elt F) d (cV L) (jV L), ownSems0_V, ownBufs_V]
  simp only [Prog.lift, Prog.bind_op, Prog.bind_ret, Prog.pure_eq_ret, Prog.bind_assoc]
  iintro ⟨#Hlv, -, ⟨Ht, Hi, Ho⟩, ⟨⟨%fl, Hl⟩, ⟨%fa, Ha⟩, ⟨%fb, Hb⟩, Hbufs⟩, ⟨Hs, H0, H1, H2, H3, Hsems⟩, HO⟩
  ihave #Hmw := (show levAts (K (F := F)).L (K (F := F)).lev ⊢ Transfers.MayWaits (thr d L) (default : HIx 2) O from
    (K (F := F)).mayWaits_none (thr := thr d L) hO) $$ Hlv
  ihave Ho := (Entails.of_eq (pts_zero d A I f (num L)).symm) $$ Ho
  -- the list's stretch is fetched
  iapply (Transfers.wp_dmaFromWhole countersEmb 𝒱₀ (thr d L) none (src := iSl L) (dst := lM) (sm := .dma cc2_scoped0.sem) (q := q)
    (fs := I) (Sd := Finset.univ) (fd := fl)
    (default : HIx 2) (lM).view.dmaCredit rfl (View.dmaCredit_pos _ (show 0 < S6144.numel by decide)) (Finset.subset_univ _)) $$ [Hi Hl Hs]
  · isplitl [Hi]; · iexact Hi
    isplitl [Hl]; · iexact Hl
    iexact Hs
  iintro Hf
  iapply (Transfers.wp_waitLocalO countersEmb 𝒱₀ (thr d L) none (default : HIx 2) (rfl : (lM).view.dmaCredit = _)) $$ [Hf HO]
  · isplitl [Hf]; · iexact Hf
    isplitl [HO]; · iexact HO
    iapply (Transfers.MayWaits.elim (SemLoc.dma cc2_scoped0.sem)) $$ Hmw
  iintro ⟨⟨Hl, Hi⟩, Hs, HO⟩
  ihave Hl' := (Entails.of_eq (show (lM.view.loc (thr d L) ↦{fullShare} lM.view.write (Elt F) fl ((iSl L).view.read (Elt F) I) Finset.univ : sProp 𝕄)
      = ((thr d L).loc cc2_scratch0 ↦{fullShare} part I (base L)) by rw [read_iSl]; exact congrArg _ (View.write_whole_univ _ _ _))) $$ Hl
  -- the table's share and the fetched list in two halves
  ihave Hth := (pointsTo_share (PosShare.mem_left_op_right q)).1 $$ Ht
  icases Hth with ⟨Htl, Htr⟩
  ihave Hlh := (pointsTo_share (PosShare.mem_left_op_right fullShare)).1 $$ Hl'
  icases Hlh with ⟨Hll, Hlr⟩
  iapply (step_gatherA d L A I hI (base L) (96 * (2 * 0)) ![0] rfl inb_S6144_S96_0 q.left fullShare.left fa cc2_scratch3.sem) $$ [Htl Ha Hll H0]
  · isplitl [Htl]; · iexact Htl
    isplitl [Ha]; · iexact Ha
    isplitl [Hll]; · iexact Hll
    iexact H0
  iintro Hf
  sl_for (Trips d L A I f q O W) $$ [Hf Htr Hlr Hb H1 H2 H3 Ho HO]
  case region =>
    intro k acc
    exact trip d L A I hI f q O W _ k acc
  · unfold Trips Fst
    rw [if_pos (by decide)]
    isplitr; · iexact Hmw
    isplitl [Hf]; · iexact Hf
    isplitl [Htr]; · iexact Htr
    isplitl [Hlr]; · iexact Hlr
    isplitl [Hb]; · iexists _; iexact Hb
    isplitl [H1]; · iexact H1
    isplitl [H2]; · iexact H2
    isplitl [H3]; · iexact H3
    isplitl [Ho]; · iexact Ho
    iexists _; isplitr
    swap; · iexact HO
    ipureintro; intro p hp
    rcases Finset.mem_insert.mp hp with hp | hp
    · exact .inr (hp ▸ rfl)
    · exact .inl hp
  iintro %_ HI
  ihave HI' := (Entails.of_eq (trips_end d L A I f q O W _)) $$ HI
  icases HI' with ⟨-, ⟨Ha, Htl, Hll, H0⟩, Htr, Hlr, Hb, H1, H2, H3, Ho, %W', %hW', HO⟩
  sl_step
  isplitl [Htl Htr Hi Ho]
  · isplitl [Htl Htr]
    · iapply (pointsTo_share (PosShare.mem_left_op_right q)).2
      isplitl [Htl] <;> iassumption
    isplitl [Hi]; · iexact Hi
    iapply (Entails.of_eq (pts_end d A I f (num L))); iexact Ho
  isplitl [Hll Hlr Ha Hb Hbufs]
  · isplitl [Hll Hlr]
    · iexists _
      iapply (pointsTo_share (PosShare.mem_left_op_right fullShare)).2
      isplitl [Hll] <;> iassumption
    isplitl [Ha]; · iexact Ha
    isplitl [Hb]; · iexact Hb
    iexact Hbufs
  isplitl [Hs H0 H1 H2 H3 Hsems]
  · isplitl [Hs]; · iexact Hs
    isplitl [H0]; · iexact H0
    isplitl [H1]; · iexact H1
    isplitl [H2]; · iexact H2
    isplitl [H3]; · iexact H3
    iexact Hsems
  iexists W'; isplitr
  · ipureintro; exact hW'
  iexact HO

end Cert.Proof.Task2

end
-- ==== Proof.Split2.lean ====
/-
  The arrays of the second row gather, split among the two SparseCores and their sixteen vector subcores each: the table
  and the list by shares, the result by blocks of 6144 half rows, block `2 i + c` to subcore `i` of SparseCore `c`.
-/
module

public import proofs.«01_k».proof.Proof.Task2

@[expose] public section

noncomputable section

namespace Cert.Proof.Split2

open Cert.KernelIdeal Cert.KernelIdeal.Gen Cert.Proof.Common Cert.Proof.Rows Cert.Proof.Tile2 Cert.Proof.Task2

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)

variable {F : FTy → Type}

local notation "𝕄" => MT nD τ sig (HIx 2) (Elt F) ℕ UU ℕ

/-- The blocks of SparseCore `c`. -/
def coreRows (c : ℕ) : Finset S196608x2x128.Idx := Finset.univ.filter fun j => (j 0).val / 6144 % 2 = c

theorem row_lt (j : S196608x2x128.Idx) : (j 0).val < 196608 := (j 0).isLt

theorem cores_disjoint : ∀ a ∈ (Finset.univ : Finset (Fin 2)), ∀ b ∈ (Finset.univ : Finset (Fin 2)), a ≠ b → Disjoint (coreRows a.val) (coreRows b.val) := by
  intro a _ b _ hab
  refine Finset.disjoint_left.mpr fun j ha hb => hab (Fin.ext ?_)
  exact (Finset.mem_filter.mp ha).2.symm.trans (Finset.mem_filter.mp hb).2

theorem cores_cover : (Finset.univ : Finset (Fin 2)).biUnion (fun c => coreRows c.val) = Finset.univ := by
  refine Finset.eq_univ_iff_forall.mpr fun j => Finset.mem_biUnion.mpr ⟨⟨(j 0).val / 6144 % 2, Nat.mod_lt _ (by decide)⟩, Finset.mem_univ _, ?_⟩
  exact Finset.mem_filter.mpr ⟨Finset.mem_univ _, rfl⟩

theorem tiles_disjoint (c : ℕ) : ∀ a ∈ (Finset.univ : Finset (Fin 16)), ∀ b ∈ (Finset.univ : Finset (Fin 16)), a ≠ b →
    Disjoint (rowsOf (2 * a.val + c)) (rowsOf (2 * b.val + c)) := by
  intro a _ b _ hab
  refine Finset.disjoint_left.mpr fun j ha hb => hab (Fin.ext ?_)
  have h1 := (Finset.mem_filter.mp ha).2
  have h2 := (Finset.mem_filter.mp hb).2
  omega

theorem tiles_cover (c : ℕ) (hc : c < 2) : (Finset.univ : Finset (Fin 16)).biUnion (fun i => rowsOf (2 * i.val + c)) = coreRows c := by
  ext j
  have hj := row_lt j
  constructor
  · intro h
    obtain ⟨i, -, hi⟩ := Finset.mem_biUnion.mp h
    have h1 := (Finset.mem_filter.mp hi).2
    exact Finset.mem_filter.mpr ⟨Finset.mem_univ _, by omega⟩
  · intro h
    have h1 := (Finset.mem_filter.mp h).2
    refine Finset.mem_biUnion.mpr ⟨⟨(j 0).val / 6144 / 2, by omega⟩, Finset.mem_univ _, ?_⟩
    exact Finset.mem_filter.mpr ⟨Finset.mem_univ _, by dsimp only; omega⟩

variable (d : Dev nD)

/-- The share of SparseCore `c`, and of its subcore `i`. -/
def coreShare (c : Fin 2) : PosShare TreeShare := pieceOf fullShare 2 (by decide) c
def tileShare (c : Fin 2) (i : Fin 16) : PosShare TreeShare := pieceOf (coreShare c) 16 (by decide) i

/-- What a call holds: the table, the list and the result, whole. -/
abbrev Whole (A : Tab F) (I : Lst F) (g : Out F) : sProp 𝕄 :=
  iprop((tLoc d ↦{fullShare} A) ∗ (iLoc d ↦{fullShare} I) ∗ (oLoc d ↦{fullShare} g))

/-- What SparseCore `c` holds of it. -/
abbrev OfCore (A : Tab F) (I : Lst F) (c : Fin 2) (g : Out F) : sProp 𝕄 :=
  iprop((tLoc d ↦{coreShare c} A) ∗ (iLoc d ↦{coreShare c} I) ∗ (oLoc d ↦[coreRows c.val]{fullShare} g))

theorem whole_cores (A : Tab F) (I : Lst F) (g : Out F) :
    Whole d A I g = bigSep Finset.univ fun c : Fin 2 => OfCore d A I c g := by
  rw [bigSep_sep', bigSep_sep', ← pointsTo_biUnion Finset.univ (ℓ := oLoc d) (fun c : Fin 2 => coreRows c.val) cores_disjoint, cores_cover]
  rw [show (bigSep Finset.univ fun c : Fin 2 => (tLoc d ↦{coreShare c} A : sProp 𝕄)) = (tLoc d ↦{fullShare} A) from
      (pointsTo_piecesOf (ℓ := tLoc d) Finset.univ A (by decide) fullShare).symm,
    show (bigSep Finset.univ fun c : Fin 2 => (iLoc d ↦{coreShare c} I : sProp 𝕄)) = (iLoc d ↦{fullShare} I) from
      (pointsTo_piecesOf (ℓ := iLoc d) Finset.univ I (by decide) fullShare).symm]

theorem core_tiles (A : Tab F) (I : Lst F) (c : Fin 2) (g : Out F) :
    OfCore d A I c g = bigSep Finset.univ fun i : Fin 16 => Held d A I (tileShare c i) (2 * i.val + c.val) g := by
  rw [bigSep_sep', bigSep_sep', ← pointsTo_biUnion Finset.univ (ℓ := oLoc d) (fun i : Fin 16 => rowsOf (2 * i.val + c.val)) (tiles_disjoint c.val),
    tiles_cover c.val c.isLt]
  rw [show (bigSep Finset.univ fun i : Fin 16 => (tLoc d ↦{tileShare c i} A : sProp 𝕄)) = (tLoc d ↦{coreShare c} A) from
      (pointsTo_piecesOf (ℓ := tLoc d) Finset.univ A (by decide) (coreShare c)).symm,
    show (bigSep Finset.univ fun i : Fin 16 => (iLoc d ↦{tileShare c i} I : sProp 𝕄)) = (iLoc d ↦{coreShare c} I) from
      (pointsTo_piecesOf (ℓ := iLoc d) Finset.univ I (by decide) (coreShare c)).symm]

end Cert.Proof.Split2

end
-- ==== Proof.Launch.lean ====
/-
  The whole program run from any launch memory whose lists name rows of the table: the lines of the host, the five
  TensorCore calls and the two gathers in turn.
-/
module

public import proofs.«01_k».proof.Proof.Records
public import proofs.«01_k».proof.Proof.Split1
public import proofs.«01_k».proof.Proof.Split2

@[expose] public section

set_option maxRecDepth 16384

noncomputable section

namespace Cert.Proof.Run

open Cert.KernelIdeal Cert.KernelIdeal.Gen Cert.Proof.Common Cert.Proof.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S V T)
open Idealize.ShloMosaic.SparseCore.Cfg (HIx Pay)
open Idealize.ShloMosaic.StableHlo (held after seq)
open Cert.Proof.Rows
open Idealize.ShloMosaic.Pipeline (Dat Cfg Window BodyObligation cellOf)

variable {F : FTy → Type} [FloatOps F]

local notation "𝕄" => MT nD τ sig (HIx 2) (Elt F) ℕ UU ℕ

/-! ## What the gathers' handshakes carry -/

theorem nCore_0 : (K (F := F)).nCore 0 = 2 := rfl
theorem nSub_0 : (K (F := F)).nSub 0 = 16 := rfl
theorem nCore_1 : (K (F := F)).nCore 1 = 2 := rfl
theorem nSub_1 : (K (F := F)).nSub 1 = 16 := rfl

section Pay

variable (A0 : Dev nD → Tab F) (I0 : Dev nD → Lst F) (f0 : Dev nD → Out F) (A1 : Dev nD → Tab F) (I1 : Dev nD → Lst F) (f1 : Dev nD → Out F)

/-- In each gather, each SparseCore and each of its subcores is handed its part of the arrays and hands it back gathered. -/
def P : (K (F := F)).Pay (nD := nD) (Val := Elt F) (Name := ℕ) (U := UU) where
  st := fun q d c => match q with
    | 0 => Split1.OfCore d (A0 d) (I0 d) (Fin.cast nCore_0 c) (f0 d)
    | 1 => Split2.OfCore d (A1 d) (I1 d) (Fin.cast nCore_1 c) (f1 d)
  dn := fun q d c => match q with
    | 0 => Split1.OfCore d (A0 d) (I0 d) (Fin.cast nCore_0 c) (gathered (A0 d) (I0 d))
    | 1 => Split2.OfCore d (A1 d) (I1 d) (Fin.cast nCore_1 c) (gathered (A1 d) (I1 d))
  go := fun q d c i => match q with
    | 0 => Task1.Held d (A0 d) (I0 d) (Split1.tileShare (Fin.cast nCore_0 c) (Fin.cast nSub_0 i)) (2 * i.val + c.val) (f0 d)
    | 1 => Task2.Held d (A1 d) (I1 d) (Split2.tileShare (Fin.cast nCore_1 c) (Fin.cast nSub_1 i)) (2 * i.val + c.val) (f1 d)
  td := fun q d c i => match q with
    | 0 => Task1.Held d (A0 d) (I0 d) (Split1.tileShare (Fin.cast nCore_0 c) (Fin.cast nSub_0 i)) (2 * i.val + c.val) (gathered (A0 d) (I0 d))
    | 1 => Task2.Held d (A1 d) (I1 d) (Split2.tileShare (Fin.cast nCore_1 c) (Fin.cast nSub_1 i)) (2 * i.val + c.val) (gathered (A1 d) (I1 d))
  x := fun _ _ => iprop(emp)

instance P_storable : (P A0 I0 f0 A1 I1 f1).IsStorable where
  st q d c := match q with
    | 0 => (inferInstance : BI.Storable (upEmb : UEmb _ 𝕄) (Split1.OfCore d (A0 d) (I0 d) (Fin.cast nCore_0 c) (f0 d)))
    | 1 => (inferInstance : BI.Storable (upEmb : UEmb _ 𝕄) (Split2.OfCore d (A1 d) (I1 d) (Fin.cast nCore_1 c) (f1 d)))
  dn q d c := match q with
    | 0 => (inferInstance : BI.Storable (upEmb : UEmb _ 𝕄) (Split1.OfCore d (A0 d) (I0 d) (Fin.cast nCore_0 c) (gathered (A0 d) (I0 d))))
    | 1 => (inferInstance : BI.Storable (upEmb : UEmb _ 𝕄) (Split2.OfCore d (A1 d) (I1 d) (Fin.cast nCore_1 c) (gathered (A1 d) (I1 d))))
  go q d c i := match q with
    | 0 => (inferInstance : BI.Storable (upEmb : UEmb _ 𝕄) (Task1.Held d (A0 d) (I0 d) (Split1.tileShare (Fin.cast nCore_0 c) (Fin.cast nSub_0 i)) (2 * i.val + c.val) (f0 d)))
    | 1 => (inferInstance : BI.Storable (upEmb : UEmb _ 𝕄) (Task2.Held d (A1 d) (I1 d) (Split2.tileShare (Fin.cast nCore_1 c) (Fin.cast nSub_1 i)) (2 * i.val + c.val) (f1 d)))
  td q d c i := match q with
    | 0 => (inferInstance : BI.Storable (upEmb : UEmb _ 𝕄) (Task1.Held d (A0 d) (I0 d) (Split1.tileShare (Fin.cast nCore_0 c) (Fin.cast nSub_0 i)) (2 * i.val + c.val) (gathered (A0 d) (I0 d))))
    | 1 => (inferInstance : BI.Storable (upEmb : UEmb _ 𝕄) (Task2.Held d (A1 d) (I1 d) (Split2.tileShare (Fin.cast nCore_1 c) (Fin.cast nSub_1 i)) (2 * i.val + c.val) (gathered (A1 d) (I1 d))))

theorem obl_post {thr : Thread nD τ} {X B C : sProp 𝕄} {O : CellTallies nD τ sig (HIx 2)} {W : Waits sig (HIx 2)} {q : Fin 2} :
    iprop(X ∗ B ∗ C ∗ ∃ W', ⌜∀ p ∈ W', p ∈ W ∨ p.2 = none⌝ ∗ owes thr O W')
      ⊢ iprop(X ∗ B ∗ C ∗ ∃ W', ⌜∀ p ∈ W', p ∈ W ∨ p.2 = none ∨ p.2 = some q⌝ ∗ owes thr O W') := by
  iintro ⟨HX, HB, HC, %W', %hW', HO⟩
  isplitl [HX]; · iexact HX
  isplitl [HB]; · iexact HB
  isplitl [HC]; · iexact HC
  iexists W'; isplitr
  · ipureintro; exact fun p hp => (hW' p hp).imp_right Or.inl
  · iexact HO

def place0 (c : Fin (grid1.bound 0)) (s : Fin (grid1.bound 1)) : grid1.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 1 ()
      = SparseCore.onTile hcore1 hsub1 (fun c s => cc1_k (place0 c s) Tile1.tM (Memref.isWhole_whole _) Tile1.iM (Memref.isWhole_whole _) Tile1.oM (Memref.isWhole_whole _)
          Tile1.lM (Memref.isWhole_whole _) Tile1.aM (Memref.isWhole_whole _) Tile1.bM (Memref.isWhole_whole _)
          cc1_scratch3 cc1_scratch4 cc1_scratch5 cc1_scratch6 cc1_scoped0) ⟨⟩ c s := rfl

set_option maxRecDepth 16384 in
theorem tileObl0 (hF : (K (F := F)).Facts) (hI : ∀ d, InTable (I0 d)) : (K (F := F)).TileObl (D (F := F)) 𝒱 (P A0 I0 f0 A1 I1 f1) v₀ 0 := by
  intro d c i O W hO _ _
  simp only [show (P A0 I0 f0 A1 I1 f1).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (Task1.tile_body d (place0 ⟨_, hci.1⟩ ⟨_, hci.2⟩) hF (A0 d) (I0 d) (hI d) (f0 d) (Split1.tileShare (Fin.cast nCore_0 c) (Fin.cast nSub_0 i)) O W hO).trans
    (wp_mono frame _ _ fun _ => obl_post (q := 0))

theorem bigSep_subs0 (Φ : Fin 16 → sProp 𝕄) :
    (bigSep Finset.univ fun i : Fin ((K (F := F)).nSub 0) => Φ (Fin.cast nSub_0 i)) = bigSep Finset.univ Φ :=
  bigSep_congr fun _ _ => congrArg Φ (Fin.ext rfl)
theorem bigSep_cores0 (Φ : Fin 2 → sProp 𝕄) :
    (bigSep Finset.univ fun i : Fin ((K (F := F)).nCore 0) => Φ (Fin.cast nCore_0 i)) = bigSep Finset.univ Φ :=
  bigSep_congr fun _ _ => congrArg Φ (Fin.ext rfl)

theorem go_eq0 (d : Dev nD) (c : Fin ((K (F := F)).nCore 0)) (g : Out F) :
    (bigSep Finset.univ fun i : Fin ((K (F := F)).nSub 0) => Task1.Held d (A0 d) (I0 d) (Split1.tileShare (Fin.cast nCore_0 c) (Fin.cast nSub_0 i)) (2 * i.val + c.val) (g))
      = Split1.OfCore d (A0 d) (I0 d) (Fin.cast nCore_0 c) (g) :=
  (bigSep_subs0 (F := F) (fun i => Task1.Held d (A0 d) (I0 d) (Split1.tileShare (Fin.cast nCore_0 c) i) (2 * i.val + (Fin.cast nCore_0 c).val) g)).trans
    (Split1.core_tiles d (A0 d) (I0 d) (Fin.cast nCore_0 c) g).symm

theorem vecSplit0 : (K (F := F)).VecSplit' (P A0 I0 f0 A1 I1 f1) 0 := by
  intro d c
  show Split1.OfCore d (A0 d) (I0 d) (Fin.cast nCore_0 c) (f0 d) ⊢ |={Set.univ}=> iprop(
      (bigSep Finset.univ fun i : Fin ((K (F := F)).nSub 0) => Task1.Held d (A0 d) (I0 d) (Split1.tileShare (Fin.cast nCore_0 c) (Fin.cast nSub_0 i)) (2 * i.val + c.val) (f0 d))
      ∗ ((bigSep Finset.univ fun i : Fin ((K (F := F)).nSub 0) => Task1.Held d (A0 d) (I0 d) (Split1.tileShare (Fin.cast nCore_0 c) (Fin.cast nSub_0 i)) (2 * i.val + c.val) (gathered (A0 d) (I0 d)))
          -∗ Split1.OfCore d (A0 d) (I0 d) (Fin.cast nCore_0 c) (gathered (A0 d) (I0 d))))
  rw [go_eq0, go_eq0]
  iintro H; imodintro
  isplitl [H]; · iexact H
  iintro H; iexact H

theorem st_eq0 (d : Dev nD) : (bigSep Finset.univ fun c : Fin ((K (F := F)).nCore 0) => (P A0 I0 f0 A1 I1 f1).st 0 d c) = Split1.Whole d (A0 d) (I0 d) (f0 d) :=
  (bigSep_cores0 (F := F) (fun c => Split1.OfCore d (A0 d) (I0 d) c (f0 d))).trans (Split1.whole_cores d (A0 d) (I0 d) (f0 d)).symm
theorem dn_eq0 (d : Dev nD) : (bigSep Finset.univ fun c : Fin ((K (F := F)).nCore 0) => (P A0 I0 f0 A1 I1 f1).dn 0 d c) = Split1.Whole d (A0 d) (I0 d) (gathered (A0 d) (I0 d)) :=
  (bigSep_cores0 (F := F) (fun c => Split1.OfCore d (A0 d) (I0 d) c (gathered (A0 d) (I0 d)))).trans (Split1.whole_cores d (A0 d) (I0 d) (gathered (A0 d) (I0 d))).symm

def place1 (c : Fin (grid2.bound 0)) (s : Fin (grid2.bound 1)) : grid2.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 2 ()
      = SparseCore.onTile hcore2 hsub2 (fun c s => cc2_k (place1 c s) Tile2.tM (Memref.isWhole_whole _) Tile2.iM (Memref.isWhole_whole _) Tile2.oM (Memref.isWhole_whole _)
          Tile2.lM (Memref.isWhole_whole _) Tile2.aM (Memref.isWhole_whole _) Tile2.bM (Memref.isWhole_whole _)
          cc2_scratch3 cc2_scratch4 cc2_scratch5 cc2_scratch6 cc2_scoped0) ⟨⟩ c s := rfl

set_option maxRecDepth 16384 in
theorem tileObl1 (hF : (K (F := F)).Facts) (hI : ∀ d, InTable (I1 d)) : (K (F := F)).TileObl (D (F := F)) 𝒱 (P A0 I0 f0 A1 I1 f1) v₀ 1 := by
  intro d c i O W hO _ _
  simp only [show (P A0 I0 f0 A1 I1 f1).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (Task2.tile_body d (place1 ⟨_, hci.1⟩ ⟨_, hci.2⟩) hF (A1 d) (I1 d) (hI d) (f1 d) (Split2.tileShare (Fin.cast nCore_1 c) (Fin.cast nSub_1 i)) O W hO).trans
    (wp_mono frame _ _ fun _ => obl_post (q := 1))

theorem bigSep_subs1 (Φ : Fin 16 → sProp 𝕄) :
    (bigSep Finset.univ fun i : Fin ((K (F := F)).nSub 1) => Φ (Fin.cast nSub_1 i)) = bigSep Finset.univ Φ :=
  bigSep_congr fun _ _ => congrArg Φ (Fin.ext rfl)
theorem bigSep_cores1 (Φ : Fin 2 → sProp 𝕄) :
    (bigSep Finset.univ fun i : Fin ((K (F := F)).nCore 1) => Φ (Fin.cast nCore_1 i)) = bigSep Finset.univ Φ :=
  bigSep_congr fun _ _ => congrArg Φ (Fin.ext rfl)

theorem go_eq1 (d : Dev nD) (c : Fin ((K (F := F)).nCore 1)) (g : Out F) :
    (bigSep Finset.univ fun i : Fin ((K (F := F)).nSub 1) => Task2.Held d (A1 d) (I1 d) (Split2.tileShare (Fin.cast nCore_1 c) (Fin.cast nSub_1 i)) (2 * i.val + c.val) (g))
      = Split2.OfCore d (A1 d) (I1 d) (Fin.cast nCore_1 c) (g) :=
  (bigSep_subs1 (F := F) (fun i => Task2.Held d (A1 d) (I1 d) (Split2.tileShare (Fin.cast nCore_1 c) i) (2 * i.val + (Fin.cast nCore_1 c).val) g)).trans
    (Split2.core_tiles d (A1 d) (I1 d) (Fin.cast nCore_1 c) g).symm

theorem vecSplit1 : (K (F := F)).VecSplit' (P A0 I0 f0 A1 I1 f1) 1 := by
  intro d c
  show Split2.OfCore d (A1 d) (I1 d) (Fin.cast nCore_1 c) (f1 d) ⊢ |={Set.univ}=> iprop(
      (bigSep Finset.univ fun i : Fin ((K (F := F)).nSub 1) => Task2.Held d (A1 d) (I1 d) (Split2.tileShare (Fin.cast nCore_1 c) (Fin.cast nSub_1 i)) (2 * i.val + c.val) (f1 d))
      ∗ ((bigSep Finset.univ fun i : Fin ((K (F := F)).nSub 1) => Task2.Held d (A1 d) (I1 d) (Split2.tileShare (Fin.cast nCore_1 c) (Fin.cast nSub_1 i)) (2 * i.val + c.val) (gathered (A1 d) (I1 d)))
          -∗ Split2.OfCore d (A1 d) (I1 d) (Fin.cast nCore_1 c) (gathered (A1 d) (I1 d))))
  rw [go_eq1, go_eq1]
  iintro H; imodintro
  isplitl [H]; · iexact H
  iintro H; iexact H

theorem st_eq1 (d : Dev nD) : (bigSep Finset.univ fun c : Fin ((K (F := F)).nCore 1) => (P A0 I0 f0 A1 I1 f1).st 1 d c) = Split2.Whole d (A1 d) (I1 d) (f1 d) :=
  (bigSep_cores1 (F := F) (fun c => Split2.OfCore d (A1 d) (I1 d) c (f1 d))).trans (Split2.whole_cores d (A1 d) (I1 d) (f1 d)).symm
theorem dn_eq1 (d : Dev nD) : (bigSep Finset.univ fun c : Fin ((K (F := F)).nCore 1) => (P A0 I0 f0 A1 I1 f1).dn 1 d c) = Split2.Whole d (A1 d) (I1 d) (gathered (A1 d) (I1 d)) :=
  (bigSep_cores1 (F := F) (fun c => Split2.OfCore d (A1 d) (I1 d) c (gathered (A1 d) (I1 d)))).trans (Split2.whole_cores d (A1 d) (I1 d) (gathered (A1 d) (I1 d))).symm

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch deals a core for its pipelines. -/
abbrev G (d : Dev nD) : sProp 𝕄 := Pipeline.ghostOn (pcfgs (F := F)) adm (EP (F := F)) Finset.univ d

theorem bigSep_none {J : Type} (s : Finset J) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P A0 I0 f0 A1 I1 f1).x q thr) := by
  unfold u₀
  iintro Hu
  ihave H := (ownU_pair (initOf (K (F := F)).hsCells (K (F := F)).hsToks) (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave H := (own_pair_emb (embR : Emb (UP × Counters) 𝕄) (initOf (Pipeline.cells (Pipeline.pin (pcfgs (F := F)) adm) cellOf_inj) (Pipeline.launchToks (Pipeline.pin (pcfgs (F := F)) adm) cellOf_inj)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply (show iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))
        ⊢ bigSep Finset.univ fun d : Dev nD => G (F := F) d from Entails.of_eq (by rw [← bigSep_sep']; exact bigSep_congr fun _ _ => (bigSep_sep' ..).symm))
    isplitl [Hg] <;> iassumption
  rw [show (bigSep Finset.univ fun thr : Thread nD τ => bigSep Finset.univ fun q : Fin 2 => (P A0 I0 f0 A1 I1 f1).x q thr) = bigSep Finset.univ fun _ => iprop(emp) from
    bigSep_congr fun _ _ => bigSep_none _, bigSep_none]
  iempintro

end Pay

end Cert.Proof.Run

end
-- ==== Proof.Main.lean ====
/-
  The whole program run from any launch memory whose lists name rows of the table: the lines of the host, the five
  TensorCore calls and the two gathers in turn.
-/
module

public import proofs.«01_k».proof.Proof.Launch
public import proofs.«01_k».proof.Proof.Split1
public import proofs.«01_k».proof.Proof.Split2

@[expose] public section

set_option maxRecDepth 16384

noncomputable section

namespace Cert.Proof.Run

open Cert.KernelIdeal Cert.KernelIdeal.Gen Cert.Proof.Common Cert.Proof.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore (S V T)
open Idealize.ShloMosaic.SparseCore.Cfg (HIx Pay)
open Idealize.ShloMosaic.StableHlo (held after seq)
open Cert.Proof.Rows
open Idealize.ShloMosaic.Pipeline (Dat Cfg Window BodyObligation cellOf)

variable {F : FTy → Type} [FloatOps F]

local notation "𝕄" => MT nD τ sig (HIx 2) (Elt F) ℕ UU ℕ

section Main

variable [∀ e, Nonempty (Elt F e)] (m : (ℓ : Loc nD τ sig) → Buf (Elt F) ℓ) (ρ : Dev nD → PrngReg)

theorem mem_uc (b : Ref sig .tc) (h : (Proc.devRef .tc b : DevRef τ sig).isScoped = false) : (Proc.devRef .tc b : DevRef τ sig) ∈ Pipeline.ucRefs τ sig :=
  Finset.mem_filter.mpr ⟨StableHlo.devRef_mem_tcRefs b, by rw [h]; decide⟩

/-- The arrays that are none of gather 0's. -/
abbrev rest0 : Finset (DevRef τ sig) :=
  (((Pipeline.ucRefs τ sig).erase (Proc.devRef .tc (main_v4 : Ref sig .tc))).erase (Proc.devRef .tc (main_v13 : Ref sig .tc))).erase (Proc.devRef .tc (main_v14 : Ref sig .tc))

theorem held_call0 (d : Dev nD) (W : Valuation τ sig (Elt F)) :
    (held (d.tc : Thread nD τ) (Pipeline.ucRefs τ sig) W : sProp 𝕄)
      = iprop((Tile1.tLoc d ↦{fullShare} W (Proc.devRef .tc (main_v4 : Ref sig .tc))) ∗ (Tile1.iLoc d ↦{fullShare} W (Proc.devRef .tc (main_v13 : Ref sig .tc)))
          ∗ (Tile1.oLoc d ↦{fullShare} W (Proc.devRef .tc (main_v14 : Ref sig .tc))) ∗ held (d.tc : Thread nD τ) rest0 W) := by
  unfold held
  rw [SparseCore.bigSep_erase' (i := (Proc.devRef .tc (main_v4 : Ref sig .tc) : DevRef τ sig)) (mem_uc _ rfl),
    SparseCore.bigSep_erase' (i := (Proc.devRef .tc (main_v13 : Ref sig .tc) : DevRef τ sig)) (s := (Pipeline.ucRefs τ sig).erase (Proc.devRef .tc (main_v4 : Ref sig .tc)))
      (Finset.mem_erase.mpr ⟨by decide, mem_uc _ rfl⟩),
    SparseCore.bigSep_erase' (i := (Proc.devRef .tc (main_v14 : Ref sig .tc) : DevRef τ sig))
      (s := ((Pipeline.ucRefs τ sig).erase (Proc.devRef .tc (main_v4 : Ref sig .tc))).erase (Proc.devRef .tc (main_v13 : Ref sig .tc)))
      (Finset.mem_erase.mpr ⟨by decide, Finset.mem_erase.mpr ⟨by decide, mem_uc _ rfl⟩⟩)]

theorem held_rest0 (d : Dev nD) : (held (d.tc : Thread nD τ) rest0 (W4 m d) : sProp 𝕄) = held (d.tc : Thread nD τ) rest0 (W3 m d) := by
  unfold held
  exact bigSep_congr fun b hb => by rw [W4_ne m d (Finset.ne_of_mem_erase hb)]

theorem held_back0 (d : Dev nD) :
    (held (d.tc : Thread nD τ) (Pipeline.ucRefs τ sig) (W4 m d) : sProp 𝕄)
      = iprop((Tile1.tLoc d ↦{fullShare} tab0 m d) ∗ (Tile1.iLoc d ↦{fullShare} lst0 m d) ∗ (Tile1.oLoc d ↦{fullShare} gathered (tab0 m d) (lst0 m d))
          ∗ held (d.tc : Thread nD τ) rest0 (W3 m d)) := by
  rw [held_call0, held_rest0, W4_o, W4_ne m d (by decide), W4_ne m d (by decide)]; rfl

/-- The arrays that are none of gather 1's. -/
abbrev rest1 : Finset (DevRef τ sig) :=
  (((Pipeline.ucRefs τ sig).erase (Proc.devRef .tc (main_v17 : Ref sig .tc))).erase (Proc.devRef .tc (main_v26 : Ref sig .tc))).erase (Proc.devRef .tc (main_v27 : Ref sig .tc))

theorem held_call1 (d : Dev nD) (W : Valuation τ sig (Elt F)) :
    (held (d.tc : Thread nD τ) (Pipeline.ucRefs τ sig) W : sProp 𝕄)
      = iprop((Tile2.tLoc d ↦{fullShare} W (Proc.devRef .tc (main_v17 : Ref sig .tc))) ∗ (Tile2.iLoc d ↦{fullShare} W (Proc.devRef .tc (main_v26 : Ref sig .tc)))
          ∗ (Tile2.oLoc d ↦{fullShare} W (Proc.devRef .tc (main_v27 : Ref sig .tc))) ∗ held (d.tc : Thread nD τ) rest1 W) := by
  unfold held
  rw [SparseCore.bigSep_erase' (i := (Proc.devRef .tc (main_v17 : Ref sig .tc) : DevRef τ sig)) (mem_uc _ rfl),
    SparseCore.bigSep_erase' (i := (Proc.devRef .tc (main_v26 : Ref sig .tc) : DevRef τ sig)) (s := (Pipeline.ucRefs τ sig).erase (Proc.devRef .tc (main_v17 : Ref sig .tc)))
      (Finset.mem_erase.mpr ⟨by decide, mem_uc _ rfl⟩),
    SparseCore.bigSep_erase' (i := (Proc.devRef .tc (main_v27 : Ref sig .tc) : DevRef τ sig))
      (s := ((Pipeline.ucRefs τ sig).erase (Proc.devRef .tc (main_v17 : Ref sig .tc))).erase (Proc.devRef .tc (main_v26 : Ref sig .tc)))
      (Finset.mem_erase.mpr ⟨by decide, Finset.mem_erase.mpr ⟨by decide, mem_uc _ rfl⟩⟩)]

theorem held_rest1 (d : Dev nD) : (held (d.tc : Thread nD τ) rest1 (W6 m d) : sProp 𝕄) = held (d.tc : Thread nD τ) rest1 (W5 m d) := by
  unfold held
  exact bigSep_congr fun b hb => by rw [W6_ne m d (Finset.ne_of_mem_erase hb)]

theorem held_back1 (d : Dev nD) :
    (held (d.tc : Thread nD τ) (Pipeline.ucRefs τ sig) (W6 m d) : sProp 𝕄)
      = iprop((Tile2.tLoc d ↦{fullShare} tab1 m d) ∗ (Tile2.iLoc d ↦{fullShare} lst1 m d) ∗ (Tile2.oLoc d ↦{fullShare} gathered (tab1 m d) (lst1 m d))
          ∗ held (d.tc : Thread nD τ) rest1 (W5 m d)) := by
  rw [held_call1, held_rest1, W6_o, W6_ne m d (by decide), W6_ne m d (by decide)]; rfl

/-- What the run leaves the claim: every array. -/
abbrev FIN (d : Dev nD) : sProp 𝕄 := held (d.tc : Thread nD τ) (Pipeline.ucRefs τ sig) (W14 m d)

abbrev Pm : (K (F := F)).Pay (nD := nD) (Val := Elt F) (Name := ℕ) (U := UU) :=
  P (tab0 m) (lst0 m) (fun d => W3 m d (Proc.devRef .tc (main_v14 : Ref sig .tc))) (tab1 m) (lst1 m) (fun d => W5 m d (Proc.devRef .tc (main_v27 : Ref sig .tc)))

theorem entry_lift (p : Fin 5) :
    (Prog.lift (.customCall (SparseCore.inner (Pipeline.entry p)) ()) : Prog (TpuEff nD τ sig (Elt F) (SparseCore.Sig (ΛP (F := F)) 2) .tc) PUnit)
      = SparseCore.liftProg (.op (.customCall (Pipeline.entry p) ()) fun _ => .ret ⟨⟩) := rfl

/-- A TensorCore call of the program, run on its core. -/
theorem region_step {p : Fin 5} (R : Pipeline.RegionSeg (pcfgs (F := F)) adm (pdats m) none defs₀ 𝒱₀ (K (F := F)).L (K (F := F)).lev p) (c : Dev nD) (Q : PUnit → sProp 𝕄) :
    iprop((iprop(boundary (SparseCore.T c) ∗ R.post c) -∗ Q ⟨⟩) ∗ boundary (SparseCore.T c) ∗ R.pre c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (SparseCore.T c) none) Set.univ (Prog.lift (.customCall (SparseCore.inner (Pipeline.entry p)) ())) Q := by
  rw [entry_lift]
  refine BI.Entails.trans ?_ ((K (F := F)).wp_liftProg (D (F := F)) 𝒱 (SparseCore.T c) Set.univ none _ Q)
  have hwp := (R.wp (pcfgs (F := F)) adm (pdats m) none cellOf_inj EP defs₀ 𝒱₀ (K (F := F)).L (K (F := F)).lev c none (fun _ h => nomatch h) (fun _ => .ret ⟨⟩) Q)
  refine BI.Entails.trans ?_ hwp
  have hk : (Q ⟨⟩ : sProp 𝕄) ⊢ wp frame (wpE (Pipeline.defs pcfgs (defs₀ (F := F))) 𝒱₀.lift (SparseCore.T c) none) Set.univ (.ret ⟨⟩) Q := by
    rw [wp_ret]; iintro H; imodintro; iexact H
  exact sep_mono_l (wand_mono .rfl hk)

theorem held_start (d : Dev nD) :
    (unscopedBufs d (fun b => m ((SparseCore.T d).loc b)) : sProp 𝕄) = held (d.tc : Thread nD τ) (Pipeline.ucRefs τ sig) (fun b => m (d, b)) :=
  Pipeline.unscopedBufs_held d (fun b => m (d, b))

theorem sub_of {ops : List (HloOp τ sig (Elt F))} (h : ops.Forall fun op => op.bufs ⊆ StableHlo.tcRefs τ sig) : ∀ op ∈ ops, op.bufs ⊆ Pipeline.ucRefs τ sig :=
  fun op ho => Pipeline.sub_ucRefs op ((List.forall_iff_forall_mem.mp h) op ho)
theorem fresh_of {ops : List (HloOp τ sig (Elt F))} (h : ops.Forall fun op => op.fresh = ∅) : ∀ op ∈ ops, op.fresh = ∅ :=
  fun op ho => (List.forall_iff_forall_mem.mp h) op ho

/-- The handshakes' part of a core's state, without what it owes. -/
abbrev Hs (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_zero (d : Dev nD) : ((K (F := F)).tcSt EH d 0 : sProp 𝕄)
    = iprop((∃ W, ⌜(K (F := F)).WBelow (SparseCore.T d) W 0⌝ ∗ owes (SparseCore.T d) ((K (F := F)).Otc d 0) W) ∗ Hs (F := F) d 0) := rfl
theorem tcSt_two (d : Dev nD) : ((K (F := F)).tcSt EH d 2 : sProp 𝕄)
    = iprop((∃ W, ⌜(K (F := F)).WBelow (SparseCore.T d) W 16⌝ ∗ owes (SparseCore.T d) (0 : CellTallies nD τ sig (HIx 2)) W) ∗ Hs (F := F) d 2) := by
  rw [← (K (F := F)).Otc_end d (le_refl 2)]; rfl
theorem wBelow_all (d : Dev nD) (W : Waits sig (HIx 2)) : (K (F := F)).WBelow (SparseCore.T d) W 16 := by
  rintro ⟨s, ι⟩ -
  cases ι with
  | none => exact Nat.zero_le _
  | some q => exact ((K (F := F)).lev_some_le (SparseCore.T d, s) q).trans (by have := q.isLt; show 8 * q.val + 7 ≤ 16; omega)

theorem step0 (d : Dev nD) (Q : PUnit → sProp 𝕄) :
    iprop((iprop(boundary (SparseCore.T d) ∗ held (d.tc : Thread nD τ) (Pipeline.ucRefs τ sig) (W2 m d) ∗ Rest0 d) -∗ Q ⟨⟩)
        ∗ boundary (SparseCore.T d) ∗ (held (d.tc : Thread nD τ) (Pipeline.ucRefs τ sig) (W1 m d) ∗ Rest0 d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ (Prog.lift (.customCall (SparseCore.inner (Pipeline.entry 0)) ())) Q :=
  region_step m (reg0 m) d Q

theorem step3 (d : Dev nD) (Q : PUnit → sProp 𝕄) :
    iprop((iprop(boundary (SparseCore.T d) ∗ held (d.tc : Thread nD τ) (Pipeline.ucRefs τ sig) (W8 m d) ∗ Rest d) -∗ Q ⟨⟩)
        ∗ boundary (SparseCore.T d) ∗ (held (d.tc : Thread nD τ) (Pipeline.ucRefs τ sig) (W7 m d) ∗ Rest d) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ (Prog.lift (.customCall (SparseCore.inner (Pipeline.entry 1)) ())) Q :=
  region_step m (reg3 m) d Q

theorem step4 (d : Dev nD) (Q : PUnit → sProp 𝕄) :
    iprop((iprop(boundary (SparseCore.T d) ∗ held (d.tc : Thread nD τ) (Pipeline.ucRefs τ sig) (W10 m d) ∗ Rest d) -∗ Q ⟨⟩)
        ∗ boundary (SparseCore.T d) ∗ (held (d.tc : Thread nD τ) (Pipeline.ucRefs τ sig) (W9 m d) ∗ Rest d) ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE ((K (F := F)).defs (D (F := F))) 𝒱 (SparseCore.T d) none) Set.univ (Prog.lift (.customCall (SparseCore.inner (Pipeline.entry 2)) ())) Q :=
  region_step m (reg4 m) d Q

theorem step5 (d : Dev nD) (Q : PUnit → sProp 𝕄) :
    iprop((iprop(boundary (SparseCore.T d) ∗ held (d.tc : Thread nD τ) (Pipeline.ucRefs τ sig) (W12 m d) ∗ Rest d) -∗ Q ⟨⟩)
        ∗ boundary (SparseCore.T d) ∗ (held (d.tc : Thread nD τ) (Pipeline.ucRefs τ sig) (W11 m d) ∗ Rest d) ∗ levAts (K (F := F)).L (K (F := F)).lev
        ∗ Pipeline.cellsGhost (Pipeline.pin (pcfgs (F := F)) adm) EP 3 d ∗ Pipeline.toksInit (Pipeline.pin (pcfgs (F := F)) adm) EP 3 d)
      ⊢ wp frame (wpE ((K (F := F)).defs (D (F := F))) 𝒱 (SparseCore.T d) none) Set.univ (Prog.lift (.customCall (SparseCore.inner (Pipeline.entry 3)) ())) Q :=
  region_step m (reg5 m) d Q

theorem step6 (d : Dev nD) (Q : PUnit → sProp 𝕄) :
    iprop((iprop(boundary (SparseCore.T d) ∗ held (d.tc : Thread nD τ) (Pipeline.ucRefs τ sig) (W14 m d) ∗ Rest d) -∗ Q ⟨⟩)
        ∗ boundary (SparseCore.T d) ∗ (held (d.tc : Thread nD τ) (Pipeline.ucRefs τ sig) (W13 m d) ∗ Rest d) ∗ levAts (K (F := F)).L (K (F := F)).lev
        ∗ Pipeline.cellsGhost (Pipeline.pin (pcfgs (F := F)) adm) EP 4 d ∗ Pipeline.toksInit (Pipeline.pin (pcfgs (F := F)) adm) EP 4 d)
      ⊢ wp frame (wpE ((K (F := F)).defs (D (F := F))) 𝒱 (SparseCore.T d) none) Set.univ (Prog.lift (.customCall (SparseCore.inner (Pipeline.entry 4)) ())) Q :=
  region_step m (reg6 m) d Q

theorem ghost_split (d : Dev nD) : (G (F := F) d : sProp 𝕄) ⊢ iprop(
      (Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)
      ∗ (Pipeline.cellsGhost (Pipeline.pin (pcfgs (F := F)) adm) EP 2 d ∗ Pipeline.toksInit (Pipeline.pin (pcfgs (F := F)) adm) EP 2 d)
      ∗ (Pipeline.cellsGhost (Pipeline.pin (pcfgs (F := F)) adm) EP 3 d ∗ Pipeline.toksInit (Pipeline.pin (pcfgs (F := F)) adm) EP 3 d)
      ∗ (Pipeline.cellsGhost (Pipeline.pin (pcfgs (F := F)) adm) EP 4 d ∗ Pipeline.toksInit (Pipeline.pin (pcfgs (F := F)) adm) EP 4 d)) := by
  unfold G Pipeline.ghostOn
  rw [Pipeline.PerCore.ghostOn_erase (pcfgs (F := F)) (fun _ => adm) EP (p := 0) (by decide), Pipeline.PerCore.ghostOn_erase (pcfgs (F := F)) (fun _ => adm) EP (p := 1) (by decide),
    Pipeline.PerCore.ghostOn_erase (pcfgs (F := F)) (fun _ => adm) EP (p := 2) (by decide), Pipeline.PerCore.ghostOn_erase (pcfgs (F := F)) (fun _ => adm) EP (p := 3) (by decide),
    Pipeline.PerCore.ghostOn_erase (pcfgs (F := F)) (fun _ => adm) EP (p := 4) (by decide)]
  iintro ⟨H0, H1, H2, H3, H4, -⟩
  isplitl [H0]; · iexact H0
  isplitl [H1]; · iexact H1
  isplitl [H2]; · iexact H2
  isplitl [H3]; · iexact H3
  iexact H4

set_option maxHeartbeats 400000 in
set_option maxRecDepth 16384 in
theorem hmain (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [held_start, main_eq, main_part0_eq, main_part1_eq, tcSt_zero]
  iintro ⟨#Hctx, ⟨HO, HHs⟩, ⟨Hb, Hh, Hts, Hp⟩, HG⟩
  ihave #Hlev := (SparseCore.Cfg.ctx_levAts κ) $$ Hctx
  ihave HG' := (ghost_split d) $$ HG
  icases HG' with ⟨⟨Hg0, Ht0⟩, ⟨Hg1, Ht1⟩, ⟨Hg2, Ht2⟩, ⟨Hg3, Ht3⟩, ⟨Hg4, Ht4⟩⟩
  rw [wp_bind]
  iapply (StableHlo.wp_seq 𝒱 none Set.univ d (Pipeline.ucRefs τ sig) _ hops0 (sub_of hops0_sub) (fresh_of hops0_fresh) (W0 m d)) $$ [Hb Hh]
  · isplitl [Hb]; · iexact Hb
    iexact Hh
  iintro ⟨Hb, Hh⟩
  rw [wp_bind]
  iapply (step0 m d _)
  isplitr [Hb Hh Hp HO Hg0 Ht0]
  swap
  · isplitl [Hb]; · iexact Hb
    isplitl [Hh Hp HO]
    · isplitl [Hh]; · iexact Hh
      isplitl [Hp]; · iexists _; iexact Hp
      iexact HO
    isplitr; · iexact Hlev
    isplitl [Hg0] <;> iassumption
  iintro ⟨Hb, Hh, Hp, HO⟩
  ihave Hst := (Entails.of_eq (tcSt_zero (F := F) d).symm) $$ [HO HHs]
  · isplitl [HO] <;> iassumption
  iapply (StableHlo.wp_seq 𝒱 none Set.univ d (Pipeline.ucRefs τ sig) _ hops1 (sub_of hops1_sub) (fresh_of hops1_fresh) (W2 m d)) $$ [Hb Hh]
  · isplitl [Hb]; · iexact Hb
    iexact Hh
  iintro ⟨Hb, Hh⟩
  ihave Hh' := (show (held (d.tc : Thread nD τ) (Pipeline.ucRefs τ sig) (W3 m d) : sProp 𝕄) ⊢ _ from Entails.of_eq (held_call0 (F := F) d (W3 m d))) $$ Hh
  icases Hh' with ⟨Ht, Hi, Ho, Hr⟩
  rw [wp_bind]
  iapply ((K (F := F)).wp_run (D (F := F)) 𝒱 (EH := EH) (P := Pm m) κ d 0)
  isplitr; · iexact Hctx
  isplitl [Hst]; · iexact Hst
  isplitl [Ht Hi Ho]
  · rw [st_eq0]
    isplitl [Ht]; · iexact Ht
    isplitl [Hi]; · iexact Hi
    iexact Ho
  iintro ⟨Hst, Hdn⟩
  ihave Hdn' := (Entails.of_eq (dn_eq0 (tab0 m) (lst0 m) _ (tab1 m) (lst1 m) _ d)) $$ Hdn
  icases Hdn' with ⟨Ht, Hi, Ho⟩
  ihave Hh := (show _ ⊢ (held (d.tc : Thread nD τ) (Pipeline.ucRefs τ sig) (W4 m d) : sProp 𝕄) from Entails.of_eq (held_back0 (F := F) m d).symm) $$ [Ht Hi Ho Hr]
  · isplitl [Ht]; · iexact Ht
    isplitl [Hi]; · iexact Hi
    isplitl [Ho]; · iexact Ho
    iexact Hr
  iapply (StableHlo.wp_seq 𝒱 none Set.univ d (Pipeline.ucRefs τ sig) _ hops2 (sub_of hops2_sub) (fresh_of hops2_fresh) (W4 m d)) $$ [Hb Hh]
  · isplitl [Hb]; · iexact Hb
    iexact Hh
  iintro ⟨Hb, Hh⟩
  ihave Hh' := (show (held (d.tc : Thread nD τ) (Pipeline.ucRefs τ sig) (W5 m d) : sProp 𝕄) ⊢ _ from Entails.of_eq (held_call1 (F := F) d (W5 m d))) $$ Hh
  icases Hh' with ⟨Ht, Hi, Ho, Hr⟩
  rw [wp_bind]
  iapply ((K (F := F)).wp_run (D (F := F)) 𝒱 (EH := EH) (P := Pm m) κ d 1)
  isplitr; · iexact Hctx
  isplitl [Hst]; · iexact Hst
  isplitl [Ht Hi Ho]
  · rw [st_eq1]
    isplitl [Ht]; · iexact Ht
    isplitl [Hi]; · iexact Hi
    iexact Ho
  iintro ⟨Hst, Hdn⟩
  ihave Hdn' := (Entails.of_eq (dn_eq1 (tab0 m) (lst0 m) _ (tab1 m) (lst1 m) _ d)) $$ Hdn
  icases Hdn' with ⟨Ht, Hi, Ho⟩
  ihave Hh := (show _ ⊢ (held (d.tc : Thread nD τ) (Pipeline.ucRefs τ sig) (W6 m d) : sProp 𝕄) from Entails.of_eq (held_back1 (F := F) m d).symm) $$ [Ht Hi Ho Hr]
  · isplitl [Ht]; · iexact Ht
    isplitl [Hi]; · iexact Hi
    isplitl [Ho]; · iexact Ho
    iexact Hr
  ihave Hst' := (show ((K (F := F)).tcSt EH d ((1 : Fin 2).val + 1) : sProp 𝕄) ⊢ _ from Entails.of_eq (tcSt_two (F := F) d)) $$ Hst
  icases Hst' with ⟨⟨%Wt, -, HO⟩, HHs⟩
  ihave HO := (show (owes (SparseCore.T d) (0 : CellTallies nD τ sig (HIx 2)) Wt : sProp 𝕄) ⊢ iprop(∃ W, owes (SparseCore.T d) (0 : CellTallies nD τ sig (HIx 2)) W) from by iintro H; iexists _; iexact H) $$ HO
  iapply (StableHlo.wp_seq 𝒱 none Set.univ d (Pipeline.ucRefs τ sig) _ hops3 (sub_of hops3_sub) (fresh_of hops3_fresh) (W6 m d)) $$ [Hb Hh]
  · isplitl [Hb]; · iexact Hb
    iexact Hh
  iintro ⟨Hb, Hh⟩
  rw [wp_bind]
  iapply (step3 m d _)
  isplitr [Hb Hh Hp HO Hg1 Ht1]
  swap
  · isplitl [Hb]; · iexact Hb
    isplitl [Hh Hp HO]
    · isplitl [Hh]; · iexact Hh
      isplitl [Hp]; · iexact Hp
      iexact HO
    isplitr; · iexact Hlev
    isplitl [Hg1] <;> iassumption
  iintro ⟨Hb, Hh, Hp, HO⟩
  iapply (StableHlo.wp_seq 𝒱 none Set.univ d (Pipeline.ucRefs τ sig) _ hops4a (sub_of hops4a_sub) (fresh_of hops4a_fresh) (W8 m d)) $$ [Hb Hh]
  · isplitl [Hb]; · iexact Hb
    iexact Hh
  iintro ⟨Hb, Hh⟩
  rw [wp_pure]; imodintro
  iapply (StableHlo.wp_seq 𝒱 none Set.univ d (Pipeline.ucRefs τ sig) _ hops4b (sub_of hops4b_sub) (fresh_of hops4b_fresh) (W8a m d)) $$ [Hb Hh]
  · isplitl [Hb]; · iexact Hb
    iexact Hh
  iintro ⟨Hb, Hh⟩
  rw [wp_bind]
  iapply (step4 m d _)
  isplitr [Hb Hh Hp HO Hg2 Ht2]
  swap
  · isplitl [Hb]; · iexact Hb
    isplitl [Hh Hp HO]
    · isplitl [Hh]; · iexact Hh
      isplitl [Hp]; · iexact Hp
      iexact HO
    isplitr; · iexact Hlev
    isplitl [Hg2] <;> iassumption
  iintro ⟨Hb, Hh, Hp, HO⟩
  iapply (StableHlo.wp_seq 𝒱 none Set.univ d (Pipeline.ucRefs τ sig) _ hops5 (sub_of hops5_sub) (fresh_of hops5_fresh) (W10 m d)) $$ [Hb Hh]
  · isplitl [Hb]; · iexact Hb
    iexact Hh
  iintro ⟨Hb, Hh⟩
  rw [wp_bind]
  iapply (step5 m d _)
  isplitr [Hb Hh Hp HO Hg3 Ht3]
  swap
  · isplitl [Hb]; · iexact Hb
    isplitl [Hh Hp HO]
    · isplitl [Hh]; · iexact Hh
      isplitl [Hp]; · iexact Hp
      iexact HO
    isplitr; · iexact Hlev
    isplitl [Hg3] <;> iassumption
  iintro ⟨Hb, Hh, Hp, HO⟩
  iapply (StableHlo.wp_seq 𝒱 none Set.univ d (Pipeline.ucRefs τ sig) _ hops6 (sub_of hops6_sub) (fresh_of hops6_fresh) (W12 m d)) $$ [Hb Hh]
  · isplitl [Hb]; · iexact Hb
    iexact Hh
  iintro ⟨Hb, Hh⟩
  rw [wp_bind]
  iapply (step6 m d _)
  isplitr [Hb Hh Hp HO Hg4 Ht4]
  swap
  · isplitl [Hb]; · iexact Hb
    isplitl [Hh Hp HO]
    · isplitl [Hh]; · iexact Hh
      isplitl [Hp]; · iexact Hp
      iexact HO
    isplitr; · iexact Hlev
    isplitl [Hg4] <;> iassumption
  iintro ⟨Hb, Hh, Hp, HO⟩
  rw [wp_pure]; imodintro
  icases HO with ⟨%We, HO⟩
  isplitl [HO HHs]
  · rw [tcSt_two]
    isplitl [HO]
    · iexists We; isplitr; · ipureintro; exact wBelow_all d We
      iexact HO
    iexact HHs
  isplitl [Hh]; · iexact Hh
  isplitl [Hb] <;> iassumption

def fq (d : Dev nD) (s' : Phys nD τ sig (Elt F)) : Prop := ∀ b ∈ Pipeline.ucRefs τ sig, s'.mem.mem (d, b) = W14 m d b

theorem hfin (d : Dev nD) (s' : Phys nD τ sig (Elt F)) : iprop(FIN m d ∗ SI s') ⊢ (⌜fq m d s'⌝ : sProp 𝕄) := by
  unfold FIN held
  exact (pointsTo_read_all (Pipeline.ucRefs τ sig) (fun b => (d, b)) (W14 m d) s').trans sep_elim_left

/-- What every run of the program ends with. -/
def Ends : PUnit × MemSt nD τ sig (Elt F) → Prop := fun r =>
  (∀ d : Dev nD, ∀ b ∈ Pipeline.ucRefs τ sig, r.2.mem (d, b) = W14 m d b) ∧ r.2.sem = fun _ => 0

theorem run_main (hI0 : ∀ d, InTable (lst0 m d)) (hI1 : ∀ d, InTable (lst1 m d)) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := Pm m) (A := ∅) facts v₀
    (fun q hq => match q with | 0 => nomatch hq | 1 => nomatch hq)
    (fun q _ => match q with | 0 => tileObl0 _ _ _ _ _ _ facts hI0 | 1 => tileObl1 _ _ _ _ _ _ facts hI1)
    (fun q _ => match q with | 0 => SparseCore.Cfg.VecSplit.of_plain (vecSplit0 _ _ _ _ _ _) | 1 => SparseCore.Cfg.VecSplit.of_plain (vecSplit1 _ _ _ _ _ _))
    m ρ main (G (F := F)) (FIN m) (u₀ (F := F)) (sep_elim_left.trans (hu₀ _ _ _ _ _ _)) (hmain m ρ) (fq m) (hfin m) (Ends m) (fun _ h hz => ⟨h, hz⟩)

end Main

end Cert.Proof.Run

end
-- ==== Proof.Model.lean ====
/-
  The layers in the arithmetic of the extended reals: what both programs compute.
-/
module

public import Idealize.ShloMosaic.Lib.KernelVsHost.DropoutScale
public import Idealize.ShloMosaic.Lib.IdealHost

@[expose] public section

noncomputable section

namespace Cert.Proof.Model

open Idealize.ShloMosaic

/-! ## Real numbers among the extended ones -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_max (x y : ℝ) : ((max x y : ℝ) : EReal) = max (x : EReal) (y : EReal) := EReal.coe_strictMono.monotone.map_max

theorem coe_max_zero (x : ℝ) : ((max x 0 : ℝ) : EReal) = max (x : EReal) 0 := by rw [coe_max]; rfl

theorem div_real (x y : ℝ) (h : y ≠ 0) : Ideal.div (x : EReal) (y : EReal) = ((x / y : ℝ) : EReal) := by
  rw [Ideal.div_coe h, ← EReal.coe_mul]
  congr 1
  ring

theorem sqrt_real (x : ℝ) (h : 0 ≤ x) : Ideal.sqrt (x : EReal) = ((√x : ℝ) : EReal) := by
  rw [Ideal.sqrt_coe, if_neg (not_lt.mpr h)]

/-- A value strictly between the infinities is a real number. -/
theorem real_of_between (x : EReal) (h0 : ⊥ < x) (h1 : x < ⊤) : ((x.toReal : ℝ) : EReal) = x := EReal.coe_toReal h1.ne h0.ne'

/-- The small constant of the normalisations. -/
def eps : ℝ := 10995116 / 2 ^ 40

theorem eps_pos : 0 < eps := by unfold eps; positivity

theorem ofBits_eps : Ideal.ofBits .f32 0x3727C5AC#32 = ((eps : ℝ) : EReal) := by
  unfold eps
  simp [Ideal.ofBits, Ideal.ieee, -EReal.coe_mul]; norm_num

/-! ## Infinite sums -/

/-- One of the two infinities. -/
def Inf (x : EReal) : Prop := x = ⊤ ∨ x = ⊥

theorem Inf.add {x : EReal} (h : Inf x) (y : EReal) : Inf (x + y) := by
  rcases h with rfl | rfl
  · rcases eq_or_ne y ⊥ with rfl | hy
    · exact Or.inr (EReal.add_bot _)
    · exact Or.inl (EReal.top_add_of_ne_bot hy)
  · exact Or.inr (EReal.bot_add _)

theorem Inf.sq {x : EReal} (h : Inf x) : x * x = ⊤ := by
  rcases h with rfl | rfl
  · exact EReal.top_mul_top
  · exact EReal.bot_mul_bot

theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

theorem inf_sum {s : Fin 65536 → EReal} {p : Fin 65536} (h : Inf (s p)) : Inf (∑ q, s q) := by
  rw [← Finset.add_sum_erase _ _ (Finset.mem_univ p)]
  exact h.add _

theorem top_sum {s : Fin 65536 → EReal} {p : Fin 65536} (h : Inf (s p)) : ∑ q, s q * s q = ⊤ := by
  rw [← Finset.add_sum_erase _ _ (Finset.mem_univ p), h.sq]
  exact EReal.top_add_of_ne_bot (fun e => absurd (e ▸ Finset.sum_nonneg fun q _ => sq_nonneg' (s q)) (by decide))

/-- A feature has an infinite value, or all of its values are real numbers. -/
theorem inf_or_real (s : Fin 65536 → EReal) : (∃ p, Inf (s p)) ∨ ∃ t : Fin 65536 → ℝ, s = fun p => (t p : EReal) := by
  by_cases h : ∃ p, Inf (s p)
  · exact Or.inl h
  · refine Or.inr ⟨fun p => (s p).toReal, funext fun p => ?_⟩
    exact (EReal.coe_toReal (fun e => h ⟨p, Or.inl e⟩) (fun e => h ⟨p, Or.inr e⟩)).symm

/-! ## Normalising a feature over the points -/

/-- The mean of a real feature over the points, -/
def mean (t : Fin 65536 → ℝ) : ℝ := (∑ p, t p) / 65536

/-- and its variance. -/
def var (t : Fin 65536 → ℝ) : ℝ := (∑ p, (t p - mean t) * (t p - mean t)) / 65536

theorem var_nonneg (t : Fin 65536 → ℝ) : 0 ≤ var t :=
  div_nonneg (Finset.sum_nonneg fun p _ => mul_self_nonneg _) (by norm_num)

theorem root_pos (t : Fin 65536 → ℝ) : 0 < √(var t + eps) := Real.sqrt_pos.mpr (add_pos_of_nonneg_of_pos (var_nonneg t) eps_pos)

/-- A constant added to a feature moves its mean, -/
theorem mean_add (t : Fin 65536 → ℝ) (b : ℝ) : mean (fun p => t p + b) = mean t + b := by
  unfold mean
  rw [Finset.sum_add_distrib, Finset.sum_const, Finset.card_univ, Fintype.card_fin, nsmul_eq_mul]
  push_cast
  ring

/-- not its variance. -/
theorem var_add (t : Fin 65536 → ℝ) (b : ℝ) : var (fun p => t p + b) = var t := by
  unfold var
  rw [mean_add]
  simp only [add_sub_add_right_eq_sub]

/-- The variance is the mean of the squares less the square of the mean. -/
theorem var_eq (t : Fin 65536 → ℝ) : (∑ p, t p * t p) / 65536 - mean t * mean t = var t := by
  have h : ∑ p, (t p - mean t) * (t p - mean t) = ∑ p, t p * t p - 2 * mean t * ∑ p, t p + 65536 * (mean t * mean t) := by
    have e : ∀ p, (t p - mean t) * (t p - mean t) = t p * t p - 2 * mean t * t p + mean t * mean t := fun p => by ring
    simp only [e]
    rw [Finset.sum_add_distrib, Finset.sum_sub_distrib, ← Finset.mul_sum, Finset.sum_const, Finset.card_univ, Fintype.card_fin, nsmul_eq_mul]
    push_cast
    ring
  have hm : ∑ p, t p = 65536 * mean t := by unfold mean; ring
  unfold var
  rw [h, hm]
  ring

/-! ### In the extended reals -/

/-- The mean, -/
def avg (s : Fin 65536 → EReal) : EReal := Ideal.div (∑ p, s p) ((65536 : ℝ) : EReal)

/-- the normalised feature, scaled by `g` and shifted by `e`, as the reference has it, -/
def norm (s : Fin 65536 → EReal) (g e : EReal) (p : Fin 65536) : EReal :=
  g * Ideal.div (s p - avg s) (Ideal.sqrt (Ideal.div (∑ q, (s q - avg s) * (s q - avg s)) ((65536 : ℝ) : EReal) + ((eps : ℝ) : EReal))) + e

/-- and the scale -/
def scale (s : Fin 65536 → EReal) (g : EReal) : EReal :=
  Ideal.div g (Ideal.sqrt (Ideal.div (∑ p, s p * s p) ((65536 : ℝ) : EReal) - avg s * avg s + ((eps : ℝ) : EReal)))

/-- and the shift of the kernel. -/
def shift (s : Fin 65536 → EReal) (g e : EReal) : EReal := e - avg s * scale s g

theorem avg_real (t : Fin 65536 → ℝ) : avg (fun p => (t p : EReal)) = ((mean t : ℝ) : EReal) := by
  unfold avg
  rw [← coe_sum, div_real _ _ (by norm_num)]; rfl

theorem scale_real (t : Fin 65536 → ℝ) (g : ℝ) : scale (fun p => (t p : EReal)) g = ((g / √(var t + eps) : ℝ) : EReal) := by
  have hq : ∑ p, (t p : EReal) * (t p : EReal) = ((∑ p, t p * t p : ℝ) : EReal) := by rw [coe_sum]; simp only [EReal.coe_mul]
  unfold scale
  rw [avg_real, hq, div_real _ _ (by norm_num), ← EReal.coe_mul, ← EReal.coe_sub, var_eq, ← EReal.coe_add,
    sqrt_real _ (add_pos_of_nonneg_of_pos (var_nonneg t) eps_pos).le, div_real _ _ (root_pos t).ne']

theorem norm_real (t : Fin 65536 → ℝ) (g : ℝ) (e : EReal) (p : Fin 65536) :
    norm (fun p => (t p : EReal)) g e p = ((g * ((t p - mean t) / √(var t + eps)) : ℝ) : EReal) + e := by
  have hv : ∑ q, ((t q : EReal) - ((mean t : ℝ) : EReal)) * ((t q : EReal) - ((mean t : ℝ) : EReal))
      = ((∑ q, (t q - mean t) * (t q - mean t) : ℝ) : EReal) := by
    rw [coe_sum]; simp only [EReal.coe_mul, EReal.coe_sub]
  unfold norm
  rw [avg_real, hv, div_real _ _ (by norm_num), ← EReal.coe_add]
  show _ * Ideal.div _ (Ideal.sqrt ((var t + eps : ℝ) : EReal)) + _ = _
  rw [sqrt_real _ (add_pos_of_nonneg_of_pos (var_nonneg t) eps_pos).le, ← EReal.coe_sub, div_real _ _ (root_pos t).ne', ← EReal.coe_mul]

/-- Dividing by the number of points keeps an infinity. -/
theorem div_top : Ideal.div ⊤ ((65536 : ℝ) : EReal) = ⊤ := by
  rw [Ideal.div_coe (by norm_num)]
  exact EReal.top_mul_coe_of_pos (by norm_num)

theorem div_bot : Ideal.div ⊥ ((65536 : ℝ) : EReal) = ⊥ := by
  rw [Ideal.div_coe (by norm_num)]
  exact EReal.bot_mul_coe_of_pos (by norm_num)

theorem inf_avg {s : Fin 65536 → EReal} {p : Fin 65536} (h : Inf (s p)) : Inf (avg s) := by
  unfold avg
  rcases inf_sum h with e | e <;> rw [e]
  · exact Or.inl div_top
  · exact Or.inr div_bot

/-- What is divided by an infinity is zero. -/
theorem div_inf (x : EReal) {y : EReal} (h : Inf y) : Ideal.div x y = 0 := by
  unfold Ideal.div
  rcases h with rfl | rfl
  · rw [if_neg (by decide), EReal.inv_top, mul_zero]
  · rw [if_neg (by decide), EReal.inv_bot, mul_zero]

/-- A feature with an infinite value is shifted only, in the reference -/
theorem norm_inf {s : Fin 65536 → EReal} {q : Fin 65536} (h : Inf (s q)) (g e : EReal) (p : Fin 65536) : norm s g e p = e := by
  have hd : ∀ x, Inf (x - avg s) := fun x => by
    rw [sub_eq_add_neg, add_comm]
    refine Inf.add ?_ x
    rcases inf_avg h with e | e <;> rw [e]
    · exact Or.inr rfl
    · exact Or.inl rfl
  unfold norm
  rw [top_sum (s := fun q => s q - avg s) (hd (s q)), div_top, EReal.top_add_coe]
  rw [div_inf _ (Or.inl (rfl : Ideal.sqrt ⊤ = ⊤)), mul_zero, zero_add]

/-- and in the kernel. -/
theorem scale_inf {s : Fin 65536 → EReal} {q : Fin 65536} (h : Inf (s q)) (g : EReal) : scale s g = 0 := by
  unfold scale
  rw [top_sum h, div_top, (inf_avg h).sq, EReal.sub_top, EReal.bot_add]
  exact div_inf _ (Or.inr rfl)

/-- The kernel's form is the reference's. -/
theorem norm_eq (s : Fin 65536 → EReal) (g : ℝ) (e : EReal) (p : Fin 65536) : s p * scale s g + shift s g e = norm s g e p := by
  unfold shift
  rcases inf_or_real s with ⟨q, h⟩ | ⟨t, rfl⟩
  · rw [scale_inf h, norm_inf h, mul_zero, mul_zero, zero_add, sub_zero]
  · rw [scale_real, avg_real, norm_real, sub_eq_add_neg, add_comm e, ← add_assoc, ← EReal.coe_mul, ← EReal.coe_mul, ← EReal.coe_neg, ← EReal.coe_add]
    congr 2
    ring

/-- A bias leaves the normalised values as they are. -/
theorem norm_add (s : Fin 65536 → EReal) (b g : ℝ) (e : EReal) (p : Fin 65536) : norm (fun p => s p + (b : EReal)) g e p = norm s g e p := by
  rcases inf_or_real s with ⟨q, h⟩ | ⟨t, rfl⟩
  · rw [norm_inf h, norm_inf (s := fun p => s p + (b : EReal)) (h.add _)]
  · have hb : (fun p => (t p : EReal) + (b : EReal)) = fun p => ((t p + b : ℝ) : EReal) := funext fun p => (EReal.coe_add _ _).symm
    rw [hb, norm_real, norm_real, mean_add, var_add, add_sub_add_right_eq_sub]

/-! ## The layers -/

/-- The inputs: the biases and the scales are real numbers. -/
structure Data where
  /-- The weights of each point's three neighbours, -/
  w : Fin 65536 → Fin 3 → EReal
  /-- and their rows in the table. -/
  nb : Fin 65536 → Fin 3 → Fin 16384
  p1 : Fin 16 → Fin 256 → Fin 4096 → EReal
  p2 : Fin 16 → Fin 512 → Fin 1024 → EReal
  wf : Fin 512 → Fin 768 → EReal
  bf : Fin 512 → ℝ
  gf : Fin 512 → ℝ
  ef : Fin 512 → EReal
  w1 : Fin 512 → Fin 512 → EReal
  b1 : Fin 512 → ℝ
  g1 : Fin 512 → ℝ
  e1 : Fin 512 → EReal
  w2 : Fin 512 → Fin 512 → EReal
  b2 : Fin 512 → ℝ
  g2 : Fin 512 → ℝ
  e2 : Fin 512 → EReal

variable (D : Data)

/-- Row `r` of the table. -/
def Data.tab (r : Fin 16384) (k : Fin 512) : EReal := D.p2 ⟨r.val / 1024, by omega⟩ k ⟨r.val % 1024, by omega⟩

/-- The features interpolated at point `p`. -/
def Data.interp (p : Fin 65536) (k : Fin 512) : EReal :=
  D.tab (D.nb p 0) k * D.w p 0 + D.tab (D.nb p 1) k * D.w p 1 + D.tab (D.nb p 2) k * D.w p 2

/-- The skip features at point `p`. -/
def Data.skip (p : Fin 65536) (k : Fin 256) : EReal := D.p1 ⟨p.val / 4096, by omega⟩ k ⟨p.val % 4096, by omega⟩

/-- The first layer's product, -/
def Data.s0 (o : Fin 512) (p : Fin 65536) : EReal :=
  (∑ k : Fin 512, D.interp p k * D.wf o ⟨256 + k.val, by omega⟩) + ∑ k : Fin 256, D.skip p k * D.wf o ⟨k.val, by omega⟩
/-- and its activations; -/
def Data.x (p : Fin 65536) (o : Fin 512) : EReal := max (norm (D.s0 o) (D.gf o) (D.ef o) p) 0
/-- the second layer's, -/
def Data.s1 (o : Fin 512) (p : Fin 65536) : EReal := ∑ k : Fin 512, D.x p k * D.w1 o k
def Data.y (p : Fin 65536) (o : Fin 512) : EReal := max (norm (D.s1 o) (D.g1 o) (D.e1 o) p) 0
/-- and the third's, with the skip over the two of them. -/
def Data.s2 (o : Fin 512) (p : Fin 65536) : EReal := ∑ k : Fin 512, D.y p k * D.w2 o k
def Data.out (p : Fin 65536) (o : Fin 512) : EReal := max (norm (D.s2 o) (D.g2 o) (D.e2 o) p + D.x p o) 0

end Cert.Proof.Model
-- ==== Proof.Inputs.lean ====
/-
  The input arrays as the inputs of the model, where the numbers are in range and the biases and scales are finite.
-/
module

public import proofs.«01_k».proof.Proof.Model
public import Idealize.ShloMosaic.Lib.Pointwise

@[expose] public section

noncomputable section

namespace Cert.Proof.Model

open Idealize.ShloMosaic

/-- Shapes of one, two and three axes. -/
abbrev D1 (a : ℕ) : Shape := ⟨1, ![a]⟩
abbrev D2 (a b : ℕ) : Shape := ⟨2, ![a, b]⟩
abbrev D3 (a b c : ℕ) : Shape := ⟨3, ![a, b, c]⟩

/-- The distance of neighbour `j` of row `p`: the first half of the rows is in `a`, the second in `b`. -/
def dist (a b : Vec Ideal (D2 32768 3) .f32) (p : Fin 65536) (j : Fin 3) : EReal :=
  if h : p.val < 32768 then a (ix2 ⟨p.val, h⟩ j) else b (ix2 ⟨p.val - 32768, by omega⟩ j)
/-- Its reciprocal, -/
def recip (a b : Vec Ideal (D2 32768 3) .f32) (p : Fin 65536) (j : Fin 3) : EReal := Ideal.div 1 (dist a b p j + Ideal.ofBits .f32 0x322BCC77#32)
/-- and its weight. -/
def weight (a b : Vec Ideal (D2 32768 3) .f32) (p : Fin 65536) (j : Fin 3) : EReal := Ideal.div (recip a b p j) (∑ l : Fin 3, recip a b p l)

/-- The number of neighbour `j` of row `p`. -/
def number (a b : Vec Ideal (D2 3 32768) .i32) (p : Fin 65536) (j : Fin 3) : BitVec 32 :=
  if h : p.val < 32768 then a (ix2 j ⟨p.val, h⟩) else b (ix2 j ⟨p.val - 32768, by omega⟩)

/-- The arrays hold the data. -/
structure Reads (D : Data) (a0 : Vec Ideal (D2 3 32768) .i32) (a1 : Vec Ideal (D2 32768 3) .f32) (a2 : Vec Ideal (D2 3 32768) .i32)
    (a3 : Vec Ideal (D2 32768 3) .f32) (a4 : Vec Ideal (D3 16 256 4096) .f32) (a5 : Vec Ideal (D3 16 512 1024) .f32)
    (a6 : Vec Ideal (D2 512 768) .f32) (a7 a8 a9 : Vec Ideal (D1 512) .f32) (a10 : Vec Ideal (D2 512 512) .f32)
    (a11 a12 a13 : Vec Ideal (D1 512) .f32) (a14 : Vec Ideal (D2 512 512) .f32) (a15 a16 a17 : Vec Ideal (D1 512) .f32) : Prop where
  w : ∀ p j, weight a1 a3 p j = D.w p j
  nb : ∀ p j, BitVec.toNat (number a0 a2 p j) = (D.nb p j).val
  p1 : ∀ b k n, (a4 (ix3 b k n) : EReal) = D.p1 b k n
  p2 : ∀ b k n, (a5 (ix3 b k n) : EReal) = D.p2 b k n
  wf : ∀ o k, (a6 (ix2 o k) : EReal) = D.wf o k
  bf : ∀ o, (a7 (ix1 o) : EReal) = (D.bf o : EReal)
  gf : ∀ o, (a8 (ix1 o) : EReal) = (D.gf o : EReal)
  ef : ∀ o, (a9 (ix1 o) : EReal) = D.ef o
  w1 : ∀ o k, (a10 (ix2 o k) : EReal) = D.w1 o k
  b1 : ∀ o, (a11 (ix1 o) : EReal) = (D.b1 o : EReal)
  g1 : ∀ o, (a12 (ix1 o) : EReal) = (D.g1 o : EReal)
  e1 : ∀ o, (a13 (ix1 o) : EReal) = D.e1 o
  w2 : ∀ o k, (a14 (ix2 o k) : EReal) = D.w2 o k
  b2 : ∀ o, (a15 (ix1 o) : EReal) = (D.b2 o : EReal)
  g2 : ∀ o, (a16 (ix1 o) : EReal) = (D.g2 o : EReal)
  e2 : ∀ o, (a17 (ix1 o) : EReal) = D.e2 o

/-- The data of arrays. -/
def dataOf (a0 : Vec Ideal (D2 3 32768) .i32) (a1 : Vec Ideal (D2 32768 3) .f32) (a2 : Vec Ideal (D2 3 32768) .i32)
    (a3 : Vec Ideal (D2 32768 3) .f32) (a4 : Vec Ideal (D3 16 256 4096) .f32) (a5 : Vec Ideal (D3 16 512 1024) .f32)
    (a6 : Vec Ideal (D2 512 768) .f32) (a7 a8 a9 : Vec Ideal (D1 512) .f32) (a10 : Vec Ideal (D2 512 512) .f32)
    (a11 a12 a13 : Vec Ideal (D1 512) .f32) (a14 : Vec Ideal (D2 512 512) .f32) (a15 a16 a17 : Vec Ideal (D1 512) .f32) : Data where
  w p j := weight a1 a3 p j
  nb p j := ⟨BitVec.toNat (number a0 a2 p j) % 16384, Nat.mod_lt _ (by decide)⟩
  p1 b k n := a4 (ix3 b k n)
  p2 b k n := a5 (ix3 b k n)
  wf o k := a6 (ix2 o k)
  bf o := EReal.toReal (a7 (ix1 o))
  gf o := EReal.toReal (a8 (ix1 o))
  ef o := a9 (ix1 o)
  w1 o k := a10 (ix2 o k)
  b1 o := EReal.toReal (a11 (ix1 o))
  g1 o := EReal.toReal (a12 (ix1 o))
  e1 o := a13 (ix1 o)
  w2 o k := a14 (ix2 o k)
  b2 o := EReal.toReal (a15 (ix1 o))
  g2 o := EReal.toReal (a16 (ix1 o))
  e2 o := a17 (ix1 o)

/-- No element is infinite. -/
def Finite {s : Shape} (a : Vec Ideal s .f32) : Prop := ∀ i, (⊥ : EReal) < a i ∧ (a i : EReal) < ⊤

theorem Finite.real {s : Shape} {a : Vec Ideal s .f32} (h : Finite a) (i : s.Idx) : (a i : EReal) = ((EReal.toReal (a i) : ℝ) : EReal) :=
  (real_of_between _ (h i).1 (h i).2).symm

/-- Every number is a row of the table. -/
def InRange (a : IVec (D2 3 32768) 32) : Prop := ∀ i, (a i).toNat < 16384

theorem number_lt {a b : IVec (D2 3 32768) 32} (ha : InRange a) (hb : InRange b) (p : Fin 65536) (j : Fin 3) :
    BitVec.toNat (number a b p j) < 16384 := by
  unfold number
  split
  · exact ha _
  · exact hb _

theorem reads_dataOf (a0 : Vec Ideal (D2 3 32768) .i32) (a1 : Vec Ideal (D2 32768 3) .f32) (a2 : Vec Ideal (D2 3 32768) .i32)
    (a3 : Vec Ideal (D2 32768 3) .f32) (a4 : Vec Ideal (D3 16 256 4096) .f32) (a5 : Vec Ideal (D3 16 512 1024) .f32)
    (a6 : Vec Ideal (D2 512 768) .f32) (a7 a8 a9 : Vec Ideal (D1 512) .f32) (a10 : Vec Ideal (D2 512 512) .f32)
    (a11 a12 a13 : Vec Ideal (D1 512) .f32) (a14 : Vec Ideal (D2 512 512) .f32) (a15 a16 a17 : Vec Ideal (D1 512) .f32)
    (h0 : InRange a0) (h2 : InRange a2) (h7 : Finite a7) (h8 : Finite a8) (h11 : Finite a11) (h12 : Finite a12) (h15 : Finite a15) (h16 : Finite a16) :
    Reads (dataOf a0 a1 a2 a3 a4 a5 a6 a7 a8 a9 a10 a11 a12 a13 a14 a15 a16 a17) a0 a1 a2 a3 a4 a5 a6 a7 a8 a9 a10 a11 a12 a13 a14 a15 a16 a17 where
  w p j := rfl
  nb p j := (Nat.mod_eq_of_lt (number_lt h0 h2 p j)).symm
  p1 b k n := rfl
  p2 b k n := rfl
  wf o k := rfl
  bf o := h7.real _
  gf o := h8.real _
  ef o := rfl
  w1 o k := rfl
  b1 o := h11.real _
  g1 o := h12.real _
  e1 o := rfl
  w2 o k := rfl
  b2 o := h15.real _
  g2 o := h16.real _
  e2 o := rfl

end Cert.Proof.Model

end
-- ==== Proof.Gat.lean ====
/-
  The value of a row gather: row `r` of the fetched array is the row of the table that number `r` names. Read off the
  program's list of half rows and its table of half rows.
-/
module

public import proofs.«01_k».proof.Proof.Rows
public import proofs.«01_k».proof.Proof.Inputs
public import Idealize.ShloMosaic.Lib.Pointwise.ShapeOpsCore
public import Idealize.ShloMosaic.Lib.Pointwise.Reshape

@[expose] public section

noncomputable section

namespace Cert.Proof.Gat

open Cert.KernelIdeal Cert.KernelIdeal.Gen Cert.Proof.Rows Cert.Proof.Model

open Idealize.ShloMosaic

variable {F : FTy → Type} [FloatOps F]

/-- The table as rows, the row numbers asked for, and the rows fetched. -/
abbrev Rws (F : FTy → Type) : Type := S16384x512.Idx → Elt F .f32
abbrev Nums (F : FTy → Type) : Type := S98304.Idx → Elt F .i32
abbrev Res (F : FTy → Type) : Type := S98304x512.Idx → Elt F .f32

/-- Every number names a row of the table. -/
def InRows (x : Nums F) : Prop := ∀ j, BitVec.toNat (x j : BitVec 32) < 16384

/-! ## The table of half rows and the list -/

/-- The list of half rows: twice each number, and one more. -/
def listOf (x : Nums F) : Lst F :=
  shapeCast S196608 (addi (broadcastInDim S98304x2 ![0, 1] bcast_S98304x1_S98304x2_0_1
      (muli (broadcastInDim S98304x1 ![0] bcast_S98304_S98304x1_0 x : IVec S98304x1 32) (broadcastInDim S98304x1 ![] bcast_S_S98304x1 (constantI S_ 32 2#32))))
    (broadcastInDim S98304x2 ![0, 1] bcast_S1x2_S98304x2_0_1 (broadcastInDim S1x2 ![1] bcast_S2_S1x2_1 (iotaInDim S2 32 0)))) shapeCasts_S98304x2_S196608

theorem listOf_apply (x : Nums F) (n : Fin 196608) :
    listOf x (ix1 n) = (x (ix1 ⟨n.val / 2, by omega⟩) : BitVec 32) * 2#32 + BitVec.ofNat 32 (n.val % 2) := by
  have hn : n.val / 2 < 98304 := by omega
  have hm : n.val % 2 < 2 := by omega
  have hi : Shape.reshapeEquiv shapeCasts_S98304x2_S196608 (ix1 n) = ix2 ⟨n.val / 2, hn⟩ ⟨n.val % 2, hm⟩ :=
    Shape.reshapeEquiv_eq_of_rowMajor (s := S98304x2) (s' := S196608) _
      ((Shape.rowMajor_val_two (d := ![98304, 2]) (ix2 ⟨n.val / 2, hn⟩ ⟨n.val % 2, hm⟩)).trans
        ((show n.val / 2 * 2 + n.val % 2 = n.val by omega).trans (Shape.rowMajor_val_one (d := ![196608]) (ix1 n)).symm))
  unfold listOf
  rw [Pointwise.shapeCast_apply, hi]
  show (x _ : BitVec 32) * 2#32 + BitVec.ofNat 32 _ = _
  refine congrArg₂ (· + ·) (congrArg (· * 2#32) (congrArg x (funext fun a => Fin.ext ?_))) rfl
  match a with
  | ⟨0, _⟩ => rfl

/-- A list made of numbers in range names half rows of the table, and which. -/
theorem listOf_toNat (x : Nums F) (h : InRows x) (n : Fin 196608) :
    BitVec.toNat (listOf x (ix1 n) : BitVec 32) = 2 * BitVec.toNat (x (ix1 ⟨n.val / 2, by omega⟩) : BitVec 32) + n.val % 2 := by
  have hx := h (ix1 ⟨n.val / 2, by omega⟩)
  rw [listOf_apply, BitVec.toNat_add, BitVec.toNat_mul, BitVec.toNat_ofNat, BitVec.toNat_ofNat]
  omega

theorem inTable_listOf (x : Nums F) (h : InRows x) : InTable (F := F) (listOf x) := by
  intro j
  obtain ⟨n, rfl⟩ : ∃ n : Fin 196608, j = ix1 n := ⟨j 0, eq_ix1 (n0 := 196608) j⟩
  rw [listOf_toNat x h]
  have hx := h (ix1 ⟨n.val / 2, by omega⟩)
  omega

/-- The table viewed as half rows. -/
def halves (t : Rws F) : Tab F := shapeCast S32768x2x128 t shapeCasts_S16384x512_S32768x2x128

theorem halves_apply (t : Rws F) (p : Fin 32768) (y : Fin 2) (z : Fin 128) :
    halves t (ix3 p y z) = t (ix2 ⟨p.val / 2, by omega⟩ ⟨256 * (p.val % 2) + 128 * y.val + z.val, by omega⟩) := by
  have h0 : p.val / 2 < 16384 := by omega
  have h1 : 256 * (p.val % 2) + 128 * y.val + z.val < 512 := by omega
  have hi : Shape.reshapeEquiv shapeCasts_S16384x512_S32768x2x128 (ix3 p y z) = ix2 ⟨p.val / 2, h0⟩ ⟨256 * (p.val % 2) + 128 * y.val + z.val, h1⟩ :=
    Shape.reshapeEquiv_eq_of_rowMajor (s := S16384x512) (s' := S32768x2x128) _
      ((Shape.rowMajor_val_two (d := ![16384, 512]) (ix2 ⟨p.val / 2, h0⟩ ⟨256 * (p.val % 2) + 128 * y.val + z.val, h1⟩)).trans
        ((show p.val / 2 * 512 + (256 * (p.val % 2) + 128 * y.val + z.val) = (p.val * 2 + y.val) * 128 + z.val by omega).trans
          (Shape.rowMajor_val_three (d := ![32768, 2, 128]) (ix3 p y z)).symm))
  unfold halves
  rw [Pointwise.shapeCast_apply, hi]

/-- The fetched half rows viewed as rows. -/
def whole (g : Out F) : Res F := shapeCast S98304x512 g shapeCasts_S196608x2x128_S98304x512

theorem whole_apply (g : Out F) (r : Fin 98304) (c : Fin 512) :
    whole g (ix2 r c) = g (ix3 ⟨2 * r.val + c.val / 256, by omega⟩ ⟨c.val / 128 % 2, by omega⟩ ⟨c.val % 128, by omega⟩) := by
  have h0 : 2 * r.val + c.val / 256 < 196608 := by omega
  have h1 : c.val / 128 % 2 < 2 := by omega
  have h2 : c.val % 128 < 128 := by omega
  have hi : Shape.reshapeEquiv shapeCasts_S196608x2x128_S98304x512 (ix2 r c) = ix3 ⟨2 * r.val + c.val / 256, h0⟩ ⟨c.val / 128 % 2, h1⟩ ⟨c.val % 128, h2⟩ :=
    Shape.reshapeEquiv_eq_of_rowMajor (s := S196608x2x128) (s' := S98304x512) _
      ((Shape.rowMajor_val_three (d := ![196608, 2, 128]) (ix3 ⟨2 * r.val + c.val / 256, h0⟩ ⟨c.val / 128 % 2, h1⟩ ⟨c.val % 128, h2⟩)).trans
        ((show ((2 * r.val + c.val / 256) * 2 + c.val / 128 % 2) * 128 + c.val % 128 = r.val * 512 + c.val by omega).trans
          (Shape.rowMajor_val_two (d := ![98304, 512]) (ix2 r c)).symm))
  unfold whole
  rw [Pointwise.shapeCast_apply, hi]

/-- The rows that the numbers name. -/
def rowsAt (t : Rws F) (x : Nums F) : Res F := fun j =>
  t (ix2 ⟨BitVec.toNat (x (ix1 (j 0)) : BitVec 32) % 16384, Nat.mod_lt _ (by decide)⟩ (j 1))

/-- What the program leaves: the half rows the list names, put together again, are the rows. -/
theorem kernel_value (t : Rws F) (x : Nums F) (h : InRows x) : whole (gathered (halves t) (listOf x)) = rowsAt t x := by
  funext j
  obtain ⟨r, c, rfl⟩ : ∃ (r : Fin 98304) (c : Fin 512), j = ix2 r c := ⟨j 0, j 1, eq_ix2 (n0 := 98304) (n1 := 512) j⟩
  have hx := h (ix1 r)
  rw [whole_apply]
  show halves t (ix3 ⟨nth (listOf x) (2 * r.val + c.val / 256), nth_lt _ _⟩ ⟨c.val / 128 % 2, by omega⟩ ⟨c.val % 128, by omega⟩)
    = t (ix2 ⟨BitVec.toNat (x (ix1 r) : BitVec 32) % 16384, Nat.mod_lt _ (by decide)⟩ c)
  have e : nth (listOf x) (2 * r.val + c.val / 256) = 2 * BitVec.toNat (x (ix1 r) : BitVec 32) + c.val / 256 := by
    unfold nth
    rw [listOf_toNat x h]
    have h1 : (⟨(2 * r.val + c.val / 256) % 196608 / 2, by omega⟩ : Fin 98304) = r := Fin.ext (by dsimp only; omega)
    dsimp only
    rw [h1]
    omega
  rw [halves_apply]
  dsimp only
  refine congrArg t ((ix2_inj _ _ _ _).mpr ⟨Fin.ext ?_, Fin.ext ?_⟩)
  · dsimp only [ix2_0]; rw [e]; omega
  · dsimp only [ix2_0]; rw [e]; omega

/-- The neighbours' numbers of one half of the rows in one line, the first neighbours before the second and the third. -/
def line (a : S3x32768.Idx → Elt F .i32) : Nums F := shapeCast S98304 a shapeCasts_S3x32768_S98304

theorem line_apply (a : S3x32768.Idx → Elt F .i32) (q : Fin 98304) :
    line a (ix1 q) = a (ix2 ⟨q.val / 32768, by omega⟩ ⟨q.val % 32768, by omega⟩) := by
  have h0 : q.val / 32768 < 3 := by omega
  have h1 : q.val % 32768 < 32768 := by omega
  have hi : Shape.reshapeEquiv shapeCasts_S3x32768_S98304 (ix1 q) = ix2 ⟨q.val / 32768, h0⟩ ⟨q.val % 32768, h1⟩ :=
    Shape.reshapeEquiv_eq_of_rowMajor (s := S3x32768) (s' := S98304) _
      ((Shape.rowMajor_val_two (d := ![3, 32768]) (ix2 ⟨q.val / 32768, h0⟩ ⟨q.val % 32768, h1⟩)).trans
        ((show q.val / 32768 * 32768 + q.val % 32768 = q.val by omega).trans (Shape.rowMajor_val_one (d := ![98304]) (ix1 q)).symm))
  unfold line
  rw [Pointwise.shapeCast_apply, hi]

theorem inRows_line (a : S3x32768.Idx → Elt F .i32) (h : InRange a) : InRows (line a) := by
  intro j
  obtain ⟨n, rfl⟩ : ∃ n : Fin 98304, j = ix1 n := ⟨j 0, eq_ix1 (n0 := 98304) j⟩
  rw [line_apply]
  exact h _

/-- The row fetched for neighbour `j` of row `q` of a half. -/
theorem rows_line (t : Rws F) (a : S3x32768.Idx → Elt F .i32) (j : Fin 3) (q : Fin 32768) (k : Fin 512) (n : Fin 16384)
    (hn : BitVec.toNat (a (ix2 j q) : BitVec 32) = n.val) :
    rowsAt t (line a) (ix2 ⟨j.val * 32768 + q.val, by omega⟩ k) = t (ix2 n k) := by
  have e : line a (ix1 ⟨j.val * 32768 + q.val, by omega⟩) = a (ix2 j q) := by
    rw [line_apply]
    refine congrArg a ((ix2_inj _ _ _ _).mpr ⟨Fin.ext ?_, Fin.ext ?_⟩)
    · show (j.val * 32768 + q.val) / 32768 = j.val
      omega
    · show (j.val * 32768 + q.val) % 32768 = q.val
      omega
  refine congrArg t ((ix2_inj _ _ _ _).mpr ⟨Fin.ext ?_, rfl⟩)
  show BitVec.toNat (line a (ix1 ⟨j.val * 32768 + q.val, _⟩) : BitVec 32) % 16384 = n.val
  rw [e, hn]
  exact Nat.mod_eq_of_lt n.isLt

end Cert.Proof.Gat

end
-- ==== Proof.HostVal.lean ====
/-
  What the host computes between the calls.
-/
module

public import proofs.«01_k».proof.Proof.Hosts
public import proofs.«01_k».proof.Proof.Gat
public import Idealize.ShloMosaic.Lib.Pointwise
public import Idealize.ShloMosaic.Lib.StableHlo.RunRead

@[expose] public section

set_option maxRecDepth 16384

noncomputable section

namespace Cert.Proof.Val

open Cert.KernelIdeal Cert.KernelIdeal.Gen Cert.Proof.Run Cert.Proof.Gat Cert.Proof.Model
open Idealize.ShloMosaic Idealize.ShloMosaic.TcCoe Idealize.ShloMosaic.Tactic
open Idealize.ShloMosaic.StableHlo (after)

section Lists

variable {F : FTy → Type} [FloatOps F] (V : Valuation τ sig (Elt F))

theorem after1_v4 : after hops1 V (Proc.devRef .tc main_v4) = halves (F := F) (V (Proc.devRef .tc main_v2)) := by
  after_reads_simp
  rfl

theorem after1_v13 : after hops1 V (Proc.devRef .tc main_v13) = listOf (F := F) (line (V (Proc.devRef .tc main_arg0))) := by
  after_reads_simp
  rfl

theorem after2_v15 : after hops2 V (Proc.devRef .tc main_v15) = whole (F := F) (V (Proc.devRef .tc main_v14)) := by
  after_reads_simp
  rfl

theorem after2_v17 : after hops2 V (Proc.devRef .tc main_v17) = halves (F := F) (V (Proc.devRef .tc main_v2)) := by
  after_reads_simp
  rfl

theorem after2_v26 : after hops2 V (Proc.devRef .tc main_v26) = listOf (F := F) (line (V (Proc.devRef .tc main_arg2))) := by
  after_reads_simp
  rfl

theorem after3_v28 : after hops3 V (Proc.devRef .tc main_v28) = whole (F := F) (V (Proc.devRef .tc main_v27)) := by
  after_reads_simp
  rfl

end Lists

variable (V : Valuation τ sig (Elt Ideal))

/-- The columns of the fusing weights that the skip features meet, -/
theorem after0_v0 (o : Fin 512) (k : Fin 256) :
    (after hops0 V (Proc.devRef .tc main_v0) (ix2 o k) : EReal) = V (Proc.devRef .tc main_arg6) (ix2 o ⟨k.val, by omega⟩) := by
  have e : after hops0 V (Proc.devRef .tc main_v0) = extractStridedSlice S512x256 ![0, 0] (V (Proc.devRef .tc main_arg6)) slices_S512x768_S512x256_0_0 := by
    after_reads_simp
  rw [e]
  pointwise

/-- and those that the interpolated ones meet. -/
theorem after0_v1 (o : Fin 512) (k : Fin 512) :
    (after hops0 V (Proc.devRef .tc main_v1) (ix2 o k) : EReal) = V (Proc.devRef .tc main_arg6) (ix2 o ⟨256 + k.val, by omega⟩) := by
  have e : after hops0 V (Proc.devRef .tc main_v1) = extractStridedSlice S512x512 ![0, 256] (V (Proc.devRef .tc main_arg6)) slices_S512x768_S512x512_0_256 := by
    after_reads_simp
  rw [e]
  pointwise

/-- The weights, from the distances. -/
def wgts (a b : Vec Ideal S32768x3 .f32) : Vec Ideal S65536x3 .f32 :=
  let r := Host.divf (broadcastInDim S65536x3 ![] bcast_S_S65536x3 (constant (F := Ideal) S_ .f32 0x3F800000#32))
    (addf (concatenate S65536x3 0 [⟨S32768x3, a⟩, ⟨S32768x3, b⟩] concatenates_S32768x3_S32768x3_S65536x3_d0)
      (broadcastInDim S65536x3 ![] bcast_S_S65536x3 (constant (F := Ideal) S_ .f32 0x322BCC77#32)))
  Host.divf r (broadcastInDim S65536x3 ![0, 1] bcast_S65536x1_S65536x3_0_1 (broadcastInDim S65536x1 ![0] bcast_S65536_S65536x1_0
    (Host.reduceAdd r (constant (F := Ideal) S_ .f32 0x00000000#32) reducesTo_S65536x3_S65536_d1 h_S_)))

theorem wgts_apply (a b : Vec Ideal S32768x3 .f32) (p : Fin 65536) (j : Fin 3) : (wgts a b (ix2 p j) : EReal) = weight a b p j := by
  pointwise [wgts]
  rfl

theorem after3_v37 : after hops3 V (Proc.devRef .tc main_v37) = wgts (V (Proc.devRef .tc main_arg1)) (V (Proc.devRef .tc main_arg3)) := by
  after_reads_simp
  rfl

/-- The root of a feature's variance, from its sums, -/
def rootK (st : Vec Ideal S8x512 .f32) : Vec Ideal S512 .f32 :=
  let n := broadcastInDim S512 ![] bcast_S_S512 (constant (F := Ideal) S_ .f32 0x47800000#32)
  let mu := Host.divf (shapeCast S512 (extractStridedSlice S1x512 ![0, 0] st slices_S8x512_S1x512_0_0) shapeCasts_S1x512_S512) n
  Host.sqrt (addf (subf (Host.divf (shapeCast S512 (extractStridedSlice S1x512 ![1, 0] st slices_S8x512_S1x512_1_0) shapeCasts_S1x512_S512) n) (mulf mu mu))
    (broadcastInDim S512 ![] bcast_S_S512 (constant (F := Ideal) S_ .f32 0x3727C5AC#32)))
/-- its mean, -/
def meanK (st : Vec Ideal S8x512 .f32) : Vec Ideal S512 .f32 :=
  Host.divf (shapeCast S512 (extractStridedSlice S1x512 ![0, 0] st slices_S8x512_S1x512_0_0) shapeCasts_S1x512_S512)
    (broadcastInDim S512 ![] bcast_S_S512 (constant (F := Ideal) S_ .f32 0x47800000#32))
/-- its scale, -/
def scaleK (root g : Vec Ideal S512 .f32) : Vec Ideal S1x512 .f32 :=
  broadcastInDim S1x512 ![1] bcast_S512_S1x512_1 (Host.divf (F := Ideal) (φ := .f32) g root)
/-- and its shift. -/
def shiftK (mu root g e : Vec Ideal S512 .f32) : Vec Ideal S1x512 .f32 :=
  broadcastInDim S1x512 ![1] bcast_S512_S1x512_1 (subf (F := Ideal) (φ := .f32) e (mulf (F := Ideal) (φ := .f32) mu (Host.divf (F := Ideal) (φ := .f32) g root)))

theorem scaleK_eq (st : Vec Ideal S8x512 .f32) (g : Vec Ideal S512 .f32) (s : Fin 65536 → EReal) (G : EReal) (o : Fin 512)
    (h0 : (st (ix2 0 o) : EReal) = ∑ p, s p) (h1 : (st (ix2 1 o) : EReal) = ∑ p, s p * s p) (hg : (g (ix1 o) : EReal) = G) :
    (scaleK (rootK st) g (ix2 0 o) : EReal) = scale s G := by
  unfold scale avg
  rw [← h0, ← h1, ← hg, ← DropoutScale.ofBits_65536_f32, ← ofBits_eps]
  pointwise [scaleK, rootK]

theorem shiftK_eq (st : Vec Ideal S8x512 .f32) (g e : Vec Ideal S512 .f32) (s : Fin 65536 → EReal) (G E : EReal) (o : Fin 512)
    (h0 : (st (ix2 0 o) : EReal) = ∑ p, s p) (h1 : (st (ix2 1 o) : EReal) = ∑ p, s p * s p)
    (hg : (g (ix1 o) : EReal) = G) (he : (e (ix1 o) : EReal) = E) :
    (shiftK (meanK st) (rootK st) g e (ix2 0 o) : EReal) = shift s G E := by
  unfold shift scale avg
  rw [← h0, ← h1, ← hg, ← he, ← DropoutScale.ofBits_65536_f32, ← ofBits_eps]
  pointwise [shiftK, meanK, rootK]

theorem after4a_v42 : after hops4a V (Proc.devRef .tc main_v42) = meanK (V (Proc.devRef .tc main_v38_1)) := by
  after_reads_simp
  rfl
theorem after4a_v51 : after hops4a V (Proc.devRef .tc main_v51) = rootK (V (Proc.devRef .tc main_v38_1)) := by
  after_reads_simp
  rfl
theorem after4b_v55 : after hops4b V (Proc.devRef .tc main_v55)
    = scaleK (V (Proc.devRef .tc main_v51)) (V (Proc.devRef .tc main_arg8)) := by
  after_reads_simp
  rfl
theorem after4b_v56 : after hops4b V (Proc.devRef .tc main_v56)
    = shiftK (V (Proc.devRef .tc main_v42)) (V (Proc.devRef .tc main_v51)) (V (Proc.devRef .tc main_arg8)) (V (Proc.devRef .tc main_arg9)) := by
  after_reads_simp
  rfl
theorem after5_v74 : after hops5 V (Proc.devRef .tc main_v74)
    = scaleK (rootK (V (Proc.devRef .tc main_v57_2))) (V (Proc.devRef .tc main_arg12)) := by
  after_reads_simp
  rfl
theorem after5_v75 : after hops5 V (Proc.devRef .tc main_v75)
    = shiftK (meanK (V (Proc.devRef .tc main_v57_2))) (rootK (V (Proc.devRef .tc main_v57_2))) (V (Proc.devRef .tc main_arg12)) (V (Proc.devRef .tc main_arg13)) := by
  after_reads_simp
  rfl
theorem after6_v93 : after hops6 V (Proc.devRef .tc main_v93)
    = scaleK (rootK (V (Proc.devRef .tc main_v76_1))) (V (Proc.devRef .tc main_arg16)) := by
  after_reads_simp
  rfl
theorem after6_v94 : after hops6 V (Proc.devRef .tc main_v94)
    = shiftK (meanK (V (Proc.devRef .tc main_v76_1))) (rootK (V (Proc.devRef .tc main_v76_1))) (V (Proc.devRef .tc main_arg16)) (V (Proc.devRef .tc main_arg17)) := by
  after_reads_simp
  rfl

end Cert.Proof.Val

end
-- ==== Proof.Pay.lean ====
/-
  What each TensorCore call computes on its blocks, read at one element, in the arithmetic of the extended reals.
-/
module

public import proofs.«01_k».proof.Proof.Common
public import Idealize.ShloMosaic.Lib.Pointwise

@[expose] public section

noncomputable section

namespace Cert.Proof.Val

open Cert.KernelIdeal Cert.KernelIdeal.Gen Cert.Proof.Common
open Idealize.ShloMosaic

/-- The table call's block: the transposed block of points. -/
theorem table_pay (v0 : Vec Ideal S1x512x1024 .f32) (r : Fin 1024) (o : Fin 512) :
    k0_pay1 (F := Ideal) v0 (ix2 r o) = v0 (ix3 0 o r) := by
  pointwise [k0_pay1]

/-- The fusing call's block: the weighted sum of the three rows times the weights' second half, and the skip features
    times the first half. -/
theorem fuse_payA (v0 : Vec Ideal S1024x3 .f32) (v2 : Vec Ideal S1x256x1024 .f32) (v5 : Vec Ideal S512x256 .f32)
    (a b c : Vec Ideal S1024x512 .f32) (w : Vec Ideal S512x512 .f32) (r : Fin 1024) (o : Fin 512) :
    (k3_pay4 (F := Ideal) v0 v2 v5 a b c w (ix2 r o) : EReal)
      = (∑ k : Fin 512, (a (ix2 r k) * v0 (ix2 r 0) + b (ix2 r k) * v0 (ix2 r 1) + c (ix2 r k) * v0 (ix2 r 2)) * w (ix2 o k))
        + ∑ k : Fin 256, v2 (ix3 0 k r) * v5 (ix2 o k) := by
  pointwise [k3_pay4, k3_pay3, k3_pay2]

/-- The same on the second half of the grid. -/
theorem fuse_payB (v0 : Vec Ideal S1024x3 .f32) (v2 : Vec Ideal S1x256x1024 .f32) (v5 : Vec Ideal S512x256 .f32)
    (a b c : Vec Ideal S1024x512 .f32) (w : Vec Ideal S512x512 .f32) (r : Fin 1024) (o : Fin 512) :
    (k3_pay5 (F := Ideal) v0 v2 v5 a b c w (ix2 r o) : EReal)
      = (∑ k : Fin 512, (a (ix2 r k) * v0 (ix2 r 0) + b (ix2 r k) * v0 (ix2 r 1) + c (ix2 r k) * v0 (ix2 r 2)) * w (ix2 o k))
        + ∑ k : Fin 256, v2 (ix3 0 k r) * v5 (ix2 o k) := by
  pointwise [k3_pay5, k3_pay3, k3_pay2]

/-- The running sums start at zero. -/
theorem fuse_zero (j : S8x512.Idx) : (k3_pay6 (F := Ideal) j : EReal) = 0 := by pointwise [k3_pay6]
theorem mid1_zero (j : S8x512.Idx) : (k4_pay4 (F := Ideal) j : EReal) = 0 := by pointwise [k4_pay4]
theorem mid2_zero (j : S8x512.Idx) : (k5_pay3 (F := Ideal) j : EReal) = 0 := by pointwise [k5_pay3]

/-- The fusing call's running sum takes the block's column sums; -/
theorem fuse_sum (x : Vec Ideal S1024x512 .bf16) (s : Vec Ideal S1x512 .f32) (o : Fin 512) :
    (k3_pay8 (F := Ideal) x s (ix2 0 o) : EReal) = s (ix2 0 o) + ∑ r : Fin 1024, (x (ix2 r o) : EReal) := by
  pointwise [k3_pay8, k3_pay7]

/-- and its running sum of squares the sums of squares. -/
theorem fuse_sq (x : Vec Ideal S1024x512 .bf16) (s : Vec Ideal S1x512 .f32) (o : Fin 512) :
    (k3_pay1 (F := Ideal) (k3_pay7 x) s (ix2 0 o) : EReal)
      = s (ix2 0 o) + ∑ r : Fin 1024, (x (ix2 r o) : EReal) * (x (ix2 r o) : EReal) := by
  pointwise [k3_pay1, k3_pay7]

/-- A middle call's activations: scaled, shifted, cut at zero. -/
theorem mid1_act (x : Vec Ideal S1024x512 .bf16) (sc sh : Vec Ideal S1x512 .f32) (r : Fin 1024) (o : Fin 512) :
    (k4_pay2 (F := Ideal) x sc sh (ix2 r o) : EReal)
      = max ((x (ix2 r o) : EReal) * sc (ix2 0 o) + sh (ix2 0 o)) 0 := by
  pointwise [k4_pay2]

/-- The first middle call's product. -/
theorem mid1_lin (x : Vec Ideal S1024x512 .bf16) (sc sh : Vec Ideal S1x512 .f32) (w : Vec Ideal S512x512 .f32)
    (r : Fin 1024) (o : Fin 512) :
    (k4_pay3 (F := Ideal) x sc sh w (ix2 r o) : EReal)
      = ∑ k : Fin 512, max ((x (ix2 r k) : EReal) * sc (ix2 0 k) + sh (ix2 0 k)) 0 * w (ix2 o k) := by
  pointwise [k4_pay3, k4_pay2]

/-- The second middle call's product. -/
theorem mid2_lin (x : Vec Ideal S1024x512 .bf16) (sc sh : Vec Ideal S1x512 .f32) (w : Vec Ideal S512x512 .f32)
    (r : Fin 1024) (o : Fin 512) :
    (k5_pay2 (F := Ideal) x sc sh w (ix2 r o) : EReal)
      = ∑ k : Fin 512, max ((x (ix2 r k) : EReal) * sc (ix2 0 k) + sh (ix2 0 k)) 0 * w (ix2 o k) := by
  pointwise [k5_pay2]

/-- The middle calls' running sums, over the product they store. -/
theorem mid1_sum (x : Vec Ideal S1024x512 .bf16) (sc sh : Vec Ideal S1x512 .f32) (w : Vec Ideal S512x512 .f32)
    (s : Vec Ideal S1x512 .f32) (o : Fin 512) :
    (k4_pay6 (F := Ideal) x sc sh w s (ix2 0 o) : EReal)
      = s (ix2 0 o) + ∑ r : Fin 1024, (k4_pay3 (F := Ideal) x sc sh w (ix2 r o) : EReal) := by
  pointwise [k4_pay6, k4_pay5]

theorem mid1_sq (x : Vec Ideal S1024x512 .bf16) (sc sh : Vec Ideal S1x512 .f32) (w : Vec Ideal S512x512 .f32)
    (s : Vec Ideal S1x512 .f32) (o : Fin 512) :
    (k4_pay1 (F := Ideal) (k4_pay5 x sc sh w) (k4_pay7 s) (ix2 0 o) : EReal)
      = s (ix2 0 o) + ∑ r : Fin 1024, (k4_pay3 (F := Ideal) x sc sh w (ix2 r o) : EReal) * (k4_pay3 (F := Ideal) x sc sh w (ix2 r o) : EReal) := by
  pointwise [k4_pay1, k4_pay5, k4_pay7]

theorem mid2_sum (x : Vec Ideal S1024x512 .bf16) (sc sh : Vec Ideal S1x512 .f32) (w : Vec Ideal S512x512 .f32)
    (s : Vec Ideal S1x512 .f32) (o : Fin 512) :
    (k5_pay5 (F := Ideal) x sc sh w s (ix2 0 o) : EReal)
      = s (ix2 0 o) + ∑ r : Fin 1024, (k5_pay2 (F := Ideal) x sc sh w (ix2 r o) : EReal) := by
  pointwise [k5_pay5, k5_pay4]

theorem mid2_sq (x : Vec Ideal S1024x512 .bf16) (sc sh : Vec Ideal S1x512 .f32) (w : Vec Ideal S512x512 .f32)
    (s : Vec Ideal S1x512 .f32) (o : Fin 512) :
    (k5_pay1 (F := Ideal) (k5_pay6 s) (k5_pay7 x sc sh w) (ix2 0 o) : EReal)
      = s (ix2 0 o) + ∑ r : Fin 1024, (k5_pay2 (F := Ideal) x sc sh w (ix2 r o) : EReal) * (k5_pay2 (F := Ideal) x sc sh w (ix2 r o) : EReal) := by
  pointwise [k5_pay1, k5_pay7, k5_pay6, k5_pay4]

/-- The last call's block: scaled, shifted, the skip added, cut at zero, transposed. -/
theorem final_pay (x : Vec Ideal S1024x512 .bf16) (sc sh : Vec Ideal S1x512 .f32) (y : Vec Ideal S1024x512 .bf16)
    (r : Fin 1024) (o : Fin 512) :
    (k6_pay1 (F := Ideal) x sc sh y (ix3 0 o r) : EReal)
      = max ((x (ix2 r o) : EReal) * sc (ix2 0 o) + sh (ix2 0 o) + (y (ix2 r o) : EReal)) 0 := by
  pointwise [k6_pay1]

end Cert.Proof.Val
-- ==== Proof.Outs.lean ====
/-
  The two running rows of the statistics block: what is read at their elements after the stores into them.
-/
module

public import proofs.«01_k».proof.Proof.Pay

@[expose] public section

set_option maxRecDepth 16384

noncomputable section

namespace Cert.Proof.Val

open Cert.KernelIdeal Cert.KernelIdeal.Gen Cert.Proof.Common
open Idealize.ShloMosaic Idealize.ShloMosaic.TcCoe Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The first row of the statistics, the second, and the whole block. -/
abbrev R0 : Rect S8x512 := Rect.unit (s := S8x512) ![0, 0] ![1, 512] inb_S8x512_S1x512_0_0
abbrev R1 : Rect S8x512 := Rect.unit (s := S8x512) ![1, 0] ![1, 512] inb_S8x512_S1x512_1_0
abbrev R8 : Rect S8x512 := Rect.unit (s := S8x512) ![0, 0] ![8, 512] inb_S8x512_S8x512_0_0

theorem emb0 (o : Fin 512) : R0.emb (ix2 (n0 := 1) (n1 := 512) 0 o) = (ix2 (n0 := 8) (n1 := 512) 0 o : S8x512.Idx) := by
  funext a; apply Fin.ext
  match a with
  | ⟨0, _⟩ => rfl
  | ⟨1, _⟩ => show 0 + 1 * o.val = o.val; omega

theorem emb1 (o : Fin 512) : R1.emb (ix2 (n0 := 1) (n1 := 512) 0 o) = (ix2 (n0 := 8) (n1 := 512) 1 o : S8x512.Idx) := by
  funext a; apply Fin.ext
  match a with
  | ⟨0, _⟩ => rfl
  | ⟨1, _⟩ => show 0 + 1 * o.val = o.val; omega

theorem not_mem1 (o : Fin 512) : (ix2 (n0 := 8) (n1 := 512) 0 o : S8x512.Idx) ∉ R1.set := by
  rw [Rect.mem_set_unit]
  intro h
  have h1 : 1 ≤ ((0 : Fin 8) : ℕ) := (h 0).1
  exact absurd h1 (by decide)

theorem not_mem0 (o : Fin 512) : (ix2 (n0 := 8) (n1 := 512) 1 o : S8x512.Idx) ∉ R0.set := by
  rw [Rect.mem_set_unit]
  intro h
  have h2 : ((1 : Fin 8) : ℕ) < 0 + 1 := (h 0).2
  exact absurd h2 (by decide)

theorem mem_emb (r : Rect S8x512) (x : r.shape.Idx) : r.emb x ∈ r.set := by
  rw [← Rect.map_emb_univ]; exact Finset.mem_map_of_mem _ (Finset.mem_univ _)

variable {Val : EltTy → Type} [∀ e, Nonempty (Val e)]

theorem canon_row0 (p1 : R1.shape.Idx → Val .f32) (p0 : R0.shape.Idx → Val .f32) (L : List (View.Piece Val S8x512 .f32)) (o : Fin 512) :
    View.canon (⟨R1, p1⟩ :: ⟨R0, p0⟩ :: L) (ix2 (n0 := 8) (n1 := 512) 0 o) = p0 (ix2 (n0 := 1) (n1 := 512) 0 o) := by
  rw [View.canon_cons_of_not_mem (⟨R1, p1⟩ : View.Piece Val S8x512 .f32) _ (not_mem1 o), ← emb0 o]
  exact View.canon_cons_emb R0 p0 L _

theorem canon_row1 (p1 : R1.shape.Idx → Val .f32) (L : List (View.Piece Val S8x512 .f32)) (o : Fin 512) :
    View.canon (⟨R1, p1⟩ :: L) (ix2 (n0 := 8) (n1 := 512) 1 o) = p1 (ix2 (n0 := 1) (n1 := 512) 0 o) := by
  rw [← emb1 o]
  exact View.canon_cons_emb R1 p1 L _

variable {sig' : RefSig} {κ : Kind} {sp : Space}

theorem readCov_row0 (v : View sig' κ sp S8x512 .f32) (z : R8.shape.Idx → Val .f32) (o : Fin 512) :
    v.readCov [⟨R8, z⟩] R0.toLoadRect (ix2 (n0 := 1) (n1 := 512) 0 o) = z (ix2 (n0 := 8) (n1 := 512) 0 o) := by
  rw [View.readCov_eq_canon', View.canon_unit_zero hz2]
  exact congrArg z (emb0 o)

theorem readCov_row1 (v : View sig' κ sp S8x512 .f32) (p0 : R0.shape.Idx → Val .f32) (z : R8.shape.Idx → Val .f32) (o : Fin 512) :
    v.readCov [⟨R0, p0⟩, ⟨R8, z⟩] R1.toLoadRect (ix2 (n0 := 1) (n1 := 512) 0 o) = z (ix2 (n0 := 8) (n1 := 512) 1 o) := by
  rw [View.readCov_eq_canon']
  show View.canon _ (R1.emb (ix2 (n0 := 1) (n1 := 512) 0 o)) = _
  rw [emb1, View.canon_cons_of_not_mem (⟨R0, p0⟩ : View.Piece Val S8x512 .f32) _ (not_mem0 o), View.canon_unit_zero hz2]

theorem ld_row0 (x : S8x512.Idx → Val .f32) (o : Fin 512) : View.ld (Val := Val) (e' := .f32) x R0 (ix2 (n0 := 1) (n1 := 512) 0 o) = x (ix2 (n0 := 8) (n1 := 512) 0 o) :=
  congrArg x (emb0 o)

theorem ld_row1 (x : S8x512.Idx → Val .f32) (o : Fin 512) : View.ld (Val := Val) (e' := .f32) x R1 (ix2 (n0 := 1) (n1 := 512) 0 o) = x (ix2 (n0 := 8) (n1 := 512) 1 o) :=
  congrArg x (emb1 o)

theorem read_row0 (v : View sig' κ sp S8x512 .f32) (f : v.ty.Contents Val) (p1 : R1.shape.Idx → Val .f32) (p0 : R0.shape.Idx → Val .f32) (L : List (View.Piece Val S8x512 .f32)) (o : Fin 512) :
    v.read Val (v.writes Val f (⟨R1, p1⟩ :: ⟨R0, p0⟩ :: L)) (ix2 (n0 := 8) (n1 := 512) 0 o) = p0 (ix2 (n0 := 1) (n1 := 512) 0 o) := by
  rw [View.read_writes_apply_eq_canon v f _ _ ⟨⟨R0, p0⟩, by simp, by rw [← emb0 o]; exact mem_emb R0 _⟩]
  exact canon_row0 p1 p0 L o

theorem read_row1 (v : View sig' κ sp S8x512 .f32) (f : v.ty.Contents Val) (p1 : R1.shape.Idx → Val .f32) (L : List (View.Piece Val S8x512 .f32)) (o : Fin 512) :
    v.read Val (v.writes Val f (⟨R1, p1⟩ :: L)) (ix2 (n0 := 8) (n1 := 512) 1 o) = p1 (ix2 (n0 := 1) (n1 := 512) 0 o) := by
  rw [View.read_writes_apply_eq_canon v f _ _ ⟨⟨R1, p1⟩, by simp, by rw [← emb1 o]; exact mem_emb R1 _⟩]
  exact canon_row1 p1 L o

end Cert.Proof.Val
-- ==== Proof.Arr.lean ====
/-
  The long arrays by blocks of rows, and the sums over them.
-/
module

public import proofs.«01_k».proof.Proof.Outs
public import Idealize.ShloMosaic.Lib.Pipeline.ValueKit

@[expose] public section

noncomputable section

namespace Cert.Proof.Val

open Cert.KernelIdeal Cert.KernelIdeal.Gen Cert.Proof.Common
open Idealize.ShloMosaic

/-- Row `r` of block `t` of the long arrays. -/
def row (t : Fin 64) (r : Fin 1024) : Fin 65536 := ⟨t.val * 1024 + r.val, by omega⟩

/-- Block `s`'s part of a sum over all rows. -/
def part (Y : Fin 65536 → EReal) (s : ℕ) : EReal := if h : s < 64 then ∑ r : Fin 1024, Y (row ⟨s, h⟩ r) else 0

theorem part_of_lt (Y : Fin 65536 → EReal) (t : Fin 64) : part Y t.val = ∑ r : Fin 1024, Y (row t r) := by
  unfold part; rw [dif_pos t.isLt]

/-- The blocks' parts make the whole sum. -/
theorem sum_parts (Y : Fin 65536 → EReal) : ∑ s ∈ Finset.range 64, part Y s = ∑ p, Y p := by
  rw [Finset.sum_range, Fin.sum_univ_tiles 64 1024 rfl Y]
  refine Finset.sum_congr rfl fun t _ => ?_
  rw [part_of_lt]
  refine Finset.sum_congr rfl fun r _ => congrArg Y (Fin.ext ?_)
  simp [row] <;> omega

/-- The activations: scaled, shifted, cut at zero. -/
def act (X : Vec Ideal S65536x512 .bf16) (sc sh : Vec Ideal S1x512 .f32) (p : Fin 65536) (k : Fin 512) : EReal :=
  max ((X (ix2 p k) : EReal) * sc (ix2 0 k) + sh (ix2 0 k)) 0

/-- A product of activations with a layer's weights. -/
def lin (f : Fin 65536 → Fin 512 → EReal) (w : Vec Ideal S512x512 .f32) (p : Fin 65536) (o : Fin 512) : EReal :=
  ∑ k : Fin 512, f p k * (w (ix2 o k) : EReal)

/-- The row of point `n` of batch `b`. -/
def pnt (b : Fin 16) (n : Fin 4096) : Fin 65536 := ⟨b.val * 4096 + n.val, by omega⟩

/-- The batch of a row, -/
def bat (p : Fin 65536) : Fin 16 := ⟨p.val / 4096, by omega⟩
/-- and its point. -/
def nth (p : Fin 65536) : Fin 4096 := ⟨p.val % 4096, by omega⟩

/-- The gathered row of neighbour `j` of row `p`: the first half of the rows is in `A`, the second in `B`. -/
def pick (A B : Vec Ideal S98304x512 .f32) (p : Fin 65536) (j : Fin 3) (k : Fin 512) : EReal :=
  if h : p.val < 32768 then A (ix2 ⟨j.val * 32768 + p.val, by omega⟩ k)
  else B (ix2 ⟨j.val * 32768 + (p.val - 32768), by omega⟩ k)

/-- What the fusing call computes. -/
def fused (A B : Vec Ideal S98304x512 .f32) (wt : Vec Ideal S65536x3 .f32) (p1 : Vec Ideal S16x256x4096 .f32)
    (u : Vec Ideal S512x256 .f32) (v : Vec Ideal S512x512 .f32) (p : Fin 65536) (o : Fin 512) : EReal :=
  (∑ k : Fin 512, (pick A B p 0 k * wt (ix2 p 0) + pick A B p 1 k * wt (ix2 p 1) + pick A B p 2 k * wt (ix2 p 2)) * v (ix2 o k))
    + ∑ k : Fin 256, p1 (ix3 (bat p) k (nth p)) * u (ix2 o k)

end Cert.Proof.Val
-- ==== Proof.Arr0.lean ====
/-
  The arrays the table call leaves, from the arrays it is entered at.
-/
module

public import proofs.«01_k».proof.Proof.Reg0
public import proofs.«01_k».proof.Proof.Arr
public import proofs.«01_k».proof.Proof.Pay

@[expose] public section

set_option maxRecDepth 16384

noncomputable section

namespace Cert.Proof.Val

open Cert.KernelIdeal Cert.KernelIdeal.Gen Cert.Proof.Common Cert.Proof.Reg
open Idealize.ShloMosaic Idealize.ShloMosaic.TcCoe Idealize.ShloMosaic.Tactic

variable (V : (c : Dev nD) → (b : Ref sig .tc) → Buf (Elt Ideal) ((c : Thread nD τ).loc b)) (c : Dev nD)
variable (P : Vec Ideal S16x512x1024 .f32)

theorem idx0_0 : ∀ t, win0_0.index t = ![t.val, 0, 0] := by decide +kernel
theorem idx0_1 : ∀ t, win0_1.index t = ![t.val, 0] := by decide +kernel

/-- The table: row `r` is point `r % 1024` of batch `r / 1024`. -/
def tabOf (r : Fin 16384) (k : Fin 512) : EReal := P (ix3 ⟨r.val / 1024, by omega⟩ k ⟨r.val % 1024, by omega⟩)

theorem in0_0 (h : V c main_arg5 = P) (t : Fin cfg0.N) (r : Fin 1024) (k : Fin 512) :
    (iblk0 V c 0 t : Vec Ideal S1x512x1024 .f32) (ix3 0 k r) = P (ix3 t k r) := by
  subst h; blk_ext [iblk0, idx0_0 t]

theorem out0_1_eq (x : Vec Ideal S1x512x1024 .f32) : out0_1 x = k0_pay1 x := by
  unfold out0_1
  rw [View.canon_unit_zero hz2, View.ld_unit_zero (S := S1x512x1024) hz3]

theorem arr0 (h : V c main_arg5 = P) (r : Fin 16384) (o : Fin 512) :
    (((dat0 (F := Ideal) V c).arrAt 1 cfg0.N : Vec Ideal S16384x512 .f32) (ix2 r o) : EReal) = tabOf P r o := by
  have key : ((dat0 (F := Ideal) V c).arrAt 1 cfg0.N : Vec Ideal S16384x512 .f32)
      = fun i => (tabOf P (i 0) (i 1) : EReal) := by
    refine (dat0 V c).arrAt_eq_of_covers 1 _ (by decide +kernel) fun t hf y => ?_
    blk_simp
    rw [after0_1]
    obtain ⟨q, k, rfl⟩ : ∃ (q : Fin 1024) (k : Fin 512), y = ix2 q k := ⟨y 0, y 1, by funext a; fin_cases a <;> rfl⟩
    rw [out0_1_eq]
    refine (table_pay _ q k).trans ((in0_0 V c P h t q k).trans ?_)
    unfold tabOf
    have ht : t.val < 16 := t.isLt
    have e0 : ((((cfg0.win 1).blk t).view.emb (ix2 q k) : S16384x512.Idx) 0).val = t.val * 1024 + q.val := by
      blk_simp [idx0_1 t]; first | done | rfl | omega
    have e1 : ((((cfg0.win 1).blk t).view.emb (ix2 q k) : S16384x512.Idx) 1).val = k.val := by
      blk_simp [idx0_1 t]; first | done | rfl | omega
    congr 1
    funext a
    fin_cases a
    · refine Fin.ext ?_; show t.val = _ / 1024; rw [e0]; omega
    · exact Fin.ext e1.symm
    · refine Fin.ext ?_; show q.val = _ % 1024; rw [e0]; omega
  rw [key]; rfl

end Cert.Proof.Val
-- ==== Proof.Outs3.lean ====
/-
  What the fusing call leaves in its staging buffers, read at one element.
-/
module

public import proofs.«01_k».proof.Proof.Reg3
public import proofs.«01_k».proof.Proof.Outs

@[expose] public section

set_option maxRecDepth 16384

noncomputable section

namespace Cert.Proof.Val

open Cert.KernelIdeal Cert.KernelIdeal.Gen Cert.Proof.Common Cert.Proof.Reg
open Idealize.ShloMosaic Idealize.ShloMosaic.TcCoe Idealize.ShloMosaic.Tactic

variable (c : Dev nD) (i : grid3.Coords) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1024x3 .f32) (harg8 : arg8.IsWhole) (arg9 : Memref sig .tc .vmem S1x256x1024 .f32) (harg9 : arg9.IsWhole) (arg10 : Memref sig .tc .vmem S512x256 .f32) (harg10 : arg10.IsWhole) (arg11 : Memref sig .tc .vmem S512x512 .f32) (harg11 : arg11.IsWhole) (arg12 : Memref sig .tc .vmem S1024x512 .bf16) (harg12 : arg12.IsWhole) (arg13 : Memref sig .tc .vmem S8x512 .f32) (harg13 : arg13.IsWhole)
  (x0 : Vec Ideal S1024x512 .f32) (x1 : Vec Ideal S1024x512 .f32) (x2 : Vec Ideal S1024x512 .f32) (x3 : Vec Ideal S1024x512 .f32) (x4 : Vec Ideal S1024x512 .f32) (x5 : Vec Ideal S1024x512 .f32) (x6 : Vec Ideal S1024x3 .f32) (x7 : Vec Ideal S1x256x1024 .f32) (x8 : Vec Ideal S512x256 .f32) (x9 : Vec Ideal S512x512 .f32)

/-- Case A: the block of window 10. -/
theorem o3_A_10 (hc0 : cond3_0 i) (hc1 : ¬ cond3_1 i) (hc2 : cond3_2 i) :
    out3_A_10 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 = k3_pay4 (F := Ideal) x6 x7 x8 x0 x1 x2 x9 := by
  unfold out3_A_10
  rw [View.read_writes_eq_canon _ _ _ (cover3_A_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9)]
  unfold kernelRun3_A
  dsimp only
  (try sl_unfold_words)
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]

/-- Case A: row 0 of the statistics. -/
theorem o3_A_sum (hc0 : cond3_0 i) (hc1 : ¬ cond3_1 i) (hc2 : cond3_2 i) (o : Fin 512) :
    (out3_A_11 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 (ix2 0 o) : EReal) = (∑ r : Fin 1024, (k3_pay4 (F := Ideal) x6 x7 x8 x0 x1 x2 x9 (ix2 r o) : EReal)) := by
  unfold out3_A_11
  rw [View.read_writes_eq_canon _ _ _ (cover3_A_11 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9)]
  unfold kernelRun3_A
  dsimp only
  (try sl_unfold_words)
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]
  rw [canon_row0]
  rw [fuse_sum, readCov_row0, fuse_zero, zero_add]

/-- Case A: row 1 of the statistics. -/
theorem o3_A_sq (hc0 : cond3_0 i) (hc1 : ¬ cond3_1 i) (hc2 : cond3_2 i) (o : Fin 512) :
    (out3_A_11 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 (ix2 1 o) : EReal) = (∑ r : Fin 1024, (k3_pay4 (F := Ideal) x6 x7 x8 x0 x1 x2 x9 (ix2 r o) : EReal) * (k3_pay4 (F := Ideal) x6 x7 x8 x0 x1 x2 x9 (ix2 r o) : EReal)) := by
  unfold out3_A_11
  rw [View.read_writes_eq_canon _ _ _ (cover3_A_11 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9)]
  unfold kernelRun3_A
  dsimp only
  (try sl_unfold_words)
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]
  rw [canon_row1]
  rw [fuse_sq, readCov_row1, fuse_zero, zero_add]

/-- Case B: the block of window 10. -/
theorem o3_B_10 (xo : Vec Ideal S8x512 .f32) (hc0 : cond3_0 i) (hc1 : ¬ cond3_1 i) (hc2 : ¬ cond3_2 i) :
    out3_B_10 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo = k3_pay4 (F := Ideal) x6 x7 x8 x0 x1 x2 x9 := by
  unfold out3_B_10
  rw [View.read_writes_eq_canon _ _ _ (cover3_B_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo)]
  unfold kernelRun3_B
  dsimp only
  (try sl_unfold_words)
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]

/-- Case B: row 0 of the statistics. -/
theorem o3_B_sum (xo : Vec Ideal S8x512 .f32) (hc0 : cond3_0 i) (hc1 : ¬ cond3_1 i) (hc2 : ¬ cond3_2 i) (o : Fin 512) :
    (out3_B_11 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo (ix2 0 o) : EReal) = (xo (ix2 0 o) : EReal) + (∑ r : Fin 1024, (k3_pay4 (F := Ideal) x6 x7 x8 x0 x1 x2 x9 (ix2 r o) : EReal)) := by
  unfold out3_B_11
  unfold kernelRun3_B
  dsimp only
  (try sl_unfold_words)
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]
  rw [read_row0]
  rw [fuse_sum, ld_row0]

/-- Case B: row 1 of the statistics. -/
theorem o3_B_sq (xo : Vec Ideal S8x512 .f32) (hc0 : cond3_0 i) (hc1 : ¬ cond3_1 i) (hc2 : ¬ cond3_2 i) (o : Fin 512) :
    (out3_B_11 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo (ix2 1 o) : EReal) = (xo (ix2 1 o) : EReal) + (∑ r : Fin 1024, (k3_pay4 (F := Ideal) x6 x7 x8 x0 x1 x2 x9 (ix2 r o) : EReal) * (k3_pay4 (F := Ideal) x6 x7 x8 x0 x1 x2 x9 (ix2 r o) : EReal)) := by
  unfold out3_B_11
  unfold kernelRun3_B
  dsimp only
  (try sl_unfold_words)
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]
  rw [read_row1]
  rw [fuse_sq, ld_row1]

/-- Case C: the block of window 10. -/
theorem o3_C_10 (xo : Vec Ideal S8x512 .f32) (hc0 : ¬ cond3_0 i) (hc1 : cond3_1 i) (hc2 : ¬ cond3_2 i) :
    out3_C_10 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo = k3_pay5 (F := Ideal) x6 x7 x8 x3 x4 x5 x9 := by
  unfold out3_C_10
  rw [View.read_writes_eq_canon _ _ _ (cover3_C_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo)]
  unfold kernelRun3_C
  dsimp only
  (try sl_unfold_words)
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]

/-- Case C: row 0 of the statistics. -/
theorem o3_C_sum (xo : Vec Ideal S8x512 .f32) (hc0 : ¬ cond3_0 i) (hc1 : cond3_1 i) (hc2 : ¬ cond3_2 i) (o : Fin 512) :
    (out3_C_11 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo (ix2 0 o) : EReal) = (xo (ix2 0 o) : EReal) + (∑ r : Fin 1024, (k3_pay5 (F := Ideal) x6 x7 x8 x3 x4 x5 x9 (ix2 r o) : EReal)) := by
  unfold out3_C_11
  unfold kernelRun3_C
  dsimp only
  (try sl_unfold_words)
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]
  rw [read_row0]
  rw [fuse_sum, ld_row0]

/-- Case C: row 1 of the statistics. -/
theorem o3_C_sq (xo : Vec Ideal S8x512 .f32) (hc0 : ¬ cond3_0 i) (hc1 : cond3_1 i) (hc2 : ¬ cond3_2 i) (o : Fin 512) :
    (out3_C_11 (F := Ideal) c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo (ix2 1 o) : EReal) = (xo (ix2 1 o) : EReal) + (∑ r : Fin 1024, (k3_pay5 (F := Ideal) x6 x7 x8 x3 x4 x5 x9 (ix2 r o) : EReal) * (k3_pay5 (F := Ideal) x6 x7 x8 x3 x4 x5 x9 (ix2 r o) : EReal)) := by
  unfold out3_C_11
  unfold kernelRun3_C
  dsimp only
  (try sl_unfold_words)
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1024x3) hz2, View.ld_unit_zero (S := S1024x512) hz2, View.ld_unit_zero (S := S1x256x1024) hz3, View.ld_unit_zero (S := S512x256) hz2, View.ld_unit_zero (S := S512x512) hz2, View.readCov_unit_zero (S := S1024x512) _ hz2]
  rw [read_row1]
  rw [fuse_sq, ld_row1]

end Cert.Proof.Val
-- ==== Proof.Arr3.lean ====
/-
  The arrays the fusing call leaves, from the arrays it is entered at.
-/
module

public import proofs.«01_k».proof.Proof.Outs3
public import proofs.«01_k».proof.Proof.Arr

@[expose] public section

set_option maxRecDepth 16384

noncomputable section

namespace Cert.Proof.Val

open Cert.KernelIdeal Cert.KernelIdeal.Gen Cert.Proof.Common Cert.Proof.Reg
open Idealize.ShloMosaic Idealize.ShloMosaic.TcCoe Idealize.ShloMosaic.Tactic

variable (V : (c : Dev nD) → (b : Ref sig .tc) → Buf (Elt Ideal) ((c : Thread nD τ).loc b)) (c : Dev nD)
variable (A B : Vec Ideal S98304x512 .f32) (wt : Vec Ideal S65536x3 .f32) (p1 : Vec Ideal S16x256x4096 .f32)
  (u : Vec Ideal S512x256 .f32) (v : Vec Ideal S512x512 .f32)

theorem idx3_0 : ∀ t, t.val < 32 → win3_0.index t = ![t.val, 0] := by decide +kernel
theorem idx3_1 : ∀ t, t.val < 32 → win3_1.index t = ![32 + t.val, 0] := by decide +kernel
theorem idx3_2 : ∀ t, t.val < 32 → win3_2.index t = ![64 + t.val, 0] := by decide +kernel
theorem idx3_3 : ∀ t, 32 ≤ t.val → win3_3.index t = ![(t.val - 32), 0] := by decide +kernel
theorem idx3_4 : ∀ t, 32 ≤ t.val → win3_4.index t = ![32 + (t.val - 32), 0] := by decide +kernel
theorem idx3_5 : ∀ t, 32 ≤ t.val → win3_5.index t = ![64 + (t.val - 32), 0] := by decide +kernel
theorem idx3_6 : ∀ t, win3_6.index t = ![t.val, 0] := by decide +kernel
theorem idx3_7 : ∀ t, win3_7.index t = ![t.val / 4, 0, t.val % 4] := by decide +kernel
theorem idx3_8 : ∀ t, win3_8.index t = ![0, 0] := by decide +kernel
theorem idx3_9 : ∀ t, win3_9.index t = ![0, 0] := by decide +kernel
theorem idx3_10 : ∀ t, win3_10.index t = ![t.val, 0] := by decide +kernel
theorem idx3_11 : ∀ t, win3_11.index t = ![0, 0] := by decide +kernel

/-- The last point. -/
def last3 : Fin cfg3.N := ⟨63, by decide⟩

theorem in3_0 (h : V c main_v15 = A) (t : Fin cfg3.N) (ht : t.val < 32) (r : Fin 1024) (k : Fin 512) :
    (iblk3 V c 0 t : Vec Ideal S1024x512 .f32) (ix2 r k) = pick A B (row t r) 0 k := by
  unfold pick
  rw [dif_pos (by show t.val * 1024 + r.val < 32768; omega)]
  subst h; blk_ext [iblk3, idx3_0 t ht, row] <;> omega

theorem in3_1 (h : V c main_v15 = A) (t : Fin cfg3.N) (ht : t.val < 32) (r : Fin 1024) (k : Fin 512) :
    (iblk3 V c 1 t : Vec Ideal S1024x512 .f32) (ix2 r k) = pick A B (row t r) 1 k := by
  unfold pick
  rw [dif_pos (by show t.val * 1024 + r.val < 32768; omega)]
  subst h; blk_ext [iblk3, idx3_1 t ht, row] <;> omega

theorem in3_2 (h : V c main_v15 = A) (t : Fin cfg3.N) (ht : t.val < 32) (r : Fin 1024) (k : Fin 512) :
    (iblk3 V c 2 t : Vec Ideal S1024x512 .f32) (ix2 r k) = pick A B (row t r) 2 k := by
  unfold pick
  rw [dif_pos (by show t.val * 1024 + r.val < 32768; omega)]
  subst h; blk_ext [iblk3, idx3_2 t ht, row] <;> omega

theorem in3_3 (h : V c main_v28 = B) (t : Fin cfg3.N) (ht : 32 ≤ t.val) (r : Fin 1024) (k : Fin 512) :
    (iblk3 V c 3 t : Vec Ideal S1024x512 .f32) (ix2 r k) = pick A B (row t r) 0 k := by
  unfold pick
  rw [dif_neg (by show ¬ t.val * 1024 + r.val < 32768; omega)]
  subst h; blk_ext [iblk3, idx3_3 t ht, row] <;> omega

theorem in3_4 (h : V c main_v28 = B) (t : Fin cfg3.N) (ht : 32 ≤ t.val) (r : Fin 1024) (k : Fin 512) :
    (iblk3 V c 4 t : Vec Ideal S1024x512 .f32) (ix2 r k) = pick A B (row t r) 1 k := by
  unfold pick
  rw [dif_neg (by show ¬ t.val * 1024 + r.val < 32768; omega)]
  subst h; blk_ext [iblk3, idx3_4 t ht, row] <;> omega

theorem in3_5 (h : V c main_v28 = B) (t : Fin cfg3.N) (ht : 32 ≤ t.val) (r : Fin 1024) (k : Fin 512) :
    (iblk3 V c 5 t : Vec Ideal S1024x512 .f32) (ix2 r k) = pick A B (row t r) 2 k := by
  unfold pick
  rw [dif_neg (by show ¬ t.val * 1024 + r.val < 32768; omega)]
  subst h; blk_ext [iblk3, idx3_5 t ht, row] <;> omega

theorem in3_6 (h : V c main_v37 = wt) (t : Fin cfg3.N) (r : Fin 1024) (k : Fin 3) :
    (iblk3 V c 6 t : Vec Ideal S1024x3 .f32) (ix2 r k) = wt (ix2 (row t r) k) := by
  subst h; blk_ext [iblk3, idx3_6 t, row]

theorem in3_7 (h : V c main_arg4 = p1) (t : Fin cfg3.N) (r : Fin 1024) (k : Fin 256) :
    (iblk3 V c 7 t : Vec Ideal S1x256x1024 .f32) (ix3 0 k r) = p1 (ix3 (bat (row t r)) k (nth (row t r))) := by
  have ht : t.val < 64 := t.isLt
  subst h; blk_ext [iblk3, idx3_7 t, row, bat, nth] <;> omega

theorem in3_8 (h : V c main_v0 = u) (t : Fin cfg3.N) (o : Fin 512) (k : Fin 256) :
    (iblk3 V c 8 t : Vec Ideal S512x256 .f32) (ix2 o k) = u (ix2 o k) := by
  subst h; blk_ext [iblk3, idx3_8 t]

theorem in3_9 (h : V c main_v1 = v) (t : Fin cfg3.N) (o k : Fin 512) :
    (iblk3 V c 9 t : Vec Ideal S512x512 .f32) (ix2 o k) = v (ix2 o k) := by
  subst h; blk_ext [iblk3, idx3_9 t]

variable (hA : V c main_v15 = A) (hB : V c main_v28 = B) (h6 : V c main_v37 = wt) (h7 : V c main_arg4 = p1)
  (h8 : V c main_v0 = u) (h9 : V c main_v1 = v)
include hA hB h6 h7 h8 h9

/-- The product of block `t`, on the first half of the grid; -/
theorem pay3A (t : Fin cfg3.N) (ht : t.val < 32) (r : Fin 1024) (o : Fin 512) :
    (k3_pay4 (F := Ideal) (iblk3 V c 6 t) (iblk3 V c 7 t) (iblk3 V c 8 t) (iblk3 V c 0 t) (iblk3 V c 1 t) (iblk3 V c 2 t) (iblk3 V c 9 t) (ix2 r o) : EReal)
      = fused A B wt p1 u v (row t r) o := by
  rw [fuse_payA]
  simp only [in3_0 V c A B hA t ht, in3_1 V c A B hA t ht, in3_2 V c A B hA t ht, in3_6 V c wt h6, in3_7 V c p1 h7, in3_8 V c u h8, in3_9 V c v h9]
  rfl

/-- and on the second. -/
theorem pay3C (t : Fin cfg3.N) (ht : 32 ≤ t.val) (r : Fin 1024) (o : Fin 512) :
    (k3_pay5 (F := Ideal) (iblk3 V c 6 t) (iblk3 V c 7 t) (iblk3 V c 8 t) (iblk3 V c 3 t) (iblk3 V c 4 t) (iblk3 V c 5 t) (iblk3 V c 9 t) (ix2 r o) : EReal)
      = fused A B wt p1 u v (row t r) o := by
  rw [fuse_payB]
  simp only [in3_3 V c A B hB t ht, in3_4 V c A B hB t ht, in3_5 V c A B hB t ht, in3_6 V c wt h6, in3_7 V c p1 h7, in3_8 V c u h8, in3_9 V c v h9]
  rfl

theorem pt3 (t : Fin cfg3.N) (r : Fin 1024) (o : Fin 512) :
    ((outsAt3 V c t.val t.isLt).1 (ix2 r o) : EReal) = fused A B wt p1 u v (row t r) o := by
  by_cases hl : t.val < 32
  · by_cases hz : t.val % 64 = 0
    · rw [outsAt3_A V c t hl (by omega) hz]
      dsimp only
      rw [o3_A_10, pay3A V c A B wt p1 u v hA hB h6 h7 h8 h9 t hl]
    · rw [outsAt3_B V c t hl (by omega) hz]
      dsimp only
      rw [o3_B_10, pay3A V c A B wt p1 u v hA hB h6 h7 h8 h9 t hl]
  · have ht : t.val < 64 := t.isLt
    rw [outsAt3_C V c t hl (by omega) (by omega)]
    dsimp only
    rw [o3_C_10, pay3C V c A B wt p1 u v hA hB h6 h7 h8 h9 t (by omega)]

/-- The running sums after point `n`. -/
theorem st3 : ∀ (n : ℕ) (hn : n < cfg3.N) (o : Fin 512),
    ((outsAt3 V c n hn).2 (ix2 0 o) : EReal) = ∑ s ∈ Finset.range (n + 1), part (fun p => fused A B wt p1 u v p o) s
    ∧ ((outsAt3 V c n hn).2 (ix2 1 o) : EReal)
        = ∑ s ∈ Finset.range (n + 1), part (fun p => fused A B wt p1 u v p o * fused A B wt p1 u v p o) s
  | n, hn, o => by
    have hN : n < 64 := hn
    have e0 : part (fun p => fused A B wt p1 u v p o) n = _ := part_of_lt _ ⟨n, hN⟩
    have e1 : part (fun p => fused A B wt p1 u v p o * fused A B wt p1 u v p o) n = _ := part_of_lt _ ⟨n, hN⟩
    by_cases hz : n % 64 = 0
    · have hz0 : n = 0 := by omega
      subst hz0
      have P := pay3A V c A B wt p1 u v hA hB h6 h7 h8 h9 ⟨0, hn⟩ (by show 0 < 32; omega)
      rw [outsAt3_A V c ⟨0, hn⟩ (by show 0 < 32; omega) (by show ¬ 32 ≤ 0; omega) hz]
      rw [Finset.sum_range_one, Finset.sum_range_one, e0, e1]
      constructor
      · dsimp only
        rw [o3_A_sum]
        exact Finset.sum_congr rfl fun r _ => P r o
      · dsimp only
        rw [o3_A_sq]
        exact Finset.sum_congr rfl fun r _ => by rw [P r o]; rfl
    · have ih := st3 (n - 1) (by omega) o
      have hs : n - 1 + 1 = n := by omega
      rw [hs] at ih
      rw [Finset.sum_range_succ, Finset.sum_range_succ, e0, e1, ← ih.1, ← ih.2]
      by_cases hl : n < 32
      · have P := pay3A V c A B wt p1 u v hA hB h6 h7 h8 h9 ⟨n, hn⟩ hl
        rw [outsAt3_B V c ⟨n, hn⟩ hl (by show ¬ 32 ≤ n; omega) hz]
        constructor
        · dsimp only
          rw [o3_B_sum]
          exact congrArg _ (Finset.sum_congr rfl fun r _ => P r o)
        · dsimp only
          rw [o3_B_sq]
          exact congrArg _ (Finset.sum_congr rfl fun r _ => by rw [P r o]; rfl)
      · have P := pay3C V c A B wt p1 u v hA hB h6 h7 h8 h9 ⟨n, hn⟩ (by show 32 ≤ n; omega)
        rw [outsAt3_C V c ⟨n, hn⟩ hl (by show 32 ≤ n; omega) hz]
        constructor
        · dsimp only
          rw [o3_C_sum]
          exact congrArg _ (Finset.sum_congr rfl fun r _ => P r o)
        · dsimp only
          rw [o3_C_sq]
          exact congrArg _ (Finset.sum_congr rfl fun r _ => by rw [P r o]; rfl)
  termination_by n => n
  decreasing_by omega

theorem arr3_lin (p : Fin 65536) (o : Fin 512) :
    (((dat3 (F := Ideal) V c).arrAt 10 cfg3.N : Vec Ideal S65536x512 .bf16) (ix2 p o) : EReal) = fused A B wt p1 u v p o := by
  have key : ((dat3 (F := Ideal) V c).arrAt 10 cfg3.N : Vec Ideal S65536x512 .bf16)
      = fun i => (fused A B wt p1 u v (i 0) (i 1) : EReal) := by
    refine (dat3 V c).arrAt_eq_of_covers 10 _ (by decide +kernel) fun t hf y => ?_
    blk_simp
    rw [after3_10]
    obtain ⟨r, k, rfl⟩ : ∃ (r : Fin 1024) (k : Fin 512), y = ix2 r k := ⟨y 0, y 1, by funext a; fin_cases a <;> rfl⟩
    refine (pt3 V c A B wt p1 u v hA hB h6 h7 h8 h9 t r k).trans ?_
    refine congrArg₂ (fused A B wt p1 u v) (Fin.ext ?_) (Fin.ext ?_)
    · blk_simp [idx3_10 t]; first | done | rfl
    · blk_simp [idx3_10 t]; first | done | rfl | simp
  rw [key]; rfl

omit hA hB h6 h7 h8 h9 in
theorem last3_11 (i : Fin 8) (o : Fin 512) :
    ((dat3 (F := Ideal) V c).arrAt 11 cfg3.N : Vec Ideal S8x512 .f32) (ix2 i o) = (dat3 (F := Ideal) V c).after 11 last3 (ix2 i o) := by
  exact (dat3 (F := Ideal) V c).arrAt_emb_eq_after_last 11 last3 (by decide +kernel) (ix2 (n0 := 8) (n1 := 512) i o)

theorem arr3_sum (o : Fin 512) :
    (((dat3 (F := Ideal) V c).arrAt 11 cfg3.N : Vec Ideal S8x512 .f32) (ix2 0 o) : EReal) = ∑ p, fused A B wt p1 u v p o := by
  refine (last3_11 V c 0 o).trans ?_
  rw [after3_11, ← sum_parts]
  exact (st3 V c A B wt p1 u v hA hB h6 h7 h8 h9 63 (by decide) o).1

theorem arr3_sq (o : Fin 512) :
    (((dat3 (F := Ideal) V c).arrAt 11 cfg3.N : Vec Ideal S8x512 .f32) (ix2 1 o) : EReal)
      = ∑ p, fused A B wt p1 u v p o * fused A B wt p1 u v p o := by
  refine (last3_11 V c 1 o).trans ?_
  rw [after3_11, ← sum_parts]
  exact (st3 V c A B wt p1 u v hA hB h6 h7 h8 h9 63 (by decide) o).2

end Cert.Proof.Val
-- ==== Proof.Outs4.lean ====
/-
  What the first middle call leaves in its staging buffers, read at one element.
-/
module

public import proofs.«01_k».proof.Proof.Reg4
public import proofs.«01_k».proof.Proof.Outs

@[expose] public section

set_option maxRecDepth 16384

noncomputable section

namespace Cert.Proof.Val

open Cert.KernelIdeal Cert.KernelIdeal.Gen Cert.Proof.Common Cert.Proof.Reg
open Idealize.ShloMosaic Idealize.ShloMosaic.TcCoe Idealize.ShloMosaic.Tactic

variable (c : Dev nD) (i : grid4.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S8x512 .f32) (harg7 : arg7.IsWhole)
  (x0 : Vec Ideal S1024x512 .bf16) (x1 : Vec Ideal S1x512 .f32) (x2 : Vec Ideal S1x512 .f32) (x3 : Vec Ideal S512x512 .f32)

/-- Case A: the block of window 4. -/
theorem o4_A_4 (hc0 : cond4_0 i) :
    out4_A_4 (F := Ideal) c i arg1 harg1 arg2 harg2 arg3 harg3 arg4 harg4 arg5 harg5 arg6 harg6 arg7 harg7 hc0 x0 x1 x2 x3 = k4_pay2 x0 x1 x2 := by
  unfold out4_A_4
  rw [View.read_writes_eq_canon _ _ _ (cover4_A_4 c i arg1 harg1 arg2 harg2 arg3 harg3 arg4 harg4 arg5 harg5 arg6 harg6 arg7 harg7 hc0 x0 x1 x2 x3)]
  unfold kernelRun4_A
  dsimp only
  (try sl_unfold_words)
  rw [View.canon_unit_zero hz2]
  simp only [View.readAt_eq_ld, harg1.read_unread, harg2.read_unread, harg3.read_unread, harg4.read_unread, harg5.read_unread, harg6.read_unread, harg7.read_unread, View.ld_unit_zero (S := S1024x512) hz2, View.ld_unit_zero (S := S1x512) hz2, View.ld_unit_zero (S := S512x512) hz2, View.readCov_unit_zero (S := S1024x512) _ hz2]

/-- Case A: the block of window 5. -/
theorem o4_A_5 (hc0 : cond4_0 i) :
    out4_A_5 (F := Ideal) c i arg1 harg1 arg2 harg2 arg3 harg3 arg4 harg4 arg5 harg5 arg6 harg6 arg7 harg7 hc0 x0 x1 x2 x3 = k4_pay3 x0 x1 x2 x3 := by
  unfold out4_A_5
  rw [View.read_writes_eq_canon _ _ _ (cover4_A_5 c i arg1 harg1 arg2 harg2 arg3 harg3 arg4 harg4 arg5 harg5 arg6 harg6 arg7 harg7 hc0 x0 x1 x2 x3)]
  unfold kernelRun4_A
  dsimp only
  (try sl_unfold_words)
  rw [View.canon_unit_zero hz2]
  simp only [View.readAt_eq_ld, harg1.read_unread, harg2.read_unread, harg3.read_unread, harg4.read_unread, harg5.read_unread, harg6.read_unread, harg7.read_unread, View.ld_unit_zero (S := S1024x512) hz2, View.ld_unit_zero (S := S1x512) hz2, View.ld_unit_zero (S := S512x512) hz2, View.readCov_unit_zero (S := S1024x512) _ hz2]

/-- Case A: row 0 of the statistics. -/
theorem o4_A_sum (hc0 : cond4_0 i) (o : Fin 512) :
    (out4_A_6 (F := Ideal) c i arg1 harg1 arg2 harg2 arg3 harg3 arg4 harg4 arg5 harg5 arg6 harg6 arg7 harg7 hc0 x0 x1 x2 x3 (ix2 0 o) : EReal) = (∑ r : Fin 1024, (k4_pay3 (F := Ideal) x0 x1 x2 x3 (ix2 r o) : EReal)) := by
  unfold out4_A_6
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  (try sl_unfold_words)
  simp only [View.readAt_eq_ld, harg1.read_unread, harg2.read_unread, harg3.read_unread, harg4.read_unread, harg5.read_unread, harg6.read_unread, harg7.read_unread, View.ld_unit_zero (S := S1024x512) hz2, View.ld_unit_zero (S := S1x512) hz2, View.ld_unit_zero (S := S512x512) hz2, View.readCov_unit_zero (S := S1024x512) _ hz2]
  rw [canon_row0]
  rw [mid1_sum, readCov_row0, mid1_zero, zero_add]

/-- Case A: row 1 of the statistics. -/
theorem o4_A_sq (hc0 : cond4_0 i) (o : Fin 512) :
    (out4_A_6 (F := Ideal) c i arg1 harg1 arg2 harg2 arg3 harg3 arg4 harg4 arg5 harg5 arg6 harg6 arg7 harg7 hc0 x0 x1 x2 x3 (ix2 1 o) : EReal) = (∑ r : Fin 1024, (k4_pay3 (F := Ideal) x0 x1 x2 x3 (ix2 r o) : EReal) * (k4_pay3 (F := Ideal) x0 x1 x2 x3 (ix2 r o) : EReal)) := by
  unfold out4_A_6
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  (try sl_unfold_words)
  simp only [View.readAt_eq_ld, harg1.read_unread, harg2.read_unread, harg3.read_unread, harg4.read_unread, harg5.read_unread, harg6.read_unread, harg7.read_unread, View.ld_unit_zero (S := S1024x512) hz2, View.ld_unit_zero (S := S1x512) hz2, View.ld_unit_zero (S := S512x512) hz2, View.readCov_unit_zero (S := S1024x512) _ hz2]
  rw [canon_row1]
  rw [mid1_sq, readCov_row1, mid1_zero, zero_add]

/-- Case B: the block of window 4. -/
theorem o4_B_4 (xo : Vec Ideal S8x512 .f32) (hc0 : ¬ cond4_0 i) :
    out4_B_4 (F := Ideal) c i arg1 harg1 arg2 harg2 arg3 harg3 arg4 harg4 arg5 harg5 arg6 harg6 arg7 harg7 hc0 x0 x1 x2 x3 xo = k4_pay2 x0 x1 x2 := by
  unfold out4_B_4
  rw [View.read_writes_eq_canon _ _ _ (cover4_B_4 c i arg1 harg1 arg2 harg2 arg3 harg3 arg4 harg4 arg5 harg5 arg6 harg6 arg7 harg7 hc0 x0 x1 x2 x3 xo)]
  unfold kernelRun4_B
  dsimp only
  (try sl_unfold_words)
  rw [View.canon_unit_zero hz2]
  simp only [View.readAt_eq_ld, harg1.read_unread, harg2.read_unread, harg3.read_unread, harg4.read_unread, harg5.read_unread, harg6.read_unread, harg7.read_unread, View.ld_unit_zero (S := S1024x512) hz2, View.ld_unit_zero (S := S1x512) hz2, View.ld_unit_zero (S := S512x512) hz2, View.readCov_unit_zero (S := S1024x512) _ hz2]

/-- Case B: the block of window 5. -/
theorem o4_B_5 (xo : Vec Ideal S8x512 .f32) (hc0 : ¬ cond4_0 i) :
    out4_B_5 (F := Ideal) c i arg1 harg1 arg2 harg2 arg3 harg3 arg4 harg4 arg5 harg5 arg6 harg6 arg7 harg7 hc0 x0 x1 x2 x3 xo = k4_pay3 x0 x1 x2 x3 := by
  unfold out4_B_5
  rw [View.read_writes_eq_canon _ _ _ (cover4_B_5 c i arg1 harg1 arg2 harg2 arg3 harg3 arg4 harg4 arg5 harg5 arg6 harg6 arg7 harg7 hc0 x0 x1 x2 x3 xo)]
  unfold kernelRun4_B
  dsimp only
  (try sl_unfold_words)
  rw [View.canon_unit_zero hz2]
  simp only [View.readAt_eq_ld, harg1.read_unread, harg2.read_unread, harg3.read_unread, harg4.read_unread, harg5.read_unread, harg6.read_unread, harg7.read_unread, View.ld_unit_zero (S := S1024x512) hz2, View.ld_unit_zero (S := S1x512) hz2, View.ld_unit_zero (S := S512x512) hz2, View.readCov_unit_zero (S := S1024x512) _ hz2]

/-- Case B: row 0 of the statistics. -/
theorem o4_B_sum (xo : Vec Ideal S8x512 .f32) (hc0 : ¬ cond4_0 i) (o : Fin 512) :
    (out4_B_6 (F := Ideal) c i arg1 harg1 arg2 harg2 arg3 harg3 arg4 harg4 arg5 harg5 arg6 harg6 arg7 harg7 hc0 x0 x1 x2 x3 xo (ix2 0 o) : EReal) = (xo (ix2 0 o) : EReal) + (∑ r : Fin 1024, (k4_pay3 (F := Ideal) x0 x1 x2 x3 (ix2 r o) : EReal)) := by
  unfold out4_B_6
  unfold kernelRun4_B
  dsimp only
  (try sl_unfold_words)
  simp only [View.readAt_eq_ld, harg1.read_unread, harg2.read_unread, harg3.read_unread, harg4.read_unread, harg5.read_unread, harg6.read_unread, harg7.read_unread, View.ld_unit_zero (S := S1024x512) hz2, View.ld_unit_zero (S := S1x512) hz2, View.ld_unit_zero (S := S512x512) hz2, View.readCov_unit_zero (S := S1024x512) _ hz2]
  rw [read_row0]
  rw [mid1_sum, ld_row0]

/-- Case B: row 1 of the statistics. -/
theorem o4_B_sq (xo : Vec Ideal S8x512 .f32) (hc0 : ¬ cond4_0 i) (o : Fin 512) :
    (out4_B_6 (F := Ideal) c i arg1 harg1 arg2 harg2 arg3 harg3 arg4 harg4 arg5 harg5 arg6 harg6 arg7 harg7 hc0 x0 x1 x2 x3 xo (ix2 1 o) : EReal) = (xo (ix2 1 o) : EReal) + (∑ r : Fin 1024, (k4_pay3 (F := Ideal) x0 x1 x2 x3 (ix2 r o) : EReal) * (k4_pay3 (F := Ideal) x0 x1 x2 x3 (ix2 r o) : EReal)) := by
  unfold out4_B_6
  unfold kernelRun4_B
  dsimp only
  (try sl_unfold_words)
  simp only [View.readAt_eq_ld, harg1.read_unread, harg2.read_unread, harg3.read_unread, harg4.read_unread, harg5.read_unread, harg6.read_unread, harg7.read_unread, View.ld_unit_zero (S := S1024x512) hz2, View.ld_unit_zero (S := S1x512) hz2, View.ld_unit_zero (S := S512x512) hz2, View.readCov_unit_zero (S := S1024x512) _ hz2]
  rw [read_row1]
  rw [mid1_sq, ld_row1]

end Cert.Proof.Val
-- ==== Proof.Arr4.lean ====
/-
  The arrays the first middle call leaves, from the arrays it is entered at.
-/
module

public import proofs.«01_k».proof.Proof.Outs4
public import proofs.«01_k».proof.Proof.Arr

@[expose] public section

set_option maxRecDepth 16384

noncomputable section

namespace Cert.Proof.Val

open Cert.KernelIdeal Cert.KernelIdeal.Gen Cert.Proof.Common Cert.Proof.Reg
open Idealize.ShloMosaic Idealize.ShloMosaic.TcCoe Idealize.ShloMosaic.Tactic

variable (V : (c : Dev nD) → (b : Ref sig .tc) → Buf (Elt Ideal) ((c : Thread nD τ).loc b)) (c : Dev nD)
variable (X : Vec Ideal S65536x512 .bf16) (sc sh : Vec Ideal S1x512 .f32) (w : Vec Ideal S512x512 .f32)

theorem idx4_0 : ∀ t, win4_0.index t = ![t.val, 0] := by decide +kernel
theorem idx4_1 : ∀ t, win4_1.index t = ![0, 0] := by decide +kernel
theorem idx4_2 : ∀ t, win4_2.index t = ![0, 0] := by decide +kernel
theorem idx4_3 : ∀ t, win4_3.index t = ![0, 0] := by decide +kernel
theorem idx4_4 : ∀ t, win4_4.index t = ![t.val, 0] := by decide +kernel
theorem idx4_5 : ∀ t, win4_5.index t = ![t.val, 0] := by decide +kernel

theorem idx4_6 : ∀ t, win4_6.index t = ![0, 0] := by decide +kernel

/-- The last point. -/
def last4 : Fin cfg4.N := ⟨63, by decide⟩

theorem in4_0 (h : V c main_v38_0 = X) (t : Fin cfg4.N) (r : Fin 1024) (k : Fin 512) :
    (iblk4 V c 0 t : Vec Ideal S1024x512 .bf16) (ix2 r k) = X (ix2 (row t r) k) := by
  subst h; blk_ext [iblk4, idx4_0 t, row]

theorem in4_1 (h : V c main_v55 = sc) (t : Fin cfg4.N) (k : Fin 512) :
    (iblk4 V c 1 t : Vec Ideal S1x512 .f32) (ix2 0 k) = sc (ix2 0 k) := by
  subst h; blk_ext [iblk4, idx4_1 t]

theorem in4_2 (h : V c main_v56 = sh) (t : Fin cfg4.N) (k : Fin 512) :
    (iblk4 V c 2 t : Vec Ideal S1x512 .f32) (ix2 0 k) = sh (ix2 0 k) := by
  subst h; blk_ext [iblk4, idx4_2 t]

theorem in4_3 (h : V c main_arg10 = w) (t : Fin cfg4.N) (o k : Fin 512) :
    (iblk4 V c 3 t : Vec Ideal S512x512 .f32) (ix2 o k) = w (ix2 o k) := by
  subst h; blk_ext [iblk4, idx4_3 t]

variable (h0 : V c main_v38_0 = X) (h1 : V c main_v55 = sc) (h2 : V c main_v56 = sh) (h3 : V c main_arg10 = w)
include h0 h1 h2 h3

/-- The product of block `t`. -/
theorem pay4 (t : Fin cfg4.N) (r : Fin 1024) (o : Fin 512) :
    (k4_pay3 (F := Ideal) (iblk4 V c 0 t) (iblk4 V c 1 t) (iblk4 V c 2 t) (iblk4 V c 3 t) (ix2 r o) : EReal)
      = lin (act X sc sh) w (row t r) o := by
  rw [mid1_lin]
  refine Finset.sum_congr rfl fun k _ => ?_
  rw [in4_0 V c X h0, in4_1 V c sc h1, in4_2 V c sh h2, in4_3 V c w h3]
  rfl

/-- The activations of block `t`. -/
theorem pb4 (t : Fin cfg4.N) (r : Fin 1024) (o : Fin 512) :
    ((outsAt4 V c t.val t.isLt).1 (ix2 r o) : EReal) = act X sc sh (row t r) o := by
  have e : (k4_pay2 (F := Ideal) (iblk4 V c 0 t) (iblk4 V c 1 t) (iblk4 V c 2 t) (ix2 r o) : EReal) = act X sc sh (row t r) o := by
    rw [mid1_act, in4_0 V c X h0, in4_1 V c sc h1, in4_2 V c sh h2]; rfl
  by_cases hA : t.val % 64 = 0
  · rw [outsAt4_A V c t hA]
    dsimp only
    rw [o4_A_4, e]
  · rw [outsAt4_B V c t hA]
    dsimp only
    rw [o4_B_4, e]

theorem pt4 (t : Fin cfg4.N) (r : Fin 1024) (o : Fin 512) :
    ((outsAt4 V c t.val t.isLt).2.1 (ix2 r o) : EReal) = lin (act X sc sh) w (row t r) o := by
  by_cases hA : t.val % 64 = 0
  · rw [outsAt4_A V c t hA]
    dsimp only
    rw [o4_A_5, pay4 V c X sc sh w h0 h1 h2 h3]
  · rw [outsAt4_B V c t hA]
    dsimp only
    rw [o4_B_5, pay4 V c X sc sh w h0 h1 h2 h3]

/-- The running sums after point `n`. -/
theorem st4 : ∀ (n : ℕ) (hn : n < cfg4.N) (o : Fin 512),
    ((outsAt4 V c n hn).2.2 (ix2 0 o) : EReal) = ∑ s ∈ Finset.range (n + 1), part (fun p => lin (act X sc sh) w p o) s
    ∧ ((outsAt4 V c n hn).2.2 (ix2 1 o) : EReal)
        = ∑ s ∈ Finset.range (n + 1), part (fun p => lin (act X sc sh) w p o * lin (act X sc sh) w p o) s
  | n, hn, o => by
    have hN : n < 64 := hn
    have e0 : part (fun p => lin (act X sc sh) w p o) n = _ := part_of_lt _ ⟨n, hN⟩
    have e1 : part (fun p => lin (act X sc sh) w p o * lin (act X sc sh) w p o) n = _ := part_of_lt _ ⟨n, hN⟩
    by_cases hA : n % 64 = 0
    · have hz : n = 0 := by omega
      subst hz
      rw [outsAt4_A V c ⟨0, hn⟩ hA]
      rw [Finset.sum_range_one, Finset.sum_range_one, e0, e1]
      constructor
      · dsimp only
        rw [o4_A_sum]
        exact Finset.sum_congr rfl fun r _ => pay4 V c X sc sh w h0 h1 h2 h3 ⟨0, hn⟩ r o
      · dsimp only
        rw [o4_A_sq]
        exact Finset.sum_congr rfl fun r _ => by rw [pay4 V c X sc sh w h0 h1 h2 h3 ⟨0, hn⟩ r o]; rfl
    · have ih := st4 (n - 1) (by omega) o
      have hs : n - 1 + 1 = n := by omega
      rw [hs] at ih
      rw [Finset.sum_range_succ, Finset.sum_range_succ, e0, e1, ← ih.1, ← ih.2]
      rw [outsAt4_B V c ⟨n, hn⟩ hA]
      constructor
      · dsimp only
        rw [o4_B_sum]
        exact congrArg _ (Finset.sum_congr rfl fun r _ => pay4 V c X sc sh w h0 h1 h2 h3 ⟨n, hn⟩ r o)
      · dsimp only
        rw [o4_B_sq]
        exact congrArg _ (Finset.sum_congr rfl fun r _ => by rw [pay4 V c X sc sh w h0 h1 h2 h3 ⟨n, hn⟩ r o]; rfl)
  termination_by n => n
  decreasing_by omega

theorem arr4_act (p : Fin 65536) (o : Fin 512) :
    (((dat4 (F := Ideal) V c).arrAt 4 cfg4.N : Vec Ideal S65536x512 .bf16) (ix2 p o) : EReal) = act X sc sh p o := by
  have key : ((dat4 (F := Ideal) V c).arrAt 4 cfg4.N : Vec Ideal S65536x512 .bf16)
      = fun i => (act X sc sh (i 0) (i 1) : EReal) := by
    refine (dat4 V c).arrAt_eq_of_covers 4 _ (by decide +kernel) fun t hf y => ?_
    blk_simp
    rw [after4_4]
    obtain ⟨r, k, rfl⟩ : ∃ (r : Fin 1024) (k : Fin 512), y = ix2 r k := ⟨y 0, y 1, by funext a; fin_cases a <;> rfl⟩
    refine (pb4 V c X sc sh w h0 h1 h2 h3 t r k).trans ?_
    refine congrArg₂ (act X sc sh) (Fin.ext ?_) (Fin.ext ?_)
    · blk_simp [idx4_4 t]; first | done | rfl
    · blk_simp [idx4_4 t]; first | done | rfl | simp
  rw [key]; rfl

theorem arr4_lin (p : Fin 65536) (o : Fin 512) :
    (((dat4 (F := Ideal) V c).arrAt 5 cfg4.N : Vec Ideal S65536x512 .bf16) (ix2 p o) : EReal) = lin (act X sc sh) w p o := by
  have key : ((dat4 (F := Ideal) V c).arrAt 5 cfg4.N : Vec Ideal S65536x512 .bf16)
      = fun i => (lin (act X sc sh) w (i 0) (i 1) : EReal) := by
    refine (dat4 V c).arrAt_eq_of_covers 5 _ (by decide +kernel) fun t hf y => ?_
    blk_simp
    rw [after4_5]
    obtain ⟨r, k, rfl⟩ : ∃ (r : Fin 1024) (k : Fin 512), y = ix2 r k := ⟨y 0, y 1, by funext a; fin_cases a <;> rfl⟩
    refine (pt4 V c X sc sh w h0 h1 h2 h3 t r k).trans ?_
    refine congrArg₂ (lin (act X sc sh) w) (Fin.ext ?_) (Fin.ext ?_)
    · blk_simp [idx4_5 t]; first | done | rfl
    · blk_simp [idx4_5 t]; first | done | rfl | simp
  rw [key]; rfl

omit h0 h1 h2 h3 in
theorem last4_6 (i : Fin 8) (o : Fin 512) :
    ((dat4 (F := Ideal) V c).arrAt 6 cfg4.N : Vec Ideal S8x512 .f32) (ix2 i o) = (dat4 (F := Ideal) V c).after 6 last4 (ix2 i o) := by
  exact (dat4 (F := Ideal) V c).arrAt_emb_eq_after_last 6 last4 (by decide +kernel) (ix2 (n0 := 8) (n1 := 512) i o)

theorem arr4_sum (o : Fin 512) :
    (((dat4 (F := Ideal) V c).arrAt 6 cfg4.N : Vec Ideal S8x512 .f32) (ix2 0 o) : EReal) = ∑ p, lin (act X sc sh) w p o := by
  refine (last4_6 V c 0 o).trans ?_
  rw [after4_6]
  exact (st4 V c X sc sh w h0 h1 h2 h3 last4.val last4.isLt o).1.trans (sum_parts _)

theorem arr4_sq (o : Fin 512) :
    (((dat4 (F := Ideal) V c).arrAt 6 cfg4.N : Vec Ideal S8x512 .f32) (ix2 1 o) : EReal)
      = ∑ p, lin (act X sc sh) w p o * lin (act X sc sh) w p o := by
  refine (last4_6 V c 1 o).trans ?_
  rw [after4_6]
  exact (st4 V c X sc sh w h0 h1 h2 h3 last4.val last4.isLt o).2.trans (sum_parts _)

end Cert.Proof.Val
-- ==== Proof.Outs5.lean ====
/-
  What the second middle call leaves in its staging buffers, read at one element.
-/
module

public import proofs.«01_k».proof.Proof.Reg5
public import proofs.«01_k».proof.Proof.Outs

@[expose] public section

set_option maxRecDepth 16384

noncomputable section

namespace Cert.Proof.Val

open Cert.KernelIdeal Cert.KernelIdeal.Gen Cert.Proof.Common Cert.Proof.Reg
open Idealize.ShloMosaic Idealize.ShloMosaic.TcCoe Idealize.ShloMosaic.Tactic

variable (c : Dev nD) (i : grid5.Coords) (arg1 : Memref sig .tc .vmem S1024x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1024x512 .bf16) (harg5 : arg5.IsWhole) (arg6 : Memref sig .tc .vmem S8x512 .f32) (harg6 : arg6.IsWhole)
  (x0 : Vec Ideal S1024x512 .bf16) (x1 : Vec Ideal S1x512 .f32) (x2 : Vec Ideal S1x512 .f32) (x3 : Vec Ideal S512x512 .f32)

/-- Case A: the block of window 4. -/
theorem o5_A_4 (hc0 : cond5_0 i) :
    out5_A_4 (F := Ideal) c i arg1 harg1 arg2 harg2 arg3 harg3 arg4 harg4 arg5 harg5 arg6 harg6 hc0 x0 x1 x2 x3 = k5_pay2 x0 x1 x2 x3 := by
  unfold out5_A_4
  rw [View.read_writes_eq_canon _ _ _ (cover5_A_4 c i arg1 harg1 arg2 harg2 arg3 harg3 arg4 harg4 arg5 harg5 arg6 harg6 hc0 x0 x1 x2 x3)]
  unfold kernelRun5_A
  dsimp only
  (try sl_unfold_words)
  rw [View.canon_unit_zero hz2]
  simp only [View.readAt_eq_ld, harg1.read_unread, harg2.read_unread, harg3.read_unread, harg4.read_unread, harg5.read_unread, harg6.read_unread, View.ld_unit_zero (S := S1024x512) hz2, View.ld_unit_zero (S := S1x512) hz2, View.ld_unit_zero (S := S512x512) hz2, View.readCov_unit_zero (S := S1024x512) _ hz2]

/-- Case A: row 0 of the statistics. -/
theorem o5_A_sum (hc0 : cond5_0 i) (o : Fin 512) :
    (out5_A_5 (F := Ideal) c i arg1 harg1 arg2 harg2 arg3 harg3 arg4 harg4 arg5 harg5 arg6 harg6 hc0 x0 x1 x2 x3 (ix2 0 o) : EReal) = (∑ r : Fin 1024, (k5_pay2 (F := Ideal) x0 x1 x2 x3 (ix2 r o) : EReal)) := by
  unfold out5_A_5
  rw [View.read_writes_eq_canon _ _ _ (cover5_A_5 c i arg1 harg1 arg2 harg2 arg3 harg3 arg4 harg4 arg5 harg5 arg6 harg6 hc0 x0 x1 x2 x3)]
  unfold kernelRun5_A
  dsimp only
  (try sl_unfold_words)
  simp only [View.readAt_eq_ld, harg1.read_unread, harg2.read_unread, harg3.read_unread, harg4.read_unread, harg5.read_unread, harg6.read_unread, View.ld_unit_zero (S := S1024x512) hz2, View.ld_unit_zero (S := S1x512) hz2, View.ld_unit_zero (S := S512x512) hz2, View.readCov_unit_zero (S := S1024x512) _ hz2]
  rw [canon_row0]
  rw [mid2_sum, readCov_row0, mid2_zero, zero_add]

/-- Case A: row 1 of the statistics. -/
theorem o5_A_sq (hc0 : cond5_0 i) (o : Fin 512) :
    (out5_A_5 (F := Ideal) c i arg1 harg1 arg2 harg2 arg3 harg3 arg4 harg4 arg5 harg5 arg6 harg6 hc0 x0 x1 x2 x3 (ix2 1 o) : EReal) = (∑ r : Fin 1024, (k5_pay2 (F := Ideal) x0 x1 x2 x3 (ix2 r o) : EReal) * (k5_pay2 (F := Ideal) x0 x1 x2 x3 (ix2 r o) : EReal)) := by
  unfold out5_A_5
  rw [View.read_writes_eq_canon _ _ _ (cover5_A_5 c i arg1 harg1 arg2 harg2 arg3 harg3 arg4 harg4 arg5 harg5 arg6 harg6 hc0 x0 x1 x2 x3)]
  unfold kernelRun5_A
  dsimp only
  (try sl_unfold_words)
  simp only [View.readAt_eq_ld, harg1.read_unread, harg2.read_unread, harg3.read_unread, harg4.read_unread, harg5.read_unread, harg6.read_unread, View.ld_unit_zero (S := S1024x512) hz2, View.ld_unit_zero (S := S1x512) hz2, View.ld_unit_zero (S := S512x512) hz2, View.readCov_unit_zero (S := S1024x512) _ hz2]
  rw [canon_row1]
  rw [mid2_sq, readCov_row1, mid2_zero, zero_add]

/-- Case B: the block of window 4. -/
theorem o5_B_4 (xo : Vec Ideal S8x512 .f32) (hc0 : ¬ cond5_0 i) :
    out5_B_4 (F := Ideal) c i arg1 harg1 arg2 harg2 arg3 harg3 arg4 harg4 arg5 harg5 arg6 harg6 hc0 x0 x1 x2 x3 xo = k5_pay2 x0 x1 x2 x3 := by
  unfold out5_B_4
  rw [View.read_writes_eq_canon _ _ _ (cover5_B_4 c i arg1 harg1 arg2 harg2 arg3 harg3 arg4 harg4 arg5 harg5 arg6 harg6 hc0 x0 x1 x2 x3 xo)]
  unfold kernelRun5_B
  dsimp only
  (try sl_unfold_words)
  rw [View.canon_unit_zero hz2]
  simp only [View.readAt_eq_ld, harg1.read_unread, harg2.read_unread, harg3.read_unread, harg4.read_unread, harg5.read_unread, harg6.read_unread, View.ld_unit_zero (S := S1024x512) hz2, View.ld_unit_zero (S := S1x512) hz2, View.ld_unit_zero (S := S512x512) hz2, View.readCov_unit_zero (S := S1024x512) _ hz2]

/-- Case B: row 0 of the statistics. -/
theorem o5_B_sum (xo : Vec Ideal S8x512 .f32) (hc0 : ¬ cond5_0 i) (o : Fin 512) :
    (out5_B_5 (F := Ideal) c i arg1 harg1 arg2 harg2 arg3 harg3 arg4 harg4 arg5 harg5 arg6 harg6 hc0 x0 x1 x2 x3 xo (ix2 0 o) : EReal) = (xo (ix2 0 o) : EReal) + (∑ r : Fin 1024, (k5_pay2 (F := Ideal) x0 x1 x2 x3 (ix2 r o) : EReal)) := by
  unfold out5_B_5
  unfold kernelRun5_B
  dsimp only
  (try sl_unfold_words)
  simp only [View.readAt_eq_ld, harg1.read_unread, harg2.read_unread, harg3.read_unread, harg4.read_unread, harg5.read_unread, harg6.read_unread, View.ld_unit_zero (S := S1024x512) hz2, View.ld_unit_zero (S := S1x512) hz2, View.ld_unit_zero (S := S512x512) hz2, View.readCov_unit_zero (S := S1024x512) _ hz2]
  rw [read_row0]
  rw [mid2_sum, ld_row0]

/-- Case B: row 1 of the statistics. -/
theorem o5_B_sq (xo : Vec Ideal S8x512 .f32) (hc0 : ¬ cond5_0 i) (o : Fin 512) :
    (out5_B_5 (F := Ideal) c i arg1 harg1 arg2 harg2 arg3 harg3 arg4 harg4 arg5 harg5 arg6 harg6 hc0 x0 x1 x2 x3 xo (ix2 1 o) : EReal) = (xo (ix2 1 o) : EReal) + (∑ r : Fin 1024, (k5_pay2 (F := Ideal) x0 x1 x2 x3 (ix2 r o) : EReal) * (k5_pay2 (F := Ideal) x0 x1 x2 x3 (ix2 r o) : EReal)) := by
  unfold out5_B_5
  unfold kernelRun5_B
  dsimp only
  (try sl_unfold_words)
  simp only [View.readAt_eq_ld, harg1.read_unread, harg2.read_unread, harg3.read_unread, harg4.read_unread, harg5.read_unread, harg6.read_unread, View.ld_unit_zero (S := S1024x512) hz2, View.ld_unit_zero (S := S1x512) hz2, View.ld_unit_zero (S := S512x512) hz2, View.readCov_unit_zero (S := S1024x512) _ hz2]
  rw [read_row1]
  rw [mid2_sq, ld_row1]

end Cert.Proof.Val
-- ==== Proof.Arr5.lean ====
/-
  The arrays the second middle call leaves, from the arrays it is entered at.
-/
module

public import proofs.«01_k».proof.Proof.Outs5
public import proofs.«01_k».proof.Proof.Arr

@[expose] public section

set_option maxRecDepth 16384

noncomputable section

namespace Cert.Proof.Val

open Cert.KernelIdeal Cert.KernelIdeal.Gen Cert.Proof.Common Cert.Proof.Reg
open Idealize.ShloMosaic Idealize.ShloMosaic.TcCoe Idealize.ShloMosaic.Tactic

variable (V : (c : Dev nD) → (b : Ref sig .tc) → Buf (Elt Ideal) ((c : Thread nD τ).loc b)) (c : Dev nD)
variable (X : Vec Ideal S65536x512 .bf16) (sc sh : Vec Ideal S1x512 .f32) (w : Vec Ideal S512x512 .f32)

theorem idx5_0 : ∀ t, win5_0.index t = ![t.val, 0] := by decide +kernel
theorem idx5_1 : ∀ t, win5_1.index t = ![0, 0] := by decide +kernel
theorem idx5_2 : ∀ t, win5_2.index t = ![0, 0] := by decide +kernel
theorem idx5_3 : ∀ t, win5_3.index t = ![0, 0] := by decide +kernel
theorem idx5_4 : ∀ t, win5_4.index t = ![t.val, 0] := by decide +kernel

theorem idx5_5 : ∀ t, win5_5.index t = ![0, 0] := by decide +kernel

/-- The last point. -/
def last5 : Fin cfg5.N := ⟨63, by decide⟩

theorem in5_0 (h : V c main_v57_1 = X) (t : Fin cfg5.N) (r : Fin 1024) (k : Fin 512) :
    (iblk5 V c 0 t : Vec Ideal S1024x512 .bf16) (ix2 r k) = X (ix2 (row t r) k) := by
  subst h; blk_ext [iblk5, idx5_0 t, row]

theorem in5_1 (h : V c main_v74 = sc) (t : Fin cfg5.N) (k : Fin 512) :
    (iblk5 V c 1 t : Vec Ideal S1x512 .f32) (ix2 0 k) = sc (ix2 0 k) := by
  subst h; blk_ext [iblk5, idx5_1 t]

theorem in5_2 (h : V c main_v75 = sh) (t : Fin cfg5.N) (k : Fin 512) :
    (iblk5 V c 2 t : Vec Ideal S1x512 .f32) (ix2 0 k) = sh (ix2 0 k) := by
  subst h; blk_ext [iblk5, idx5_2 t]

theorem in5_3 (h : V c main_arg14 = w) (t : Fin cfg5.N) (o k : Fin 512) :
    (iblk5 V c 3 t : Vec Ideal S512x512 .f32) (ix2 o k) = w (ix2 o k) := by
  subst h; blk_ext [iblk5, idx5_3 t]

variable (h0 : V c main_v57_1 = X) (h1 : V c main_v74 = sc) (h2 : V c main_v75 = sh) (h3 : V c main_arg14 = w)
include h0 h1 h2 h3

/-- The product of block `t`. -/
theorem pay5 (t : Fin cfg5.N) (r : Fin 1024) (o : Fin 512) :
    (k5_pay2 (F := Ideal) (iblk5 V c 0 t) (iblk5 V c 1 t) (iblk5 V c 2 t) (iblk5 V c 3 t) (ix2 r o) : EReal)
      = lin (act X sc sh) w (row t r) o := by
  rw [mid2_lin]
  refine Finset.sum_congr rfl fun k _ => ?_
  rw [in5_0 V c X h0, in5_1 V c sc h1, in5_2 V c sh h2, in5_3 V c w h3]
  rfl

theorem pt5 (t : Fin cfg5.N) (r : Fin 1024) (o : Fin 512) :
    ((outsAt5 V c t.val t.isLt).1 (ix2 r o) : EReal) = lin (act X sc sh) w (row t r) o := by
  by_cases hA : t.val % 64 = 0
  · rw [outsAt5_A V c t hA]
    dsimp only
    rw [o5_A_4, pay5 V c X sc sh w h0 h1 h2 h3]
  · rw [outsAt5_B V c t hA]
    dsimp only
    rw [o5_B_4, pay5 V c X sc sh w h0 h1 h2 h3]

/-- The running sums after point `n`. -/
theorem st5 : ∀ (n : ℕ) (hn : n < cfg5.N) (o : Fin 512),
    ((outsAt5 V c n hn).2 (ix2 0 o) : EReal) = ∑ s ∈ Finset.range (n + 1), part (fun p => lin (act X sc sh) w p o) s
    ∧ ((outsAt5 V c n hn).2 (ix2 1 o) : EReal)
        = ∑ s ∈ Finset.range (n + 1), part (fun p => lin (act X sc sh) w p o * lin (act X sc sh) w p o) s
  | n, hn, o => by
    have hN : n < 64 := hn
    have e0 : part (fun p => lin (act X sc sh) w p o) n = _ := part_of_lt _ ⟨n, hN⟩
    have e1 : part (fun p => lin (act X sc sh) w p o * lin (act X sc sh) w p o) n = _ := part_of_lt _ ⟨n, hN⟩
    by_cases hA : n % 64 = 0
    · have hz : n = 0 := by omega
      subst hz
      rw [outsAt5_A V c ⟨0, hn⟩ hA]
      rw [Finset.sum_range_one, Finset.sum_range_one, e0, e1]
      constructor
      · dsimp only
        rw [o5_A_sum]
        exact Finset.sum_congr rfl fun r _ => pay5 V c X sc sh w h0 h1 h2 h3 ⟨0, hn⟩ r o
      · dsimp only
        rw [o5_A_sq]
        exact Finset.sum_congr rfl fun r _ => by rw [pay5 V c X sc sh w h0 h1 h2 h3 ⟨0, hn⟩ r o]; rfl
    · have ih := st5 (n - 1) (by omega) o
      have hs : n - 1 + 1 = n := by omega
      rw [hs] at ih
      rw [Finset.sum_range_succ, Finset.sum_range_succ, e0, e1, ← ih.1, ← ih.2]
      rw [outsAt5_B V c ⟨n, hn⟩ hA]
      constructor
      · dsimp only
        rw [o5_B_sum]
        exact congrArg _ (Finset.sum_congr rfl fun r _ => pay5 V c X sc sh w h0 h1 h2 h3 ⟨n, hn⟩ r o)
      · dsimp only
        rw [o5_B_sq]
        exact congrArg _ (Finset.sum_congr rfl fun r _ => by rw [pay5 V c X sc sh w h0 h1 h2 h3 ⟨n, hn⟩ r o]; rfl)
  termination_by n => n
  decreasing_by omega

theorem arr5_lin (p : Fin 65536) (o : Fin 512) :
    (((dat5 (F := Ideal) V c).arrAt 4 cfg5.N : Vec Ideal S65536x512 .bf16) (ix2 p o) : EReal) = lin (act X sc sh) w p o := by
  have key : ((dat5 (F := Ideal) V c).arrAt 4 cfg5.N : Vec Ideal S65536x512 .bf16)
      = fun i => (lin (act X sc sh) w (i 0) (i 1) : EReal) := by
    refine (dat5 V c).arrAt_eq_of_covers 4 _ (by decide +kernel) fun t hf y => ?_
    blk_simp
    rw [after5_4]
    obtain ⟨r, k, rfl⟩ : ∃ (r : Fin 1024) (k : Fin 512), y = ix2 r k := ⟨y 0, y 1, by funext a; fin_cases a <;> rfl⟩
    refine (pt5 V c X sc sh w h0 h1 h2 h3 t r k).trans ?_
    refine congrArg₂ (lin (act X sc sh) w) (Fin.ext ?_) (Fin.ext ?_)
    · blk_simp [idx5_4 t]; first | done | rfl
    · blk_simp [idx5_4 t]; first | done | rfl | simp
  rw [key]; rfl

omit h0 h1 h2 h3 in
theorem last5_5 (i : Fin 8) (o : Fin 512) :
    ((dat5 (F := Ideal) V c).arrAt 5 cfg5.N : Vec Ideal S8x512 .f32) (ix2 i o) = (dat5 (F := Ideal) V c).after 5 last5 (ix2 i o) := by
  exact (dat5 (F := Ideal) V c).arrAt_emb_eq_after_last 5 last5 (by decide +kernel) (ix2 (n0 := 8) (n1 := 512) i o)

theorem arr5_sum (o : Fin 512) :
    (((dat5 (F := Ideal) V c).arrAt 5 cfg5.N : Vec Ideal S8x512 .f32) (ix2 0 o) : EReal) = ∑ p, lin (act X sc sh) w p o := by
  refine (last5_5 V c 0 o).trans ?_
  rw [after5_5, ← sum_parts]
  exact (st5 V c X sc sh w h0 h1 h2 h3 63 (by decide) o).1

theorem arr5_sq (o : Fin 512) :
    (((dat5 (F := Ideal) V c).arrAt 5 cfg5.N : Vec Ideal S8x512 .f32) (ix2 1 o) : EReal)
      = ∑ p, lin (act X sc sh) w p o * lin (act X sc sh) w p o := by
  refine (last5_5 V c 1 o).trans ?_
  rw [after5_5, ← sum_parts]
  exact (st5 V c X sc sh w h0 h1 h2 h3 63 (by decide) o).2

end Cert.Proof.Val
-- ==== Proof.Arr6.lean ====
/-
  The arrays the last call leaves, from the arrays it is entered at.
-/
module

public import proofs.«01_k».proof.Proof.Reg6
public import proofs.«01_k».proof.Proof.Arr
public import proofs.«01_k».proof.Proof.Pay

@[expose] public section

set_option maxRecDepth 16384

noncomputable section

namespace Cert.Proof.Val

open Cert.KernelIdeal Cert.KernelIdeal.Gen Cert.Proof.Common Cert.Proof.Reg
open Idealize.ShloMosaic Idealize.ShloMosaic.TcCoe Idealize.ShloMosaic.Tactic

variable (V : (c : Dev nD) → (b : Ref sig .tc) → Buf (Elt Ideal) ((c : Thread nD τ).loc b)) (c : Dev nD)
variable (Y X : Vec Ideal S65536x512 .bf16) (sc sh : Vec Ideal S1x512 .f32)

theorem idx6_0 : ∀ t, win6_0.index t = ![t.val, 0] := by decide +kernel
theorem idx6_1 : ∀ t, win6_1.index t = ![t.val, 0] := by decide +kernel
theorem idx6_2 : ∀ t, win6_2.index t = ![0, 0] := by decide +kernel
theorem idx6_3 : ∀ t, win6_3.index t = ![0, 0] := by decide +kernel
theorem idx6_4 : ∀ t, win6_4.index t = ![t.val / 4, 0, t.val % 4] := by decide +kernel

theorem in6_0 (h : V c main_v76_0 = Y) (t : Fin cfg6.N) (r : Fin 1024) (k : Fin 512) :
    (iblk6 V c 0 t : Vec Ideal S1024x512 .bf16) (ix2 r k) = Y (ix2 (row t r) k) := by
  subst h; blk_ext [iblk6, idx6_0 t, row]

theorem in6_1 (h : V c main_v57_0 = X) (t : Fin cfg6.N) (r : Fin 1024) (k : Fin 512) :
    (iblk6 V c 1 t : Vec Ideal S1024x512 .bf16) (ix2 r k) = X (ix2 (row t r) k) := by
  subst h; blk_ext [iblk6, idx6_1 t, row]

theorem in6_2 (h : V c main_v93 = sc) (t : Fin cfg6.N) (k : Fin 512) :
    (iblk6 V c 2 t : Vec Ideal S1x512 .f32) (ix2 0 k) = sc (ix2 0 k) := by
  subst h; blk_ext [iblk6, idx6_2 t]

theorem in6_3 (h : V c main_v94 = sh) (t : Fin cfg6.N) (k : Fin 512) :
    (iblk6 V c 3 t : Vec Ideal S1x512 .f32) (ix2 0 k) = sh (ix2 0 k) := by
  subst h; blk_ext [iblk6, idx6_3 t]

theorem out6_4_eq (x y : Vec Ideal S1024x512 .bf16) (sc sh : Vec Ideal S1x512 .f32) :
    out6_4 x y sc sh = k6_pay1 x sc sh y := by
  unfold out6_4
  rw [View.canon_unit_zero hz3, View.ld_unit_zero (S := S1024x512) hz2, View.ld_unit_zero (S := S1024x512) hz2, View.ld_unit_zero (S := S1x512) hz2,
    View.ld_unit_zero (S := S1x512) hz2]

/-- What the last call computes. -/
def outv (p : Fin 65536) (o : Fin 512) : EReal :=
  max ((Y (ix2 p o) : EReal) * sc (ix2 0 o) + sh (ix2 0 o) + (X (ix2 p o) : EReal)) 0

variable (h0 : V c main_v76_0 = Y) (h1 : V c main_v57_0 = X) (h2 : V c main_v93 = sc) (h3 : V c main_v94 = sh)
include h0 h1 h2 h3

theorem arr6 (b : Fin 16) (o : Fin 512) (n : Fin 4096) :
    (((dat6 (F := Ideal) V c).arrAt 4 cfg6.N : Vec Ideal S16x512x4096 .f32) (ix3 b o n) : EReal) = outv Y X sc sh (pnt b n) o := by
  have key : ((dat6 (F := Ideal) V c).arrAt 4 cfg6.N : Vec Ideal S16x512x4096 .f32)
      = fun i => (outv Y X sc sh (pnt (i 0) (i 2)) (i 1) : EReal) := by
    refine (dat6 V c).arrAt_eq_of_covers 4 _ (by decide +kernel) fun t hf y => ?_
    blk_simp
    rw [after6_4]
    obtain ⟨k, q, rfl⟩ : ∃ (k : Fin 512) (q : Fin 1024), y = ix3 0 k q :=
      ⟨y 1, y 2, by funext a; fin_cases a <;> first | rfl | exact Fin.eq_zero _⟩
    rw [out6_4_eq]
    refine (final_pay _ _ _ _ q k).trans ?_
    rw [in6_0 V c Y h0, in6_1 V c X h1, in6_2 V c sc h2, in6_3 V c sh h3]
    have ht : t.val < 64 := t.isLt
    have e0 : ((((cfg6.win 4).blk t).view.emb (ix3 0 k q) : S16x512x4096.Idx) 0).val = t.val / 4 := by
      blk_simp [idx6_4 t]; first | done | rfl | omega
    have e1 : ((((cfg6.win 4).blk t).view.emb (ix3 0 k q) : S16x512x4096.Idx) 1).val = k.val := by
      blk_simp [idx6_4 t]; first | done | rfl | omega
    have e2 : ((((cfg6.win 4).blk t).view.emb (ix3 0 k q) : S16x512x4096.Idx) 2).val = t.val % 4 * 1024 + q.val := by
      blk_simp [idx6_4 t]; first | done | rfl | omega
    show outv Y X sc sh (row t q) k = _
    refine congrArg₂ (outv Y X sc sh) (Fin.ext ?_) (Fin.ext e1.symm)
    show t.val * 1024 + q.val = _ * 4096 + _
    rw [e0, e2]; omega
  rw [key]; rfl

end Cert.Proof.Val
-- ==== Proof.Chain.lean ====
/-
  The kernel's arrays, from its arguments: call by call, the layers of the data.
-/
module

public import proofs.«01_k».proof.Proof.Fold
public import proofs.«01_k».proof.Proof.HostVal
public import proofs.«01_k».proof.Proof.Arr0
public import proofs.«01_k».proof.Proof.Arr3
public import proofs.«01_k».proof.Proof.Arr4
public import proofs.«01_k».proof.Proof.Arr5
public import proofs.«01_k».proof.Proof.Arr6

@[expose] public section

set_option maxRecDepth 16384

noncomputable section

namespace Cert.Proof.Val

open Cert.KernelIdeal Cert.KernelIdeal.Gen Cert.Proof.Common Cert.Proof.Reg Cert.Proof.Run Cert.Proof.Gat Cert.Proof.Model
open Idealize.ShloMosaic Idealize.ShloMosaic.TcCoe Idealize.ShloMosaic.Tactic

section Lists

variable {F : FTy → Type} [FloatOps F] (m : (ℓ : Loc nD τ sig) → Buf (Elt F) ℓ) (c : Dev nD)

theorem lst0_eq : lst0 m c = listOf (F := F) (line (m ((c : Thread nD τ).loc main_arg0))) :=
  (after1_v13 (W2 m c)).trans (congrArg (fun x => listOf (F := F) (line x)) (W2_args m c main_arg0 (by decide)))

theorem lst1_eq : lst1 m c = listOf (F := F) (line (m ((c : Thread nD τ).loc main_arg2))) :=
  (after2_v26 (W4 m c)).trans (congrArg (fun x => listOf (F := F) (line x)) (W4_args m c main_arg2 (by decide)))

theorem tab0_eq : tab0 m c = halves (F := F) (W2 m c (Proc.devRef .tc main_v2)) := after1_v4 (W2 m c)

theorem tab1_eq : tab1 m c = halves (F := F) (W2 m c (Proc.devRef .tc main_v2)) :=
  (after2_v17 (W4 m c)).trans (congrArg (halves (F := F)) ((W4_of m c main_v2 (by decide)).trans (W3_of m c main_v2 (by decide))))

variable {m c}

theorem inTable0 (h : InRange (m ((c : Thread nD τ).loc main_arg0))) : Rows.InTable (lst0 m c) := by
  rw [lst0_eq]; exact inTable_listOf _ (inRows_line _ h)

theorem inTable1 (h : InRange (m ((c : Thread nD τ).loc main_arg2))) : Rows.InTable (lst1 m c) := by
  rw [lst1_eq]; exact inTable_listOf _ (inRows_line _ h)

theorem v15_eq (h : InRange (m ((c : Thread nD τ).loc main_arg0))) :
    W7 m c (Proc.devRef .tc main_v15) = rowsAt (F := F) (W2 m c (Proc.devRef .tc main_v2)) (line (m ((c : Thread nD τ).loc main_arg0))) := by
  refine ((W7_of m c main_v15 (by decide)).trans (W6_of m c main_v15 (by decide))).trans ((after2_v15 (W4 m c)).trans ?_)
  rw [W4_o, lst0_eq, tab0_eq]
  exact kernel_value _ _ (inRows_line _ h)

theorem v28_eq (h : InRange (m ((c : Thread nD τ).loc main_arg2))) :
    W7 m c (Proc.devRef .tc main_v28) = rowsAt (F := F) (W2 m c (Proc.devRef .tc main_v2)) (line (m ((c : Thread nD τ).loc main_arg2))) := by
  refine (after3_v28 (W6 m c)).trans ?_
  rw [W6_o, lst1_eq, tab1_eq]
  exact kernel_value _ _ (inRows_line _ h)

end Lists

variable {m : (ℓ : Loc nD τ sig) → Buf (Elt Ideal) ℓ} {c : Dev nD} {D : Data}

theorem v51_eq : W8a m c (Proc.devRef .tc main_v51) = rootK (W8 m c (Proc.devRef .tc main_v38_1)) := after4a_v51 (W8 m c)
theorem v42_eq : W8a m c (Proc.devRef .tc main_v42) = meanK (W8 m c (Proc.devRef .tc main_v38_1)) := after4a_v42 (W8 m c)

/-- The arguments hold the data. -/
abbrev Holds (D : Data) (m : (ℓ : Loc nD τ sig) → Buf (Elt Ideal) ℓ) (c : Dev nD) : Prop :=
  Reads D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))

/-! ## Scaled, shifted and multiplied features -/

theorem act_eq (X : Vec Ideal S65536x512 .bf16) (sc sh : Vec Ideal S1x512 .f32) (s : Fin 512 → Fin 65536 → EReal) (G : Fin 512 → ℝ) (E : Fin 512 → EReal)
    (hX : ∀ p o, (X (ix2 p o) : EReal) = s o p) (hsc : ∀ o, (sc (ix2 0 o) : EReal) = scale (s o) (G o))
    (hsh : ∀ o, (sh (ix2 0 o) : EReal) = shift (s o) (G o) (E o)) (p : Fin 65536) (o : Fin 512) :
    act X sc sh p o = max (norm (s o) (G o) (E o) p) 0 := by
  unfold act
  rw [hX, hsc, hsh, norm_eq]

theorem outv_eq (Y X : Vec Ideal S65536x512 .bf16) (sc sh : Vec Ideal S1x512 .f32) (s : Fin 512 → Fin 65536 → EReal) (G : Fin 512 → ℝ) (E : Fin 512 → EReal)
    (x : Fin 65536 → Fin 512 → EReal) (hY : ∀ p o, (Y (ix2 p o) : EReal) = s o p) (hsc : ∀ o, (sc (ix2 0 o) : EReal) = scale (s o) (G o))
    (hsh : ∀ o, (sh (ix2 0 o) : EReal) = shift (s o) (G o) (E o)) (hX : ∀ p o, (X (ix2 p o) : EReal) = x p o) (p : Fin 65536) (o : Fin 512) :
    outv Y X sc sh p o = max (norm (s o) (G o) (E o) p + x p o) 0 := by
  unfold outv
  rw [hY, hX, hsc, hsh, norm_eq]

theorem lin_eq (f : Fin 65536 → Fin 512 → EReal) (w : Vec Ideal S512x512 .f32) (y : Fin 65536 → Fin 512 → EReal) (W : Fin 512 → Fin 512 → EReal)
    (hf : ∀ p k, f p k = y p k) (hw : ∀ o k, (w (ix2 o k) : EReal) = W o k) (p : Fin 65536) (o : Fin 512) :
    lin f w p o = ∑ k, y p k * W o k := by
  unfold lin
  exact Finset.sum_congr rfl fun k _ => by rw [hf, hw]

theorem sum_of {t : EReal} {f s : Fin 65536 → EReal} (ht : t = ∑ p, f p) (hf : ∀ p, f p = s p) : t = ∑ p, s p :=
  ht.trans (Finset.sum_congr rfl fun p _ => hf p)

theorem sq_of {t : EReal} {f s : Fin 65536 → EReal} (ht : t = ∑ p, f p * f p) (hf : ∀ p, f p = s p) : t = ∑ p, s p * s p :=
  ht.trans (Finset.sum_congr rfl fun p _ => by rw [hf p])

/-- The fused product. -/
theorem fused_of (A B : Vec Ideal S98304x512 .f32) (wt : Vec Ideal S65536x3 .f32) (p1 : Vec Ideal S16x256x4096 .f32)
    (u : Vec Ideal S512x256 .f32) (v : Vec Ideal S512x512 .f32)
    (hp : ∀ p j k, pick A B p j k = D.tab (D.nb p j) k) (hwt : ∀ p j, (wt (ix2 p j) : EReal) = D.w p j)
    (hp1 : ∀ b k n, (p1 (ix3 b k n) : EReal) = D.p1 b k n)
    (hu : ∀ o (k : Fin 256), (u (ix2 o k) : EReal) = D.wf o ⟨k.val, by omega⟩)
    (hv : ∀ o (k : Fin 512), (v (ix2 o k) : EReal) = D.wf o ⟨256 + k.val, by omega⟩) (p : Fin 65536) (o : Fin 512) :
    fused A B wt p1 u v p o = D.s0 o p := by
  unfold fused Data.s0
  refine congrArg₂ (· + ·) (Finset.sum_congr rfl fun k _ => ?_) (Finset.sum_congr rfl fun k _ => ?_)
  · rw [hp, hp, hp, hwt, hwt, hwt, hv]
    rfl
  · rw [hp1, hu]
    rfl

variable (h : Holds D m c)
include h

/-! ## The table and the neighbours' rows -/

theorem table_eq (r : Fin 16384) (k : Fin 512) : (W2 m c (Proc.devRef .tc main_v2) (ix2 r k) : EReal) = D.tab r k := by
  have e : W2 m c (Proc.devRef .tc main_v2) = (dat0 (F := Ideal) (V1 m) c).arrAt 1 cfg0.N := W2_arr m c 1
  rw [e, arr0 (V1 m) c (m ((c : Thread nD τ).loc main_arg5)) (W1_args m c main_arg5 (by decide)) r k]
  exact h.p2 _ _ _

theorem pick_eq (h0 : InRange (m ((c : Thread nD τ).loc main_arg0))) (h2 : InRange (m ((c : Thread nD τ).loc main_arg2))) (p : Fin 65536) (j : Fin 3) (k : Fin 512) :
    pick (W7 m c (Proc.devRef .tc main_v15)) (W7 m c (Proc.devRef .tc main_v28)) p j k = D.tab (D.nb p j) k := by
  have hn := h.nb p j
  rw [v15_eq h0, v28_eq h2]
  unfold pick
  unfold number at hn
  by_cases hp : p.val < 32768
  · rw [dif_pos hp] at hn ⊢
    exact (rows_line _ _ j ⟨p.val, hp⟩ k (D.nb p j) hn).trans (table_eq h _ k)
  · rw [dif_neg hp] at hn ⊢
    exact (rows_line _ _ j ⟨p.val - 32768, by omega⟩ k (D.nb p j) hn).trans (table_eq h _ k)

section Layers

variable (h0 : InRange (m ((c : Thread nD τ).loc main_arg0))) (h2 : InRange (m ((c : Thread nD τ).loc main_arg2)))
include h0 h2

/-! ## The first layer -/

theorem fused_eq (p : Fin 65536) (o : Fin 512) :
    fused (W7 m c (Proc.devRef .tc main_v15)) (W7 m c (Proc.devRef .tc main_v28)) (W7 m c (Proc.devRef .tc main_v37))
        (W7 m c (Proc.devRef .tc main_arg4)) (W7 m c (Proc.devRef .tc main_v0)) (W7 m c (Proc.devRef .tc main_v1)) p o
      = D.s0 o p := by
  have eu : W7 m c (Proc.devRef .tc main_v0) = W1 m c (Proc.devRef .tc main_v0) :=
    (W7_of m c main_v0 (by decide)).trans ((W6_of m c main_v0 (by decide)).trans ((W5_of m c main_v0 (by decide)).trans
      ((W4_of m c main_v0 (by decide)).trans ((W3_of m c main_v0 (by decide)).trans (W2_of m c main_v0 (by decide))))))
  have ev : W7 m c (Proc.devRef .tc main_v1) = W1 m c (Proc.devRef .tc main_v1) :=
    (W7_of m c main_v1 (by decide)).trans ((W6_of m c main_v1 (by decide)).trans ((W5_of m c main_v1 (by decide)).trans
      ((W4_of m c main_v1 (by decide)).trans ((W3_of m c main_v1 (by decide)).trans (W2_of m c main_v1 (by decide))))))
  have ew : W7 m c (Proc.devRef .tc main_v37) = wgts (m ((c : Thread nD τ).loc main_arg1)) (m ((c : Thread nD τ).loc main_arg3)) :=
    (after3_v37 (W6 m c)).trans (congrArg₂ wgts (W6_args m c main_arg1 (by decide)) (W6_args m c main_arg3 (by decide)))
  refine fused_of _ _ _ _ _ _ (pick_eq h h0 h2) (fun p j => ?_) (fun b k n => ?_) (fun o k => ?_) (fun o k => ?_) p o
  · rw [ew, wgts_apply]; exact h.w p j
  · rw [W7_args m c main_arg4 (by decide)]; exact h.p1 b k n
  · rw [eu]; exact (after0_v0 (W0 m c) o k).trans (h.wf o _)
  · rw [ev]; exact (after0_v1 (W0 m c) o k).trans (h.wf o _)

theorem v38_0_eq (p : Fin 65536) (o : Fin 512) : (W8 m c (Proc.devRef .tc main_v38_0) (ix2 p o) : EReal) = D.s0 o p := by
  have e : W8 m c (Proc.devRef .tc main_v38_0) = (dat3 (F := Ideal) (V7 m) c).arrAt 10 cfg3.N := W8_arr m c 10
  rw [e]
  exact (arr3_lin (V7 m) c _ _ _ _ _ _ rfl rfl rfl rfl rfl rfl p o).trans (fused_eq h h0 h2 p o)

theorem v38_sum (o : Fin 512) : (W8 m c (Proc.devRef .tc main_v38_1) (ix2 0 o) : EReal) = ∑ p, D.s0 o p := by
  have e : W8 m c (Proc.devRef .tc main_v38_1) = (dat3 (F := Ideal) (V7 m) c).arrAt 11 cfg3.N := W8_arr m c 11
  rw [e]
  exact sum_of (arr3_sum (V7 m) c _ _ _ _ _ _ rfl rfl rfl rfl rfl rfl o) (fun p => fused_eq h h0 h2 p o)

theorem v38_sq (o : Fin 512) :
    (W8 m c (Proc.devRef .tc main_v38_1) (ix2 1 o) : EReal) = ∑ p, D.s0 o p * D.s0 o p := by
  have e : W8 m c (Proc.devRef .tc main_v38_1) = (dat3 (F := Ideal) (V7 m) c).arrAt 11 cfg3.N := W8_arr m c 11
  rw [e]
  exact sq_of (arr3_sq (V7 m) c _ _ _ _ _ _ rfl rfl rfl rfl rfl rfl o) (fun p => fused_eq h h0 h2 p o)

theorem v55_eq (o : Fin 512) : (W9 m c (Proc.devRef .tc main_v55) (ix2 0 o) : EReal) = scale (D.s0 o) (D.gf o) := by
  have e : W9 m c (Proc.devRef .tc main_v55) = scaleK (rootK (W8 m c (Proc.devRef .tc main_v38_1))) (m ((c : Thread nD τ).loc main_arg8)) := by
    refine (after4b_v55 (W8a m c)).trans ?_
    rw [v51_eq, W8a_args m c main_arg8 (by decide)]
  rw [e]
  exact scaleK_eq _ _ (D.s0 o) _ o (v38_sum h h0 h2 o) (v38_sq h h0 h2 o) (h.gf o)

theorem v56_eq (o : Fin 512) : (W9 m c (Proc.devRef .tc main_v56) (ix2 0 o) : EReal) = shift (D.s0 o) (D.gf o) (D.ef o) := by
  have e : W9 m c (Proc.devRef .tc main_v56)
      = shiftK (meanK (W8 m c (Proc.devRef .tc main_v38_1))) (rootK (W8 m c (Proc.devRef .tc main_v38_1))) (m ((c : Thread nD τ).loc main_arg8)) (m ((c : Thread nD τ).loc main_arg9)) := by
    refine (after4b_v56 (W8a m c)).trans ?_
    rw [v51_eq, v42_eq, W8a_args m c main_arg8 (by decide), W8a_args m c main_arg9 (by decide)]
  rw [e]
  exact shiftK_eq _ _ _ (D.s0 o) _ _ o (v38_sum h h0 h2 o) (v38_sq h h0 h2 o) (h.gf o) (h.ef o)

/-! ## The second layer -/

theorem act1_eq (p : Fin 65536) (o : Fin 512) :
    act (W9 m c (Proc.devRef .tc main_v38_0)) (W9 m c (Proc.devRef .tc main_v55)) (W9 m c (Proc.devRef .tc main_v56)) p o = D.x p o := by
  have e : W9 m c (Proc.devRef .tc main_v38_0) = W8 m c (Proc.devRef .tc main_v38_0) :=
    (W9_of m c main_v38_0 (by decide)).trans (W8a_of m c main_v38_0 (by decide))
  rw [e]
  exact act_eq _ _ _ D.s0 D.gf D.ef (v38_0_eq h h0 h2) (v55_eq h h0 h2) (v56_eq h h0 h2) p o

theorem lin1_eq (p : Fin 65536) (o : Fin 512) :
    lin (act (W9 m c (Proc.devRef .tc main_v38_0)) (W9 m c (Proc.devRef .tc main_v55)) (W9 m c (Proc.devRef .tc main_v56)))
        (W9 m c (Proc.devRef .tc main_arg10)) p o = D.s1 o p :=
  lin_eq _ _ D.x D.w1 (act1_eq h h0 h2) (fun o k => by rw [W9_args m c main_arg10 (by decide)]; exact h.w1 o k) p o

theorem v57_0_eq (p : Fin 65536) (o : Fin 512) : (W10 m c (Proc.devRef .tc main_v57_0) (ix2 p o) : EReal) = D.x p o := by
  have e : W10 m c (Proc.devRef .tc main_v57_0) = (dat4 (F := Ideal) (V9 m) c).arrAt 4 cfg4.N := W10_arr m c 4
  rw [e]
  exact (arr4_act (V9 m) c _ _ _ _ rfl rfl rfl rfl p o).trans (act1_eq h h0 h2 p o)

theorem v57_1_eq (p : Fin 65536) (o : Fin 512) : (W10 m c (Proc.devRef .tc main_v57_1) (ix2 p o) : EReal) = D.s1 o p := by
  have e : W10 m c (Proc.devRef .tc main_v57_1) = (dat4 (F := Ideal) (V9 m) c).arrAt 5 cfg4.N := W10_arr m c 5
  rw [e]
  exact (arr4_lin (V9 m) c _ _ _ _ rfl rfl rfl rfl p o).trans (lin1_eq h h0 h2 p o)

theorem v57_sum (o : Fin 512) : (W10 m c (Proc.devRef .tc main_v57_2) (ix2 0 o) : EReal) = ∑ p, D.s1 o p := by
  have e : W10 m c (Proc.devRef .tc main_v57_2) = (dat4 (F := Ideal) (V9 m) c).arrAt 6 cfg4.N := W10_arr m c 6
  rw [e]
  exact sum_of (arr4_sum (V9 m) c _ _ _ _ rfl rfl rfl rfl o) (fun p => lin1_eq h h0 h2 p o)

theorem v57_sq (o : Fin 512) :
    (W10 m c (Proc.devRef .tc main_v57_2) (ix2 1 o) : EReal) = ∑ p, D.s1 o p * D.s1 o p := by
  have e : W10 m c (Proc.devRef .tc main_v57_2) = (dat4 (F := Ideal) (V9 m) c).arrAt 6 cfg4.N := W10_arr m c 6
  rw [e]
  exact sq_of (arr4_sq (V9 m) c _ _ _ _ rfl rfl rfl rfl o) (fun p => lin1_eq h h0 h2 p o)

theorem v74_eq (o : Fin 512) : (W11 m c (Proc.devRef .tc main_v74) (ix2 0 o) : EReal) = scale (D.s1 o) (D.g1 o) := by
  have e : W11 m c (Proc.devRef .tc main_v74) = scaleK (rootK (W10 m c (Proc.devRef .tc main_v57_2))) (m ((c : Thread nD τ).loc main_arg12)) := by
    refine (after5_v74 (W10 m c)).trans ?_
    rw [W10_args m c main_arg12 (by decide)]
  rw [e]
  exact scaleK_eq _ _ (D.s1 o) _ o (v57_sum h h0 h2 o) (v57_sq h h0 h2 o) (h.g1 o)

theorem v75_eq (o : Fin 512) : (W11 m c (Proc.devRef .tc main_v75) (ix2 0 o) : EReal) = shift (D.s1 o) (D.g1 o) (D.e1 o) := by
  have e : W11 m c (Proc.devRef .tc main_v75)
      = shiftK (meanK (W10 m c (Proc.devRef .tc main_v57_2))) (rootK (W10 m c (Proc.devRef .tc main_v57_2))) (m ((c : Thread nD τ).loc main_arg12)) (m ((c : Thread nD τ).loc main_arg13)) := by
    refine (after5_v75 (W10 m c)).trans ?_
    rw [W10_args m c main_arg12 (by decide), W10_args m c main_arg13 (by decide)]
  rw [e]
  exact shiftK_eq _ _ _ (D.s1 o) _ _ o (v57_sum h h0 h2 o) (v57_sq h h0 h2 o) (h.g1 o) (h.e1 o)

/-! ## The third layer -/

theorem act2_eq (p : Fin 65536) (o : Fin 512) :
    act (W11 m c (Proc.devRef .tc main_v57_1)) (W11 m c (Proc.devRef .tc main_v74)) (W11 m c (Proc.devRef .tc main_v75)) p o = D.y p o := by
  rw [W11_of m c main_v57_1 (by decide)]
  exact act_eq _ _ _ D.s1 D.g1 D.e1 (v57_1_eq h h0 h2) (v74_eq h h0 h2) (v75_eq h h0 h2) p o

theorem lin2_eq (p : Fin 65536) (o : Fin 512) :
    lin (act (W11 m c (Proc.devRef .tc main_v57_1)) (W11 m c (Proc.devRef .tc main_v74)) (W11 m c (Proc.devRef .tc main_v75)))
        (W11 m c (Proc.devRef .tc main_arg14)) p o = D.s2 o p :=
  lin_eq _ _ D.y D.w2 (act2_eq h h0 h2) (fun o k => by rw [W11_args m c main_arg14 (by decide)]; exact h.w2 o k) p o

theorem v76_0_eq (p : Fin 65536) (o : Fin 512) : (W12 m c (Proc.devRef .tc main_v76_0) (ix2 p o) : EReal) = D.s2 o p := by
  have e : W12 m c (Proc.devRef .tc main_v76_0) = (dat5 (F := Ideal) (V11 m) c).arrAt 4 cfg5.N := W12_arr m c 4
  rw [e]
  exact (arr5_lin (V11 m) c _ _ _ _ rfl rfl rfl rfl p o).trans (lin2_eq h h0 h2 p o)

theorem v76_sum (o : Fin 512) : (W12 m c (Proc.devRef .tc main_v76_1) (ix2 0 o) : EReal) = ∑ p, D.s2 o p := by
  have e : W12 m c (Proc.devRef .tc main_v76_1) = (dat5 (F := Ideal) (V11 m) c).arrAt 5 cfg5.N := W12_arr m c 5
  rw [e]
  exact sum_of (arr5_sum (V11 m) c _ _ _ _ rfl rfl rfl rfl o) (fun p => lin2_eq h h0 h2 p o)

theorem v76_sq (o : Fin 512) :
    (W12 m c (Proc.devRef .tc main_v76_1) (ix2 1 o) : EReal) = ∑ p, D.s2 o p * D.s2 o p := by
  have e : W12 m c (Proc.devRef .tc main_v76_1) = (dat5 (F := Ideal) (V11 m) c).arrAt 5 cfg5.N := W12_arr m c 5
  rw [e]
  exact sq_of (arr5_sq (V11 m) c _ _ _ _ rfl rfl rfl rfl o) (fun p => lin2_eq h h0 h2 p o)

theorem v93_eq (o : Fin 512) : (W13 m c (Proc.devRef .tc main_v93) (ix2 0 o) : EReal) = scale (D.s2 o) (D.g2 o) := by
  have e : W13 m c (Proc.devRef .tc main_v93) = scaleK (rootK (W12 m c (Proc.devRef .tc main_v76_1))) (m ((c : Thread nD τ).loc main_arg16)) := by
    refine (after6_v93 (W12 m c)).trans ?_
    rw [W12_args m c main_arg16 (by decide)]
  rw [e]
  exact scaleK_eq _ _ (D.s2 o) _ o (v76_sum h h0 h2 o) (v76_sq h h0 h2 o) (h.g2 o)

theorem v94_eq (o : Fin 512) : (W13 m c (Proc.devRef .tc main_v94) (ix2 0 o) : EReal) = shift (D.s2 o) (D.g2 o) (D.e2 o) := by
  have e : W13 m c (Proc.devRef .tc main_v94)
      = shiftK (meanK (W12 m c (Proc.devRef .tc main_v76_1))) (rootK (W12 m c (Proc.devRef .tc main_v76_1))) (m ((c : Thread nD τ).loc main_arg16)) (m ((c : Thread nD τ).loc main_arg17)) := by
    refine (after6_v94 (W12 m c)).trans ?_
    rw [W12_args m c main_arg16 (by decide), W12_args m c main_arg17 (by decide)]
  rw [e]
  exact shiftK_eq _ _ _ (D.s2 o) _ _ o (v76_sum h h0 h2 o) (v76_sq h h0 h2 o) (h.g2 o) (h.e2 o)

/-- The kernel's result. -/
theorem v95_eq (b : Fin 16) (o : Fin 512) (n : Fin 4096) :
    (W14 m c (Proc.devRef .tc main_v95) (ix3 b o n) : EReal) = D.out (pnt b n) o := by
  have e : W14 m c (Proc.devRef .tc main_v95) = (dat6 (F := Ideal) (V13 m) c).arrAt 4 cfg6.N := W14_arr m c 4
  have ex : W13 m c (Proc.devRef .tc main_v57_0) = W10 m c (Proc.devRef .tc main_v57_0) :=
    (W13_of m c main_v57_0 (by decide)).trans ((W12_of m c main_v57_0 (by decide)).trans (W11_of m c main_v57_0 (by decide)))
  have ey : W13 m c (Proc.devRef .tc main_v76_0) = W12 m c (Proc.devRef .tc main_v76_0) := W13_of m c main_v76_0 (by decide)
  rw [e]
  refine (arr6 (V13 m) c _ _ _ _ rfl rfl rfl rfl b o n).trans (outv_eq _ _ _ _ D.s2 D.g2 D.e2 D.x (fun p o => ?_) (v93_eq h h0 h2) (v94_eq h h0 h2)
    (fun p o => ?_) (pnt b n) o)
  · exact (congrFun ey (ix2 p o)).trans (v76_0_eq h h0 h2 p o)
  · exact (congrFun ex (ix2 p o)).trans (v57_0_eq h h0 h2 p o)

end Layers

end Cert.Proof.Val

end
-- ==== Proof.Ref.lean ====
/-
  The reference's run: a straight line of host operations, in stretches.
-/
module

public import proofs.«01_k».proof.Proof.Model
public import proofs.«01_k».proof.Proof.Gen.ReferenceIdeal
public import Idealize.ShloMosaic.Lib.StableHlo.ReadAt

@[expose] public section

set_option maxRecDepth 16384

noncomputable section

namespace Cert.Proof.Ref

open Cert.ReferenceIdeal Cert.ReferenceIdeal.Gen

open Idealize.ShloMosaic Idealize.ShloMosaic.TcCoe Idealize.ShloMosaic.StableHlo Idealize.ShloMosaic.Tactic Idealize.SL.Sem

variable {F : FTy → Type} [FloatOps F]

/-- The contents of an array. -/
abbrev Ct (F : FTy → Type) (s : Shape) (e : EltTy) : Type := (⟨s, e⟩ : BufTy).Contents (Elt F)
/-- A map of one array, and of two like arrays. -/
abbrev Ct1 (F : FTy → Type) (s t : Shape) (e : EltTy) : Type := Ct F s e → Ct F t e
abbrev Ct2 (F : FTy → Type) (s : Shape) (e : EltTy) : Type := Ct F s e → Ct F s e → Ct F s e

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- Stretch A. -/
abbrev opsA : List (HloOp τ sig (Elt F)) :=
  [ StableHlo.unary main_arg5 main_v0 ((transpose S16x1024x512 [0, 2, 1] · transposes_S16x512x1024_S16x1024x512_0_2_1) : Ct1 F S16x512x1024 S16x1024x512 .f32),
    StableHlo.reshape main_v0 main_v1 (rfl : (.f32 : EltTy) = .f32) shapeCasts_S16x1024x512_S16384x512,
    StableHlo.binary main_arg0 main_arg2 main_v2 ((fun a b => concatenate S3x65536 1 [⟨S3x32768, a⟩, ⟨S3x32768, b⟩] concatenates_S3x32768_S3x32768_S3x65536_d1) : Ct F S3x32768 .i32 → Ct1 F S3x32768 S3x65536 .i32),
    StableHlo.unary main_v2 main_v3 ((transpose S65536x3 [1, 0] · transposes_S3x65536_S65536x3_1_0) : Ct1 F S3x65536 S65536x3 .i32),
    StableHlo.binary main_arg1 main_arg3 main_v4 ((fun a b => concatenate S65536x3 0 [⟨S32768x3, a⟩, ⟨S32768x3, b⟩] concatenates_S32768x3_S32768x3_S65536x3_d0) : Ct F S32768x3 .f32 → Ct1 F S32768x3 S65536x3 .f32),
    StableHlo.nullary main_cst (constant S_ .f32 0x322BCC77#32),
    StableHlo.unary main_cst main_v5 (broadcastInDim S65536x3 ![] bcast_S_S65536x3 : Ct1 F S_ S65536x3 .f32),
    StableHlo.binary main_v4 main_v5 main_v6 (addf : Ct2 F S65536x3 .f32),
    StableHlo.nullary main_cst_0 (constant S_ .f32 0x3F800000#32),
    StableHlo.unary main_cst_0 main_v7 (broadcastInDim S65536x3 ![] bcast_S_S65536x3 : Ct1 F S_ S65536x3 .f32),
    StableHlo.binary main_v7 main_v6 main_v8 (Host.divf : Ct2 F S65536x3 .f32),
    StableHlo.nullary main_cst_1 (constant S_ .f32 0x00000000#32),
    StableHlo.binary main_v8 main_cst_1 main_v9 ((fun x v => Host.reduceAdd x v reducesTo_S65536x3_S65536_d1 h_S_) : Ct F S65536x3 .f32 → Ct1 F S_ S65536 .f32),
    StableHlo.unary main_v9 main_v10 (broadcastInDim S65536x1 ![0] bcast_S65536_S65536x1_0 : Ct1 F S65536 S65536x1 .f32),
    StableHlo.unary main_v10 main_v11 (broadcastInDim S65536x3 ![0, 1] bcast_S65536x1_S65536x3_0_1 : Ct1 F S65536x1 S65536x3 .f32),
    StableHlo.binary main_v8 main_v11 main_v12 (Host.divf : Ct2 F S65536x3 .f32) ]
theorem opsA_sub : (opsA : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsA_W : List (Ref sig .tc) := [main_v0, main_v1, main_v2, main_v3, main_v4, main_cst, main_v5, main_v6, main_cst_0, main_v7, main_v8, main_cst_1, main_v9, main_v10, main_v11, main_v12]
theorem opsA_writes : (opsA : List (HloOp τ sig (Elt F))).Forall fun op => op.writes ⊆ (opsA_W.map (Proc.devRef (τ := τ) .tc)).toFinset :=
  forall_writes_sub_of_map rfl
theorem opsA_args : ∀ a ∈ argRefs, a ∉ opsA_W := ListAll.forall_mem_of_all_decide (by decide +kernel)

/-- Stretch B. -/
abbrev opsB : List (HloOp τ sig (Elt F)) :=
  [ StableHlo.nullary main_c (constantI S_ 32 0#32),
    StableHlo.unary main_c main_v13 (broadcastInDim S65536x3 ![] bcast_S_S65536x3 : Ct1 F S_ S65536x3 .i32),
    StableHlo.binary main_v3 main_v13 main_v14 (cmpi .slt : Ct F S65536x3 .i32 → Ct F S65536x3 .i32 → Ct F S65536x3 .i1),
    StableHlo.nullary main_c_2 (constantI S_ 32 16384#32),
    StableHlo.unary main_c_2 main_v15 (broadcastInDim S65536x3 ![] bcast_S_S65536x3 : Ct1 F S_ S65536x3 .i32),
    StableHlo.binary main_v3 main_v15 main_v16 (addi : Ct2 F S65536x3 .i32),
    StableHlo.ternary main_v14 main_v16 main_v3 main_v17 (select : Ct F S65536x3 .i1 → Ct2 F S65536x3 .i32),
    StableHlo.unary main_v17 main_v18 (broadcastInDim S65536x3x1 ![0, 1] bcast_S65536x3_S65536x3x1_0_1 : Ct1 F S65536x3 S65536x3x1 .i32) ]
theorem opsB_sub : (opsB : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsB_W : List (Ref sig .tc) := [main_c, main_v13, main_v14, main_c_2, main_v15, main_v16, main_v17, main_v18]
theorem opsB_writes : (opsB : List (HloOp τ sig (Elt F))).Forall fun op => op.writes ⊆ (opsB_W.map (Proc.devRef (τ := τ) .tc)).toFinset :=
  forall_writes_sub_of_map rfl
theorem opsB_args : ∀ a ∈ argRefs, a ∉ opsB_W := ListAll.forall_mem_of_all_decide (by decide +kernel)

/-- Stretch C. -/
abbrev opsC : List (HloOp τ sig (Elt F)) :=
  [ StableHlo.binary main_v1 main_v18 main_v19 ((fun x i => Host.gather gather_S16384x512_S65536x3x1_S65536x3x512_2_0_n_n_0_2_1512 x i) : Ct F S16384x512 .f32 → Ct F S65536x3x1 .i32 → Ct F S65536x3x512 .f32),
    StableHlo.unary main_v12 main_v20 (broadcastInDim S65536x3x1 ![0, 1] bcast_S65536x3_S65536x3x1_0_1 : Ct1 F S65536x3 S65536x3x1 .f32),
    StableHlo.unary main_v20 main_v21 (broadcastInDim S65536x3x512 ![0, 1, 2] bcast_S65536x3x1_S65536x3x512_0_1_2 : Ct1 F S65536x3x1 S65536x3x512 .f32),
    StableHlo.binary main_v19 main_v21 main_v22 (mulf : Ct2 F S65536x3x512 .f32),
    StableHlo.nullary main_cst_3 (constant S_ .f32 0x00000000#32),
    StableHlo.binary main_v22 main_cst_3 main_v23 ((fun x v => Host.reduceAdd x v reducesTo_S65536x3x512_S65536x512_d1 h_S_) : Ct F S65536x3x512 .f32 → Ct1 F S_ S65536x512 .f32) ]
theorem opsC_sub : (opsC : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsC_W : List (Ref sig .tc) := [main_v19, main_v20, main_v21, main_v22, main_cst_3, main_v23]
theorem opsC_writes : (opsC : List (HloOp τ sig (Elt F))).Forall fun op => op.writes ⊆ (opsC_W.map (Proc.devRef (τ := τ) .tc)).toFinset :=
  forall_writes_sub_of_map rfl
theorem opsC_args : ∀ a ∈ argRefs, a ∉ opsC_W := ListAll.forall_mem_of_all_decide (by decide +kernel)

/-- Stretch D. -/
abbrev opsD : List (HloOp τ sig (Elt F)) :=
  [ StableHlo.reshape main_v23 main_v24 (rfl : (.f32 : EltTy) = .f32) shapeCasts_S65536x512_S16x4096x512,
    StableHlo.unary main_arg4 main_v25 ((transpose S16x4096x256 [0, 2, 1] · transposes_S16x256x4096_S16x4096x256_0_2_1) : Ct1 F S16x256x4096 S16x4096x256 .f32),
    StableHlo.binary main_v25 main_v24 main_v26 ((fun a b => concatenate S16x4096x768 2 [⟨S16x4096x256, a⟩, ⟨S16x4096x512, b⟩] concatenates_S16x4096x256_S16x4096x512_S16x4096x768_d2) : Ct F S16x4096x256 .f32 → Ct1 F S16x4096x512 S16x4096x768 .f32),
    StableHlo.unary main_v26 main_v27 ((transpose S16x768x4096 [0, 2, 1] · transposes_S16x4096x768_S16x768x4096_0_2_1) : Ct1 F S16x4096x768 S16x768x4096 .f32),
    StableHlo.binary main_arg6 main_v27 main_v28 ((fun l r => Host.dotGeneral dot_S512x768_S16x768x4096_S512x16x4096_1_1_0_02_n_n none l r) : Ct F S512x768 .f32 → Ct1 F S16x768x4096 S512x16x4096 .f32),
    StableHlo.unary main_v28 main_v29 ((transpose S16x512x4096 [1, 0, 2] · transposes_S512x16x4096_S16x512x4096_1_0_2) : Ct1 F S512x16x4096 S16x512x4096 .f32),
    StableHlo.unary main_arg7 main_v30 (broadcastInDim S1x512x1 ![1] bcast_S512_S1x512x1_1 : Ct1 F S512 S1x512x1 .f32),
    StableHlo.unary main_v30 main_v31 (broadcastInDim S16x512x4096 ![0, 1, 2] bcast_S1x512x1_S16x512x4096_0_1_2 : Ct1 F S1x512x1 S16x512x4096 .f32),
    StableHlo.binary main_v29 main_v31 main_v32 (addf : Ct2 F S16x512x4096 .f32) ]
theorem opsD_sub : (opsD : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsD_W : List (Ref sig .tc) := [main_v24, main_v25, main_v26, main_v27, main_v28, main_v29, main_v30, main_v31, main_v32]
theorem opsD_writes : (opsD : List (HloOp τ sig (Elt F))).Forall fun op => op.writes ⊆ (opsD_W.map (Proc.devRef (τ := τ) .tc)).toFinset :=
  forall_writes_sub_of_map rfl
theorem opsD_args : ∀ a ∈ argRefs, a ∉ opsD_W := ListAll.forall_mem_of_all_decide (by decide +kernel)

/-- Stretch E. -/
abbrev opsE : List (HloOp τ sig (Elt F)) :=
  [ StableHlo.nullary main_cst_4 (constant S_ .f32 0x00000000#32),
    StableHlo.binary main_v32 main_cst_4 main_v33 ((fun x v => Host.reduceAdd x v reducesTo_S16x512x4096_S512_d0_2 h_S_) : Ct F S16x512x4096 .f32 → Ct1 F S_ S512 .f32),
    StableHlo.unary main_v33 main_v34 (broadcastInDim S1x512x1 ![1] bcast_S512_S1x512x1_1 : Ct1 F S512 S1x512x1 .f32),
    StableHlo.nullary main_cst_5 (constant S_ .f32 0x47800000#32),
    StableHlo.unary main_cst_5 main_v35 (broadcastInDim S1x512x1 ![] bcast_S_S1x512x1 : Ct1 F S_ S1x512x1 .f32),
    StableHlo.binary main_v34 main_v35 main_v36 (Host.divf : Ct2 F S1x512x1 .f32),
    StableHlo.nullary main_c_6 (constantI S_ 32 0#32),
    StableHlo.nullary main_call0_cst (constant S_ .f32 0x00000000#32),
    StableHlo.binary main_v32 main_call0_cst main_call0_v0 ((fun x v => Host.reduceAdd x v reducesTo_S16x512x4096_S512_d0_2 h_S_) : Ct F S16x512x4096 .f32 → Ct1 F S_ S512 .f32),
    StableHlo.unary main_call0_v0 main_call0_v1 ((broadcastInDim S1x512x1 ![1] bcast_S512_S1x512x1_1) : Ct1 F S512 S1x512x1 .f32),
    StableHlo.nullary main_call0_cst_0 (constant S_ .f32 0x47800000#32),
    StableHlo.unary main_call0_cst_0 main_call0_v2 ((broadcastInDim S1x512x1 ![] bcast_S_S1x512x1) : Ct1 F S_ S1x512x1 .f32),
    StableHlo.binary main_call0_v1 main_call0_v2 main_call0_v3 (Host.divf : Ct2 F S1x512x1 .f32),
    StableHlo.unary main_call0_v3 main_call0_v4 ((broadcastInDim S16x512x4096 ![0, 1, 2] bcast_S1x512x1_S16x512x4096_0_1_2) : Ct1 F S1x512x1 S16x512x4096 .f32),
    StableHlo.binary main_v32 main_call0_v4 main_call0_v5 (subf : Ct2 F S16x512x4096 .f32),
    StableHlo.binary main_call0_v5 main_call0_v5 main_call0_v6 (mulf : Ct2 F S16x512x4096 .f32),
    StableHlo.unary main_c_6 main_call0_v7 ((sitofp .f32) : Ct F S_ .i32 → Ct F S_ .f32),
    StableHlo.nullary main_call0_cst_1 (constant S_ .f32 0x47800000#32),
    StableHlo.binary main_call0_cst_1 main_call0_v7 main_call0_v8 (subf : Ct2 F S_ .f32),
    StableHlo.nullary main_call0_cst_2 (constant S_ .f32 0x00000000#32),
    StableHlo.binary main_call0_v6 main_call0_cst_2 main_call0_v9 ((fun x v => Host.reduceAdd x v reducesTo_S16x512x4096_S512_d0_2 h_S_) : Ct F S16x512x4096 .f32 → Ct1 F S_ S512 .f32),
    StableHlo.unary main_call0_v9 main_call0_v10 ((broadcastInDim S1x512x1 ![1] bcast_S512_S1x512x1_1) : Ct1 F S512 S1x512x1 .f32),
    StableHlo.unary main_call0_v8 main_call0_v11 ((broadcastInDim S1x512x1 ![] bcast_S_S1x512x1) : Ct1 F S_ S1x512x1 .f32),
    StableHlo.binary main_call0_v10 main_call0_v11 main_call0_v12 (Host.divf : Ct2 F S1x512x1 .f32),
    StableHlo.nullary main_call0_cst_3 (constant S_ .f32 0x00000000#32),
    StableHlo.binary main_call0_v8 main_call0_cst_3 main_call0_v13 ((cmpf .ogt) : Ct F S_ .f32 → Ct F S_ .f32 → Ct F S_ .i1),
    StableHlo.nullary main_call0_cst_4 (constant S_ .f32 0x7FC00000#32),
    StableHlo.unary main_call0_cst_4 main_call0_call0_v0 (id : Ct1 F S_ S_ .f32),
    StableHlo.unary main_call0_call0_v0 main_call0_call0_v1 ((broadcastInDim S1x512x1 ![] bcast_S_S1x512x1) : Ct1 F S_ S1x512x1 .f32),
    StableHlo.ternary main_call0_v13 main_call0_v12 main_call0_call0_v1 main_v37 ((fun p a b => select (broadcastInDim S1x512x1 ![] bcast_S_S1x512x1 p) a b) : Ct F S_ .i1 → Ct2 F S1x512x1 .f32),
    StableHlo.unary main_v36 main_v38 (broadcastInDim S16x512x4096 ![0, 1, 2] bcast_S1x512x1_S16x512x4096_0_1_2 : Ct1 F S1x512x1 S16x512x4096 .f32),
    StableHlo.binary main_v32 main_v38 main_v39 (subf : Ct2 F S16x512x4096 .f32),
    StableHlo.nullary main_cst_7 (constant S_ .f32 0x3727C5AC#32),
    StableHlo.unary main_cst_7 main_v40 (broadcastInDim S1x512x1 ![] bcast_S_S1x512x1 : Ct1 F S_ S1x512x1 .f32),
    StableHlo.binary main_v37 main_v40 main_v41 (addf : Ct2 F S1x512x1 .f32),
    StableHlo.unary main_v41 main_v42 (Host.sqrt : Ct1 F S1x512x1 S1x512x1 .f32),
    StableHlo.unary main_v42 main_v43 (broadcastInDim S16x512x4096 ![0, 1, 2] bcast_S1x512x1_S16x512x4096_0_1_2 : Ct1 F S1x512x1 S16x512x4096 .f32),
    StableHlo.binary main_v39 main_v43 main_v44 (Host.divf : Ct2 F S16x512x4096 .f32),
    StableHlo.unary main_arg8 main_v45 (broadcastInDim S1x512x1 ![1] bcast_S512_S1x512x1_1 : Ct1 F S512 S1x512x1 .f32),
    StableHlo.unary main_v45 main_v46 (broadcastInDim S16x512x4096 ![0, 1, 2] bcast_S1x512x1_S16x512x4096_0_1_2 : Ct1 F S1x512x1 S16x512x4096 .f32),
    StableHlo.binary main_v46 main_v44 main_v47 (mulf : Ct2 F S16x512x4096 .f32),
    StableHlo.unary main_arg9 main_v48 (broadcastInDim S1x512x1 ![1] bcast_S512_S1x512x1_1 : Ct1 F S512 S1x512x1 .f32),
    StableHlo.unary main_v48 main_v49 (broadcastInDim S16x512x4096 ![0, 1, 2] bcast_S1x512x1_S16x512x4096_0_1_2 : Ct1 F S1x512x1 S16x512x4096 .f32),
    StableHlo.binary main_v47 main_v49 main_v50 (addf : Ct2 F S16x512x4096 .f32),
    StableHlo.nullary main_call1_cst (constant S_ .f32 0x00000000#32),
    StableHlo.unary main_call1_cst main_call1_v0 ((broadcastInDim S16x512x4096 ![] bcast_S_S16x512x4096) : Ct1 F S_ S16x512x4096 .f32),
    StableHlo.binary main_v50 main_call1_v0 main_v51 (maximumf : Ct2 F S16x512x4096 .f32) ]
theorem opsE_sub : (opsE : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsE_W : List (Ref sig .tc) := [main_cst_4, main_v33, main_v34, main_cst_5, main_v35, main_v36, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v37, main_v38, main_v39, main_cst_7, main_v40, main_v41, main_v42, main_v43, main_v44, main_v45, main_v46, main_v47, main_v48, main_v49, main_v50, main_call1_cst, main_call1_v0, main_v51]
theorem opsE_writes : (opsE : List (HloOp τ sig (Elt F))).Forall fun op => op.writes ⊆ (opsE_W.map (Proc.devRef (τ := τ) .tc)).toFinset :=
  forall_writes_sub_of_map rfl
theorem opsE_args : ∀ a ∈ argRefs, a ∉ opsE_W := ListAll.forall_mem_of_all_decide (by decide +kernel)

/-- Stretch G. -/
abbrev opsG : List (HloOp τ sig (Elt F)) :=
  [ StableHlo.binary main_arg10 main_v51 main_v52 ((fun l r => Host.dotGeneral dot_S512x512_S16x512x4096_S512x16x4096_1_1_0_02_n_n none l r) : Ct F S512x512 .f32 → Ct1 F S16x512x4096 S512x16x4096 .f32),
    StableHlo.unary main_v52 main_v53 ((transpose S16x512x4096 [1, 0, 2] · transposes_S512x16x4096_S16x512x4096_1_0_2) : Ct1 F S512x16x4096 S16x512x4096 .f32),
    StableHlo.unary main_arg11 main_v54 (broadcastInDim S1x512x1 ![1] bcast_S512_S1x512x1_1 : Ct1 F S512 S1x512x1 .f32),
    StableHlo.unary main_v54 main_v55 (broadcastInDim S16x512x4096 ![0, 1, 2] bcast_S1x512x1_S16x512x4096_0_1_2 : Ct1 F S1x512x1 S16x512x4096 .f32),
    StableHlo.binary main_v53 main_v55 main_v56 (addf : Ct2 F S16x512x4096 .f32) ]
theorem opsG_sub : (opsG : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsG_W : List (Ref sig .tc) := [main_v52, main_v53, main_v54, main_v55, main_v56]
theorem opsG_writes : (opsG : List (HloOp τ sig (Elt F))).Forall fun op => op.writes ⊆ (opsG_W.map (Proc.devRef (τ := τ) .tc)).toFinset :=
  forall_writes_sub_of_map rfl
theorem opsG_args : ∀ a ∈ argRefs, a ∉ opsG_W := ListAll.forall_mem_of_all_decide (by decide +kernel)

/-- Stretch H. -/
abbrev opsH : List (HloOp τ sig (Elt F)) :=
  [ StableHlo.nullary main_cst_8 (constant S_ .f32 0x00000000#32),
    StableHlo.binary main_v56 main_cst_8 main_v57 ((fun x v => Host.reduceAdd x v reducesTo_S16x512x4096_S512_d0_2 h_S_) : Ct F S16x512x4096 .f32 → Ct1 F S_ S512 .f32),
    StableHlo.unary main_v57 main_v58 (broadcastInDim S1x512x1 ![1] bcast_S512_S1x512x1_1 : Ct1 F S512 S1x512x1 .f32),
    StableHlo.nullary main_cst_9 (constant S_ .f32 0x47800000#32),
    StableHlo.unary main_cst_9 main_v59 (broadcastInDim S1x512x1 ![] bcast_S_S1x512x1 : Ct1 F S_ S1x512x1 .f32),
    StableHlo.binary main_v58 main_v59 main_v60 (Host.divf : Ct2 F S1x512x1 .f32),
    StableHlo.nullary main_c_10 (constantI S_ 32 0#32),
    StableHlo.nullary main_call2_cst (constant S_ .f32 0x00000000#32),
    StableHlo.binary main_v56 main_call2_cst main_call2_v0 ((fun x v => Host.reduceAdd x v reducesTo_S16x512x4096_S512_d0_2 h_S_) : Ct F S16x512x4096 .f32 → Ct1 F S_ S512 .f32),
    StableHlo.unary main_call2_v0 main_call2_v1 ((broadcastInDim S1x512x1 ![1] bcast_S512_S1x512x1_1) : Ct1 F S512 S1x512x1 .f32),
    StableHlo.nullary main_call2_cst_0 (constant S_ .f32 0x47800000#32),
    StableHlo.unary main_call2_cst_0 main_call2_v2 ((broadcastInDim S1x512x1 ![] bcast_S_S1x512x1) : Ct1 F S_ S1x512x1 .f32),
    StableHlo.binary main_call2_v1 main_call2_v2 main_call2_v3 (Host.divf : Ct2 F S1x512x1 .f32),
    StableHlo.unary main_call2_v3 main_call2_v4 ((broadcastInDim S16x512x4096 ![0, 1, 2] bcast_S1x512x1_S16x512x4096_0_1_2) : Ct1 F S1x512x1 S16x512x4096 .f32),
    StableHlo.binary main_v56 main_call2_v4 main_call2_v5 (subf : Ct2 F S16x512x4096 .f32),
    StableHlo.binary main_call2_v5 main_call2_v5 main_call2_v6 (mulf : Ct2 F S16x512x4096 .f32),
    StableHlo.unary main_c_10 main_call2_v7 ((sitofp .f32) : Ct F S_ .i32 → Ct F S_ .f32),
    StableHlo.nullary main_call2_cst_1 (constant S_ .f32 0x47800000#32),
    StableHlo.binary main_call2_cst_1 main_call2_v7 main_call2_v8 (subf : Ct2 F S_ .f32),
    StableHlo.nullary main_call2_cst_2 (constant S_ .f32 0x00000000#32),
    StableHlo.binary main_call2_v6 main_call2_cst_2 main_call2_v9 ((fun x v => Host.reduceAdd x v reducesTo_S16x512x4096_S512_d0_2 h_S_) : Ct F S16x512x4096 .f32 → Ct1 F S_ S512 .f32),
    StableHlo.unary main_call2_v9 main_call2_v10 ((broadcastInDim S1x512x1 ![1] bcast_S512_S1x512x1_1) : Ct1 F S512 S1x512x1 .f32),
    StableHlo.unary main_call2_v8 main_call2_v11 ((broadcastInDim S1x512x1 ![] bcast_S_S1x512x1) : Ct1 F S_ S1x512x1 .f32),
    StableHlo.binary main_call2_v10 main_call2_v11 main_call2_v12 (Host.divf : Ct2 F S1x512x1 .f32),
    StableHlo.nullary main_call2_cst_3 (constant S_ .f32 0x00000000#32),
    StableHlo.binary main_call2_v8 main_call2_cst_3 main_call2_v13 ((cmpf .ogt) : Ct F S_ .f32 → Ct F S_ .f32 → Ct F S_ .i1),
    StableHlo.nullary main_call2_cst_4 (constant S_ .f32 0x7FC00000#32),
    StableHlo.unary main_call2_cst_4 main_call2_call0_v0 (id : Ct1 F S_ S_ .f32),
    StableHlo.unary main_call2_call0_v0 main_call2_call0_v1 ((broadcastInDim S1x512x1 ![] bcast_S_S1x512x1) : Ct1 F S_ S1x512x1 .f32),
    StableHlo.ternary main_call2_v13 main_call2_v12 main_call2_call0_v1 main_v61 ((fun p a b => select (broadcastInDim S1x512x1 ![] bcast_S_S1x512x1 p) a b) : Ct F S_ .i1 → Ct2 F S1x512x1 .f32),
    StableHlo.unary main_v60 main_v62 (broadcastInDim S16x512x4096 ![0, 1, 2] bcast_S1x512x1_S16x512x4096_0_1_2 : Ct1 F S1x512x1 S16x512x4096 .f32),
    StableHlo.binary main_v56 main_v62 main_v63 (subf : Ct2 F S16x512x4096 .f32),
    StableHlo.nullary main_cst_11 (constant S_ .f32 0x3727C5AC#32),
    StableHlo.unary main_cst_11 main_v64 (broadcastInDim S1x512x1 ![] bcast_S_S1x512x1 : Ct1 F S_ S1x512x1 .f32),
    StableHlo.binary main_v61 main_v64 main_v65 (addf : Ct2 F S1x512x1 .f32),
    StableHlo.unary main_v65 main_v66 (Host.sqrt : Ct1 F S1x512x1 S1x512x1 .f32),
    StableHlo.unary main_v66 main_v67 (broadcastInDim S16x512x4096 ![0, 1, 2] bcast_S1x512x1_S16x512x4096_0_1_2 : Ct1 F S1x512x1 S16x512x4096 .f32),
    StableHlo.binary main_v63 main_v67 main_v68 (Host.divf : Ct2 F S16x512x4096 .f32),
    StableHlo.unary main_arg12 main_v69 (broadcastInDim S1x512x1 ![1] bcast_S512_S1x512x1_1 : Ct1 F S512 S1x512x1 .f32),
    StableHlo.unary main_v69 main_v70 (broadcastInDim S16x512x4096 ![0, 1, 2] bcast_S1x512x1_S16x512x4096_0_1_2 : Ct1 F S1x512x1 S16x512x4096 .f32),
    StableHlo.binary main_v70 main_v68 main_v71 (mulf : Ct2 F S16x512x4096 .f32),
    StableHlo.unary main_arg13 main_v72 (broadcastInDim S1x512x1 ![1] bcast_S512_S1x512x1_1 : Ct1 F S512 S1x512x1 .f32),
    StableHlo.unary main_v72 main_v73 (broadcastInDim S16x512x4096 ![0, 1, 2] bcast_S1x512x1_S16x512x4096_0_1_2 : Ct1 F S1x512x1 S16x512x4096 .f32),
    StableHlo.binary main_v71 main_v73 main_v74 (addf : Ct2 F S16x512x4096 .f32),
    StableHlo.nullary main_call3_cst (constant S_ .f32 0x00000000#32),
    StableHlo.unary main_call3_cst main_call3_v0 ((broadcastInDim S16x512x4096 ![] bcast_S_S16x512x4096) : Ct1 F S_ S16x512x4096 .f32),
    StableHlo.binary main_v74 main_call3_v0 main_v75 (maximumf : Ct2 F S16x512x4096 .f32) ]
theorem opsH_sub : (opsH : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsH_W : List (Ref sig .tc) := [main_cst_8, main_v57, main_v58, main_cst_9, main_v59, main_v60, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v61, main_v62, main_v63, main_cst_11, main_v64, main_v65, main_v66, main_v67, main_v68, main_v69, main_v70, main_v71, main_v72, main_v73, main_v74, main_call3_cst, main_call3_v0, main_v75]
theorem opsH_writes : (opsH : List (HloOp τ sig (Elt F))).Forall fun op => op.writes ⊆ (opsH_W.map (Proc.devRef (τ := τ) .tc)).toFinset :=
  forall_writes_sub_of_map rfl
theorem opsH_args : ∀ a ∈ argRefs, a ∉ opsH_W := ListAll.forall_mem_of_all_decide (by decide +kernel)

/-- Stretch I. -/
abbrev opsI : List (HloOp τ sig (Elt F)) :=
  [ StableHlo.binary main_arg14 main_v75 main_v76 ((fun l r => Host.dotGeneral dot_S512x512_S16x512x4096_S512x16x4096_1_1_0_02_n_n none l r) : Ct F S512x512 .f32 → Ct1 F S16x512x4096 S512x16x4096 .f32),
    StableHlo.unary main_v76 main_v77 ((transpose S16x512x4096 [1, 0, 2] · transposes_S512x16x4096_S16x512x4096_1_0_2) : Ct1 F S512x16x4096 S16x512x4096 .f32),
    StableHlo.unary main_arg15 main_v78 (broadcastInDim S1x512x1 ![1] bcast_S512_S1x512x1_1 : Ct1 F S512 S1x512x1 .f32),
    StableHlo.unary main_v78 main_v79 (broadcastInDim S16x512x4096 ![0, 1, 2] bcast_S1x512x1_S16x512x4096_0_1_2 : Ct1 F S1x512x1 S16x512x4096 .f32),
    StableHlo.binary main_v77 main_v79 main_v80 (addf : Ct2 F S16x512x4096 .f32) ]
theorem opsI_sub : (opsI : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsI_W : List (Ref sig .tc) := [main_v76, main_v77, main_v78, main_v79, main_v80]
theorem opsI_writes : (opsI : List (HloOp τ sig (Elt F))).Forall fun op => op.writes ⊆ (opsI_W.map (Proc.devRef (τ := τ) .tc)).toFinset :=
  forall_writes_sub_of_map rfl
theorem opsI_args : ∀ a ∈ argRefs, a ∉ opsI_W := ListAll.forall_mem_of_all_decide (by decide +kernel)

/-- Stretch J. -/
abbrev opsJ : List (HloOp τ sig (Elt F)) :=
  [ StableHlo.nullary main_cst_12 (constant S_ .f32 0x00000000#32),
    StableHlo.binary main_v80 main_cst_12 main_v81 ((fun x v => Host.reduceAdd x v reducesTo_S16x512x4096_S512_d0_2 h_S_) : Ct F S16x512x4096 .f32 → Ct1 F S_ S512 .f32),
    StableHlo.unary main_v81 main_v82 (broadcastInDim S1x512x1 ![1] bcast_S512_S1x512x1_1 : Ct1 F S512 S1x512x1 .f32),
    StableHlo.nullary main_cst_13 (constant S_ .f32 0x47800000#32),
    StableHlo.unary main_cst_13 main_v83 (broadcastInDim S1x512x1 ![] bcast_S_S1x512x1 : Ct1 F S_ S1x512x1 .f32),
    StableHlo.binary main_v82 main_v83 main_v84 (Host.divf : Ct2 F S1x512x1 .f32),
    StableHlo.nullary main_c_14 (constantI S_ 32 0#32),
    StableHlo.nullary main_call4_cst (constant S_ .f32 0x00000000#32),
    StableHlo.binary main_v80 main_call4_cst main_call4_v0 ((fun x v => Host.reduceAdd x v reducesTo_S16x512x4096_S512_d0_2 h_S_) : Ct F S16x512x4096 .f32 → Ct1 F S_ S512 .f32),
    StableHlo.unary main_call4_v0 main_call4_v1 ((broadcastInDim S1x512x1 ![1] bcast_S512_S1x512x1_1) : Ct1 F S512 S1x512x1 .f32),
    StableHlo.nullary main_call4_cst_0 (constant S_ .f32 0x47800000#32),
    StableHlo.unary main_call4_cst_0 main_call4_v2 ((broadcastInDim S1x512x1 ![] bcast_S_S1x512x1) : Ct1 F S_ S1x512x1 .f32),
    StableHlo.binary main_call4_v1 main_call4_v2 main_call4_v3 (Host.divf : Ct2 F S1x512x1 .f32),
    StableHlo.unary main_call4_v3 main_call4_v4 ((broadcastInDim S16x512x4096 ![0, 1, 2] bcast_S1x512x1_S16x512x4096_0_1_2) : Ct1 F S1x512x1 S16x512x4096 .f32),
    StableHlo.binary main_v80 main_call4_v4 main_call4_v5 (subf : Ct2 F S16x512x4096 .f32),
    StableHlo.binary main_call4_v5 main_call4_v5 main_call4_v6 (mulf : Ct2 F S16x512x4096 .f32),
    StableHlo.unary main_c_14 main_call4_v7 ((sitofp .f32) : Ct F S_ .i32 → Ct F S_ .f32),
    StableHlo.nullary main_call4_cst_1 (constant S_ .f32 0x47800000#32),
    StableHlo.binary main_call4_cst_1 main_call4_v7 main_call4_v8 (subf : Ct2 F S_ .f32),
    StableHlo.nullary main_call4_cst_2 (constant S_ .f32 0x00000000#32),
    StableHlo.binary main_call4_v6 main_call4_cst_2 main_call4_v9 ((fun x v => Host.reduceAdd x v reducesTo_S16x512x4096_S512_d0_2 h_S_) : Ct F S16x512x4096 .f32 → Ct1 F S_ S512 .f32),
    StableHlo.unary main_call4_v9 main_call4_v10 ((broadcastInDim S1x512x1 ![1] bcast_S512_S1x512x1_1) : Ct1 F S512 S1x512x1 .f32),
    StableHlo.unary main_call4_v8 main_call4_v11 ((broadcastInDim S1x512x1 ![] bcast_S_S1x512x1) : Ct1 F S_ S1x512x1 .f32),
    StableHlo.binary main_call4_v10 main_call4_v11 main_call4_v12 (Host.divf : Ct2 F S1x512x1 .f32),
    StableHlo.nullary main_call4_cst_3 (constant S_ .f32 0x00000000#32),
    StableHlo.binary main_call4_v8 main_call4_cst_3 main_call4_v13 ((cmpf .ogt) : Ct F S_ .f32 → Ct F S_ .f32 → Ct F S_ .i1),
    StableHlo.nullary main_call4_cst_4 (constant S_ .f32 0x7FC00000#32),
    StableHlo.unary main_call4_cst_4 main_call4_call0_v0 (id : Ct1 F S_ S_ .f32),
    StableHlo.unary main_call4_call0_v0 main_call4_call0_v1 ((broadcastInDim S1x512x1 ![] bcast_S_S1x512x1) : Ct1 F S_ S1x512x1 .f32),
    StableHlo.ternary main_call4_v13 main_call4_v12 main_call4_call0_v1 main_v85 ((fun p a b => select (broadcastInDim S1x512x1 ![] bcast_S_S1x512x1 p) a b) : Ct F S_ .i1 → Ct2 F S1x512x1 .f32),
    StableHlo.unary main_v84 main_v86 (broadcastInDim S16x512x4096 ![0, 1, 2] bcast_S1x512x1_S16x512x4096_0_1_2 : Ct1 F S1x512x1 S16x512x4096 .f32),
    StableHlo.binary main_v80 main_v86 main_v87 (subf : Ct2 F S16x512x4096 .f32),
    StableHlo.nullary main_cst_15 (constant S_ .f32 0x3727C5AC#32),
    StableHlo.unary main_cst_15 main_v88 (broadcastInDim S1x512x1 ![] bcast_S_S1x512x1 : Ct1 F S_ S1x512x1 .f32),
    StableHlo.binary main_v85 main_v88 main_v89 (addf : Ct2 F S1x512x1 .f32),
    StableHlo.unary main_v89 main_v90 (Host.sqrt : Ct1 F S1x512x1 S1x512x1 .f32),
    StableHlo.unary main_v90 main_v91 (broadcastInDim S16x512x4096 ![0, 1, 2] bcast_S1x512x1_S16x512x4096_0_1_2 : Ct1 F S1x512x1 S16x512x4096 .f32),
    StableHlo.binary main_v87 main_v91 main_v92 (Host.divf : Ct2 F S16x512x4096 .f32),
    StableHlo.unary main_arg16 main_v93 (broadcastInDim S1x512x1 ![1] bcast_S512_S1x512x1_1 : Ct1 F S512 S1x512x1 .f32),
    StableHlo.unary main_v93 main_v94 (broadcastInDim S16x512x4096 ![0, 1, 2] bcast_S1x512x1_S16x512x4096_0_1_2 : Ct1 F S1x512x1 S16x512x4096 .f32),
    StableHlo.binary main_v94 main_v92 main_v95 (mulf : Ct2 F S16x512x4096 .f32),
    StableHlo.unary main_arg17 main_v96 (broadcastInDim S1x512x1 ![1] bcast_S512_S1x512x1_1 : Ct1 F S512 S1x512x1 .f32),
    StableHlo.unary main_v96 main_v97 (broadcastInDim S16x512x4096 ![0, 1, 2] bcast_S1x512x1_S16x512x4096_0_1_2 : Ct1 F S1x512x1 S16x512x4096 .f32),
    StableHlo.binary main_v95 main_v97 main_v98 (addf : Ct2 F S16x512x4096 .f32),
    StableHlo.binary main_v98 main_v51 main_v99 (addf : Ct2 F S16x512x4096 .f32),
    StableHlo.nullary main_call5_cst (constant S_ .f32 0x00000000#32),
    StableHlo.unary main_call5_cst main_call5_v0 ((broadcastInDim S16x512x4096 ![] bcast_S_S16x512x4096) : Ct1 F S_ S16x512x4096 .f32),
    StableHlo.binary main_v99 main_call5_v0 main_v100 (maximumf : Ct2 F S16x512x4096 .f32) ]
theorem opsJ_sub : (opsJ : List (HloOp τ sig (Elt F))).Forall fun op => op.bufs ⊆ tcRefs τ sig := by
  simp only [List.Forall, nullary_bufs_sub, nullary_bufs_sub, unary_bufs_sub, binary_bufs_sub, ternary_bufs_sub, reshape_bufs_sub, and_self]
/-- What it writes. -/
abbrev opsJ_W : List (Ref sig .tc) := [main_cst_12, main_v81, main_v82, main_cst_13, main_v83, main_v84, main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v85, main_v86, main_v87, main_cst_15, main_v88, main_v89, main_v90, main_v91, main_v92, main_v93, main_v94, main_v95, main_v96, main_v97, main_v98, main_v99, main_call5_cst, main_call5_v0, main_v100]
theorem opsJ_writes : (opsJ : List (HloOp τ sig (Elt F))).Forall fun op => op.writes ⊆ (opsJ_W.map (Proc.devRef (τ := τ) .tc)).toFinset :=
  forall_writes_sub_of_map rfl
theorem opsJ_args : ∀ a ∈ argRefs, a ∉ opsJ_W := ListAll.forall_mem_of_all_decide (by decide +kernel)

theorem after_append (l₁ l₂ : List (HloOp τ sig (Elt F))) (V : Valuation τ sig (Elt F)) : after (l₁ ++ l₂) V = after l₂ (after l₁ V) := by
  induction l₁ generalizing V with
  | nil => rfl
  | cons op l ih => exact ih _

variable (V : Valuation τ sig (Elt F))

/-- After stretch A. -/
def UA : Valuation τ sig (Elt F) := after opsA V
theorem UA_of (r : Ref sig .tc) (h : r ∉ opsA_W) : UA V (Proc.devRef .tc r) = V (Proc.devRef .tc r) :=
  after_of_writes_sub opsA _ opsA_writes h
theorem UA_args : ∀ a ∈ argRefs, UA V (Proc.devRef .tc a) = V (Proc.devRef .tc a) :=
  fun a ha => UA_of V a (opsA_args a ha)

/-- After stretch B. -/
def UB : Valuation τ sig (Elt F) := after opsB (UA V)
theorem UB_of (r : Ref sig .tc) (h : r ∉ opsB_W) : UB V (Proc.devRef .tc r) = (UA V) (Proc.devRef .tc r) :=
  after_of_writes_sub opsB _ opsB_writes h
theorem UB_args : ∀ a ∈ argRefs, UB V (Proc.devRef .tc a) = V (Proc.devRef .tc a) :=
  fun a ha => (UB_of V a (opsB_args a ha)).trans (UA_args V a ha)

/-- After stretch C. -/
def UC : Valuation τ sig (Elt F) := after opsC (UB V)
theorem UC_of (r : Ref sig .tc) (h : r ∉ opsC_W) : UC V (Proc.devRef .tc r) = (UB V) (Proc.devRef .tc r) :=
  after_of_writes_sub opsC _ opsC_writes h
theorem UC_args : ∀ a ∈ argRefs, UC V (Proc.devRef .tc a) = V (Proc.devRef .tc a) :=
  fun a ha => (UC_of V a (opsC_args a ha)).trans (UB_args V a ha)

/-- After stretch D. -/
def UD : Valuation τ sig (Elt F) := after opsD (UC V)
theorem UD_of (r : Ref sig .tc) (h : r ∉ opsD_W) : UD V (Proc.devRef .tc r) = (UC V) (Proc.devRef .tc r) :=
  after_of_writes_sub opsD _ opsD_writes h
theorem UD_args : ∀ a ∈ argRefs, UD V (Proc.devRef .tc a) = V (Proc.devRef .tc a) :=
  fun a ha => (UD_of V a (opsD_args a ha)).trans (UC_args V a ha)

/-- After stretch E. -/
def UE : Valuation τ sig (Elt F) := after opsE (UD V)
theorem UE_of (r : Ref sig .tc) (h : r ∉ opsE_W) : UE V (Proc.devRef .tc r) = (UD V) (Proc.devRef .tc r) :=
  after_of_writes_sub opsE _ opsE_writes h
theorem UE_args : ∀ a ∈ argRefs, UE V (Proc.devRef .tc a) = V (Proc.devRef .tc a) :=
  fun a ha => (UE_of V a (opsE_args a ha)).trans (UD_args V a ha)

/-- After stretch G. -/
def UG : Valuation τ sig (Elt F) := after opsG (UE V)
theorem UG_of (r : Ref sig .tc) (h : r ∉ opsG_W) : UG V (Proc.devRef .tc r) = (UE V) (Proc.devRef .tc r) :=
  after_of_writes_sub opsG _ opsG_writes h
theorem UG_args : ∀ a ∈ argRefs, UG V (Proc.devRef .tc a) = V (Proc.devRef .tc a) :=
  fun a ha => (UG_of V a (opsG_args a ha)).trans (UE_args V a ha)

/-- After stretch H. -/
def UH : Valuation τ sig (Elt F) := after opsH (UG V)
theorem UH_of (r : Ref sig .tc) (h : r ∉ opsH_W) : UH V (Proc.devRef .tc r) = (UG V) (Proc.devRef .tc r) :=
  after_of_writes_sub opsH _ opsH_writes h
theorem UH_args : ∀ a ∈ argRefs, UH V (Proc.devRef .tc a) = V (Proc.devRef .tc a) :=
  fun a ha => (UH_of V a (opsH_args a ha)).trans (UG_args V a ha)

/-- After stretch I. -/
def UI : Valuation τ sig (Elt F) := after opsI (UH V)
theorem UI_of (r : Ref sig .tc) (h : r ∉ opsI_W) : UI V (Proc.devRef .tc r) = (UH V) (Proc.devRef .tc r) :=
  after_of_writes_sub opsI _ opsI_writes h
theorem UI_args : ∀ a ∈ argRefs, UI V (Proc.devRef .tc a) = V (Proc.devRef .tc a) :=
  fun a ha => (UI_of V a (opsI_args a ha)).trans (UH_args V a ha)

/-- After stretch J. -/
def UJ : Valuation τ sig (Elt F) := after opsJ (UI V)
theorem UJ_of (r : Ref sig .tc) (h : r ∉ opsJ_W) : UJ V (Proc.devRef .tc r) = (UI V) (Proc.devRef .tc r) :=
  after_of_writes_sub opsJ _ opsJ_writes h
theorem UJ_args : ∀ a ∈ argRefs, UJ V (Proc.devRef .tc a) = V (Proc.devRef .tc a) :=
  fun a ha => (UJ_of V a (opsJ_args a ha)).trans (UI_args V a ha)

/-- The whole line. -/
abbrev ops : List (HloOp τ sig (Elt F)) := opsA ++ (opsB ++ (opsC ++ (opsD ++ (opsE ++ (opsG ++ (opsH ++ (opsI ++ (opsJ))))))))

theorem main_eq (c : Dev nD) : main (F := F) c = seq ops := rfl

theorem ops_sub : (ops : List (HloOp τ sig (Elt F))).Forall fun op => op.bufs ⊆ tcRefs τ sig := by
  simp only [List.forall_append]
  exact ⟨opsA_sub, opsB_sub, opsC_sub, opsD_sub, opsE_sub, opsG_sub, opsH_sub, opsI_sub, opsJ_sub⟩

theorem after_ops : after ops V = UJ V := by
  simp only [after_append]
  rfl

theorem scopedRefs_eq : (Finset.univ.filter fun b : Ref sig .tc => b.isScoped) = ∅ := by decide +kernel
theorem scopedSems_eq : (Finset.univ.filter fun sm : SemLoc sig => sm.isScoped .tc) = ∅ := by decide +kernel

theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = UJ (launchContents m c) (Proc.devRef .tc b) :=
  (θ_run _ _ _).2 (fun r h c b => (h c b).trans (congrFun (after_ops _) _))
    (run_seq scopedRefs_eq scopedSems_eq defs main (fun _ => ops) main_eq (fun _ => ops_sub) m ρ)

end Cert.Proof.Ref

end
-- ==== Proof.RefFns.lean ====
/-
  What the reference's stretches compute, as expressions in the arrays they start from.
-/
module

public import proofs.«01_k».proof.Proof.Ref

@[expose] public section

set_option maxRecDepth 16384

noncomputable section

namespace Cert.Proof.Ref

open Cert.ReferenceIdeal Cert.ReferenceIdeal.Gen

open Idealize.ShloMosaic Idealize.ShloMosaic.TcCoe Idealize.ShloMosaic.StableHlo Idealize.ShloMosaic.Tactic Idealize.SL.Sem

variable {F : FTy → Type} [FloatOps F]

/-- The table of rows. -/
def tabR (arg5 : Ct F S16x512x1024 .f32) : Ct F S16384x512 .f32 :=
  let v0 : Ct F S16x1024x512 .f32 := ((transpose S16x1024x512 [0, 2, 1] · transposes_S16x512x1024_S16x1024x512_0_2_1) : Ct1 F S16x512x1024 S16x1024x512 .f32) arg5
  shapeCast S16384x512 v0 shapeCasts_S16x1024x512_S16384x512

theorem afterA_v1 (V : Valuation τ sig (Elt F)) : after opsA V (Proc.devRef .tc main_v1) = tabR (V (Proc.devRef .tc main_arg5)) := by
  after_reads_simp
  rfl

/-- The neighbours. -/
def nbrR (arg0 : Ct F S3x32768 .i32) (arg2 : Ct F S3x32768 .i32) : Ct F S65536x3 .i32 :=
  let v2 : Ct F S3x65536 .i32 := ((fun a b => concatenate S3x65536 1 [⟨S3x32768, a⟩, ⟨S3x32768, b⟩] concatenates_S3x32768_S3x32768_S3x65536_d1) : Ct F S3x32768 .i32 → Ct1 F S3x32768 S3x65536 .i32) arg0 arg2
  ((transpose S65536x3 [1, 0] · transposes_S3x65536_S65536x3_1_0) : Ct1 F S3x65536 S65536x3 .i32) v2

theorem afterA_v3 (V : Valuation τ sig (Elt F)) : after opsA V (Proc.devRef .tc main_v3) = nbrR (V (Proc.devRef .tc main_arg0)) (V (Proc.devRef .tc main_arg2)) := by
  after_reads_simp
  rfl

/-- The weights. -/
def wgtR (arg1 : Ct F S32768x3 .f32) (arg3 : Ct F S32768x3 .f32) : Ct F S65536x3 .f32 :=
  let cst_0 : Ct F S_ .f32 := (constant S_ .f32 0x3F800000#32)
  let v7 : Ct F S65536x3 .f32 := (broadcastInDim S65536x3 ![] bcast_S_S65536x3 : Ct1 F S_ S65536x3 .f32) cst_0
  let v4 : Ct F S65536x3 .f32 := ((fun a b => concatenate S65536x3 0 [⟨S32768x3, a⟩, ⟨S32768x3, b⟩] concatenates_S32768x3_S32768x3_S65536x3_d0) : Ct F S32768x3 .f32 → Ct1 F S32768x3 S65536x3 .f32) arg1 arg3
  let cst : Ct F S_ .f32 := (constant S_ .f32 0x322BCC77#32)
  let v5 : Ct F S65536x3 .f32 := (broadcastInDim S65536x3 ![] bcast_S_S65536x3 : Ct1 F S_ S65536x3 .f32) cst
  let v6 : Ct F S65536x3 .f32 := (addf : Ct2 F S65536x3 .f32) v4 v5
  let v8 : Ct F S65536x3 .f32 := (Host.divf : Ct2 F S65536x3 .f32) v7 v6
  let cst_1 : Ct F S_ .f32 := (constant S_ .f32 0x00000000#32)
  let v9 : Ct F S65536 .f32 := ((fun x v => Host.reduceAdd x v reducesTo_S65536x3_S65536_d1 h_S_) : Ct F S65536x3 .f32 → Ct1 F S_ S65536 .f32) v8 cst_1
  let v10 : Ct F S65536x1 .f32 := (broadcastInDim S65536x1 ![0] bcast_S65536_S65536x1_0 : Ct1 F S65536 S65536x1 .f32) v9
  let v11 : Ct F S65536x3 .f32 := (broadcastInDim S65536x3 ![0, 1] bcast_S65536x1_S65536x3_0_1 : Ct1 F S65536x1 S65536x3 .f32) v10
  (Host.divf : Ct2 F S65536x3 .f32) v8 v11

theorem afterA_v12 (V : Valuation τ sig (Elt F)) : after opsA V (Proc.devRef .tc main_v12) = wgtR (V (Proc.devRef .tc main_arg1)) (V (Proc.devRef .tc main_arg3)) := by
  after_reads_simp
  rfl

/-- The neighbours' rows. -/
def idxR (v3 : Ct F S65536x3 .i32) : Ct F S65536x3x1 .i32 :=
  let c : Ct F S_ .i32 := (constantI S_ 32 0#32)
  let v13 : Ct F S65536x3 .i32 := (broadcastInDim S65536x3 ![] bcast_S_S65536x3 : Ct1 F S_ S65536x3 .i32) c
  let v14 : Ct F S65536x3 .i1 := (cmpi .slt : Ct F S65536x3 .i32 → Ct F S65536x3 .i32 → Ct F S65536x3 .i1) v3 v13
  let c_2 : Ct F S_ .i32 := (constantI S_ 32 16384#32)
  let v15 : Ct F S65536x3 .i32 := (broadcastInDim S65536x3 ![] bcast_S_S65536x3 : Ct1 F S_ S65536x3 .i32) c_2
  let v16 : Ct F S65536x3 .i32 := (addi : Ct2 F S65536x3 .i32) v3 v15
  let v17 : Ct F S65536x3 .i32 := (select : Ct F S65536x3 .i1 → Ct2 F S65536x3 .i32) v14 v16 v3
  (broadcastInDim S65536x3x1 ![0, 1] bcast_S65536x3_S65536x3x1_0_1 : Ct1 F S65536x3 S65536x3x1 .i32) v17

theorem afterB_v18 (V : Valuation τ sig (Elt F)) : after opsB V (Proc.devRef .tc main_v18) = idxR (V (Proc.devRef .tc main_v3)) := by
  after_reads_simp
  rfl

/-- The interpolated features. -/
def intR (v1 : Ct F S16384x512 .f32) (v18 : Ct F S65536x3x1 .i32) (v12 : Ct F S65536x3 .f32) : Ct F S65536x512 .f32 :=
  let v19 : Ct F S65536x3x512 .f32 := ((fun x i => Host.gather gather_S16384x512_S65536x3x1_S65536x3x512_2_0_n_n_0_2_1512 x i) : Ct F S16384x512 .f32 → Ct F S65536x3x1 .i32 → Ct F S65536x3x512 .f32) v1 v18
  let v20 : Ct F S65536x3x1 .f32 := (broadcastInDim S65536x3x1 ![0, 1] bcast_S65536x3_S65536x3x1_0_1 : Ct1 F S65536x3 S65536x3x1 .f32) v12
  let v21 : Ct F S65536x3x512 .f32 := (broadcastInDim S65536x3x512 ![0, 1, 2] bcast_S65536x3x1_S65536x3x512_0_1_2 : Ct1 F S65536x3x1 S65536x3x512 .f32) v20
  let v22 : Ct F S65536x3x512 .f32 := (mulf : Ct2 F S65536x3x512 .f32) v19 v21
  let cst_3 : Ct F S_ .f32 := (constant S_ .f32 0x00000000#32)
  ((fun x v => Host.reduceAdd x v reducesTo_S65536x3x512_S65536x512_d1 h_S_) : Ct F S65536x3x512 .f32 → Ct1 F S_ S65536x512 .f32) v22 cst_3

theorem afterC_v23 (V : Valuation τ sig (Elt F)) : after opsC V (Proc.devRef .tc main_v23) = intR (V (Proc.devRef .tc main_v1)) (V (Proc.devRef .tc main_v18)) (V (Proc.devRef .tc main_v12)) := by
  after_reads_simp
  rfl

/-- The first layer's product. -/
def linR0 (arg4 : Ct F S16x256x4096 .f32) (v23 : Ct F S65536x512 .f32) (arg6 : Ct F S512x768 .f32) (arg7 : Ct F S512 .f32) : Ct F S16x512x4096 .f32 :=
  let v25 : Ct F S16x4096x256 .f32 := ((transpose S16x4096x256 [0, 2, 1] · transposes_S16x256x4096_S16x4096x256_0_2_1) : Ct1 F S16x256x4096 S16x4096x256 .f32) arg4
  let v24 : Ct F S16x4096x512 .f32 := shapeCast S16x4096x512 v23 shapeCasts_S65536x512_S16x4096x512
  let v26 : Ct F S16x4096x768 .f32 := ((fun a b => concatenate S16x4096x768 2 [⟨S16x4096x256, a⟩, ⟨S16x4096x512, b⟩] concatenates_S16x4096x256_S16x4096x512_S16x4096x768_d2) : Ct F S16x4096x256 .f32 → Ct1 F S16x4096x512 S16x4096x768 .f32) v25 v24
  let v27 : Ct F S16x768x4096 .f32 := ((transpose S16x768x4096 [0, 2, 1] · transposes_S16x4096x768_S16x768x4096_0_2_1) : Ct1 F S16x4096x768 S16x768x4096 .f32) v26
  let v28 : Ct F S512x16x4096 .f32 := ((fun l r => Host.dotGeneral dot_S512x768_S16x768x4096_S512x16x4096_1_1_0_02_n_n none l r) : Ct F S512x768 .f32 → Ct1 F S16x768x4096 S512x16x4096 .f32) arg6 v27
  let v29 : Ct F S16x512x4096 .f32 := ((transpose S16x512x4096 [1, 0, 2] · transposes_S512x16x4096_S16x512x4096_1_0_2) : Ct1 F S512x16x4096 S16x512x4096 .f32) v28
  let v30 : Ct F S1x512x1 .f32 := (broadcastInDim S1x512x1 ![1] bcast_S512_S1x512x1_1 : Ct1 F S512 S1x512x1 .f32) arg7
  let v31 : Ct F S16x512x4096 .f32 := (broadcastInDim S16x512x4096 ![0, 1, 2] bcast_S1x512x1_S16x512x4096_0_1_2 : Ct1 F S1x512x1 S16x512x4096 .f32) v30
  (addf : Ct2 F S16x512x4096 .f32) v29 v31

theorem afterD_v32 (V : Valuation τ sig (Elt F)) : after opsD V (Proc.devRef .tc main_v32) = linR0 (V (Proc.devRef .tc main_arg4)) (V (Proc.devRef .tc main_v23)) (V (Proc.devRef .tc main_arg6)) (V (Proc.devRef .tc main_arg7)) := by
  after_reads_simp
  rfl

/-- A normalisation, cut at zero. -/
def actR (arg8 : Ct F S512 .f32) (v32 : Ct F S16x512x4096 .f32) (arg9 : Ct F S512 .f32) : Ct F S16x512x4096 .f32 :=
  let v45 : Ct F S1x512x1 .f32 := (broadcastInDim S1x512x1 ![1] bcast_S512_S1x512x1_1 : Ct1 F S512 S1x512x1 .f32) arg8
  let v46 : Ct F S16x512x4096 .f32 := (broadcastInDim S16x512x4096 ![0, 1, 2] bcast_S1x512x1_S16x512x4096_0_1_2 : Ct1 F S1x512x1 S16x512x4096 .f32) v45
  let cst_4 : Ct F S_ .f32 := (constant S_ .f32 0x00000000#32)
  let v33 : Ct F S512 .f32 := ((fun x v => Host.reduceAdd x v reducesTo_S16x512x4096_S512_d0_2 h_S_) : Ct F S16x512x4096 .f32 → Ct1 F S_ S512 .f32) v32 cst_4
  let v34 : Ct F S1x512x1 .f32 := (broadcastInDim S1x512x1 ![1] bcast_S512_S1x512x1_1 : Ct1 F S512 S1x512x1 .f32) v33
  let cst_5 : Ct F S_ .f32 := (constant S_ .f32 0x47800000#32)
  let v35 : Ct F S1x512x1 .f32 := (broadcastInDim S1x512x1 ![] bcast_S_S1x512x1 : Ct1 F S_ S1x512x1 .f32) cst_5
  let v36 : Ct F S1x512x1 .f32 := (Host.divf : Ct2 F S1x512x1 .f32) v34 v35
  let v38 : Ct F S16x512x4096 .f32 := (broadcastInDim S16x512x4096 ![0, 1, 2] bcast_S1x512x1_S16x512x4096_0_1_2 : Ct1 F S1x512x1 S16x512x4096 .f32) v36
  let v39 : Ct F S16x512x4096 .f32 := (subf : Ct2 F S16x512x4096 .f32) v32 v38
  let call0_cst_1 : Ct F S_ .f32 := (constant S_ .f32 0x47800000#32)
  let c_6 : Ct F S_ .i32 := (constantI S_ 32 0#32)
  let call0_v7 : Ct F S_ .f32 := ((sitofp .f32) : Ct F S_ .i32 → Ct F S_ .f32) c_6
  let call0_v8 : Ct F S_ .f32 := (subf : Ct2 F S_ .f32) call0_cst_1 call0_v7
  let call0_cst_3 : Ct F S_ .f32 := (constant S_ .f32 0x00000000#32)
  let call0_v13 : Ct F S_ .i1 := ((cmpf .ogt) : Ct F S_ .f32 → Ct F S_ .f32 → Ct F S_ .i1) call0_v8 call0_cst_3
  let call0_cst : Ct F S_ .f32 := (constant S_ .f32 0x00000000#32)
  let call0_v0 : Ct F S512 .f32 := ((fun x v => Host.reduceAdd x v reducesTo_S16x512x4096_S512_d0_2 h_S_) : Ct F S16x512x4096 .f32 → Ct1 F S_ S512 .f32) v32 call0_cst
  let call0_v1 : Ct F S1x512x1 .f32 := ((broadcastInDim S1x512x1 ![1] bcast_S512_S1x512x1_1) : Ct1 F S512 S1x512x1 .f32) call0_v0
  let call0_cst_0 : Ct F S_ .f32 := (constant S_ .f32 0x47800000#32)
  let call0_v2 : Ct F S1x512x1 .f32 := ((broadcastInDim S1x512x1 ![] bcast_S_S1x512x1) : Ct1 F S_ S1x512x1 .f32) call0_cst_0
  let call0_v3 : Ct F S1x512x1 .f32 := (Host.divf : Ct2 F S1x512x1 .f32) call0_v1 call0_v2
  let call0_v4 : Ct F S16x512x4096 .f32 := ((broadcastInDim S16x512x4096 ![0, 1, 2] bcast_S1x512x1_S16x512x4096_0_1_2) : Ct1 F S1x512x1 S16x512x4096 .f32) call0_v3
  let call0_v5 : Ct F S16x512x4096 .f32 := (subf : Ct2 F S16x512x4096 .f32) v32 call0_v4
  let call0_v6 : Ct F S16x512x4096 .f32 := (mulf : Ct2 F S16x512x4096 .f32) call0_v5 call0_v5
  let call0_cst_2 : Ct F S_ .f32 := (constant S_ .f32 0x00000000#32)
  let call0_v9 : Ct F S512 .f32 := ((fun x v => Host.reduceAdd x v reducesTo_S16x512x4096_S512_d0_2 h_S_) : Ct F S16x512x4096 .f32 → Ct1 F S_ S512 .f32) call0_v6 call0_cst_2
  let call0_v10 : Ct F S1x512x1 .f32 := ((broadcastInDim S1x512x1 ![1] bcast_S512_S1x512x1_1) : Ct1 F S512 S1x512x1 .f32) call0_v9
  let call0_v11 : Ct F S1x512x1 .f32 := ((broadcastInDim S1x512x1 ![] bcast_S_S1x512x1) : Ct1 F S_ S1x512x1 .f32) call0_v8
  let call0_v12 : Ct F S1x512x1 .f32 := (Host.divf : Ct2 F S1x512x1 .f32) call0_v10 call0_v11
  let call0_cst_4 : Ct F S_ .f32 := (constant S_ .f32 0x7FC00000#32)
  let call0_call0_v0 : Ct F S_ .f32 := (id : Ct1 F S_ S_ .f32) call0_cst_4
  let call0_call0_v1 : Ct F S1x512x1 .f32 := ((broadcastInDim S1x512x1 ![] bcast_S_S1x512x1) : Ct1 F S_ S1x512x1 .f32) call0_call0_v0
  let v37 : Ct F S1x512x1 .f32 := ((fun p a b => select (broadcastInDim S1x512x1 ![] bcast_S_S1x512x1 p) a b) : Ct F S_ .i1 → Ct2 F S1x512x1 .f32) call0_v13 call0_v12 call0_call0_v1
  let cst_7 : Ct F S_ .f32 := (constant S_ .f32 0x3727C5AC#32)
  let v40 : Ct F S1x512x1 .f32 := (broadcastInDim S1x512x1 ![] bcast_S_S1x512x1 : Ct1 F S_ S1x512x1 .f32) cst_7
  let v41 : Ct F S1x512x1 .f32 := (addf : Ct2 F S1x512x1 .f32) v37 v40
  let v42 : Ct F S1x512x1 .f32 := (Host.sqrt : Ct1 F S1x512x1 S1x512x1 .f32) v41
  let v43 : Ct F S16x512x4096 .f32 := (broadcastInDim S16x512x4096 ![0, 1, 2] bcast_S1x512x1_S16x512x4096_0_1_2 : Ct1 F S1x512x1 S16x512x4096 .f32) v42
  let v44 : Ct F S16x512x4096 .f32 := (Host.divf : Ct2 F S16x512x4096 .f32) v39 v43
  let v47 : Ct F S16x512x4096 .f32 := (mulf : Ct2 F S16x512x4096 .f32) v46 v44
  let v48 : Ct F S1x512x1 .f32 := (broadcastInDim S1x512x1 ![1] bcast_S512_S1x512x1_1 : Ct1 F S512 S1x512x1 .f32) arg9
  let v49 : Ct F S16x512x4096 .f32 := (broadcastInDim S16x512x4096 ![0, 1, 2] bcast_S1x512x1_S16x512x4096_0_1_2 : Ct1 F S1x512x1 S16x512x4096 .f32) v48
  let v50 : Ct F S16x512x4096 .f32 := (addf : Ct2 F S16x512x4096 .f32) v47 v49
  let call1_cst : Ct F S_ .f32 := (constant S_ .f32 0x00000000#32)
  let call1_v0 : Ct F S16x512x4096 .f32 := ((broadcastInDim S16x512x4096 ![] bcast_S_S16x512x4096) : Ct1 F S_ S16x512x4096 .f32) call1_cst
  (maximumf : Ct2 F S16x512x4096 .f32) v50 call1_v0

theorem afterE_v51 (V : Valuation τ sig (Elt F)) : after opsE V (Proc.devRef .tc main_v51) = actR (V (Proc.devRef .tc main_arg8)) (V (Proc.devRef .tc main_v32)) (V (Proc.devRef .tc main_arg9)) := by
  after_reads_simp
  rfl

/-- A layer's product. -/
def linR (arg10 : Ct F S512x512 .f32) (v51 : Ct F S16x512x4096 .f32) (arg11 : Ct F S512 .f32) : Ct F S16x512x4096 .f32 :=
  let v52 : Ct F S512x16x4096 .f32 := ((fun l r => Host.dotGeneral dot_S512x512_S16x512x4096_S512x16x4096_1_1_0_02_n_n none l r) : Ct F S512x512 .f32 → Ct1 F S16x512x4096 S512x16x4096 .f32) arg10 v51
  let v53 : Ct F S16x512x4096 .f32 := ((transpose S16x512x4096 [1, 0, 2] · transposes_S512x16x4096_S16x512x4096_1_0_2) : Ct1 F S512x16x4096 S16x512x4096 .f32) v52
  let v54 : Ct F S1x512x1 .f32 := (broadcastInDim S1x512x1 ![1] bcast_S512_S1x512x1_1 : Ct1 F S512 S1x512x1 .f32) arg11
  let v55 : Ct F S16x512x4096 .f32 := (broadcastInDim S16x512x4096 ![0, 1, 2] bcast_S1x512x1_S16x512x4096_0_1_2 : Ct1 F S1x512x1 S16x512x4096 .f32) v54
  (addf : Ct2 F S16x512x4096 .f32) v53 v55

theorem afterG_v56 (V : Valuation τ sig (Elt F)) : after opsG V (Proc.devRef .tc main_v56) = linR (V (Proc.devRef .tc main_arg10)) (V (Proc.devRef .tc main_v51)) (V (Proc.devRef .tc main_arg11)) := by
  after_reads_simp
  rfl

theorem afterH_v75 (V : Valuation τ sig (Elt F)) : after opsH V (Proc.devRef .tc main_v75) = actR (V (Proc.devRef .tc main_arg12)) (V (Proc.devRef .tc main_v56)) (V (Proc.devRef .tc main_arg13)) := by
  after_reads_simp
  rfl

theorem afterI_v80 (V : Valuation τ sig (Elt F)) : after opsI V (Proc.devRef .tc main_v80) = linR (V (Proc.devRef .tc main_arg14)) (V (Proc.devRef .tc main_v75)) (V (Proc.devRef .tc main_arg15)) := by
  after_reads_simp
  rfl

/-- The last normalisation, the skip added, cut at zero. -/
def outR (arg16 : Ct F S512 .f32) (v80 : Ct F S16x512x4096 .f32) (arg17 : Ct F S512 .f32) (v51 : Ct F S16x512x4096 .f32) : Ct F S16x512x4096 .f32 :=
  let v93 : Ct F S1x512x1 .f32 := (broadcastInDim S1x512x1 ![1] bcast_S512_S1x512x1_1 : Ct1 F S512 S1x512x1 .f32) arg16
  let v94 : Ct F S16x512x4096 .f32 := (broadcastInDim S16x512x4096 ![0, 1, 2] bcast_S1x512x1_S16x512x4096_0_1_2 : Ct1 F S1x512x1 S16x512x4096 .f32) v93
  let cst_12 : Ct F S_ .f32 := (constant S_ .f32 0x00000000#32)
  let v81 : Ct F S512 .f32 := ((fun x v => Host.reduceAdd x v reducesTo_S16x512x4096_S512_d0_2 h_S_) : Ct F S16x512x4096 .f32 → Ct1 F S_ S512 .f32) v80 cst_12
  let v82 : Ct F S1x512x1 .f32 := (broadcastInDim S1x512x1 ![1] bcast_S512_S1x512x1_1 : Ct1 F S512 S1x512x1 .f32) v81
  let cst_13 : Ct F S_ .f32 := (constant S_ .f32 0x47800000#32)
  let v83 : Ct F S1x512x1 .f32 := (broadcastInDim S1x512x1 ![] bcast_S_S1x512x1 : Ct1 F S_ S1x512x1 .f32) cst_13
  let v84 : Ct F S1x512x1 .f32 := (Host.divf : Ct2 F S1x512x1 .f32) v82 v83
  let v86 : Ct F S16x512x4096 .f32 := (broadcastInDim S16x512x4096 ![0, 1, 2] bcast_S1x512x1_S16x512x4096_0_1_2 : Ct1 F S1x512x1 S16x512x4096 .f32) v84
  let v87 : Ct F S16x512x4096 .f32 := (subf : Ct2 F S16x512x4096 .f32) v80 v86
  let call4_cst_1 : Ct F S_ .f32 := (constant S_ .f32 0x47800000#32)
  let c_14 : Ct F S_ .i32 := (constantI S_ 32 0#32)
  let call4_v7 : Ct F S_ .f32 := ((sitofp .f32) : Ct F S_ .i32 → Ct F S_ .f32) c_14
  let call4_v8 : Ct F S_ .f32 := (subf : Ct2 F S_ .f32) call4_cst_1 call4_v7
  let call4_cst_3 : Ct F S_ .f32 := (constant S_ .f32 0x00000000#32)
  let call4_v13 : Ct F S_ .i1 := ((cmpf .ogt) : Ct F S_ .f32 → Ct F S_ .f32 → Ct F S_ .i1) call4_v8 call4_cst_3
  let call4_cst : Ct F S_ .f32 := (constant S_ .f32 0x00000000#32)
  let call4_v0 : Ct F S512 .f32 := ((fun x v => Host.reduceAdd x v reducesTo_S16x512x4096_S512_d0_2 h_S_) : Ct F S16x512x4096 .f32 → Ct1 F S_ S512 .f32) v80 call4_cst
  let call4_v1 : Ct F S1x512x1 .f32 := ((broadcastInDim S1x512x1 ![1] bcast_S512_S1x512x1_1) : Ct1 F S512 S1x512x1 .f32) call4_v0
  let call4_cst_0 : Ct F S_ .f32 := (constant S_ .f32 0x47800000#32)
  let call4_v2 : Ct F S1x512x1 .f32 := ((broadcastInDim S1x512x1 ![] bcast_S_S1x512x1) : Ct1 F S_ S1x512x1 .f32) call4_cst_0
  let call4_v3 : Ct F S1x512x1 .f32 := (Host.divf : Ct2 F S1x512x1 .f32) call4_v1 call4_v2
  let call4_v4 : Ct F S16x512x4096 .f32 := ((broadcastInDim S16x512x4096 ![0, 1, 2] bcast_S1x512x1_S16x512x4096_0_1_2) : Ct1 F S1x512x1 S16x512x4096 .f32) call4_v3
  let call4_v5 : Ct F S16x512x4096 .f32 := (subf : Ct2 F S16x512x4096 .f32) v80 call4_v4
  let call4_v6 : Ct F S16x512x4096 .f32 := (mulf : Ct2 F S16x512x4096 .f32) call4_v5 call4_v5
  let call4_cst_2 : Ct F S_ .f32 := (constant S_ .f32 0x00000000#32)
  let call4_v9 : Ct F S512 .f32 := ((fun x v => Host.reduceAdd x v reducesTo_S16x512x4096_S512_d0_2 h_S_) : Ct F S16x512x4096 .f32 → Ct1 F S_ S512 .f32) call4_v6 call4_cst_2
  let call4_v10 : Ct F S1x512x1 .f32 := ((broadcastInDim S1x512x1 ![1] bcast_S512_S1x512x1_1) : Ct1 F S512 S1x512x1 .f32) call4_v9
  let call4_v11 : Ct F S1x512x1 .f32 := ((broadcastInDim S1x512x1 ![] bcast_S_S1x512x1) : Ct1 F S_ S1x512x1 .f32) call4_v8
  let call4_v12 : Ct F S1x512x1 .f32 := (Host.divf : Ct2 F S1x512x1 .f32) call4_v10 call4_v11
  let call4_cst_4 : Ct F S_ .f32 := (constant S_ .f32 0x7FC00000#32)
  let call4_call0_v0 : Ct F S_ .f32 := (id : Ct1 F S_ S_ .f32) call4_cst_4
  let call4_call0_v1 : Ct F S1x512x1 .f32 := ((broadcastInDim S1x512x1 ![] bcast_S_S1x512x1) : Ct1 F S_ S1x512x1 .f32) call4_call0_v0
  let v85 : Ct F S1x512x1 .f32 := ((fun p a b => select (broadcastInDim S1x512x1 ![] bcast_S_S1x512x1 p) a b) : Ct F S_ .i1 → Ct2 F S1x512x1 .f32) call4_v13 call4_v12 call4_call0_v1
  let cst_15 : Ct F S_ .f32 := (constant S_ .f32 0x3727C5AC#32)
  let v88 : Ct F S1x512x1 .f32 := (broadcastInDim S1x512x1 ![] bcast_S_S1x512x1 : Ct1 F S_ S1x512x1 .f32) cst_15
  let v89 : Ct F S1x512x1 .f32 := (addf : Ct2 F S1x512x1 .f32) v85 v88
  let v90 : Ct F S1x512x1 .f32 := (Host.sqrt : Ct1 F S1x512x1 S1x512x1 .f32) v89
  let v91 : Ct F S16x512x4096 .f32 := (broadcastInDim S16x512x4096 ![0, 1, 2] bcast_S1x512x1_S16x512x4096_0_1_2 : Ct1 F S1x512x1 S16x512x4096 .f32) v90
  let v92 : Ct F S16x512x4096 .f32 := (Host.divf : Ct2 F S16x512x4096 .f32) v87 v91
  let v95 : Ct F S16x512x4096 .f32 := (mulf : Ct2 F S16x512x4096 .f32) v94 v92
  let v96 : Ct F S1x512x1 .f32 := (broadcastInDim S1x512x1 ![1] bcast_S512_S1x512x1_1 : Ct1 F S512 S1x512x1 .f32) arg17
  let v97 : Ct F S16x512x4096 .f32 := (broadcastInDim S16x512x4096 ![0, 1, 2] bcast_S1x512x1_S16x512x4096_0_1_2 : Ct1 F S1x512x1 S16x512x4096 .f32) v96
  let v98 : Ct F S16x512x4096 .f32 := (addf : Ct2 F S16x512x4096 .f32) v95 v97
  let v99 : Ct F S16x512x4096 .f32 := (addf : Ct2 F S16x512x4096 .f32) v98 v51
  let call5_cst : Ct F S_ .f32 := (constant S_ .f32 0x00000000#32)
  let call5_v0 : Ct F S16x512x4096 .f32 := ((broadcastInDim S16x512x4096 ![] bcast_S_S16x512x4096) : Ct1 F S_ S16x512x4096 .f32) call5_cst
  (maximumf : Ct2 F S16x512x4096 .f32) v99 call5_v0

theorem afterJ_v100 (V : Valuation τ sig (Elt F)) : after opsJ V (Proc.devRef .tc main_v100) = outR (V (Proc.devRef .tc main_arg16)) (V (Proc.devRef .tc main_v80)) (V (Proc.devRef .tc main_arg17)) (V (Proc.devRef .tc main_v51)) := by
  after_reads_simp
  rfl

end Cert.Proof.Ref

end
-- ==== Proof.RefVal.lean ====
/-
  The reference's expressions read at one element.
-/
module

public import proofs.«01_k».proof.Proof.RefFns
public import Idealize.ShloMosaic.Lib.Pointwise
public import Idealize.ShloMosaic.Lib.KernelVsHost
public import proofs.«01_k».proof.Proof.Inputs

@[expose] public section

set_option maxRecDepth 16384

noncomputable section

namespace Cert.Proof.Ref

open Cert.ReferenceIdeal Cert.ReferenceIdeal.Gen
open Idealize.ShloMosaic Cert.Proof.Model

/-- The batch and the point of a row. -/
abbrev bt (p : Fin 65536) : Fin 16 := ⟨p.val / 4096, by omega⟩
abbrev pt (p : Fin 65536) : Fin 4096 := ⟨p.val % 4096, by omega⟩

/-- A sum over batches and points is the sum over the rows. -/
theorem sum_rows (x : S16x512x4096.Idx → EReal) (o : Fin 512) :
    Ideal.hostReduceAdd reducesTo_S16x512x4096_S512_d0_2 x 0 (ix1 o) = ∑ p : Fin 65536, x (ix3 (bt p) o (pt p)) := by
  unfold Ideal.hostReduceAdd
  rw [zero_add]
  have hd : ∀ (a : Fin 16) (b : Fin 512) (c : Fin 4096), (reducesTo_S16x512x4096_S512_d0_2).drop (ix3 a b c) = ix1 b := fun a b c => by
    funext i
    fin_cases i
    rfl
  symm
  refine Finset.sum_bij (fun p _ => ix3 (bt p) o (pt p)) (fun p _ => ?_) (fun p _ q _ h => ?_) (fun i hi => ?_) (fun p _ => rfl)
  · rw [Finset.mem_filter]; exact ⟨Finset.mem_univ _, hd _ _ _⟩
  · have h0 : (bt p).val = (bt q).val := congrArg Fin.val (congrFun h 0)
    have h2 : (pt p).val = (pt q).val := congrArg Fin.val (congrFun h 2)
    have g0 : p.val / 4096 = q.val / 4096 := h0
    have g2 : p.val % 4096 = q.val % 4096 := h2
    exact Fin.ext (by omega)
  · obtain ⟨a, b, c, rfl⟩ : ∃ (a : Fin 16) (b : Fin 512) (c : Fin 4096), i = ix3 a b c := ⟨i 0, i 1, i 2, by funext a; fin_cases a <;> rfl⟩
    rw [Finset.mem_filter, hd] at hi
    have hb : b = o := congrFun hi.2 0
    subst hb
    refine ⟨⟨a.val * 4096 + c.val, by omega⟩, Finset.mem_univ _, ?_⟩
    have e0 : bt ⟨a.val * 4096 + c.val, by omega⟩ = a := Fin.ext (by show (a.val * 4096 + c.val) / 4096 = a.val; omega)
    have e1 : pt ⟨a.val * 4096 + c.val, by omega⟩ = c := Fin.ext (by show (a.val * 4096 + c.val) % 4096 = c.val; omega)
    show ix3 (bt ⟨a.val * 4096 + c.val, by omega⟩) b (pt ⟨a.val * 4096 + c.val, by omega⟩) = ix3 a b c
    rw [e0, e1]

theorem linR_apply (w : Vec Ideal S512x512 .f32) (x : Vec Ideal S16x512x4096 .f32) (b : Vec Ideal S512 .f32)
    (i : Fin 16) (o : Fin 512) (n : Fin 4096) :
    (linR (F := Ideal) w x b (ix3 i o n) : EReal) = (∑ k : Fin 512, w (ix2 o k) * x (ix3 i k n)) + b (ix1 o) := by
  pointwise [linR]

/-- The mean and the normalisation at one element. -/
def meanOf (x : Vec Ideal S16x512x4096 .f32) (o : Fin 512) : EReal :=
  Ideal.div (∑ p : Fin 65536, x (ix3 (bt p) o (pt p))) (Ideal.ofBits .f32 0x47800000#32)
def normOf (g : Vec Ideal S512 .f32) (x : Vec Ideal S16x512x4096 .f32) (e : Vec Ideal S512 .f32) (i : Fin 16) (o : Fin 512) (n : Fin 4096) : EReal :=
  g (ix1 o) * Ideal.div (x (ix3 i o n) - meanOf x o)
      (Ideal.sqrt (Ideal.div (∑ p : Fin 65536, (x (ix3 (bt p) o (pt p)) - meanOf x o) * (x (ix3 (bt p) o (pt p)) - meanOf x o)) (Ideal.ofBits .f32 0x47800000#32)
        + Ideal.ofBits .f32 0x3727C5AC#32)) + e (ix1 o)

theorem count_eq : Ideal.ofBits .f32 0x47800000#32 - FloatOps.sitofp (F := Ideal) .f32 (0#32 : BitVec 32) = Ideal.ofBits .f32 0x47800000#32 := by
  have h : (FloatOps.sitofp (F := Ideal) .f32 (0#32 : BitVec 32) : EReal) = 0 := by
    exact sitofp_zero (φ := .f32)
  rw [h, sub_zero]

theorem count_pos : (0 : EReal) < Ideal.ofBits .f32 0x47800000#32 := by
  rw [DropoutScale.ofBits_65536_f32]
  exact_mod_cast (by norm_num : (0 : ℝ) < 65536)

theorem actR_apply (g : Vec Ideal S512 .f32) (x : Vec Ideal S16x512x4096 .f32) (e : Vec Ideal S512 .f32)
    (i : Fin 16) (o : Fin 512) (n : Fin 4096) :
    (actR (F := Ideal) g x e (ix3 i o n) : EReal) = max (normOf g x e i o n) 0 := by
  pointwise [actR]
  rw [count_eq, if_pos count_pos, sum_rows, sum_rows]
  unfold normOf meanOf
  pointwise
  rw [sum_rows]

theorem outR_apply (g : Vec Ideal S512 .f32) (x : Vec Ideal S16x512x4096 .f32) (e : Vec Ideal S512 .f32) (y : Vec Ideal S16x512x4096 .f32)
    (i : Fin 16) (o : Fin 512) (n : Fin 4096) :
    (outR (F := Ideal) g x e y (ix3 i o n) : EReal) = max (normOf g x e i o n + y (ix3 i o n)) 0 := by
  pointwise [outR]
  rw [count_eq, if_pos count_pos, sum_rows, sum_rows]
  unfold normOf meanOf
  pointwise
  rw [sum_rows]

theorem linR0_apply (p1 : Vec Ideal S16x256x4096 .f32) (y : Vec Ideal S65536x512 .f32) (w : Vec Ideal S512x768 .f32)  (b : Vec Ideal S512 .f32)
    (i : Fin 16) (o : Fin 512) (n : Fin 4096) :
    (linR0 (F := Ideal) p1 y w b (ix3 i o n) : EReal)
      = ∑ k : Fin 256, w (ix2 o ⟨k.val, by omega⟩) * p1 (ix3 i k n)
        + ∑ k : Fin 512, w (ix2 o ⟨256 + k.val, by omega⟩) * y (ix2 ⟨i.val * 4096 + n.val, by omega⟩ k) + b (ix1 o) := by
  pointwise [linR0]

theorem wgtR_apply (a b : Vec Ideal S32768x3 .f32) (p : Fin 65536) (j : Fin 3) :
    (wgtR (F := Ideal) a b (ix2 p j) : EReal) = weight a b p j := by
  pointwise [wgtR]
  rfl

theorem nbrR_apply (a b : Vec Ideal S3x32768 .i32) (p : Fin 65536) (j : Fin 3) :
    (nbrR (F := Ideal) a b (ix2 p j) : BitVec 32) = number a b p j := by
  pointwise [nbrR]
  rfl

theorem tabR_apply (a : Vec Ideal S16x512x1024 .f32) (r : Fin 16384) (k : Fin 512) :
    (tabR (F := Ideal) a (ix2 r k) : EReal) = a (ix3 ⟨r.val / 1024, by omega⟩ k ⟨r.val % 1024, by omega⟩) := by
  pointwise [tabR]

/-- A number in range is read as it is. -/
theorem idxR_apply (a : Vec Ideal S65536x3 .i32) (p : Fin 65536) (j : Fin 3) (h : BitVec.toNat (a (ix2 p j) : BitVec 32) < 16384) :
    (idxR (F := Ideal) a (ix3 p j 0) : BitVec 32) = a (ix2 p j) := by
  pointwise [idxR]
  show (if IntOp.cmpi .slt (a (ix2 p j) : BitVec 32) 0#32 = 1#1 then _ else a (ix2 p j)) = a (ix2 p j)
  rw [if_neg]
  have e : BitVec.slt (a (ix2 p j) : BitVec 32) 0#32 = false := by
    rw [BitVec.slt_eq_decide, BitVec.toInt_eq_toNat_cond]
    simp only [BitVec.toInt_zero, decide_eq_false_iff_not]
    omega
  show ¬ BitVec.ofBool (BitVec.slt (a (ix2 p j) : BitVec 32) 0#32) = 1#1
  rw [e]; decide

/-- The row of the table the gather reads. -/
theorem gather_row (t : Vec Ideal S16384x512 .f32) (x : Vec Ideal S65536x3x1 .i32) (p : Fin 65536) (j : Fin 3) (k : Fin 512)
    (hx : BitVec.toNat (x (ix3 p j 0) : BitVec 32) < 16384) :
    Host.gather gather_S16384x512_S65536x3x1_S65536x3x512_2_0_n_n_0_2_1512 t x (ix3 p j k) = t (ix2 ⟨BitVec.toNat (x (ix3 p j 0) : BitVec 32), hx⟩ k) := by
  unfold Host.gather
  refine congrArg t (funext fun a => Fin.ext ?_)
  set D := gather_S16384x512_S65536x3x1_S65536x3x512_2_0_n_n_0_2_1512 with hD
  have h01 : a = 0 ∨ a = 1 := by
    match a with
    | ⟨0, _⟩ => exact Or.inl rfl
    | ⟨1, _⟩ => exact Or.inr rfl
  show D.start (ix3 p j k) _ a + D.batchCoord (ix3 p j k) a + D.offCoord (ix3 p j k) a = _
  rw [GatherDims.batchCoord_eq_zero _ _ _ (show a ∉ D.operandBatchingDims from List.not_mem_nil)]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ D.startIndexMap from List.mem_singleton.mpr rfl)]
    have e : x (D.siIdx (ix3 p j k) ⟨List.idxOf (0 : Fin 2) D.startIndexMap, List.idxOf_lt_length_iff.2 (List.mem_singleton.mpr rfl)⟩) = x (ix3 p j 0) := by
      refine congrArg x (funext fun b => Fin.ext ?_)
      match b with
      | ⟨0, _⟩ => rfl
      | ⟨1, _⟩ => rfl
      | ⟨2, _⟩ => rfl
    rw [e]
    show min (BitVec.toInt (x (ix3 p j 0) : BitVec 32)).toNat (16384 - 1) + 0 + 0 = BitVec.toNat (x (ix3 p j 0) : BitVec 32)
    rw [BitVec.toInt_eq_toNat_cond, if_pos (by omega)]
    omega
  · unfold GatherDims.start
    rw [dif_neg (show (1 : Fin 2) ∉ D.startIndexMap by decide)]
    unfold GatherDims.offCoord
    rw [dif_pos (show (1 : Fin 2) ∈ D.sKept by decide)]
    show 0 + 0 + k.val = k.val
    omega

theorem intR_apply (t : Vec Ideal S16384x512 .f32) (x : Vec Ideal S65536x3x1 .i32) (w : Vec Ideal S65536x3 .f32) (p : Fin 65536) (k : Fin 512)
    (hx : ∀ j : Fin 3, BitVec.toNat (x (ix3 p j 0) : BitVec 32) < 16384) :
    (intR (F := Ideal) t x w (ix2 p k) : EReal)
      = ∑ j : Fin 3, t (ix2 ⟨BitVec.toNat (x (ix3 p j 0) : BitVec 32), hx j⟩ k) * w (ix2 p j) := by
  pointwise [intR]
  exact Finset.sum_congr rfl fun j _ => by rw [gather_row t x p j k (hx j)]

end Cert.Proof.Ref

end
-- ==== Proof.Pre.lean ====
/-
  The preconditions, read: the numbers are rows of the table, the biases and the scales are finite.
-/
module

public import proofs.«01_k».proof.Defs
public import proofs.«01_k».proof.Proof.Gen.Pre_finite
public import proofs.«01_k».proof.Proof.Gen.Pre_in_range
public import proofs.«01_k».proof.Proof.RefVal
public import Idealize.ShloMosaic.Lib.ReduceAll
public import Idealize.ShloMosaic.Lib.Pointwise

@[expose] public section

set_option maxRecDepth 16384

noncomputable section

namespace Cert.Proof.Pre

open Idealize.ShloMosaic Cert.Proof.Model

theorem one_iff (p : Bool) : (BitVec.ofBool p = 1#1) ↔ p = true := by cases p <;> decide

/-- Two conditions hold where their conjunction does. -/
theorem andi_one {x y : BitVec 1} (h : IntOp.andi x y = 1#1) : x = 1#1 ∧ y = 1#1 := by
  revert x y; decide

/-- A word at least 0 and less than 16384, both signed. -/
theorem word_lt (v : BitVec 32) (e : IntOp.andi (IntOp.cmpi .sge v 0#32) (IntOp.cmpi .slt v 16384#32) = 1#1) : v.toNat < 16384 := by
  obtain ⟨e0, e1⟩ := andi_one e
  simp only [IntOp.cmpi, one_iff, BitVec.sle_eq_decide, BitVec.slt_eq_decide, decide_eq_true_eq, BitVec.toInt_eq_toNat_cond, BitVec.toNat_ofNat,
    Nat.reducePow, Nat.reduceMod] at e0 e1
  omega

/-- The two infinities' words. -/
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

instance : Subsingleton Cert.Pre_in_range.S_.Idx := ⟨fun a b => funext fun i => i.elim0⟩

/-- An array all of whose elements are between the infinities. -/
theorem finite_of_reduce {s : Shape} {axes : List (Fin s.rank)} (a lo hi : FVec Ideal s .f32) (init : IVec Cert.Pre_finite.S_ 1)
    (red : s.ReducesTo axes Cert.Pre_finite.S_) (hu : 0 < Cert.Pre_finite.S_.numel) (j : Cert.Pre_finite.S_.Idx)
    (hlo : ∀ i, (lo i : EReal) = ⊥) (hhi : ∀ i, (hi i : EReal) = ⊤)
    (h : Host.reduce IntOp.andi (andi (cmpf .ogt a lo) (cmpf .olt a hi)) init red hu j = 1#1) : Finite a := by
  intro i
  obtain ⟨e0, e1⟩ := andi_one (Host.reduce_andi_all _ _ _ _ _ h i)
  rw [← hlo i, ← hhi i]
  exact ⟨of_decide_eq_true ((one_iff _).1 e0), of_decide_eq_true ((one_iff _).1 e1)⟩

/-- Every number is in range where `in_range` holds. -/
theorem inRange_of_pre {F : FTy → Type} [FloatOps F] (a0 : IVec (D2 3 32768) 32) (a1 : FVec F (D2 32768 3) .f32) (a2 : IVec (D2 3 32768) 32) (a3 : FVec F (D2 32768 3) .f32)
    (a4 : FVec F (D3 16 256 4096) .f32) (a5 : FVec F (D3 16 512 1024) .f32) (a6 : FVec F (D2 512 768) .f32) (a7 a8 a9 : FVec F (D1 512) .f32)
    (a10 : FVec F (D2 512 512) .f32) (a11 a12 a13 : FVec F (D1 512) .f32) (a14 : FVec F (D2 512 512) .f32) (a15 a16 a17 : FVec F (D1 512) .f32)
    (h : Cert.Pre_in_range.fn (F := F) a0 a1 a2 a3 a4 a5 a6 a7 a8 a9 a10 a11 a12 a13 a14 a15 a16 a17 = fun _ => 1#1) : InRange a0 ∧ InRange a2 := by
  have e := congrFun h (fun i => i.elim0)
  obtain ⟨e0, e2⟩ := andi_one e
  exact ⟨fun j => word_lt _ (Host.reduce_andi_all _ _ _ _ _ e0 j), fun j => word_lt _ (Host.reduce_andi_all _ _ _ _ _ e2 j)⟩

/-- What `finite` says. -/
theorem of_finite (a0 : Vec Ideal (D2 3 32768) .i32) (a1 : Vec Ideal (D2 32768 3) .f32) (a2 : Vec Ideal (D2 3 32768) .i32)
    (a3 : Vec Ideal (D2 32768 3) .f32) (a4 : Vec Ideal (D3 16 256 4096) .f32) (a5 : Vec Ideal (D3 16 512 1024) .f32)
    (a6 : Vec Ideal (D2 512 768) .f32) (a7 a8 a9 : Vec Ideal (D1 512) .f32) (a10 : Vec Ideal (D2 512 512) .f32)
    (a11 a12 a13 : Vec Ideal (D1 512) .f32) (a14 : Vec Ideal (D2 512 512) .f32) (a15 a16 a17 : Vec Ideal (D1 512) .f32)
    (h : Cert.Pre_finite.fn (F := Ideal) a0 a1 a2 a3 a4 a5 a6 a7 a8 a9 a10 a11 a12 a13 a14 a15 a16 a17 = fun _ => 1#1) :
    (InRange a0 ∧ InRange a2)
      ∧ Reads (dataOf a0 a1 a2 a3 a4 a5 a6 a7 a8 a9 a10 a11 a12 a13 a14 a15 a16 a17) a0 a1 a2 a3 a4 a5 a6 a7 a8 a9 a10 a11 a12 a13 a14 a15 a16 a17 := by
  have e := congrFun h (fun i => i.elim0)
  obtain ⟨e, f16⟩ := andi_one e
  obtain ⟨e, f15⟩ := andi_one e
  obtain ⟨e, f12⟩ := andi_one e
  obtain ⟨e, f11⟩ := andi_one e
  obtain ⟨e, f8⟩ := andi_one e
  obtain ⟨e, f7⟩ := andi_one e
  obtain ⟨e0, e2⟩ := andi_one e
  have h0 : InRange a0 := fun j => word_lt _ (Host.reduce_andi_all _ _ _ _ _ e0 j)
  have h2 : InRange a2 := fun j => word_lt _ (Host.reduce_andi_all _ _ _ _ _ e2 j)
  exact ⟨⟨h0, h2⟩, reads_dataOf _ _ _ _ _ _ _ _ _ _ _ _ _ _ _ _ _ _ h0 h2
    (finite_of_reduce _ _ _ _ _ _ _ (fun _ => ofBits_bot) (fun _ => ofBits_top) f7) (finite_of_reduce _ _ _ _ _ _ _ (fun _ => ofBits_bot) (fun _ => ofBits_top) f8)
    (finite_of_reduce _ _ _ _ _ _ _ (fun _ => ofBits_bot) (fun _ => ofBits_top) f11) (finite_of_reduce _ _ _ _ _ _ _ (fun _ => ofBits_bot) (fun _ => ofBits_top) f12)
    (finite_of_reduce _ _ _ _ _ _ _ (fun _ => ofBits_bot) (fun _ => ofBits_top) f15) (finite_of_reduce _ _ _ _ _ _ _ (fun _ => ofBits_bot) (fun _ => ofBits_top) f16)⟩

end Cert.Proof.Pre

end
-- ==== Proof.RefChain.lean ====
/-
  The reference computes the layers of the data.
-/
module

public import proofs.«01_k».proof.Proof.RefVal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Cert.Proof.Model

/-- Point `n` of batch `i` as a row. -/
def rowOf (i : Fin 16) (n : Fin 4096) : Fin 65536 := ⟨i.val * 4096 + n.val, by omega⟩

theorem rowOf_bt_pt (p : Fin 65536) : rowOf (bt p) (pt p) = p := Fin.ext (by show p.val / 4096 * 4096 + p.val % 4096 = p.val; omega)

/-- A normalisation of biased features. -/
theorem normOf_eq (g : Vec Ideal S512 .f32) (x : Vec Ideal S16x512x4096 .f32) (e : Vec Ideal S512 .f32)
    (s : Fin 512 → Fin 65536 → EReal) (B G : Fin 512 → ℝ) (E : Fin 512 → EReal)
    (hx : ∀ i o n, (x (ix3 i o n) : EReal) = s o (rowOf i n) + (B o : EReal))
    (hg : ∀ o, (g (ix1 o) : EReal) = (G o : EReal)) (he : ∀ o, (e (ix1 o) : EReal) = E o)
    (i : Fin 16) (o : Fin 512) (n : Fin 4096) :
    normOf g x e i o n = norm (s o) (G o) (E o) (rowOf i n) := by
  have hr : ∀ p, (x (ix3 (bt p) o (pt p)) : EReal) = s o p + (B o : EReal) := fun p => by rw [hx, rowOf_bt_pt]
  rw [← norm_add (s o) (B o)]
  unfold normOf meanOf Model.norm avg
  simp only [hr, hx, hg, he]
  rw [DropoutScale.ofBits_65536_f32, ofBits_eps]

/-- A product of features. -/
theorem linR_eq (w : Vec Ideal S512x512 .f32) (x : Vec Ideal S16x512x4096 .f32) (b : Vec Ideal S512 .f32)
    (y : Fin 65536 → Fin 512 → EReal) (W : Fin 512 → Fin 512 → EReal) (B : Fin 512 → ℝ)
    (hx : ∀ i o n, (x (ix3 i o n) : EReal) = y (rowOf i n) o)
    (hw : ∀ o k, (w (ix2 o k) : EReal) = W o k) (hb : ∀ o, (b (ix1 o) : EReal) = (B o : EReal))
    (i : Fin 16) (o : Fin 512) (n : Fin 4096) :
    (linR (F := Ideal) w x b (ix3 i o n) : EReal) = (∑ k, y (rowOf i n) k * W o k) + (B o : EReal) := by
  rw [linR_apply]
  simp only [hx, hw, hb]
  exact congrArg (· + _) (Finset.sum_congr rfl fun k _ => mul_comm _ _)

/-- The first layer's product. -/
theorem linR0_eq (p1 : Vec Ideal S16x256x4096 .f32) (y : Vec Ideal S65536x512 .f32) (w : Vec Ideal S512x768 .f32) (b : Vec Ideal S512 .f32) {D : Data}
    (hp : ∀ i k n, (p1 (ix3 i k n) : EReal) = D.p1 i k n) (hy : ∀ p k, (y (ix2 p k) : EReal) = D.interp p k)
    (hw : ∀ o k, (w (ix2 o k) : EReal) = D.wf o k) (hb : ∀ o, (b (ix1 o) : EReal) = (D.bf o : EReal))
    (i : Fin 16) (o : Fin 512) (n : Fin 4096) :
    (linR0 (F := Ideal) p1 y w b (ix3 i o n) : EReal) = D.s0 o (rowOf i n) + (D.bf o : EReal) := by
  rw [linR0_apply]
  have hs : ∀ k : Fin 256, D.skip (rowOf i n) k = D.p1 i k n := fun k => by
    unfold Data.skip rowOf
    have h0 : (⟨(i.val * 4096 + n.val) / 4096, by omega⟩ : Fin 16) = i := Fin.ext (by show (i.val * 4096 + n.val) / 4096 = i.val; omega)
    have h1 : (⟨(i.val * 4096 + n.val) % 4096, by omega⟩ : Fin 4096) = n := Fin.ext (by show (i.val * 4096 + n.val) % 4096 = n.val; omega)
    show D.p1 ⟨(i.val * 4096 + n.val) / 4096, _⟩ k ⟨(i.val * 4096 + n.val) % 4096, _⟩ = _
    rw [h0, h1]
  have e0 : ∀ k : Fin 256, (w (ix2 o ⟨k.val, by omega⟩) : EReal) * p1 (ix3 i k n)
      = D.skip (rowOf i n) k * D.wf o ⟨k.val, by omega⟩ := fun k => by
    rw [hs, hw, hp, mul_comm]
  have e1 : ∀ k : Fin 512, (w (ix2 o ⟨256 + k.val, by omega⟩) : EReal) * y (ix2 ⟨i.val * 4096 + n.val, by omega⟩ k)
      = D.interp (rowOf i n) k * D.wf o ⟨256 + k.val, by omega⟩ := fun k => by
    rw [hw, hy, mul_comm]; rfl
  rw [Finset.sum_congr rfl fun k _ => e0 k, Finset.sum_congr rfl fun k _ => e1 k, hb]
  unfold Data.s0
  rw [add_comm (∑ k : Fin 256, _)]

variable {V : Valuation τ sig (Elt Ideal)} {D : Data}

/-- The arguments hold the data. -/
abbrev Holds (D : Data) (V : Valuation τ sig (Elt Ideal)) : Prop :=
  Reads D (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14)) (V (Proc.devRef .tc main_arg15))
    (V (Proc.devRef .tc main_arg16)) (V (Proc.devRef .tc main_arg17))

variable (h : Holds D V)
include h

theorem v23_eq (p : Fin 65536) (k : Fin 512) :
    (UC V (Proc.devRef .tc main_v23) (ix2 p k) : EReal) = D.interp p k := by
  have e1 : UB V (Proc.devRef .tc main_v1) = tabR (V (Proc.devRef .tc main_arg5)) := (UB_of V main_v1 (by decide)).trans (afterA_v1 V)
  have e12 : UB V (Proc.devRef .tc main_v12) = wgtR (V (Proc.devRef .tc main_arg1)) (V (Proc.devRef .tc main_arg3)) := (UB_of V main_v12 (by decide)).trans (afterA_v12 V)
  have e18 : UB V (Proc.devRef .tc main_v18) = idxR (nbrR (V (Proc.devRef .tc main_arg0)) (V (Proc.devRef .tc main_arg2))) :=
    (afterB_v18 (UA V)).trans (congrArg idxR (afterA_v3 V))
  have hn : ∀ j, BitVec.toNat (nbrR (F := Ideal) (V (Proc.devRef .tc main_arg0)) (V (Proc.devRef .tc main_arg2)) (ix2 p j) : BitVec 32) = (D.nb p j).val := fun j => by
    rw [nbrR_apply]; exact h.nb p j
  have hi : ∀ j, BitVec.toNat (idxR (F := Ideal) (nbrR (V (Proc.devRef .tc main_arg0)) (V (Proc.devRef .tc main_arg2))) (ix3 p j 0) : BitVec 32) = (D.nb p j).val := fun j => by
    rw [idxR_apply _ p j (by rw [hn]; exact (D.nb p j).isLt)]; exact hn j
  have e : UC V (Proc.devRef .tc main_v23) = intR (tabR (V (Proc.devRef .tc main_arg5))) (idxR (nbrR (V (Proc.devRef .tc main_arg0)) (V (Proc.devRef .tc main_arg2))))
      (wgtR (V (Proc.devRef .tc main_arg1)) (V (Proc.devRef .tc main_arg3))) := by
    rw [← e1, ← e12, ← e18]; exact afterC_v23 (UB V)
  rw [e, intR_apply _ _ _ p k (fun j => by rw [hi]; exact (D.nb p j).isLt)]
  have ht : ∀ j, (tabR (F := Ideal) (V (Proc.devRef .tc main_arg5)) (ix2 ⟨BitVec.toNat (idxR (F := Ideal) (nbrR (V (Proc.devRef .tc main_arg0)) (V (Proc.devRef .tc main_arg2))) (ix3 p j 0) : BitVec 32), by rw [hi]; exact (D.nb p j).isLt⟩ k) : EReal)
      * wgtR (F := Ideal) (V (Proc.devRef .tc main_arg1)) (V (Proc.devRef .tc main_arg3)) (ix2 p j) = D.tab (D.nb p j) k * D.w p j := fun j => by
    have hf : (⟨BitVec.toNat (idxR (F := Ideal) (nbrR (V (Proc.devRef .tc main_arg0)) (V (Proc.devRef .tc main_arg2))) (ix3 p j 0) : BitVec 32), by rw [hi]; exact (D.nb p j).isLt⟩ : Fin 16384) = D.nb p j := Fin.ext (hi j)
    rw [hf, tabR_apply, wgtR_apply, h.w, h.p2]
    rfl
  rw [Finset.sum_congr rfl fun j _ => ht j, Fin.sum_univ_three]
  rfl

theorem v32_eq (i : Fin 16) (o : Fin 512) (n : Fin 4096) :
    (UD V (Proc.devRef .tc main_v32) (ix3 i o n) : EReal) = D.s0 o (rowOf i n) + (D.bf o : EReal) := by
  have e : UD V (Proc.devRef .tc main_v32) = linR0 (V (Proc.devRef .tc main_arg4)) (UC V (Proc.devRef .tc main_v23)) (V (Proc.devRef .tc main_arg6)) (V (Proc.devRef .tc main_arg7)) := by
    rw [← UC_args V main_arg4 (by decide), ← UC_args V main_arg6 (by decide), ← UC_args V main_arg7 (by decide)]
    exact afterD_v32 (UC V)
  rw [e]
  exact linR0_eq _ _ _ _ h.p1 (v23_eq h) h.wf h.bf i o n

theorem v51_eq (i : Fin 16) (o : Fin 512) (n : Fin 4096) :
    (UE V (Proc.devRef .tc main_v51) (ix3 i o n) : EReal) = D.x (rowOf i n) o := by
  have e : UE V (Proc.devRef .tc main_v51) = actR (V (Proc.devRef .tc main_arg8)) (UD V (Proc.devRef .tc main_v32)) (V (Proc.devRef .tc main_arg9)) := by
    rw [← UD_args V main_arg8 (by decide), ← UD_args V main_arg9 (by decide)]
    exact afterE_v51 (UD V)
  rw [e, actR_apply, normOf_eq _ _ _ D.s0 D.bf D.gf D.ef (v32_eq h) h.gf h.ef]
  rfl

theorem v56_eq (i : Fin 16) (o : Fin 512) (n : Fin 4096) :
    (UG V (Proc.devRef .tc main_v56) (ix3 i o n) : EReal) = D.s1 o (rowOf i n) + (D.b1 o : EReal) := by
  have e : UG V (Proc.devRef .tc main_v56) = linR (V (Proc.devRef .tc main_arg10)) (UE V (Proc.devRef .tc main_v51)) (V (Proc.devRef .tc main_arg11)) := by
    rw [← UE_args V main_arg10 (by decide), ← UE_args V main_arg11 (by decide)]
    exact afterG_v56 (UE V)
  rw [e]
  exact linR_eq _ _ _ D.x D.w1 D.b1 (v51_eq h) h.w1 h.b1 i o n

theorem v75_eq (i : Fin 16) (o : Fin 512) (n : Fin 4096) :
    (UH V (Proc.devRef .tc main_v75) (ix3 i o n) : EReal) = D.y (rowOf i n) o := by
  have e : UH V (Proc.devRef .tc main_v75) = actR (V (Proc.devRef .tc main_arg12)) (UG V (Proc.devRef .tc main_v56)) (V (Proc.devRef .tc main_arg13)) := by
    rw [← UG_args V main_arg12 (by decide), ← UG_args V main_arg13 (by decide)]
    exact afterH_v75 (UG V)
  rw [e, actR_apply, normOf_eq _ _ _ D.s1 D.b1 D.g1 D.e1 (v56_eq h) h.g1 h.e1]
  rfl

theorem v80_eq (i : Fin 16) (o : Fin 512) (n : Fin 4096) :
    (UI V (Proc.devRef .tc main_v80) (ix3 i o n) : EReal) = D.s2 o (rowOf i n) + (D.b2 o : EReal) := by
  have e : UI V (Proc.devRef .tc main_v80) = linR (V (Proc.devRef .tc main_arg14)) (UH V (Proc.devRef .tc main_v75)) (V (Proc.devRef .tc main_arg15)) := by
    rw [← UH_args V main_arg14 (by decide), ← UH_args V main_arg15 (by decide)]
    exact afterI_v80 (UH V)
  rw [e]
  exact linR_eq _ _ _ D.y D.w2 D.b2 (v75_eq h) h.w2 h.b2 i o n

/-- The reference's result. -/
theorem v100_eq (i : Fin 16) (o : Fin 512) (n : Fin 4096) :
    (UJ V (Proc.devRef .tc main_v100) (ix3 i o n) : EReal) = D.out (rowOf i n) o := by
  have ex : UI V (Proc.devRef .tc main_v51) = UE V (Proc.devRef .tc main_v51) :=
    ((UI_of V main_v51 (by decide)).trans (UH_of V main_v51 (by decide))).trans (UG_of V main_v51 (by decide))
  have e : UJ V (Proc.devRef .tc main_v100) = outR (V (Proc.devRef .tc main_arg16)) (UI V (Proc.devRef .tc main_v80)) (V (Proc.devRef .tc main_arg17)) (UE V (Proc.devRef .tc main_v51)) := by
    rw [← UI_args V main_arg16 (by decide), ← UI_args V main_arg17 (by decide), ← ex]
    exact afterJ_v100 (UI V)
  rw [e, outR_apply, normOf_eq _ _ _ D.s2 D.b2 D.g2 D.e2 (v80_eq h) h.g2 h.e2, v51_eq h]
  rfl

end Cert.Proof.Ref

end
-- ==== Proof.Same.lean ====
/-
  The program as printed and the program for the exact floats are one text: what the one runs, the other runs.
-/
module

public import proofs.«01_k».proof.Kernel
public import proofs.«01_k».proof.KernelIdeal
public import proofs.«01_k».proof.Proof.Gen.Kernel
public import proofs.«01_k».proof.Proof.Gen.KernelIdeal

@[expose] public section

set_option maxRecDepth 16384
set_option maxHeartbeats 2000000

noncomputable section

namespace Cert.Proof.Same

open Idealize.ShloMosaic Idealize.SL.Sem

variable {F : FTy → Type} [FloatOps F]

/-- The kernels' bodies, label by label. -/
theorem bodies : Kernel.defs₀ (F := F) = KernelIdeal.defs₀ (F := F) := by
  funext p l a
  match p, l, a with
  | .tc, 0, _ => rfl
  | .tc, 1, _ => rfl
  | .tc, 2, _ => rfl
  | .tc, 3, _ => rfl
  | .tc, 4, _ => rfl
  | .tc, 5, _ => rfl
  | .tc, 6, _ => rfl
  | .scScalar _, _, _ => rfl
  | .scVector _ _, 0, _ => rfl
  | .scVector _ _, 1, _ => rfl
  | .scVector _ _, 2, _ => rfl
  | .scVector _ _, 3, _ => rfl
  | .scVector _ _, 4, _ => rfl
  | .scVector _ _, 5, _ => rfl
  | .scVector _ _, 6, _ => rfl

theorem tables : Kernel.defs (F := F) = KernelIdeal.defs (F := F) :=
  congrArg (fun d => Kernel.sc.defs (Pipeline.defs Kernel.pcfgs d)) (bodies (F := F))

theorem part0 : Kernel.main_part0 (F := F) = KernelIdeal.main_part0 (F := F) := rfl
theorem part1 : Kernel.main_part1 (F := F) = KernelIdeal.main_part1 (F := F) := rfl

theorem mains : Kernel.main (F := F) = KernelIdeal.main (F := F) :=
  funext fun d => congrArg₂ (fun a b => do a d; b d) (part0 (F := F)) (part1 (F := F))

theorem all_threads : Kernel.threads (F := F) = KernelIdeal.threads (F := F) :=
  congrArg (fun t => Kernel.sc.threads t) (mains (F := F))

/-- A run of the one is a run of the other. -/
theorem run_of {m : MemSt Kernel.nD Kernel.τ Kernel.sig (Elt F)} {Q : PUnit × MemSt Kernel.nD Kernel.τ Kernel.sig (Elt F) → Prop}
    (h : θ_run (KernelIdeal.defs (F := F)) (KernelIdeal.threads (F := F)) m Q) : θ_run (Kernel.defs (F := F)) (Kernel.threads (F := F)) m Q := by
  rw [tables, all_threads]
  exact h

end Cert.Proof.Same

end
-- ==== Proof.lean ====
/-
  The certificate: the interpolation program and its reference run to their ends and leave the same features.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.Pre_finite
public import proofs.«01_k».proof.Proof.Main
public import proofs.«01_k».proof.Proof.Chain
public import proofs.«01_k».proof.Proof.Pre
public import proofs.«01_k».proof.Proof.RefChain
public import proofs.«01_k».proof.Proof.Same
public import Idealize.ShloMosaic.Adequacy
public import Idealize.ShloMosaic.Init

@[expose] public section

set_option maxRecDepth 16384

noncomputable section

namespace Cert.Proof

open Idealize.ShloMosaic Idealize.SL.Sem Cert.Proof.Run Cert.Proof.Model

/-! ## The arguments -/

section Arguments

variable {F : FTy → Type} [FloatOps F]

open Cert.KernelIdeal in
/-- An argument is as it was. -/
theorem kept (m : (ℓ : Loc nD τ sig) → Buf (Elt F) ℓ) {r : PUnit × MemSt nD τ sig (Elt F)} (h : Ends m r) (c : Dev nD) (a : Ref sig .tc)
    (ha : a ∈ argRefs) (hu : Proc.devRef .tc a ∈ Pipeline.ucRefs τ sig) : r.2.mem ((c.tc : Thread nD τ).loc a) = m ((c.tc : Thread nD τ).loc a) :=
  (h.1 c _ hu).trans (W14_args m c a ha)

open Cert.KernelIdeal in
/-- Every argument on device `c` is as it was. -/
abbrev Kept (m : (ℓ : Loc nD τ sig) → Buf (Elt F) ℓ) (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)

open Cert.KernelIdeal in
/-- All arguments are as they were. -/
theorem all_kept (m : (ℓ : Loc nD τ sig) → Buf (Elt F) ℓ) {r : PUnit × MemSt nD τ sig (Elt F)} (h : Ends m r) (c : Dev nD) : Kept m r c :=
  ⟨kept m h c main_arg0 (by decide) (mem_uc _ rfl), kept m h c main_arg1 (by decide) (mem_uc _ rfl), kept m h c main_arg2 (by decide) (mem_uc _ rfl),
    kept m h c main_arg3 (by decide) (mem_uc _ rfl), kept m h c main_arg4 (by decide) (mem_uc _ rfl), kept m h c main_arg5 (by decide) (mem_uc _ rfl),
    kept m h c main_arg6 (by decide) (mem_uc _ rfl), kept m h c main_arg7 (by decide) (mem_uc _ rfl), kept m h c main_arg8 (by decide) (mem_uc _ rfl),
    kept m h c main_arg9 (by decide) (mem_uc _ rfl), kept m h c main_arg10 (by decide) (mem_uc _ rfl), kept m h c main_arg11 (by decide) (mem_uc _ rfl),
    kept m h c main_arg12 (by decide) (mem_uc _ rfl), kept m h c main_arg13 (by decide) (mem_uc _ rfl), kept m h c main_arg14 (by decide) (mem_uc _ rfl),
    kept m h c main_arg15 (by decide) (mem_uc _ rfl), kept m h c main_arg16 (by decide) (mem_uc _ rfl), kept m h c main_arg17 (by decide) (mem_uc _ rfl)⟩

open Cert.ReferenceIdeal in
/-- The reference's arguments are as they were. -/
theorem ref_kept (m : (ℓ : Loc nD τ sig) → Buf (Elt F) ℓ) {r : PUnit × MemSt nD τ sig (Elt F)}
    (h : ∀ (c : Dev nD) (b : Ref sig .tc), r.2.mem ((c.tc : Thread nD τ).loc b) = Ref.UJ (StableHlo.launchContents m c) (Proc.devRef .tc b)) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17) :=
  ⟨(h c _).trans (Ref.UJ_args _ main_arg0 (by decide)), (h c _).trans (Ref.UJ_args _ main_arg1 (by decide)), (h c _).trans (Ref.UJ_args _ main_arg2 (by decide)),
    (h c _).trans (Ref.UJ_args _ main_arg3 (by decide)), (h c _).trans (Ref.UJ_args _ main_arg4 (by decide)), (h c _).trans (Ref.UJ_args _ main_arg5 (by decide)),
    (h c _).trans (Ref.UJ_args _ main_arg6 (by decide)), (h c _).trans (Ref.UJ_args _ main_arg7 (by decide)), (h c _).trans (Ref.UJ_args _ main_arg8 (by decide)),
    (h c _).trans (Ref.UJ_args _ main_arg9 (by decide)), (h c _).trans (Ref.UJ_args _ main_arg10 (by decide)), (h c _).trans (Ref.UJ_args _ main_arg11 (by decide)),
    (h c _).trans (Ref.UJ_args _ main_arg12 (by decide)), (h c _).trans (Ref.UJ_args _ main_arg13 (by decide)), (h c _).trans (Ref.UJ_args _ main_arg14 (by decide)),
    (h c _).trans (Ref.UJ_args _ main_arg15 (by decide)), (h c _).trans (Ref.UJ_args _ main_arg16 (by decide)), (h c _).trans (Ref.UJ_args _ main_arg17 (by decide))⟩

end Arguments

/-! ## The frames -/

section Frames

variable {F : FTy → Type} [FloatOps F]

open Cert.KernelIdeal in
/-- The program runs to its end and keeps its arguments, over any floats. -/
theorem frame (m : (ℓ : Loc nD τ sig) → Buf (Elt F) ℓ) (ρ : Dev nD → PrngReg)
    (hpre : ∀ c : Dev nD, InRange (m ((c.tc : Thread nD τ).loc main_arg0)) ∧ InRange (m ((c.tc : Thread nD τ).loc main_arg2))) :
    θ_run (defs (F := F)) (threads (F := F)) ⟨m, fun _ => 0, ρ⟩ (fun r => (∀ c : Dev nD, Kept m r c) ∧ r.2.sem = fun _ => 0) :=
  (θ_run defs _ _).mono (fun _ h => ⟨fun c => all_kept m h c, h.2⟩)
    (run_main m ρ (fun c => Val.inTable0 (hpre c).1) (fun c => Val.inTable1 (hpre c).2))

end Frames

theorem frame_ideal : Cert.quiescent_KernelIdeal := fun m ρ hpre =>
  frame (F := Ideal) m ρ fun c => Pre.inRange_of_pre _ _ _ _ _ _ _ _ _ _ _ _ _ _ _ _ _ _ (hpre c)

set_option maxHeartbeats 2000000 in
theorem frame_kernel : Cert.quiescent_Kernel := fun m ρ hpre =>
  Same.run_of (frame (F := Bits) m ρ fun c => Pre.inRange_of_pre _ _ _ _ _ _ _ _ _ _ _ _ _ _ _ _ _ _ (hpre c))

/-- What the precondition says: row numbers in range, and the data of the arrays. -/
theorem held (m : (ℓ : Loc Cert.KernelIdeal.nD Cert.KernelIdeal.τ Cert.KernelIdeal.sig) → Buf (Elt Ideal) ℓ) (hpre : Cert.Pre_KernelIdeal_finite m)
    (c : Dev Cert.KernelIdeal.nD) : (InRange (m (c.tc.loc Cert.KernelIdeal.main_arg0)) ∧ InRange (m (c.tc.loc Cert.KernelIdeal.main_arg2)))
      ∧ ∃ D, Val.Holds D m c :=
  ⟨(Pre.of_finite _ _ _ _ _ _ _ _ _ _ _ _ _ _ _ _ _ _ (hpre c)).1, _, (Pre.of_finite _ _ _ _ _ _ _ _ _ _ _ _ _ _ _ _ _ _ (hpre c)).2⟩

theorem run_ideal (m : (ℓ : Loc Cert.KernelIdeal.nD Cert.KernelIdeal.τ Cert.KernelIdeal.sig) → Buf (Elt Ideal) ℓ) (ρ : Dev Cert.KernelIdeal.nD → PrngReg)
    (hpre : Cert.Pre_KernelIdeal_finite m) :
    θ_run (Cert.KernelIdeal.defs (F := Ideal)) (Cert.KernelIdeal.threads (F := Ideal)) ⟨m, fun _ => 0, ρ⟩ (Ends m) :=
  run_main (F := Ideal) m ρ (fun c => Val.inTable0 (held m hpre c).1.1) (fun c => Val.inTable1 (held m hpre c).1.2)

theorem frame_finite : Cert.quiescent_KernelIdeal_pre_finite := fun m ρ hpre => frame (F := Ideal) m ρ fun c => (held m hpre c).1

theorem frame_reference : Cert.quiescent_ReferenceIdeal := fun m ρ _ =>
  (θ_run Cert.ReferenceIdeal.defs _ _).mono (fun r h => ⟨fun c => ref_kept m h c, sem_eq_zero_of_no_sems (by decide) r.2⟩)
    (Ref.run_main (F := Ideal) m ρ)

theorem frame_reference_finite : Cert.quiescent_ReferenceIdeal_pre_finite := fun m ρ _ =>
  (θ_run Cert.ReferenceIdeal.defs _ _).mono (fun r h => ⟨fun c => ref_kept m h c, sem_eq_zero_of_no_sems (by decide) r.2⟩)
    (Ref.run_main (F := Ideal) m ρ)

/-! ## The values -/

/-- The features of the data. -/
def features (D : Data) : Vec Ideal Cert.KernelIdeal.S16x512x4096 .f32 := fun i => D.out (Val.pnt (i 0) (i 2)) (i 1)

theorem values : Cert.algebraic_KernelIdeal_ReferenceIdeal_pre_finite := by
  intro m ρ m' ρ' hpre hagree
  choose hr D hD using held m hpre
  refine ⟨fun c => features (D c), ?_, ?_⟩
  · refine (θ_run Cert.KernelIdeal.defs _ _).mono (fun r h c => ⟨?_, all_kept m h c⟩) (run_ideal m ρ hpre)
    refine (h.1 c _ (mem_uc Cert.KernelIdeal.main_v95 rfl)).trans ?_
    funext i
    obtain ⟨b, o, n, rfl⟩ : ∃ b o n, i = ix3 b o n := ⟨i 0, i 1, i 2, (ix3_eta i).symm⟩
    exact Val.v95_eq (hD c) (hr c).1 (hr c).2 b o n
  · refine (θ_run Cert.ReferenceIdeal.defs _ _).mono (fun r h c => ⟨?_, ref_kept m' h c⟩) (Ref.run_main (F := Ideal) m' ρ')
    have hR : Ref.Holds (D c) (StableHlo.launchContents m' c) := by
      obtain ⟨a0, a1, a2, a3, a4, a5, a6, a7, a8, a9, a10, a11, a12, a13, a14, a15, a16, a17⟩ := hagree c
      have := hD c
      unfold Val.Holds at this
      rw [← a0, ← a1, ← a2, ← a3, ← a4, ← a5, ← a6, ← a7, ← a8, ← a9, ← a10, ← a11, ← a12, ← a13, ← a14, ← a15, ← a16, ← a17] at this
      exact this
    refine (h c _).trans ?_
    funext i
    obtain ⟨b, o, n, rfl⟩ : ∃ b o n, i = ix3 b o n := ⟨i 0, i 1, i 2, (ix3_eta i).symm⟩
    exact Ref.v100_eq hR b o n

theorem claim : Cert.Claim :=
  ⟨Cert.Kernel.Gen.facts, Cert.KernelIdeal.Gen.facts, Cert.ReferenceIdeal.Gen.facts, Cert.Pre_in_range.Gen.facts, Cert.Pre_finite.Gen.facts,
    frame_kernel, frame_ideal, frame_finite, frame_reference, frame_reference_finite, trivial, values⟩

end Cert.Proof

end
